-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_embed [hPre_finite_embed : Cert.Pre_finite_embed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_embed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_embed [hPre_finite_embed : Cert.Pre_finite_embed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_embed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_pool3 [hPre_finite_pool3 : Cert.Pre_finite_pool3.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_pool3.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_pool3 [hPre_finite_pool3 : Cert.Pre_finite_pool3.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_pool3.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_embed_first [hPre_finite_embed_first : Cert.Pre_finite_embed_first.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_embed_first.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_embed_first [hPre_finite_embed_first : Cert.Pre_finite_embed_first.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_embed_first.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_pool0 [hPre_finite_pool0 : Cert.Pre_finite_pool0.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_pool0.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_pool0 [hPre_finite_pool0 : Cert.Pre_finite_pool0.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_pool0.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_pool1 [hPre_finite_pool1 : Cert.Pre_finite_pool1.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_pool1.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_pool1 [hPre_finite_pool1 : Cert.Pre_finite_pool1.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_pool1.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_pool2 [hPre_finite_pool2 : Cert.Pre_finite_pool2.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_pool2.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_pool2 [hPre_finite_pool2 : Cert.Pre_finite_pool2.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_pool2.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_embed [hKernel3Ideal : Cert.Kernel3Ideal.Facts] [hPre_finite_embed : Cert.Pre_finite_embed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_embed m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_embed [hReference3Ideal : Cert.Reference3Ideal.Facts] [hPre_finite_embed : Cert.Pre_finite_embed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_embed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_pool3 [hKernel8Ideal : Cert.Kernel8Ideal.Facts] [hPre_finite_pool3 : Cert.Pre_finite_pool3.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_pool3 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_pool3 [hReference8Ideal : Cert.Reference8Ideal.Facts] [hPre_finite_pool3 : Cert.Pre_finite_pool3.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_pool3 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite_embed_first [hKernel10Ideal : Cert.Kernel10Ideal.Facts] [hPre_finite_embed_first : Cert.Pre_finite_embed_first.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_embed_first m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite_embed_first [hReference10Ideal : Cert.Reference10Ideal.Facts] [hPre_finite_embed_first : Cert.Pre_finite_embed_first.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_embed_first m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite_pool0 [hKernel11Ideal : Cert.Kernel11Ideal.Facts] [hPre_finite_pool0 : Cert.Pre_finite_pool0.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_pool0 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite_pool0 [hReference11Ideal : Cert.Reference11Ideal.Facts] [hPre_finite_pool0 : Cert.Pre_finite_pool0.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_pool0 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite_pool1 [hKernel12Ideal : Cert.Kernel12Ideal.Facts] [hPre_finite_pool1 : Cert.Pre_finite_pool1.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_pool1 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite_pool1 [hReference12Ideal : Cert.Reference12Ideal.Facts] [hPre_finite_pool1 : Cert.Pre_finite_pool1.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_pool1 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite_pool2 [hKernel13Ideal : Cert.Kernel13Ideal.Facts] [hPre_finite_pool2 : Cert.Pre_finite_pool2.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_pool2 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite_pool2 [hReference13Ideal : Cert.Reference13Ideal.Facts] [hPre_finite_pool2 : Cert.Pre_finite_pool2.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_pool2 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_v24) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_embed [hKernel3Ideal : Cert.Kernel3Ideal.Facts] [hReference3Ideal : Cert.Reference3Ideal.Facts] [hPre_finite_embed : Cert.Pre_finite_embed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_embed m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)) (v2 : (c : Dev Cert.Kernel5Ideal.nD) → Buf (Elt Ideal) ((c.tc : Thread Cert.Kernel5Ideal.nD Cert.Kernel5Ideal.τ).loc Cert.Kernel5Ideal.main_v22_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_v22_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_v55) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_v14) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite_pool3 [hKernel8Ideal : Cert.Kernel8Ideal.Facts] [hReference8Ideal : Cert.Reference8Ideal.Facts] [hPre_finite_pool3 : Cert.Pre_finite_pool3.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_pool3 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_v16) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite_embed_first [hKernel10Ideal : Cert.Kernel10Ideal.Facts] [hReference10Ideal : Cert.Reference10Ideal.Facts] [hPre_finite_embed_first : Cert.Pre_finite_embed_first.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_embed_first m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v17_0)) (v1 : (c : Dev Cert.Kernel10Ideal.nD) → Buf (Elt Ideal) ((c.tc : Thread Cert.Kernel10Ideal.nD Cert.Kernel10Ideal.τ).loc Cert.Kernel10Ideal.main_v17_1)) (v2 : (c : Dev Cert.Kernel10Ideal.nD) → Buf (Elt Ideal) ((c.tc : Thread Cert.Kernel10Ideal.nD Cert.Kernel10Ideal.τ).loc Cert.Kernel10Ideal.main_v17_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v17_0) = v0 c
          ∧ r.2.mem ((c.tc : Thread Cert.Kernel10Ideal.nD Cert.Kernel10Ideal.τ).loc Cert.Kernel10Ideal.main_v17_1) = v1 c
          ∧ r.2.mem ((c.tc : Thread Cert.Kernel10Ideal.nD Cert.Kernel10Ideal.τ).loc Cert.Kernel10Ideal.main_v17_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_v36) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite_pool0 [hKernel11Ideal : Cert.Kernel11Ideal.Facts] [hReference11Ideal : Cert.Reference11Ideal.Facts] [hPre_finite_pool0 : Cert.Pre_finite_pool0.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_pool0 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v41) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_pre_finite_pool1 [hKernel12Ideal : Cert.Kernel12Ideal.Facts] [hReference12Ideal : Cert.Reference12Ideal.Facts] [hPre_finite_pool1 : Cert.Pre_finite_pool1.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_pool1 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v41) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite_pool2 [hKernel13Ideal : Cert.Kernel13Ideal.Facts] [hReference13Ideal : Cert.Reference13Ideal.Facts] [hPre_finite_pool2 : Cert.Pre_finite_pool2.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_pool2 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v41) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v11) = v1 c
          ∧ r.2.mem ((c.tc : Thread Cert.Reference14Ideal.nD Cert.Reference14Ideal.τ).loc Cert.Reference14Ideal.main_v14) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite_embed : Cert.Pre_finite_embed.Facts) (hPre_finite_pool3 : Cert.Pre_finite_pool3.Facts) (hPre_finite_embed_first : Cert.Pre_finite_embed_first.Facts) (hPre_finite_pool0 : Cert.Pre_finite_pool0.Facts) (hPre_finite_pool1 : Cert.Pre_finite_pool1.Facts) (hPre_finite_pool2 : Cert.Pre_finite_pool2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_embed (hKernel3Ideal := hKernel3Ideal) (hPre_finite_embed := hPre_finite_embed)
    ∧ quiescent_Reference3Ideal (hReference3Ideal := hReference3Ideal)
    ∧ quiescent_Reference3Ideal_pre_finite_embed (hReference3Ideal := hReference3Ideal) (hPre_finite_embed := hPre_finite_embed)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_pool3 (hKernel8Ideal := hKernel8Ideal) (hPre_finite_pool3 := hPre_finite_pool3)
    ∧ quiescent_Reference8Ideal (hReference8Ideal := hReference8Ideal)
    ∧ quiescent_Reference8Ideal_pre_finite_pool3 (hReference8Ideal := hReference8Ideal) (hPre_finite_pool3 := hPre_finite_pool3)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_embed_first (hKernel10Ideal := hKernel10Ideal) (hPre_finite_embed_first := hPre_finite_embed_first)
    ∧ quiescent_Reference10Ideal (hReference10Ideal := hReference10Ideal)
    ∧ quiescent_Reference10Ideal_pre_finite_embed_first (hReference10Ideal := hReference10Ideal) (hPre_finite_embed_first := hPre_finite_embed_first)
    ∧ quiescent_Kernel11 (hKernel11 := hKernel11)
    ∧ quiescent_Kernel11Ideal (hKernel11Ideal := hKernel11Ideal)
    ∧ quiescent_Kernel11Ideal_pre_finite_pool0 (hKernel11Ideal := hKernel11Ideal) (hPre_finite_pool0 := hPre_finite_pool0)
    ∧ quiescent_Reference11Ideal (hReference11Ideal := hReference11Ideal)
    ∧ quiescent_Reference11Ideal_pre_finite_pool0 (hReference11Ideal := hReference11Ideal) (hPre_finite_pool0 := hPre_finite_pool0)
    ∧ quiescent_Kernel12 (hKernel12 := hKernel12)
    ∧ quiescent_Kernel12Ideal (hKernel12Ideal := hKernel12Ideal)
    ∧ quiescent_Kernel12Ideal_pre_finite_pool1 (hKernel12Ideal := hKernel12Ideal) (hPre_finite_pool1 := hPre_finite_pool1)
    ∧ quiescent_Reference12Ideal (hReference12Ideal := hReference12Ideal)
    ∧ quiescent_Reference12Ideal_pre_finite_pool1 (hReference12Ideal := hReference12Ideal) (hPre_finite_pool1 := hPre_finite_pool1)
    ∧ quiescent_Kernel13 (hKernel13 := hKernel13)
    ∧ quiescent_Kernel13Ideal (hKernel13Ideal := hKernel13Ideal)
    ∧ quiescent_Kernel13Ideal_pre_finite_pool2 (hKernel13Ideal := hKernel13Ideal) (hPre_finite_pool2 := hPre_finite_pool2)
    ∧ quiescent_Reference13Ideal (hReference13Ideal := hReference13Ideal)
    ∧ quiescent_Reference13Ideal_pre_finite_pool2 (hReference13Ideal := hReference13Ideal) (hPre_finite_pool2 := hPre_finite_pool2)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_embed (hKernel3Ideal := hKernel3Ideal) (hReference3Ideal := hReference3Ideal) (hPre_finite_embed := hPre_finite_embed)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_pool3 (hKernel8Ideal := hKernel8Ideal) (hReference8Ideal := hReference8Ideal) (hPre_finite_pool3 := hPre_finite_pool3)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_embed_first (hKernel10Ideal := hKernel10Ideal) (hReference10Ideal := hReference10Ideal) (hPre_finite_embed_first := hPre_finite_embed_first)
    ∧ preserves_Kernel11_Kernel11Ideal
    ∧ algebraic_Kernel11Ideal_Reference11Ideal_pre_finite_pool0 (hKernel11Ideal := hKernel11Ideal) (hReference11Ideal := hReference11Ideal) (hPre_finite_pool0 := hPre_finite_pool0)
    ∧ preserves_Kernel12_Kernel12Ideal
    ∧ algebraic_Kernel12Ideal_Reference12Ideal_pre_finite_pool1 (hKernel12Ideal := hKernel12Ideal) (hReference12Ideal := hReference12Ideal) (hPre_finite_pool1 := hPre_finite_pool1)
    ∧ preserves_Kernel13_Kernel13Ideal
    ∧ algebraic_Kernel13Ideal_Reference13Ideal_pre_finite_pool2 (hKernel13Ideal := hKernel13Ideal) (hReference13Ideal := hReference13Ideal) (hPre_finite_pool2 := hPre_finite_pool2)
    ∧ preserves_Kernel14_Kernel14Ideal
    ∧ algebraic_Kernel14Ideal_Reference14Ideal (hKernel14Ideal := hKernel14Ideal) (hReference14Ideal := hReference14Ideal)
-- ==== Pre_finite.lean ====
abbrev S16384x4096 : Shape := ⟨2, ![16384, 4096]⟩
abbrev S16384x1024 : Shape := ⟨2, ![16384, 1024]⟩
abbrev S32 : Shape := ⟨1, ![32]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v14 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v14 main_v17
  main_v18

def fn {F : FTy → Type} [FloatOps F] (main_arg0 : FVec F S16384x4096 .bf16) (main_arg1 : FVec F S16384x1024 .bf16) (main_arg2 : FVec F S16384x1024 .bf16) (main_arg3 : FVec F S16384x4096 .f32) (main_arg4 : FVec F S32 .f32) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_cst_2 : FVec F S_ .f32 := constant S_ .f32 0xFF800000#32
  let main_v11 : FVec F S16384x4096 .f32 := broadcastInDim S16384x4096 ![] bcast_S_S16384x4096 main_cst_2
  let main_v12 : IVec S16384x4096 1 := cmpf .ogt main_arg3 main_v11
  let main_c_3 : IVec S_ 1 := constantI S_ 1 1#1
  let main_v13 : IVec S_ 1 := (fun x v => Host.reduce IntOp.andi x v reducesTo_S16384x4096_S_d0_1 h_S_) main_v12 main_c_3
  let main_v14 : IVec S_ 1 := andi main_v10 main_v13
  let main_cst_4 : FVec F S_ .f32 := constant S_ .f32 0x7F800000#32
  let main_v15 : FVec F S32 .f32 := broadcastInDim S32 ![] bcast_S_S32 main_cst_4
  let main_v16 : IVec S32 1 := cmpf .olt main_arg4 main_v15
  fn_part1 (F := F) main_v14 main_v16
-- ==== Pre_finite_embed.lean ====
abbrev S1x16384x4096 : Shape := ⟨3, ![1, 16384, 4096]⟩
abbrev S4x1x16384x256 : Shape := ⟨4, ![4, 1, 16384, 256]⟩
abbrev S4096 : Shape := ⟨1, ![4096]⟩
abbrev S4096x4096 : Shape := ⟨2, ![4096, 4096]⟩
abbrev S256x4096 : Shape := ⟨2, ![256, 4096]⟩
abbrev S1x1x16384x256 : Shape := ⟨4, ![1, 1, 16384, 256]⟩
abbrev S1x16384x256 : Shape := ⟨3, ![1, 16384, 256]⟩
abbrev S_ : Shape := ⟨0, ![]⟩

class Facts : Prop where
  slices_S4x1x16384x256_S1x1x16384x256_3_0_0_0 : S4x1x16384x256.Slices ![3, 0, 0, 0] S1x1x16384x256
  shapeCasts_S1x1x16384x256_S1x16384x256 : S1x1x16384x256.ShapeCasts S1x16384x256
  bcast_S_S1x16384x256 : S_.BroadcastsInDim S1x16384x256 (![] : Fin 0 → Fin S1x16384x256.rank)
  reducesTo_S1x16384x256_S_d0_1_2 : S1x16384x256.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_

variable [Facts]

def fn {F : FTy → Type} [FloatOps F] (main_arg0 : FVec F S1x16384x4096 .f32) (main_arg1 : FVec F S4x1x16384x256 .f32) (main_arg2 : FVec F S4096 .f32) (main_arg3 : FVec F S4096x4096 .f32) (main_arg4 : FVec F S256x4096 .f32) : IVec S_ 1 :=
  let main_v0 : FVec F S1x1x16384x256 .f32 := (extractStridedSlice S1x1x16384x256 ![3, 0, 0, 0] · slices_S4x1x16384x256_S1x1x16384x256_3_0_0_0) main_arg1
  let main_v1 : FVec F S1x16384x256 .f32 := shapeCast S1x16384x256 main_v0 shapeCasts_S1x1x16384x256_S1x16384x256
  let main_v2 : FVec F S1x16384x256 .f32 := Host.absf main_v1
  let main_cst : FVec F S_ .f32 := constant S_ .f32 0x7F800000#32
  let main_v3 : FVec F S1x16384x256 .f32 := broadcastInDim S1x16384x256 ![] bcast_S_S1x16384x256 main_cst
  let main_v4 : IVec S1x16384x256 1 := cmpf .olt main_v2 main_v3
  let main_c : IVec S_ 1 := constantI S_ 1 1#1
  let main_v5 : IVec S_ 1 := (fun x v => Host.reduce IntOp.andi x v reducesTo_S1x16384x256_S_d0_1_2 h_S_) main_v4 main_c
  let main_v6 : FVec F S256x4096 .f32 := Host.absf main_arg4
  let main_cst_0 : FVec F S_ .f32 := constant S_ .f32 0x7F800000#32
  let main_v7 : FVec F S256x4096 .f32 := broadcastInDim S256x4096 ![] bcast_S_S256x4096 main_cst_0
  let main_v8 : IVec S256x4096 1 := cmpf .olt main_v6 main_v7
  let main_c_1 : IVec S_ 1 := constantI S_ 1 1#1
  let main_v9 : IVec S_ 1 := (fun x v => Host.reduce IntOp.andi x v reducesTo_S256x4096_S_d0_1 h_S_) main_v8 main_c_1
  let main_v10 : IVec S_ 1 := andi main_v5 main_v9
  main_v10
-- ==== Pre_finite_embed_first.lean ====
abbrev S16384x4096 : Shape := ⟨2, ![16384, 4096]⟩
abbrev S4x1x16384x256 : Shape := ⟨4, ![4, 1, 16384, 256]⟩
abbrev S4096 : Shape := ⟨1, ![4096]⟩
abbrev S4096x4096 : Shape := ⟨2, ![4096, 4096]⟩
abbrev S256x4096 : Shape := ⟨2, ![256, 4096]⟩
abbrev S1x1x16384x256 : Shape := ⟨4, ![1, 1, 16384, 256]⟩
abbrev S1x16384x256 : Shape := ⟨3, ![1, 16384, 256]⟩
abbrev S_ : Shape := ⟨0, ![]⟩

class Facts : Prop where
  slices_S4x1x16384x256_S1x1x16384x256_0_0_0_0 : S4x1x16384x256.Slices ![0, 0, 0, 0] S1x1x16384x256
  shapeCasts_S1x1x16384x256_S1x16384x256 : S1x1x16384x256.ShapeCasts S1x16384x256
  bcast_S_S1x16384x256 : S_.BroadcastsInDim S1x16384x256 (![] : Fin 0 → Fin S1x16384x256.rank)
  reducesTo_S1x16384x256_S_d0_1_2 : S1x16384x256.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_

variable [Facts]

def fn {F : FTy → Type} [FloatOps F] (main_arg0 : FVec F S16384x4096 .f32) (main_arg1 : FVec F S4x1x16384x256 .f32) (main_arg2 : FVec F S4096 .f32) (main_arg3 : FVec F S4096x4096 .f32) (main_arg4 : FVec F S256x4096 .f32) (main_arg5 : FVec F S4096 .f32) : IVec S_ 1 :=
  let main_v0 : FVec F S1x1x16384x256 .f32 := (extractStridedSlice S1x1x16384x256 ![0, 0, 0, 0] · slices_S4x1x16384x256_S1x1x16384x256_0_0_0_0) main_arg1
  let main_v1 : FVec F S1x16384x256 .f32 := shapeCast S1x16384x256 main_v0 shapeCasts_S1x1x16384x256_S1x16384x256
  let main_v2 : FVec F S1x16384x256 .f32 := Host.absf main_v1
  let main_cst : FVec F S_ .f32 := constant S_ .f32 0x7F800000#32
  let main_v3 : FVec F S1x16384x256 .f32 := broadcastInDim S1x16384x256 ![] bcast_S_S1x16384x256 main_cst
  let main_v4 : IVec S1x16384x256 1 := cmpf .olt main_v2 main_v3
  let main_c : IVec S_ 1 := constantI S_ 1 1#1
  let main_v5 : IVec S_ 1 := (fun x v => Host.reduce IntOp.andi x v reducesTo_S1x16384x256_S_d0_1_2 h_S_) main_v4 main_c
  let main_v6 : FVec F S256x4096 .f32 := Host.absf main_arg4
  let main_cst_0 : FVec F S_ .f32 := constant S_ .f32 0x7F800000#32
  let main_v7 : FVec F S256x4096 .f32 := broadcastInDim S256x4096 ![] bcast_S_S256x4096 main_cst_0
  let main_v8 : IVec S256x4096 1 := cmpf .olt main_v6 main_v7
  let main_c_1 : IVec S_ 1 := constantI S_ 1 1#1
  let main_v9 : IVec S_ 1 := (fun x v => Host.reduce IntOp.andi x v reducesTo_S256x4096_S_d0_1 h_S_) main_v8 main_c_1
  let main_v10 : IVec S_ 1 := andi main_v5 main_v9
  main_v10
-- ==== Pre_finite_pool0.lean ====
abbrev S16384x16384 : Shape := ⟨2, ![16384, 16384]⟩
abbrev S2x4x2048x2048 : Shape := ⟨4, ![2, 4, 2048, 2048]⟩
abbrev S8192 : Shape := ⟨1, ![8192]⟩
abbrev S16384x2048 : Shape := ⟨2, ![16384, 2048]⟩
abbrev S_ : Shape := ⟨0, ![]⟩

class Facts : Prop where
  slices_S16384x16384_S16384x2048_0_8192 : S16384x16384.Slices ![0, 8192] S16384x2048
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x16384 .f32) (main_arg1 : FVec F S2x4x2048x2048 .f32) (main_arg2 : FVec F S8192 .f32) : IVec S_ 1 :=
  let main_v0 : FVec F S16384x2048 .f32 := (extractStridedSlice S16384x2048 ![0, 8192] · slices_S16384x16384_S16384x2048_0_8192) main_arg0
  let main_cst : FVec F S_ .f32 := constant S_ .f32 0xFF800000#32
  let main_v1 : FVec F S16384x2048 .f32 := broadcastInDim S16384x2048 ![] bcast_S_S16384x2048 main_cst
  let main_v2 : IVec S16384x2048 1 := cmpf .ogt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Pre_finite_pool1.lean ====
abbrev S16384x16384 : Shape := ⟨2, ![16384, 16384]⟩
abbrev S2x4x2048x2048 : Shape := ⟨4, ![2, 4, 2048, 2048]⟩
abbrev S8192 : Shape := ⟨1, ![8192]⟩
abbrev S16384x2048 : Shape := ⟨2, ![16384, 2048]⟩
abbrev S_ : Shape := ⟨0, ![]⟩

class Facts : Prop where
  slices_S16384x16384_S16384x2048_0_10240 : S16384x16384.Slices ![0, 10240] S16384x2048
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x16384 .f32) (main_arg1 : FVec F S2x4x2048x2048 .f32) (main_arg2 : FVec F S8192 .f32) : IVec S_ 1 :=
  let main_v0 : FVec F S16384x2048 .f32 := (extractStridedSlice S16384x2048 ![0, 10240] · slices_S16384x16384_S16384x2048_0_10240) main_arg0
  let main_cst : FVec F S_ .f32 := constant S_ .f32 0xFF800000#32
  let main_v1 : FVec F S16384x2048 .f32 := broadcastInDim S16384x2048 ![] bcast_S_S16384x2048 main_cst
  let main_v2 : IVec S16384x2048 1 := cmpf .ogt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Pre_finite_pool2.lean ====
abbrev S16384x16384 : Shape := ⟨2, ![16384, 16384]⟩
abbrev S2x4x2048x2048 : Shape := ⟨4, ![2, 4, 2048, 2048]⟩
abbrev S8192 : Shape := ⟨1, ![8192]⟩
abbrev S16384x2048 : Shape := ⟨2, ![16384, 2048]⟩
abbrev S_ : Shape := ⟨0, ![]⟩

class Facts : Prop where
  slices_S16384x16384_S16384x2048_0_12288 : S16384x16384.Slices ![0, 12288] S16384x2048
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x16384 .f32) (main_arg1 : FVec F S2x4x2048x2048 .f32) (main_arg2 : FVec F S8192 .f32) : IVec S_ 1 :=
  let main_v0 : FVec F S16384x2048 .f32 := (extractStridedSlice S16384x2048 ![0, 12288] · slices_S16384x16384_S16384x2048_0_12288) main_arg0
  let main_cst : FVec F S_ .f32 := constant S_ .f32 0xFF800000#32
  let main_v1 : FVec F S16384x2048 .f32 := broadcastInDim S16384x2048 ![] bcast_S_S16384x2048 main_cst
  let main_v2 : IVec S16384x2048 1 := cmpf .ogt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Pre_finite_pool3.lean ====
abbrev S16384x16384 : Shape := ⟨2, ![16384, 16384]⟩
abbrev S2x4x2048x2048 : Shape := ⟨4, ![2, 4, 2048, 2048]⟩
abbrev S8192 : Shape := ⟨1, ![8192]⟩
abbrev S16384x2048 : Shape := ⟨2, ![16384, 2048]⟩
abbrev S_ : Shape := ⟨0, ![]⟩

class Facts : Prop where
  slices_S16384x16384_S16384x2048_0_14336 : S16384x16384.Slices ![0, 14336] S16384x2048
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x16384 .f32) (main_arg1 : FVec F S2x4x2048x2048 .f32) (main_arg2 : FVec F S8192 .f32) : IVec S_ 1 :=
  let main_v0 : FVec F S16384x2048 .f32 := (extractStridedSlice S16384x2048 ![0, 14336] · slices_S16384x16384_S16384x2048_0_14336) main_arg0
  let main_cst : FVec F S_ .f32 := constant S_ .f32 0xFF800000#32
  let main_v1 : FVec F S16384x2048 .f32 := broadcastInDim S16384x2048 ![] bcast_S_S16384x2048 main_cst
  let main_v2 : IVec S16384x2048 1 := cmpf .ogt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x4096 : Shape := ⟨2, ![16384, 4096]⟩
abbrev S16384x1024 : Shape := ⟨2, ![16384, 1024]⟩
abbrev S32 : Shape := ⟨1, ![32]⟩
abbrev S_ : Shape := ⟨0, ![]⟩
abbrev S16384x6144 : Shape := ⟨2, ![16384, 6144]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32x1x1 : Shape := ⟨3, ![32, 1, 1]⟩
abbrev S1x128x384 : Shape := ⟨3, ![1, 128, 384]⟩
abbrev S32x128x384 : Shape := ⟨3, ![32, 128, 384]⟩
abbrev S256x4096 : Shape := ⟨2, ![256, 4096]⟩
abbrev S128x2048 : Shape := ⟨2, ![128, 2048]⟩
abbrev S256x2048 : Shape := ⟨2, ![256, 2048]⟩
abbrev S128x128 : Shape := ⟨2, ![128, 128]⟩
abbrev S512x128 : Shape := ⟨2, ![512, 128]⟩
abbrev S384x128 : Shape := ⟨2, ![384, 128]⟩
abbrev S512x384 : Shape := ⟨2, ![512, 384]⟩
abbrev S1 : Shape := ⟨1, ![1]⟩

abbrev nBuf : Space → Nat
  | .hbm => 65
  | .vmem => 13
  | .smem => 1
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x4096, .f32⟩
  | .hbm, ⟨4, _⟩ => ⟨S32, .f32⟩
  | .hbm, ⟨5, _⟩ => ⟨S16384x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x1024, .f32⟩
  | .hbm, ⟨15, _⟩ => ⟨S16384x1024, .f32⟩
  | .hbm, ⟨16, _⟩ => ⟨S16384x6144, .f32⟩
  | .hbm, ⟨17, _⟩ => ⟨S16384x6144, .bf16⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S128, .i32⟩
  | .hbm, ⟨32, _⟩ => ⟨S128x1, .i32⟩
  | .hbm, ⟨33, _⟩ => ⟨S384, .i32⟩
  | .hbm, ⟨34, _⟩ => ⟨S1x384, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x384, .i32⟩
  | .hbm, ⟨39, _⟩ => ⟨S128x384, .i32⟩
  | .hbm, ⟨40, _⟩ => ⟨S128x384, .i32⟩
  | .hbm, ⟨41, _⟩ => ⟨S128x384, .i32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S32x1x1, .f32⟩
  | .hbm, ⟨49, _⟩ => ⟨S32x1x1, .f32⟩
  | .hbm, ⟨50, _⟩ => ⟨S128x384, .f32⟩
  | .hbm, ⟨51, _⟩ => ⟨S1x128x384, .f32⟩
  | .hbm, ⟨52, _⟩ => ⟨S32x128x384, .f32⟩
  | .hbm, ⟨53, _⟩ => ⟨S32x128x384, .f32⟩
  | .hbm, ⟨54, _⟩ => ⟨S32x128x384, .f32⟩
  | .hbm, ⟨55, _⟩ => ⟨S_, .i32⟩
  | .hbm, ⟨56, _⟩ => ⟨S128x384, .i32⟩
  | .hbm, ⟨57, _⟩ => ⟨S128x384, .i1⟩
  | .hbm, ⟨58, _⟩ => ⟨S1x128x384, .i1⟩
  | .hbm, ⟨59, _⟩ => ⟨S_, .f32⟩
  | .hbm, ⟨60, _⟩ => ⟨S_, .f32⟩
  | .hbm, ⟨61, _⟩ => ⟨S32x128x384, .i1⟩
  | .hbm, ⟨62, _⟩ => ⟨S32x128x384, .f32⟩
  | .hbm, ⟨63, _⟩ => ⟨S32x128x384, .f32⟩
  | .hbm, ⟨64, _⟩ => ⟨S16384x4096, .bf16⟩
  | .local _ .vmem, ⟨0, _⟩ => ⟨S32x128x384, .f32⟩
  | .local _ .vmem, ⟨1, _⟩ => ⟨S256x4096, .bf16⟩
  | .local _ .vmem, ⟨2, _⟩ => ⟨S256x4096, .bf16⟩
  | .local _ .vmem, ⟨3, _⟩ => ⟨S128x2048, .bf16⟩
  | .local _ .vmem, ⟨4, _⟩ => ⟨S128x2048, .bf16⟩
  | .local _ .vmem, ⟨5, _⟩ => ⟨S256x2048, .bf16⟩
  | .local _ .vmem, ⟨6, _⟩ => ⟨S256x2048, .bf16⟩
  | .local _ .vmem, ⟨7, _⟩ => ⟨S128x2048, .bf16⟩
  | .local _ .vmem, ⟨8, _⟩ => ⟨S128x2048, .bf16⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | .local _ .smem, ⟨0, _⟩ => ⟨S32, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v43 : Ref sig .tc := ⟨.hbm, 63, rfl⟩
abbrev main_v44 : Ref sig .tc := ⟨.hbm, 64, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let c63_i32 : BitVec 32 := 63#32
  let v1 : BitVec 1 := Scalar.cmpi .eq arg0 c63_i32
  let v2 : BitVec 1 := Scalar.ori v0 v1
  let v_true : BitVec 1 := 1#1
  let v3 : BitVec 1 := Scalar.xori v2 v_true
  let v4 : BitVec 32 := Scalar.extui v3
  let c0_i32_0 : BitVec 32 := 0#32
  let v5 : BitVec 1 := Scalar.cmpi .ne v4 c0_i32_0
  v5

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let c63_i32 : BitVec 32 := 63#32
  let v1 : BitVec 1 := Scalar.cmpi .eq arg0 c63_i32
  let v2 : BitVec 1 := Scalar.ori v0 v1
  let v6 : BitVec 32 := Scalar.extui v2
  let c0_i32_1 : BitVec 32 := 0#32
  let v7 : BitVec 1 := Scalar.cmpi .ne v6 c0_i32_1
  v7

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![v2.toNat, c2_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c127_i32 : BitVec 32 := 127#32
  let v2 : BitVec 32 := Scalar.minsi v1 c127_i32
  let c2_i32_1 : BitVec 32 := 2#32
  let c0_i32 : BitVec 32 := 0#32
  ![v2.toNat, c2_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16384x4096 : Shape := ⟨2, ![16384, 4096]⟩
abbrev S16384x1024 : Shape := ⟨2, ![16384, 1024]⟩
abbrev S32 : Shape := ⟨1, ![32]⟩
abbrev S16384x8x4x128 : Shape := ⟨4, ![16384, 8, 4, 128]⟩
abbrev S16384x8x128 : Shape := ⟨3, ![16384, 8, 128]⟩
abbrev S_ : Shape := ⟨0, ![]⟩
abbrev S8x4 : Shape := ⟨2, ![8, 4]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S8x16384x16384x4 : Shape := ⟨4, ![8, 16384, 16384, 4]⟩
abbrev S8x4x16384x16384 : Shape := ⟨4, ![8, 4, 16384, 16384]⟩
abbrev S8x4x1x1 : Shape := ⟨4, ![8, 4, 1, 1]⟩
abbrev S1x1x16384x16384 : Shape := ⟨4, ![1, 1, 16384, 16384]⟩
abbrev S8x4x16384x1 : Shape := ⟨4, ![8, 4, 16384, 1]⟩
abbrev S8x4x16384x16385 : Shape := ⟨4, ![8, 4, 16384, 16385]⟩
abbrev S8x4x16384 : Shape := ⟨3, ![8, 4, 16384]⟩
abbrev S8x128x4x16384 : Shape := ⟨4, ![8, 128, 4, 16384]⟩

abbrev nBuf : Space → Nat
  | .hbm => 85
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x4096, .f32⟩
  | .hbm, ⟨4, _⟩ => ⟨S32, .f32⟩
  | .hbm, ⟨5, _⟩ => ⟨S16384x4096, .f32⟩
  | .hbm, ⟨6, _⟩ => ⟨S16384x8x4x128, .f32⟩
  | .hbm, ⟨7, _⟩ => ⟨S16384x1024, .f32⟩
  | .hbm, ⟨8, _⟩ => ⟨S16384x8x128, .f32⟩
  | .hbm, ⟨9, _⟩ => ⟨S16384x1024, .f32⟩
  | .hbm, ⟨10, _⟩ => ⟨S16384x8x128, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8x4, .f32⟩
  | .hbm, ⟨25, _⟩ => ⟨S16384, .i32⟩
  | .hbm, ⟨26, _⟩ => ⟨S16384x1, .i32⟩
  | .hbm, ⟨27, _⟩ => ⟨S1x16384, .i32⟩
  | .hbm, ⟨28, _⟩ => ⟨S16384x16384, .i32⟩
  | .hbm, ⟨29, _⟩ => ⟨S16384x16384, .i32⟩
  | .hbm, ⟨30, _⟩ => ⟨S16384x16384, .i32⟩
  | .hbm, ⟨31, _⟩ => ⟨S16384x16384, .i32⟩
  | .hbm, ⟨32, _⟩ => ⟨S8x16384x16384x4, .f32⟩
  | .hbm, ⟨33, _⟩ => ⟨S8x4x16384x16384, .f32⟩
  | .hbm, ⟨34, _⟩ => ⟨S_, .f32⟩
  | .hbm, ⟨35, _⟩ => ⟨S8x4x16384x16384, .f32⟩
  | .hbm, ⟨36, _⟩ => ⟨S8x4x16384x16384, .f32⟩
  | .hbm, ⟨37, _⟩ => ⟨S8x4x1x1, .f32⟩
  | .hbm, ⟨38, _⟩ => ⟨S16384x16384, .f32⟩
  | .hbm, ⟨39, _⟩ => ⟨S1x1x16384x16384, .f32⟩
  | .hbm, ⟨40, _⟩ => ⟨S8x4x16384x16384, .f32⟩
  | .hbm, ⟨41, _⟩ => ⟨S8x4x16384x16384, .f32⟩
  | .hbm, ⟨42, _⟩ => ⟨S8x4x16384x16384, .f32⟩
  | .hbm, ⟨43, _⟩ => ⟨S8x4x16384x16384, .f32⟩
  | .hbm, ⟨44, _⟩ => ⟨S_, .i32⟩
  | .hbm, ⟨45, _⟩ => ⟨S16384x16384, .i32⟩
  | .hbm, ⟨46, _⟩ => ⟨S16384x16384, .i1⟩
  | .hbm, ⟨47, _⟩ => ⟨S_, .f32⟩
  | .hbm, ⟨48, _⟩ => ⟨S_, .f32⟩
  | .hbm, ⟨49, _⟩ => ⟨S8x4x16384x16384, .i1⟩
  | .hbm, ⟨50, _⟩ => ⟨S8x4x16384x16384, .f32⟩
  | .hbm, ⟨51, _⟩ => ⟨S8x4x16384x16384, .f32⟩
  | .hbm, ⟨52, _⟩ => ⟨S8x4, .f32⟩
  | .hbm, ⟨53, _⟩ => ⟨S8x4x1x1, .f32⟩
  | .hbm, ⟨54, _⟩ => ⟨S8x4x16384x1, .f32⟩
  | .hbm, ⟨55, _⟩ => ⟨S8x4x16384x16385, .f32⟩
  | .hbm, ⟨56, _⟩ => ⟨S_, .f32⟩
  | .hbm, ⟨57, _⟩ => ⟨S8x4x16384, .f32⟩
  | .hbm, ⟨58, _⟩ => ⟨S_, .f32⟩
  | .hbm, ⟨59, _⟩ => ⟨S8x4x16384, .f32⟩
  | .hbm, ⟨60, _⟩ => ⟨S8x4x16384, .f32⟩
  | .hbm, ⟨61, _⟩ => ⟨S8x4x16384x1, .f32⟩
  | .hbm, ⟨62, _⟩ => ⟨S8x4x16384x16385, .f32⟩
  | .hbm, ⟨63, _⟩ => ⟨S8x4x16384x16385, .f32⟩
  | .hbm, ⟨64, _⟩ => ⟨S8x4x16384x16385, .f32⟩
  | .hbm, ⟨65, _⟩ => ⟨S_, .f32⟩
  | .hbm, ⟨66, _⟩ => ⟨S8x4x16384, .f32⟩
  | .hbm, ⟨67, _⟩ => ⟨S8x4x16384x1, .f32⟩
  | .hbm, ⟨68, _⟩ => ⟨S8x4x16384x16385, .f32⟩
  | .hbm, ⟨69, _⟩ => ⟨S8x4x16384x16385, .f32⟩
  | .hbm, ⟨70, _⟩ => ⟨S8x4x16384x16384, .f32⟩
  | .hbm, ⟨71, _⟩ => ⟨S8x128x4x16384, .f32⟩
  | .hbm, ⟨72, _⟩ => ⟨S16384x8x4x128, .f32⟩
  | .hbm, ⟨73, _⟩ => ⟨S16384x4096, .f32⟩
  | .hbm, ⟨74, _⟩ => ⟨S16384x4096, .f32⟩
  | .hbm, ⟨75, _⟩ => ⟨S16384x4096, .f32⟩
  | .hbm, ⟨76, _⟩ => ⟨S_, .f32⟩
  | .hbm, ⟨77, _⟩ => ⟨S16384x4096, .f32⟩
  | .hbm, ⟨78, _⟩ => ⟨S16384x4096, .f32⟩
  | .hbm, ⟨79, _⟩ => ⟨S_, .f32⟩
  | .hbm, ⟨80, _⟩ => ⟨S16384x4096, .f32⟩
  | .hbm, ⟨81, _⟩ => ⟨S16384x4096, .f32⟩
  | .hbm, ⟨82, _⟩ => ⟨S16384x4096, .f32⟩
  | .hbm, ⟨83, _⟩ => ⟨S16384x4096, .f32⟩
  | .hbm, ⟨84, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Kernel2.lean ====
abbrev S16384x4096 : Shape := ⟨2, ![16384, 4096]⟩
abbrev S4096 : Shape := ⟨1, ![4096]⟩
abbrev S4096x16384 : Shape := ⟨2, ![4096, 16384]⟩
abbrev S4x4096x4096 : Shape := ⟨3, ![4, 4096, 4096]⟩
abbrev S4x256x4096 : Shape := ⟨3, ![4, 256, 4096]⟩
abbrev S2x8192x4096 : Shape := ⟨3, ![2, 8192, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S16384x16384 : Shape := ⟨2, ![16384, 16384]⟩
abbrev S4096x4096 : Shape := ⟨2, ![4096, 4096]⟩
abbrev S256x4096 : Shape := ⟨2, ![256, 4096]⟩
abbrev S8192x4096 : Shape := ⟨2, ![8192, 4096]⟩
abbrev S1024x4096 : Shape := ⟨2, ![1024, 4096]⟩
abbrev S1024x1 : Shape := ⟨2, ![1024, 1]⟩
abbrev S4096x1024 : Shape := ⟨2, ![4096, 1024]⟩
abbrev S1x16x4096 : Shape := ⟨3, ![1, 16, 4096]⟩
abbrev S1x32x4096 : Shape := ⟨3, ![1, 32, 4096]⟩
abbrev S1024x1024 : Shape := ⟨2, ![1024, 1024]⟩
abbrev S16x4096 : Shape := ⟨2, ![16, 4096]⟩
abbrev S32x4096 : Shape := ⟨2, ![32, 4096]⟩

abbrev nBuf : Space → Nat
  | .hbm => 26
  | .vmem => 20
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x16384, .f32⟩
  | .hbm, ⟨3, _⟩ => ⟨S4x4096x4096, .f32⟩
  | .hbm, ⟨4, _⟩ => ⟨S4x256x4096, .f32⟩
  | .hbm, ⟨5, _⟩ => ⟨S2x8192x4096, .f32⟩
  | .hbm, ⟨6, _⟩ => ⟨S1x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S4096x16384, .bf16⟩
  | .hbm, ⟨22, _⟩ => ⟨S16384x16384, .f32⟩
  | .hbm, ⟨23, _⟩ => ⟨S4096x4096, .bf16⟩
  | .hbm, ⟨24, _⟩ => ⟨S256x4096, .bf16⟩
  | .hbm, ⟨25, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S4096x1024, .bf16⟩
  | .local _ .vmem, ⟨5, _⟩ => ⟨S4096x1024, .bf16⟩
  | .local _ .vmem, ⟨6, _⟩ => ⟨S1x16x4096, .f32⟩
  | .local _ .vmem, ⟨7, _⟩ => ⟨S1x16x4096, .f32⟩
  | .local _ .vmem, ⟨8, _⟩ => ⟨S1x16x4096, .f32⟩
  | .local _ .vmem, ⟨9, _⟩ => ⟨S1x16x4096, .f32⟩
  | .local _ .vmem, ⟨10, _⟩ => ⟨S1x32x4096, .f32⟩
  | .local _ .vmem, ⟨11, _⟩ => ⟨S1x32x4096, .f32⟩
  | .local _ .vmem, ⟨12, _⟩ => ⟨S1024x1024, .f32⟩
  | .local _ .vmem, ⟨13, _⟩ => ⟨S1024x1024, .f32⟩
  | .local _ .vmem, ⟨14, _⟩ => ⟨S16x4096, .bf16⟩
  | .local _ .vmem, ⟨15, _⟩ => ⟨S16x4096, .bf16⟩
  | .local _ .vmem, ⟨16, _⟩ => ⟨S16x4096, .bf16⟩
  | .local _ .vmem, ⟨17, _⟩ => ⟨S16x4096, .bf16⟩
  | .local _ .vmem, ⟨18, _⟩ => ⟨S32x4096, .bf16⟩
  | .local _ .vmem, ⟨19, _⟩ => ⟨S32x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c255_i32 : BitVec 32 := 255#32
  let v4 : BitVec 32 := Scalar.minsi v3 c255_i32
  let c3_i32 : BitVec 32 := 3#32
  let c0_i32_0 : BitVec 32 := 0#32
  let c0_i32_1 : BitVec 32 := 0#32
  ![c3_i32.toNat, v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c15_i32 : BitVec 32 := 15#32
  let v4 : BitVec 32 := Scalar.minsi v3 c15_i32
  let c3_i32 : BitVec 32 := 3#32
  let c0_i32_0 : BitVec 32 := 0#32
  let c0_i32_1 : BitVec 32 := 0#32
  ![c3_i32.toNat, v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c255_i32 : BitVec 32 := 255#32
  let v4 : BitVec 32 := Scalar.minsi v3 c255_i32
  let c1_i32_0 : BitVec 32 := 1#32
  let c0_i32_1 : BitVec 32 := 0#32
  let c0_i32_2 : BitVec 32 := 0#32
  ![c1_i32_0.toNat, v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c255_i32 : BitVec 32 := 255#32
  let v4 : BitVec 32 := Scalar.minsi v3 c255_i32
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c15_i32 : BitVec 32 := 15#32
  let v4 : BitVec 32 := Scalar.minsi v3 c15_i32
  let c0_i32_0 : BitVec 32 := 0#32
  let c0_i32_1 : BitVec 32 := 0#32
  ![v4.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c255_i32 : BitVec 32 := 255#32
  let v4 : BitVec 32 := Scalar.minsi v3 c255_i32
  let c0_i32_0 : BitVec 32 := 0#32
  let c0_i32_1 : BitVec 32 := 0#32
  ![v4.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16384x4096 : Shape := ⟨2, ![16384, 4096]⟩
abbrev S4096 : Shape := ⟨1, ![4096]⟩
abbrev S4096x16384 : Shape := ⟨2, ![4096, 16384]⟩
abbrev S4x4096x4096 : Shape := ⟨3, ![4, 4096, 4096]⟩
abbrev S4x256x4096 : Shape := ⟨3, ![4, 256, 4096]⟩
abbrev S2x8192x4096 : Shape := ⟨3, ![2, 8192, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x16384 : Shape := ⟨2, ![16384, 16384]⟩
abbrev S1x4096x4096 : Shape := ⟨3, ![1, 4096, 4096]⟩
abbrev S4096x4096 : Shape := ⟨2, ![4096, 4096]⟩
abbrev S1x256x4096 : Shape := ⟨3, ![1, 256, 4096]⟩
abbrev S256x4096 : Shape := ⟨2, ![256, 4096]⟩
abbrev S1x8192x4096 : Shape := ⟨3, ![1, 8192, 4096]⟩
abbrev S8192x4096 : Shape := ⟨2, ![8192, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x16384, .f32⟩
  | .hbm, ⟨3, _⟩ => ⟨S4x4096x4096, .f32⟩
  | .hbm, ⟨4, _⟩ => ⟨S4x256x4096, .f32⟩
  | .hbm, ⟨5, _⟩ => ⟨S2x8192x4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S16384x16384, .f32⟩
  | .hbm, ⟨23, _⟩ => ⟨S1x4096x4096, .f32⟩
  | .hbm, ⟨24, _⟩ => ⟨S4096x4096, .f32⟩
  | .hbm, ⟨25, _⟩ => ⟨S4096x4096, .bf16⟩
  | .hbm, ⟨26, _⟩ => ⟨S1x256x4096, .f32⟩
  | .hbm, ⟨27, _⟩ => ⟨S256x4096, .f32⟩
  | .hbm, ⟨28, _⟩ => ⟨S_, .f32⟩
  | .hbm, ⟨29, _⟩ => ⟨S256x4096, .f32⟩
  | .hbm, ⟨30, _⟩ => ⟨S256x4096, .f32⟩
  | .hbm, ⟨31, _⟩ => ⟨S256x4096, .bf16⟩
  | .hbm, ⟨32, _⟩ => ⟨S1x8192x4096, .f32⟩
  | .hbm, ⟨33, _⟩ => ⟨S8192x4096, .f32⟩
  | .hbm, ⟨34, _⟩ => ⟨S8192x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel3.lean ====
abbrev S1x16384x4096 : Shape := ⟨3, ![1, 16384, 4096]⟩
abbrev S4x1x16384x256 : Shape := ⟨4, ![4, 1, 16384, 256]⟩
abbrev S4096 : Shape := ⟨1, ![4096]⟩
abbrev S4096x4096 : Shape := ⟨2, ![4096, 4096]⟩
abbrev S256x4096 : Shape := ⟨2, ![256, 4096]⟩
abbrev S16384x4096 : Shape := ⟨2, ![16384, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S1024x1 : Shape := ⟨2, ![1024, 1]⟩
abbrev S4096x512 : Shape := ⟨2, ![4096, 512]⟩
abbrev S1x1x1024x256 : Shape := ⟨4, ![1, 1, 1024, 256]⟩
abbrev S1024x512 : Shape := ⟨2, ![1024, 512]⟩
abbrev S1024x256 : Shape := ⟨2, ![1024, 256]⟩
abbrev S4096x256 : Shape := ⟨2, ![4096, 256]⟩
abbrev S256x256 : Shape := ⟨2, ![256, 256]⟩

abbrev nBuf : Space → Nat
  | .hbm => 27
  | .vmem => 13
  | .smem => 0
  | _ => 0

abbrev bufTy : (tb : Table) → Fin (tcTables nBuf tb) → BufTy
  | .hbm, ⟨0, _⟩ => ⟨S1x16384x4096, .f32⟩
  | .hbm, ⟨1, _⟩ => ⟨S4x1x16384x256, .f32⟩
  | .hbm, ⟨2, _⟩ => ⟨S4096, .f32⟩
  | .hbm, ⟨3, _⟩ => ⟨S4096x4096, .f32⟩
  | .hbm, ⟨4, _⟩ => ⟨S256x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S4096x4096, .bf16⟩
  | .hbm, ⟨22, _⟩ => ⟨S_, .f32⟩
  | .hbm, ⟨23, _⟩ => ⟨S256x4096, .f32⟩
  | .hbm, ⟨24, _⟩ => ⟨S256x4096, .f32⟩
  | .hbm, ⟨25, _⟩ => ⟨S256x4096, .bf16⟩
  | .hbm, ⟨26, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S4096x512, .bf16⟩
  | .local _ .vmem, ⟨5, _⟩ => ⟨S4096x512, .bf16⟩
  | .local _ .vmem, ⟨6, _⟩ => ⟨S1x1x1024x256, .f32⟩
  | .local _ .vmem, ⟨7, _⟩ => ⟨S1x1x1024x256, .f32⟩
  | .local _ .vmem, ⟨8, _⟩ => ⟨S256x4096, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  let c0_i32 : BitVec 32 := 0#32
  let v16 : BitVec 32 := Scalar.addi v15 c0_i32
  v16
def k0_off1 (i : grid0.Coords) (c0_i32 : BitVec 32) : Fin 2 → Nat :=
  let c0_10 : Index := 0#32
  let arg1 : BitVec 32 := BitVec.ofNat 32 (i 1).val
  let c512_i32 : BitVec 32 := 512#32
  let v15 : BitVec 32 := Scalar.muli arg1 c512_i32
  let v16 : BitVec 32 := Scalar.addi v15 c0_i32
  let v17 : BitVec 32 := v16
  let v18 : Index := Scalar.indexCast v17
  ![0, v18.toNat]
def k0_mult2 (i : grid0.Coords) : BitVec 32 :=
  let arg1 : BitVec 32 := BitVec.ofNat 32 (i 1).val
  let c512_i32_20 : BitVec 32 := 512#32
  let v36 : BitVec 32 := Scalar.muli arg1 c512_i32_20
  let c256_i32 : BitVec 32 := 256#32
  let v37 : BitVec 32 := Scalar.addi v36 c256_i32
  v37
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S1x16384x4096 : Shape := ⟨3, ![1, 16384, 4096]⟩
abbrev S4x1x16384x256 : Shape := ⟨4, ![4, 1, 16384, 256]⟩
abbrev S4096 : Shape := ⟨1, ![4096]⟩
abbrev S4096x4096 : Shape := ⟨2, ![4096, 4096]⟩
abbrev S256x4096 : Shape := ⟨2, ![256, 4096]⟩
abbrev S_ : Shape := ⟨0, ![]⟩
abbrev S1x16384 : Shape := ⟨2, ![1, 16384]⟩
abbrev S1x16384x1 : Shape := ⟨3, ![1, 16384, 1]⟩
abbrev S1x1x4096 : Shape := ⟨3, ![1, 1, 4096]⟩
abbrev S1x1x16384x256 : Shape := ⟨4, ![1, 1, 16384, 256]⟩
abbrev S1x16384x256 : Shape := ⟨3, ![1, 16384, 256]⟩
abbrev S16384x4096 : Shape := ⟨2, ![16384, 4096]⟩

abbrev nBuf : Space → Nat
  | .hbm => 36
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S4x1x16384x256, .f32⟩
  | .hbm, ⟨2, _⟩ => ⟨S4096, .f32⟩
  | .hbm, ⟨3, _⟩ => ⟨S4096x4096, .f32⟩
  | .hbm, ⟨4, _⟩ => ⟨S256x4096, .f32⟩
  | .hbm, ⟨5, _⟩ => ⟨S1x16384x4096, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x4096, .f32⟩
  | .hbm, ⟨17, _⟩ => ⟨S1x16384x4096, .f32⟩
  | .hbm, ⟨18, _⟩ => ⟨S1x1x4096, .f32⟩
  | .hbm, ⟨19, _⟩ => ⟨S1x16384x4096, .f32⟩
  | .hbm, ⟨20, _⟩ => ⟨S1x16384x4096, .f32⟩
  | .hbm, ⟨21, _⟩ => ⟨S1x16384x4096, .f32⟩
  | .hbm, ⟨22, _⟩ => ⟨S1x16384x4096, .f32⟩
  | .hbm, ⟨23, _⟩ => ⟨S1x16384x4096, .f32⟩
  | .hbm, ⟨24, _⟩ => ⟨S_, .f32⟩
  | .hbm, ⟨25, _⟩ => ⟨S1x16384x4096, .f32⟩
  | .hbm, ⟨26, _⟩ => ⟨S1x16384x4096, .f32⟩
  | .hbm, ⟨27, _⟩ => ⟨S_, .f32⟩
  | .hbm, ⟨28, _⟩ => ⟨S1x16384x4096, .f32⟩
  | .hbm, ⟨29, _⟩ => ⟨S1x16384x4096, .f32⟩
  | .hbm, ⟨30, _⟩ => ⟨S1x1x16384x256, .f32⟩
  | .hbm, ⟨31, _⟩ => ⟨S1x16384x256, .f32⟩
  | .hbm, ⟨32, _⟩ => ⟨S1x16384x4096, .f32⟩
  | .hbm, ⟨33, _⟩ => ⟨S1x16384x4096, .f32⟩
  | .hbm, ⟨34, _⟩ => ⟨S1x16384x4096, .f32⟩
  | .hbm, ⟨35, _⟩ => ⟨S16384x4096, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel4.lean ====
abbrev S16384x4096 : Shape := ⟨2, ![16384, 4096]⟩
abbrev S4096 : Shape := ⟨1, ![4096]⟩
abbrev S4096x10240 : Shape := ⟨2, ![4096, 10240]⟩
abbrev S4x4096x4096 : Shape := ⟨3, ![4, 4096, 4096]⟩
abbrev S4x256x4096 : Shape := ⟨3, ![4, 256, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S4096x4096 : Shape := ⟨2, ![4096, 4096]⟩
abbrev S256x4096 : Shape := ⟨2, ![256, 4096]⟩
abbrev S1024x4096 : Shape := ⟨2, ![1024, 4096]⟩
abbrev S1024x1 : Shape := ⟨2, ![1024, 1]⟩
abbrev S4096x1024 : Shape := ⟨2, ![4096, 1024]⟩
abbrev S1x64x4096 : Shape := ⟨3, ![1, 64, 4096]⟩
abbrev S1x16x4096 : Shape := ⟨3, ![1, 16, 4096]⟩
abbrev S1024x1024 : Shape := ⟨2, ![1024, 1024]⟩
abbrev S64x4096 : Shape := ⟨2, ![64, 4096]⟩
abbrev S16x4096 : Shape := ⟨2, ![16, 4096]⟩

abbrev nBuf : Space → Nat
  | .hbm => 24
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x10240, .f32⟩
  | .hbm, ⟨3, _⟩ => ⟨S4x4096x4096, .f32⟩
  | .hbm, ⟨4, _⟩ => ⟨S4x256x4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S16384x4096, .bf16⟩
  | .hbm, ⟨9, _⟩ => ⟨S16384x4096, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S4096x10240, .bf16⟩
  | .hbm, ⟨21, _⟩ => ⟨S16384x4096, .f32⟩
  | .hbm, ⟨22, _⟩ => ⟨S4096x4096, .bf16⟩
  | .hbm, ⟨23, _⟩ => ⟨S256x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S4096x1024, .bf16⟩
  | .local _ .vmem, ⟨5, _⟩ => ⟨S4096x1024, .bf16⟩
  | .local _ .vmem, ⟨6, _⟩ => ⟨S1x64x4096, .f32⟩
  | .local _ .vmem, ⟨7, _⟩ => ⟨S1x64x4096, .f32⟩
  | .local _ .vmem, ⟨8, _⟩ => ⟨S1x16x4096, .f32⟩
  | .local _ .vmem, ⟨9, _⟩ => ⟨S1x16x4096, .f32⟩
  | .local _ .vmem, ⟨10, _⟩ => ⟨S1024x1024, .f32⟩
  | .local _ .vmem, ⟨11, _⟩ => ⟨S1024x1024, .f32⟩
  | .local _ .vmem, ⟨12, _⟩ => ⟨S64x4096, .bf16⟩
  | .local _ .vmem, ⟨13, _⟩ => ⟨S64x4096, .bf16⟩
  | .local _ .vmem, ⟨14, _⟩ => ⟨S16x4096, .bf16⟩
  | .local _ .vmem, ⟨15, _⟩ => ⟨S16x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c63_i32 : BitVec 32 := 63#32
  let v4 : BitVec 32 := Scalar.minsi v3 c63_i32
  let c2_i32 : BitVec 32 := 2#32
  let c0_i32_0 : BitVec 32 := 0#32
  let c0_i32_1 : BitVec 32 := 0#32
  ![c2_i32.toNat, v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c15_i32 : BitVec 32 := 15#32
  let v4 : BitVec 32 := Scalar.minsi v3 c15_i32
  let c2_i32 : BitVec 32 := 2#32
  let c0_i32_0 : BitVec 32 := 0#32
  let c0_i32_1 : BitVec 32 := 0#32
  ![c2_i32.toNat, v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c63_i32 : BitVec 32 := 63#32
  let v4 : BitVec 32 := Scalar.minsi v3 c63_i32
  let c0_i32_0 : BitVec 32 := 0#32
  let c0_i32_1 : BitVec 32 := 0#32
  ![v4.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c15_i32 : BitVec 32 := 15#32
  let v4 : BitVec 32 := Scalar.minsi v3 c15_i32
  let c0_i32_0 : BitVec 32 := 0#32
  let c0_i32_1 : BitVec 32 := 0#32
  ![v4.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16384x4096 : Shape := ⟨2, ![16384, 4096]⟩
abbrev S4096 : Shape := ⟨1, ![4096]⟩
abbrev S4096x10240 : Shape := ⟨2, ![4096, 10240]⟩
abbrev S4x4096x4096 : Shape := ⟨3, ![4, 4096, 4096]⟩
abbrev S4x256x4096 : Shape := ⟨3, ![4, 256, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4096x4096 : Shape := ⟨2, ![4096, 4096]⟩
abbrev S1x4096x4096 : Shape := ⟨3, ![1, 4096, 4096]⟩
abbrev S1x256x4096 : Shape := ⟨3, ![1, 256, 4096]⟩
abbrev S256x4096 : Shape := ⟨2, ![256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x10240, .f32⟩
  | .hbm, ⟨3, _⟩ => ⟨S4x4096x4096, .f32⟩
  | .hbm, ⟨4, _⟩ => ⟨S4x256x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S4096x4096, .f32⟩
  | .hbm, ⟨22, _⟩ => ⟨S16384x4096, .f32⟩
  | .hbm, ⟨23, _⟩ => ⟨S1x4096x4096, .f32⟩
  | .hbm, ⟨24, _⟩ => ⟨S4096x4096, .f32⟩
  | .hbm, ⟨25, _⟩ => ⟨S4096x4096, .bf16⟩
  | .hbm, ⟨26, _⟩ => ⟨S1x256x4096, .f32⟩
  | .hbm, ⟨27, _⟩ => ⟨S256x4096, .f32⟩
  | .hbm, ⟨28, _⟩ => ⟨S_, .f32⟩
  | .hbm, ⟨29, _⟩ => ⟨S256x4096, .f32⟩
  | .hbm, ⟨30, _⟩ => ⟨S256x4096, .f32⟩
  | .hbm, ⟨31, _⟩ => ⟨S256x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S16384x4096 : Shape := ⟨2, ![16384, 4096]⟩
abbrev S4096 : Shape := ⟨1, ![4096]⟩
abbrev S4096x10240 : Shape := ⟨2, ![4096, 10240]⟩
abbrev S128 : Shape := ⟨1, ![128]⟩
abbrev S2x4096x4096 : Shape := ⟨3, ![2, 4096, 4096]⟩
abbrev S2x4096x16384 : Shape := ⟨3, ![2, 4096, 16384]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S1x128 : Shape := ⟨2, ![1, 128]⟩
abbrev S32x128 : Shape := ⟨2, ![32, 128]⟩
abbrev S8x128 : Shape := ⟨2, ![8, 128]⟩
abbrev S1024 : Shape := ⟨1, ![1024]⟩
abbrev S6144 : Shape := ⟨1, ![6144]⟩
abbrev S1x6144 : Shape := ⟨2, ![1, 6144]⟩
abbrev S16384x6144 : Shape := ⟨2, ![16384, 6144]⟩
abbrev S4096x4096 : Shape := ⟨2, ![4096, 4096]⟩
abbrev S4096x16384 : Shape := ⟨2, ![4096, 16384]⟩
abbrev S1024x4096 : Shape := ⟨2, ![1024, 4096]⟩
abbrev S1024x1 : Shape := ⟨2, ![1024, 1]⟩
abbrev S4096x512 : Shape := ⟨2, ![4096, 512]⟩
abbrev S1x32x4096 : Shape := ⟨3, ![1, 32, 4096]⟩
abbrev S1x32x16384 : Shape := ⟨3, ![1, 32, 16384]⟩
abbrev S1024x512 : Shape := ⟨2, ![1024, 512]⟩
abbrev S32x4096 : Shape := ⟨2, ![32, 4096]⟩
abbrev S32x16384 : Shape := ⟨2, ![32, 16384]⟩
abbrev S4096x256 : Shape := ⟨2, ![4096, 256]⟩
abbrev S1024x256 : Shape := ⟨2, ![1024, 256]⟩
abbrev S1024x128 : Shape := ⟨2, ![1024, 128]⟩

abbrev nBuf : Space → Nat
  | .hbm => 36
  | .vmem => 17
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x10240, .f32⟩
  | .hbm, ⟨3, _⟩ => ⟨S128, .f32⟩
  | .hbm, ⟨4, _⟩ => ⟨S128, .f32⟩
  | .hbm, ⟨5, _⟩ => ⟨S2x4096x4096, .f32⟩
  | .hbm, ⟨6, _⟩ => ⟨S2x4096x16384, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S1x128, .f32⟩
  | .hbm, ⟨23, _⟩ => ⟨S32x128, .f32⟩
  | .hbm, ⟨24, _⟩ => ⟨S4096, .f32⟩
  | .hbm, ⟨25, _⟩ => ⟨S1x128, .f32⟩
  | .hbm, ⟨26, _⟩ => ⟨S8x128, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S6144, .f32⟩
  | .hbm, ⟨31, _⟩ => ⟨S1x6144, .f32⟩
  | .hbm, ⟨32, _⟩ => ⟨S4096x10240, .bf16⟩
  | .hbm, ⟨33, _⟩ => ⟨S16384x6144, .bf16⟩
  | .hbm, ⟨34, _⟩ => ⟨S4096x4096, .bf16⟩
  | .hbm, ⟨35, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S4096x512, .bf16⟩
  | .local _ .vmem, ⟨5, _⟩ => ⟨S4096x512, .bf16⟩
  | .local _ .vmem, ⟨6, _⟩ => ⟨S1x6144, .f32⟩
  | .local _ .vmem, ⟨7, _⟩ => ⟨S1x32x4096, .f32⟩
  | .local _ .vmem, ⟨8, _⟩ => ⟨S1x32x4096, .f32⟩
  | .local _ .vmem, ⟨9, _⟩ => ⟨S1x32x16384, .f32⟩
  | .local _ .vmem, ⟨10, _⟩ => ⟨S1x32x16384, .f32⟩
  | .local _ .vmem, ⟨11, _⟩ => ⟨S1024x512, .bf16⟩
  | .local _ .vmem, ⟨12, _⟩ => ⟨S1024x512, .bf16⟩
  | .local _ .vmem, ⟨13, _⟩ => ⟨S32x4096, .bf16⟩
  | .local _ .vmem, ⟨14, _⟩ => ⟨S32x4096, .bf16⟩
  | .local _ .vmem, ⟨15, _⟩ => ⟨S32x16384, .bf16⟩
  | .local _ .vmem, ⟨16, _⟩ => ⟨S32x16384, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c10_i32 : BitVec 32 := 10#32
  let v0 : BitVec 1 := Scalar.cmpi .slt arg1 c10_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c512_i32 : BitVec 32 := 512#32
  let v29 : BitVec 32 := Scalar.muli arg1 c512_i32
  let c0_i32_19 : BitVec 32 := 0#32
  let v30 : BitVec 32 := Scalar.addi v29 c0_i32_19
  v30
def k0_off1 (i : grid0.Coords) (c0_i32_19 : BitVec 32) : Fin 2 → Nat :=
  let c0_20 : Index := 0#32
  let arg1 : BitVec 32 := BitVec.ofNat 32 (i 1).val
  let c512_i32 : BitVec 32 := 512#32
  let v29 : BitVec 32 := Scalar.muli arg1 c512_i32
  let v30 : BitVec 32 := Scalar.addi v29 c0_i32_19
  let v31 : BitVec 32 := v30
  let v32 : Index := Scalar.indexCast v31
  ![0, v32.toNat]
def k0_mult2 (i : grid0.Coords) : BitVec 32 :=
  let arg1 : BitVec 32 := BitVec.ofNat 32 (i 1).val
  let c512_i32_26 : BitVec 32 := 512#32
  let v50 : BitVec 32 := Scalar.muli arg1 c512_i32_26
  let c128_i32 : BitVec 32 := 128#32
  let v51 : BitVec 32 := Scalar.addi v50 c128_i32
  v51
def k0_mult3 (i : grid0.Coords) : BitVec 32 :=
  let arg1 : BitVec 32 := BitVec.ofNat 32 (i 1).val
  let c512_i32_38 : BitVec 32 := 512#32
  let v80 : BitVec 32 := Scalar.muli arg1 c512_i32_38
  let c256_i32 : BitVec 32 := 256#32
  let v81 : BitVec 32 := Scalar.addi v80 c256_i32
  v81
def k0_mult4 (i : grid0.Coords) : BitVec 32 :=
  let arg1 : BitVec 32 := BitVec.ofNat 32 (i 1).val
  let c512_i32_45 : BitVec 32 := 512#32
  let v101 : BitVec 32 := Scalar.muli arg1 c512_i32_45
  let c384_i32 : BitVec 32 := 384#32
  let v102 : BitVec 32 := Scalar.addi v101 c384_i32
  v102
def k0_cond2 (i : grid0.Coords) : BitVec 1 :=
  let arg1 : BitVec 32 := BitVec.ofNat 32 (i 1).val
  let c10_i32_0 : BitVec 32 := 10#32
  let v3 : BitVec 1 := Scalar.cmpi .sge arg1 c10_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c127_i32 : BitVec 32 := 127#32
  let v4 : BitVec 32 := Scalar.minsi v3 c127_i32
  let c1_i32_0 : BitVec 32 := 1#32
  let c0_i32_1 : BitVec 32 := 0#32
  let c0_i32_2 : BitVec 32 := 0#32
  ![c1_i32_0.toNat, v4.toNat, c0_i32_1.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c127_i32 : BitVec 32 := 127#32
  let v4 : BitVec 32 := Scalar.minsi v3 c127_i32
  let c1_i32_0 : BitVec 32 := 1#32
  let c0_i32_1 : BitVec 32 := 0#32
  let c0_i32_2 : BitVec 32 := 0#32
  ![c1_i32_0.toNat, v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c127_i32 : BitVec 32 := 127#32
  let v4 : BitVec 32 := Scalar.minsi v3 c127_i32
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c127_i32 : BitVec 32 := 127#32
  let v4 : BitVec 32 := Scalar.minsi v3 c127_i32
  let c0_i32_0 : BitVec 32 := 0#32
  let c0_i32_1 : BitVec 32 := 0#32
  ![v4.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x16384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S16384x4096 : Shape := ⟨2, ![16384, 4096]⟩
abbrev S4096 : Shape := ⟨1, ![4096]⟩
abbrev S4096x10240 : Shape := ⟨2, ![4096, 10240]⟩
abbrev S128 : Shape := ⟨1, ![128]⟩
abbrev S2x4096x4096 : Shape := ⟨3, ![2, 4096, 4096]⟩
abbrev S2x4096x16384 : Shape := ⟨3, ![2, 4096, 16384]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4096x6144 : Shape := ⟨2, ![4096, 6144]⟩
abbrev S16384x6144 : Shape := ⟨2, ![16384, 6144]⟩
abbrev S16384x1024 : Shape := ⟨2, ![16384, 1024]⟩
abbrev S16384x32x128 : Shape := ⟨3, ![16384, 32, 128]⟩
abbrev S16384x32 : Shape := ⟨2, ![16384, 32]⟩
abbrev S16384x32x1 : Shape := ⟨3, ![16384, 32, 1]⟩
abbrev S1x1x128 : Shape := ⟨3, ![1, 1, 128]⟩
abbrev S16384x8x128 : Shape := ⟨3, ![16384, 8, 128]⟩
abbrev S16384x8 : Shape := ⟨2, ![16384, 8]⟩
abbrev S16384x8x1 : Shape := ⟨3, ![16384, 8, 1]⟩
abbrev S1x4096x4096 : Shape := ⟨3, ![1, 4096, 4096]⟩
abbrev S4096x4096 : Shape := ⟨2, ![4096, 4096]⟩
abbrev S1x4096x16384 : Shape := ⟨3, ![1, 4096, 16384]⟩
abbrev S4096x16384 : Shape := ⟨2, ![4096, 16384]⟩

abbrev nBuf : Space → Nat
  | .hbm => 72
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x10240, .f32⟩
  | .hbm, ⟨3, _⟩ => ⟨S128, .f32⟩
  | .hbm, ⟨4, _⟩ => ⟨S128, .f32⟩
  | .hbm, ⟨5, _⟩ => ⟨S2x4096x4096, .f32⟩
  | .hbm, ⟨6, _⟩ => ⟨S2x4096x16384, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S4096x6144, .f32⟩
  | .hbm, ⟨24, _⟩ => ⟨S16384x6144, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S16384x32x128, .f32⟩
  | .hbm, ⟨29, _⟩ => ⟨S16384x32x128, .f32⟩
  | .hbm, ⟨30, _⟩ => ⟨S_, .f32⟩
  | .hbm, ⟨31, _⟩ => ⟨S16384x32, .f32⟩
  | .hbm, ⟨32, _⟩ => ⟨S16384x32x1, .f32⟩
  | .hbm, ⟨33, _⟩ => ⟨S_, .f32⟩
  | .hbm, ⟨34, _⟩ => ⟨S16384x32x1, .f32⟩
  | .hbm, ⟨35, _⟩ => ⟨S16384x32x1, .f32⟩
  | .hbm, ⟨36, _⟩ => ⟨S_, .f32⟩
  | .hbm, ⟨37, _⟩ => ⟨S16384x32x1, .f32⟩
  | .hbm, ⟨38, _⟩ => ⟨S16384x32x1, .f32⟩
  | .hbm, ⟨39, _⟩ => ⟨S16384x32x1, .f32⟩
  | .hbm, ⟨40, _⟩ => ⟨S16384x32x128, .f32⟩
  | .hbm, ⟨41, _⟩ => ⟨S16384x32x128, .f32⟩
  | .hbm, ⟨42, _⟩ => ⟨S1x1x128, .f32⟩
  | .hbm, ⟨43, _⟩ => ⟨S16384x32x128, .f32⟩
  | .hbm, ⟨44, _⟩ => ⟨S16384x32x128, .f32⟩
  | .hbm, ⟨45, _⟩ => ⟨S16384x4096, .f32⟩
  | .hbm, ⟨46, _⟩ => ⟨S16384x8x128, .f32⟩
  | .hbm, ⟨47, _⟩ => ⟨S16384x8x128, .f32⟩
  | .hbm, ⟨48, _⟩ => ⟨S_, .f32⟩
  | .hbm, ⟨49, _⟩ => ⟨S16384x8, .f32⟩
  | .hbm, ⟨50, _⟩ => ⟨S16384x8x1, .f32⟩
  | .hbm, ⟨51, _⟩ => ⟨S_, .f32⟩
  | .hbm, ⟨52, _⟩ => ⟨S16384x8x1, .f32⟩
  | .hbm, ⟨53, _⟩ => ⟨S16384x8x1, .f32⟩
  | .hbm, ⟨54, _⟩ => ⟨S_, .f32⟩
  | .hbm, ⟨55, _⟩ => ⟨S16384x8x1, .f32⟩
  | .hbm, ⟨56, _⟩ => ⟨S16384x8x1, .f32⟩
  | .hbm, ⟨57, _⟩ => ⟨S16384x8x1, .f32⟩
  | .hbm, ⟨58, _⟩ => ⟨S16384x8x128, .f32⟩
  | .hbm, ⟨59, _⟩ => ⟨S16384x8x128, .f32⟩
  | .hbm, ⟨60, _⟩ => ⟨S1x1x128, .f32⟩
  | .hbm, ⟨61, _⟩ => ⟨S16384x8x128, .f32⟩
  | .hbm, ⟨62, _⟩ => ⟨S16384x8x128, .f32⟩
  | .hbm, ⟨63, _⟩ => ⟨S16384x1024, .f32⟩
  | .hbm, ⟨64, _⟩ => ⟨S16384x6144, .f32⟩
  | .hbm, ⟨65, _⟩ => ⟨S16384x6144, .bf16⟩
  | .hbm, ⟨66, _⟩ => ⟨S1x4096x4096, .f32⟩
  | .hbm, ⟨67, _⟩ => ⟨S4096x4096, .f32⟩
  | .hbm, ⟨68, _⟩ => ⟨S4096x4096, .bf16⟩
  | .hbm, ⟨69, _⟩ => ⟨S1x4096x16384, .f32⟩
  | .hbm, ⟨70, _⟩ => ⟨S4096x16384, .f32⟩
  | .hbm, ⟨71, _⟩ => ⟨S4096x16384, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Kernel6.lean ====
abbrev S16384x2048 : Shape := ⟨2, ![16384, 2048]⟩
abbrev S8192x4096 : Shape := ⟨2, ![8192, 4096]⟩
abbrev S16384x4096 : Shape := ⟨2, ![16384, 4096]⟩
abbrev S1024x2048 : Shape := ⟨2, ![1024, 2048]⟩
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S8192x4096, .f32⟩
  | .hbm, ⟨3, _⟩ => ⟨S16384x4096, .f32⟩
  | .hbm, ⟨4, _⟩ => ⟨S8192x4096, .bf16⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16384x2048 : Shape := ⟨2, ![16384, 2048]⟩
abbrev S8192x4096 : Shape := ⟨2, ![8192, 4096]⟩
abbrev S16384x4096 : Shape := ⟨2, ![16384, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S8192x4096, .f32⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S4096x4096, .f32⟩
  | .hbm, ⟨7, _⟩ => ⟨S16384x4096, .f32⟩
  | .hbm, ⟨8, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S16384x1 : Shape := ⟨2, ![16384, 1]⟩
abbrev S1024x4096 : Shape := ⟨2, ![1024, 4096]⟩
abbrev S4096x512 : Shape := ⟨2, ![4096, 512]⟩
abbrev S1024x512 : Shape := ⟨2, ![1024, 512]⟩
abbrev S1024x1 : Shape := ⟨2, ![1024, 1]⟩
abbrev S1024x256 : Shape := ⟨2, ![1024, 256]⟩
abbrev S4096x256 : Shape := ⟨2, ![4096, 256]⟩
abbrev S1x256 : Shape := ⟨2, ![1, 256]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S4096x4096, .bf16⟩
  | .hbm, ⟨5, _⟩ => ⟨S1x4096, .f32⟩
  | .hbm, ⟨6, _⟩ => ⟨S16384x4096, .f32⟩
  | .hbm, ⟨7, _⟩ => ⟨S16384x4096, .bf16⟩
  | .hbm, ⟨8, _⟩ => ⟨S16384x1, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x4096, .f32⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S1024x1, .f32⟩
  | .local _ .vmem, ⟨12, _⟩ => ⟨S1024x1, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v14 : BitVec 32 := Scalar.muli arg1 c512_i32
  let c0_i32 : BitVec 32 := 0#32
  let v15 : BitVec 32 := Scalar.addi v14 c0_i32
  v15
def k0_off1 (i : grid0.Coords) (c0_i32 : BitVec 32) : Fin 2 → Nat :=
  let c0_15 : Index := 0#32
  let arg1 : BitVec 32 := BitVec.ofNat 32 (i 1).val
  let c512_i32 : BitVec 32 := 512#32
  let v14 : BitVec 32 := Scalar.muli arg1 c512_i32
  let v15 : BitVec 32 := Scalar.addi v14 c0_i32
  let v16 : BitVec 32 := v15
  let v17 : Index := Scalar.indexCast v16
  ![0, v17.toNat]
def k0_mult2 (i : grid0.Coords) : BitVec 32 :=
  let arg1 : BitVec 32 := BitVec.ofNat 32 (i 1).val
  let c512_i32_19 : BitVec 32 := 512#32
  let v27 : BitVec 32 := Scalar.muli arg1 c512_i32_19
  let c256_i32 : BitVec 32 := 256#32
  let v28 : BitVec 32 := Scalar.addi v27 c256_i32
  v28
def k0_cond1 (i : grid0.Coords) : BitVec 1 :=
  let arg1 : BitVec 32 := BitVec.ofNat 32 (i 1).val
  let c0_i32_24 : BitVec 32 := 0#32
  let v41 : BitVec 1 := Scalar.cmpi .eq arg1 c0_i32_24
  let v42 : BitVec 32 := Scalar.extui v41
  let c0_i32_25 : BitVec 32 := 0#32
  let v43 : BitVec 1 := Scalar.cmpi .ne v42 c0_i32_25
  v43

def k0_cond2 (i : grid0.Coords) : BitVec 1 :=
  let arg1 : BitVec 32 := BitVec.ofNat 32 (i 1).val
  let c0_i32_26 : BitVec 32 := 0#32
  let v44 : BitVec 1 := Scalar.cmpi .sgt arg1 c0_i32_26
  let v45 : BitVec 32 := Scalar.extui v44
  let c0_i32_27 : BitVec 32 := 0#32
  let v46 : BitVec 1 := Scalar.cmpi .ne v45 c0_i32_27
  v46

def k0_cond3 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_28 : BitVec 32 := 0#32
  let v49 : BitVec 1 := Scalar.cmpi .ne v48 c0_i32_28
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel8.lean ====
abbrev S16384x16384 : Shape := ⟨2, ![16384, 16384]⟩
abbrev S2x4x2048x2048 : Shape := ⟨4, ![2, 4, 2048, 2048]⟩
abbrev S8192 : Shape := ⟨1, ![8192]⟩
abbrev S1x8192 : Shape := ⟨2, ![1, 8192]⟩
abbrev S16384x2048 : Shape := ⟨2, ![16384, 2048]⟩
abbrev S8x2048 : Shape := ⟨2, ![8, 2048]⟩
abbrev S512x2048 : Shape := ⟨2, ![512, 2048]⟩
abbrev S1x1x2048x2048 : Shape := ⟨4, ![1, 1, 2048, 2048]⟩
abbrev S1x2048 : Shape := ⟨2, ![1, 2048]⟩
abbrev S128x2048 : Shape := ⟨2, ![128, 2048]⟩
abbrev S144x2048 : Shape := ⟨2, ![144, 2048]⟩
abbrev S128x1 : Shape := ⟨2, ![128, 1]⟩
abbrev S2048x2048 : Shape := ⟨2, ![2048, 2048]⟩

abbrev nBuf : Space → Nat
  | .hbm => 5
  | .vmem => 13
  | .smem => 0
  | _ => 0

abbrev bufTy : (tb : Table) → Fin (tcTables nBuf tb) → BufTy
  | .hbm, ⟨0, _⟩ => ⟨S16384x16384, .f32⟩
  | .hbm, ⟨1, _⟩ => ⟨S2x4x2048x2048, .f32⟩
  | .hbm, ⟨2, _⟩ => ⟨S8192, .f32⟩
  | .hbm, ⟨3, _⟩ => ⟨S1x8192, .f32⟩
  | .hbm, ⟨4, _⟩ => ⟨S16384x2048, .bf16⟩
  | .local _ .vmem, ⟨0, _⟩ => ⟨S8x2048, .f32⟩
  | .local _ .vmem, ⟨1, _⟩ => ⟨S8x2048, .f32⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S8x2048, .f32⟩
  | .local _ .vmem, ⟨6, _⟩ => ⟨S1x1x2048x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c3_i32 : BitVec 32 := 3#32
  let c0_i32 : BitVec 32 := 0#32
  ![v2.toNat, c3_i32.toNat]

def cc0_transform_3 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S16384x16384 : Shape := ⟨2, ![16384, 16384]⟩
abbrev S2x4x2048x2048 : Shape := ⟨4, ![2, 4, 2048, 2048]⟩
abbrev S8192 : Shape := ⟨1, ![8192]⟩
abbrev S16384x2048 : Shape := ⟨2, ![16384, 2048]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S1x1x2048x2048 : Shape := ⟨4, ![1, 1, 2048, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S2x4x2048x2048, .f32⟩
  | .hbm, ⟨2, _⟩ => ⟨S8192, .f32⟩
  | .hbm, ⟨3, _⟩ => ⟨S16384x2048, .f32⟩
  | .hbm, ⟨4, _⟩ => ⟨S16384x2048, .f32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S1x16384, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S1x16384, .i32⟩
  | .hbm, ⟨27, _⟩ => ⟨S16384x1, .i32⟩
  | .hbm, ⟨28, _⟩ => ⟨S16384x16384, .i32⟩
  | .hbm, ⟨29, _⟩ => ⟨S16384x16384, .i32⟩
  | .hbm, ⟨30, _⟩ => ⟨S16384x16384, .i1⟩
  | .hbm, ⟨31, _⟩ => ⟨S16384x16384, .i1⟩
  | .hbm, ⟨32, _⟩ => ⟨S16384x16384, .f32⟩
  | .hbm, ⟨33, _⟩ => ⟨S16384x2048, .f32⟩
  | .hbm, ⟨34, _⟩ => ⟨S16384, .i32⟩
  | .hbm, ⟨35, _⟩ => ⟨S16384, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S1x1x2048x2048, .f32⟩
  | .hbm, ⟨41, _⟩ => ⟨S2048x2048, .f32⟩
  | .hbm, ⟨42, _⟩ => ⟨S16384x2048, .f32⟩
  | .hbm, ⟨43, _⟩ => ⟨S2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .bf16⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel9.lean ====
abbrev S16384x2048 : Shape := ⟨2, ![16384, 2048]⟩
abbrev S8192x4096 : Shape := ⟨2, ![8192, 4096]⟩
abbrev S16384x4096 : Shape := ⟨2, ![16384, 4096]⟩
abbrev S4096 : Shape := ⟨1, ![4096]⟩
abbrev S1x4096 : Shape := ⟨2, ![1, 4096]⟩
abbrev S16384x1 : Shape := ⟨2, ![16384, 1]⟩
abbrev S1024x2048 : Shape := ⟨2, ![1024, 2048]⟩
abbrev S4096x512 : Shape := ⟨2, ![4096, 512]⟩
abbrev S1024x512 : Shape := ⟨2, ![1024, 512]⟩
abbrev S1024x1 : Shape := ⟨2, ![1024, 1]⟩
abbrev S1024x256 : Shape := ⟨2, ![1024, 256]⟩
abbrev S2048x256 : Shape := ⟨2, ![2048, 256]⟩
abbrev S1x256 : Shape := ⟨2, ![1, 256]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S8192x4096, .f32⟩
  | .hbm, ⟨3, _⟩ => ⟨S16384x4096, .f32⟩
  | .hbm, ⟨4, _⟩ => ⟨S4096, .f32⟩
  | .hbm, ⟨5, _⟩ => ⟨S8192x4096, .bf16⟩
  | .hbm, ⟨6, _⟩ => ⟨S1x4096, .f32⟩
  | .hbm, ⟨7, _⟩ => ⟨S16384x4096, .f32⟩
  | .hbm, ⟨8, _⟩ => ⟨S16384x4096, .bf16⟩
  | .hbm, ⟨9, _⟩ => ⟨S16384x1, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | .local _ .vmem, ⟨8, _⟩ => ⟨S1x4096, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1024x1, .f32⟩
  | .local _ .vmem, ⟨14, _⟩ => ⟨S1024x1, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v24 : BitVec 32 := Scalar.muli arg1 c512_i32
  let c0_i32 : BitVec 32 := 0#32
  let v25 : BitVec 32 := Scalar.addi v24 c0_i32
  v25
def k0_off1 (i : grid0.Coords) (c0_i32 : BitVec 32) : Fin 2 → Nat :=
  let c0_24 : Index := 0#32
  let arg1 : BitVec 32 := BitVec.ofNat 32 (i 1).val
  let c512_i32 : BitVec 32 := 512#32
  let v24 : BitVec 32 := Scalar.muli arg1 c512_i32
  let v25 : BitVec 32 := Scalar.addi v24 c0_i32
  let v26 : BitVec 32 := v25
  let v27 : Index := Scalar.indexCast v26
  ![0, v27.toNat]
def k0_mult2 (i : grid0.Coords) : BitVec 32 :=
  let arg1 : BitVec 32 := BitVec.ofNat 32 (i 1).val
  let c512_i32_28 : BitVec 32 := 512#32
  let v37 : BitVec 32 := Scalar.muli arg1 c512_i32_28
  let c256_i32 : BitVec 32 := 256#32
  let v38 : BitVec 32 := Scalar.addi v37 c256_i32
  v38
def k0_cond1 (i : grid0.Coords) : BitVec 1 :=
  let arg1 : BitVec 32 := BitVec.ofNat 32 (i 1).val
  let c0_i32_33 : BitVec 32 := 0#32
  let v51 : BitVec 1 := Scalar.cmpi .eq arg1 c0_i32_33
  let v52 : BitVec 32 := Scalar.extui v51
  let c0_i32_34 : BitVec 32 := 0#32
  let v53 : BitVec 1 := Scalar.cmpi .ne v52 c0_i32_34
  v53

def k0_cond2 (i : grid0.Coords) : BitVec 1 :=
  let arg1 : BitVec 32 := BitVec.ofNat 32 (i 1).val
  let c0_i32_35 : BitVec 32 := 0#32
  let v54 : BitVec 1 := Scalar.cmpi .sgt arg1 c0_i32_35
  let v55 : BitVec 32 := Scalar.extui v54
  let c0_i32_36 : BitVec 32 := 0#32
  let v56 : BitVec 1 := Scalar.cmpi .ne v55 c0_i32_36
  v56

def k0_cond3 (i : grid0.Coords) : BitVec 1 :=
  let arg1 : BitVec 32 := BitVec.ofNat 32 (i 1).val
  let c7_i32 : BitVec 32 := 7#32
  let v57 : BitVec 1 := Scalar.cmpi .eq arg1 c7_i32
  let v58 : BitVec 32 := Scalar.extui v57
  let c0_i32_37 : BitVec 32 := 0#32
  let v59 : BitVec 1 := Scalar.cmpi .ne v58 c0_i32_37
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference9Ideal.lean ====
abbrev S16384x2048 : Shape := ⟨2, ![16384, 2048]⟩
abbrev S8192x4096 : Shape := ⟨2, ![8192, 4096]⟩
abbrev S16384x4096 : Shape := ⟨2, ![16384, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S8192x4096, .f32⟩
  | .hbm, ⟨3, _⟩ => ⟨S16384x4096, .f32⟩
  | .hbm, ⟨4, _⟩ => ⟨S4096, .f32⟩
  | .hbm, ⟨5, _⟩ => ⟨S16384x4096, .bf16⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .bf16⟩
  | .hbm, ⟨14, _⟩ => ⟨S16384x4096, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel10.lean ====
abbrev S16384x4096 : Shape := ⟨2, ![16384, 4096]⟩
abbrev S4x1x16384x256 : Shape := ⟨4, ![4, 1, 16384, 256]⟩
abbrev S4096 : Shape := ⟨1, ![4096]⟩
abbrev S4096x4096 : Shape := ⟨2, ![4096, 4096]⟩
abbrev S256x4096 : Shape := ⟨2, ![256, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S1024x1 : Shape := ⟨2, ![1024, 1]⟩
abbrev S4096x512 : Shape := ⟨2, ![4096, 512]⟩
abbrev S1x1x1024x256 : Shape := ⟨4, ![1, 1, 1024, 256]⟩
abbrev S1024x512 : Shape := ⟨2, ![1024, 512]⟩
abbrev S1024x256 : Shape := ⟨2, ![1024, 256]⟩
abbrev S4096x256 : Shape := ⟨2, ![4096, 256]⟩
abbrev S256x256 : Shape := ⟨2, ![256, 256]⟩
abbrev S1x256 : Shape := ⟨2, ![1, 256]⟩
abbrev S1024 : Shape := ⟨1, ![1024]⟩

abbrev nBuf : Space → Nat
  | .hbm => 30
  | .vmem => 18
  | .smem => 0
  | _ => 0

abbrev bufTy : (tb : Table) → Fin (tcTables nBuf tb) → BufTy
  | .hbm, ⟨0, _⟩ => ⟨S16384x4096, .f32⟩
  | .hbm, ⟨1, _⟩ => ⟨S4x1x16384x256, .f32⟩
  | .hbm, ⟨2, _⟩ => ⟨S4096, .f32⟩
  | .hbm, ⟨3, _⟩ => ⟨S4096x4096, .f32⟩
  | .hbm, ⟨4, _⟩ => ⟨S256x4096, .f32⟩
  | .hbm, ⟨5, _⟩ => ⟨S4096, .f32⟩
  | .hbm, ⟨6, _⟩ => ⟨S1x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S4096x4096, .bf16⟩
  | .hbm, ⟨22, _⟩ => ⟨S_, .f32⟩
  | .hbm, ⟨23, _⟩ => ⟨S256x4096, .f32⟩
  | .hbm, ⟨24, _⟩ => ⟨S256x4096, .f32⟩
  | .hbm, ⟨25, _⟩ => ⟨S256x4096, .bf16⟩
  | .hbm, ⟨26, _⟩ => ⟨S1x4096, .f32⟩
  | .hbm, ⟨27, _⟩ => ⟨S16384x4096, .f32⟩
  | .hbm, ⟨28, _⟩ => ⟨S16384x4096, .bf16⟩
  | .hbm, ⟨29, _⟩ => ⟨S16384x1, .f32⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S4096x512, .bf16⟩
  | .local _ .vmem, ⟨5, _⟩ => ⟨S4096x512, .bf16⟩
  | .local _ .vmem, ⟨6, _⟩ => ⟨S1x1x1024x256, .f32⟩
  | .local _ .vmem, ⟨7, _⟩ => ⟨S1x1x1024x256, .f32⟩
  | .local _ .vmem, ⟨8, _⟩ => ⟨S256x4096, .bf16⟩
  | .local _ .vmem, ⟨9, _⟩ => ⟨S1024x512, .f32⟩
  | .local _ .vmem, ⟨10, _⟩ => ⟨S1024x512, .f32⟩
  | .local _ .vmem, ⟨11, _⟩ => ⟨S1x4096, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x1, .f32⟩
  | .local _ .vmem, ⟨17, _⟩ => ⟨S1024x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  let c0_i32 : BitVec 32 := 0#32
  let v16 : BitVec 32 := Scalar.addi v15 c0_i32
  v16
def k0_off1 (i : grid0.Coords) (c0_i32 : BitVec 32) : Fin 2 → Nat :=
  let c0_10 : Index := 0#32
  let arg1 : BitVec 32 := BitVec.ofNat 32 (i 1).val
  let c512_i32 : BitVec 32 := 512#32
  let v15 : BitVec 32 := Scalar.muli arg1 c512_i32
  let v16 : BitVec 32 := Scalar.addi v15 c0_i32
  let v17 : BitVec 32 := v16
  let v18 : Index := Scalar.indexCast v17
  ![0, v18.toNat]
def k0_mult2 (i : grid0.Coords) : BitVec 32 :=
  let arg1 : BitVec 32 := BitVec.ofNat 32 (i 1).val
  let c512_i32_20 : BitVec 32 := 512#32
  let v35 : BitVec 32 := Scalar.muli arg1 c512_i32_20
  let c256_i32 : BitVec 32 := 256#32
  let v36 : BitVec 32 := Scalar.addi v35 c256_i32
  v36
def k0_mult3 (i : grid0.Coords) : BitVec 32 :=
  let arg1 : BitVec 32 := BitVec.ofNat 32 (i 1).val
  let c512_i32_27 : BitVec 32 := 512#32
  let v47 : BitVec 32 := Scalar.muli arg1 c512_i32_27
  let c0_i32_28 : BitVec 32 := 0#32
  let v48 : BitVec 32 := Scalar.addi v47 c0_i32_28
  v48
def k0_off2 (i : grid0.Coords) (c0_i32_28 : BitVec 32) : Fin 2 → Nat :=
  let c0_29 : Index := 0#32
  let arg1 : BitVec 32 := BitVec.ofNat 32 (i 1).val
  let c512_i32_27 : BitVec 32 := 512#32
  let v47 : BitVec 32 := Scalar.muli arg1 c512_i32_27
  let v48 : BitVec 32 := Scalar.addi v47 c0_i32_28
  let v49 : BitVec 32 := v48
  let v50 : Index := Scalar.indexCast v49
  ![0, v50.toNat]
def k0_mult4 (i : grid0.Coords) : BitVec 32 :=
  let arg1 : BitVec 32 := BitVec.ofNat 32 (i 1).val
  let c512_i32_33 : BitVec 32 := 512#32
  let v60 : BitVec 32 := Scalar.muli arg1 c512_i32_33
  let c256_i32_34 : BitVec 32 := 256#32
  let v61 : BitVec 32 := Scalar.addi v60 c256_i32_34
  v61
def k0_cond1 (i : grid0.Coords) : BitVec 1 :=
  let arg1 : BitVec 32 := BitVec.ofNat 32 (i 1).val
  let c0_i32_39 : BitVec 32 := 0#32
  let v74 : BitVec 1 := Scalar.cmpi .eq arg1 c0_i32_39
  let v75 : BitVec 32 := Scalar.extui v74
  let c0_i32_40 : BitVec 32 := 0#32
  let v76 : BitVec 1 := Scalar.cmpi .ne v75 c0_i32_40
  v76

def k0_cond2 (i : grid0.Coords) : BitVec 1 :=
  let arg1 : BitVec 32 := BitVec.ofNat 32 (i 1).val
  let c0_i32_41 : BitVec 32 := 0#32
  let v77 : BitVec 1 := Scalar.cmpi .sgt arg1 c0_i32_41
  let v78 : BitVec 32 := Scalar.extui v77
  let c0_i32_42 : BitVec 32 := 0#32
  let v79 : BitVec 1 := Scalar.cmpi .ne v78 c0_i32_42
  v79

def k0_cond3 (i : grid0.Coords) : BitVec 1 :=
  let arg1 : BitVec 32 := BitVec.ofNat 32 (i 1).val
  let c7_i32 : BitVec 32 := 7#32
  let v80 : BitVec 1 := Scalar.cmpi .eq arg1 c7_i32
  let v81 : BitVec 32 := Scalar.extui v80
  let c0_i32_43 : BitVec 32 := 0#32
  let v82 : BitVec 1 := Scalar.cmpi .ne v81 c0_i32_43
  v82

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference10Ideal.lean ====
abbrev S16384x4096 : Shape := ⟨2, ![16384, 4096]⟩
abbrev S4x1x16384x256 : Shape := ⟨4, ![4, 1, 16384, 256]⟩
abbrev S4096 : Shape := ⟨1, ![4096]⟩
abbrev S4096x4096 : Shape := ⟨2, ![4096, 4096]⟩
abbrev S256x4096 : Shape := ⟨2, ![256, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S1x1x16384x256 : Shape := ⟨4, ![1, 1, 16384, 256]⟩
abbrev S16384x256 : Shape := ⟨2, ![16384, 256]⟩

abbrev nBuf : Space → Nat
  | .hbm => 51
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x1x16384x256, .f32⟩
  | .hbm, ⟨2, _⟩ => ⟨S4096, .f32⟩
  | .hbm, ⟨3, _⟩ => ⟨S4096x4096, .f32⟩
  | .hbm, ⟨4, _⟩ => ⟨S256x4096, .f32⟩
  | .hbm, ⟨5, _⟩ => ⟨S4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S1x1x16384x256, .f32⟩
  | .hbm, ⟨32, _⟩ => ⟨S16384x256, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S1x4096, .f32⟩
  | .hbm, ⟨37, _⟩ => ⟨S16384x4096, .f32⟩
  | .hbm, ⟨38, _⟩ => ⟨S16384x4096, .f32⟩
  | .hbm, ⟨39, _⟩ => ⟨S16384x4096, .bf16⟩
  | .hbm, ⟨40, _⟩ => ⟨S16384x4096, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel11.lean ====
abbrev S16384x16384 : Shape := ⟨2, ![16384, 16384]⟩
abbrev S2x4x2048x2048 : Shape := ⟨4, ![2, 4, 2048, 2048]⟩
abbrev S8192 : Shape := ⟨1, ![8192]⟩
abbrev S1x8192 : Shape := ⟨2, ![1, 8192]⟩
abbrev S16384x2048 : Shape := ⟨2, ![16384, 2048]⟩
abbrev S8x2048 : Shape := ⟨2, ![8, 2048]⟩
abbrev S512x2048 : Shape := ⟨2, ![512, 2048]⟩
abbrev S1x1x2048x2048 : Shape := ⟨4, ![1, 1, 2048, 2048]⟩
abbrev S1x2048 : Shape := ⟨2, ![1, 2048]⟩
abbrev S128x2048 : Shape := ⟨2, ![128, 2048]⟩
abbrev S144x2048 : Shape := ⟨2, ![144, 2048]⟩
abbrev S128x1 : Shape := ⟨2, ![128, 1]⟩
abbrev S2048x2048 : Shape := ⟨2, ![2048, 2048]⟩

abbrev nBuf : Space → Nat
  | .hbm => 5
  | .vmem => 13
  | .smem => 0
  | _ => 0

abbrev bufTy : (tb : Table) → Fin (tcTables nBuf tb) → BufTy
  | .hbm, ⟨0, _⟩ => ⟨S16384x16384, .f32⟩
  | .hbm, ⟨1, _⟩ => ⟨S2x4x2048x2048, .f32⟩
  | .hbm, ⟨2, _⟩ => ⟨S8192, .f32⟩
  | .hbm, ⟨3, _⟩ => ⟨S1x8192, .f32⟩
  | .hbm, ⟨4, _⟩ => ⟨S16384x2048, .bf16⟩
  | .local _ .vmem, ⟨0, _⟩ => ⟨S8x2048, .f32⟩
  | .local _ .vmem, ⟨1, _⟩ => ⟨S8x2048, .f32⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S8x2048, .f32⟩
  | .local _ .vmem, ⟨6, _⟩ => ⟨S1x1x2048x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S16384x16384 : Shape := ⟨2, ![16384, 16384]⟩
abbrev S2x4x2048x2048 : Shape := ⟨4, ![2, 4, 2048, 2048]⟩
abbrev S8192 : Shape := ⟨1, ![8192]⟩
abbrev S16384x2048 : Shape := ⟨2, ![16384, 2048]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S1x1x2048x2048 : Shape := ⟨4, ![1, 1, 2048, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S2x4x2048x2048, .f32⟩
  | .hbm, ⟨2, _⟩ => ⟨S8192, .f32⟩
  | .hbm, ⟨3, _⟩ => ⟨S16384x2048, .f32⟩
  | .hbm, ⟨4, _⟩ => ⟨S16384x2048, .f32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S1x16384, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S1x16384, .i32⟩
  | .hbm, ⟨27, _⟩ => ⟨S16384x1, .i32⟩
  | .hbm, ⟨28, _⟩ => ⟨S16384x16384, .i32⟩
  | .hbm, ⟨29, _⟩ => ⟨S16384x16384, .i32⟩
  | .hbm, ⟨30, _⟩ => ⟨S16384x16384, .i1⟩
  | .hbm, ⟨31, _⟩ => ⟨S16384x16384, .i1⟩
  | .hbm, ⟨32, _⟩ => ⟨S16384x16384, .f32⟩
  | .hbm, ⟨33, _⟩ => ⟨S16384x2048, .f32⟩
  | .hbm, ⟨34, _⟩ => ⟨S16384, .i32⟩
  | .hbm, ⟨35, _⟩ => ⟨S16384, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S1x1x2048x2048, .f32⟩
  | .hbm, ⟨41, _⟩ => ⟨S2048x2048, .f32⟩
  | .hbm, ⟨42, _⟩ => ⟨S16384x2048, .f32⟩
  | .hbm, ⟨43, _⟩ => ⟨S2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .bf16⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel12.lean ====
abbrev S16384x16384 : Shape := ⟨2, ![16384, 16384]⟩
abbrev S2x4x2048x2048 : Shape := ⟨4, ![2, 4, 2048, 2048]⟩
abbrev S8192 : Shape := ⟨1, ![8192]⟩
abbrev S1x8192 : Shape := ⟨2, ![1, 8192]⟩
abbrev S16384x2048 : Shape := ⟨2, ![16384, 2048]⟩
abbrev S8x2048 : Shape := ⟨2, ![8, 2048]⟩
abbrev S512x2048 : Shape := ⟨2, ![512, 2048]⟩
abbrev S1x1x2048x2048 : Shape := ⟨4, ![1, 1, 2048, 2048]⟩
abbrev S1x2048 : Shape := ⟨2, ![1, 2048]⟩
abbrev S128x2048 : Shape := ⟨2, ![128, 2048]⟩
abbrev S144x2048 : Shape := ⟨2, ![144, 2048]⟩
abbrev S128x1 : Shape := ⟨2, ![128, 1]⟩
abbrev S2048x2048 : Shape := ⟨2, ![2048, 2048]⟩

abbrev nBuf : Space → Nat
  | .hbm => 5
  | .vmem => 13
  | .smem => 0
  | _ => 0

abbrev bufTy : (tb : Table) → Fin (tcTables nBuf tb) → BufTy
  | .hbm, ⟨0, _⟩ => ⟨S16384x16384, .f32⟩
  | .hbm, ⟨1, _⟩ => ⟨S2x4x2048x2048, .f32⟩
  | .hbm, ⟨2, _⟩ => ⟨S8192, .f32⟩
  | .hbm, ⟨3, _⟩ => ⟨S1x8192, .f32⟩
  | .hbm, ⟨4, _⟩ => ⟨S16384x2048, .bf16⟩
  | .local _ .vmem, ⟨0, _⟩ => ⟨S8x2048, .f32⟩
  | .local _ .vmem, ⟨1, _⟩ => ⟨S8x2048, .f32⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S8x2048, .f32⟩
  | .local _ .vmem, ⟨6, _⟩ => ⟨S1x1x2048x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c1_i32_0 : BitVec 32 := 1#32
  let c0_i32 : BitVec 32 := 0#32
  ![v2.toNat, c1_i32_0.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S16384x16384 : Shape := ⟨2, ![16384, 16384]⟩
abbrev S2x4x2048x2048 : Shape := ⟨4, ![2, 4, 2048, 2048]⟩
abbrev S8192 : Shape := ⟨1, ![8192]⟩
abbrev S16384x2048 : Shape := ⟨2, ![16384, 2048]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S1x1x2048x2048 : Shape := ⟨4, ![1, 1, 2048, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S2x4x2048x2048, .f32⟩
  | .hbm, ⟨2, _⟩ => ⟨S8192, .f32⟩
  | .hbm, ⟨3, _⟩ => ⟨S16384x2048, .f32⟩
  | .hbm, ⟨4, _⟩ => ⟨S16384x2048, .f32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S1x16384, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S1x16384, .i32⟩
  | .hbm, ⟨27, _⟩ => ⟨S16384x1, .i32⟩
  | .hbm, ⟨28, _⟩ => ⟨S16384x16384, .i32⟩
  | .hbm, ⟨29, _⟩ => ⟨S16384x16384, .i32⟩
  | .hbm, ⟨30, _⟩ => ⟨S16384x16384, .i1⟩
  | .hbm, ⟨31, _⟩ => ⟨S16384x16384, .i1⟩
  | .hbm, ⟨32, _⟩ => ⟨S16384x16384, .f32⟩
  | .hbm, ⟨33, _⟩ => ⟨S16384x2048, .f32⟩
  | .hbm, ⟨34, _⟩ => ⟨S16384, .i32⟩
  | .hbm, ⟨35, _⟩ => ⟨S16384, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S1x1x2048x2048, .f32⟩
  | .hbm, ⟨41, _⟩ => ⟨S2048x2048, .f32⟩
  | .hbm, ⟨42, _⟩ => ⟨S16384x2048, .f32⟩
  | .hbm, ⟨43, _⟩ => ⟨S2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .bf16⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel13.lean ====
abbrev S16384x16384 : Shape := ⟨2, ![16384, 16384]⟩
abbrev S2x4x2048x2048 : Shape := ⟨4, ![2, 4, 2048, 2048]⟩
abbrev S8192 : Shape := ⟨1, ![8192]⟩
abbrev S1x8192 : Shape := ⟨2, ![1, 8192]⟩
abbrev S16384x2048 : Shape := ⟨2, ![16384, 2048]⟩
abbrev S8x2048 : Shape := ⟨2, ![8, 2048]⟩
abbrev S512x2048 : Shape := ⟨2, ![512, 2048]⟩
abbrev S1x1x2048x2048 : Shape := ⟨4, ![1, 1, 2048, 2048]⟩
abbrev S1x2048 : Shape := ⟨2, ![1, 2048]⟩
abbrev S128x2048 : Shape := ⟨2, ![128, 2048]⟩
abbrev S144x2048 : Shape := ⟨2, ![144, 2048]⟩
abbrev S128x1 : Shape := ⟨2, ![128, 1]⟩
abbrev S2048x2048 : Shape := ⟨2, ![2048, 2048]⟩

abbrev nBuf : Space → Nat
  | .hbm => 5
  | .vmem => 13
  | .smem => 0
  | _ => 0

abbrev bufTy : (tb : Table) → Fin (tcTables nBuf tb) → BufTy
  | .hbm, ⟨0, _⟩ => ⟨S16384x16384, .f32⟩
  | .hbm, ⟨1, _⟩ => ⟨S2x4x2048x2048, .f32⟩
  | .hbm, ⟨2, _⟩ => ⟨S8192, .f32⟩
  | .hbm, ⟨3, _⟩ => ⟨S1x8192, .f32⟩
  | .hbm, ⟨4, _⟩ => ⟨S16384x2048, .bf16⟩
  | .local _ .vmem, ⟨0, _⟩ => ⟨S8x2048, .f32⟩
  | .local _ .vmem, ⟨1, _⟩ => ⟨S8x2048, .f32⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S8x2048, .f32⟩
  | .local _ .vmem, ⟨6, _⟩ => ⟨S1x1x2048x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c2_i32 : BitVec 32 := 2#32
  let c0_i32 : BitVec 32 := 0#32
  ![v2.toNat, c2_i32.toNat]

def cc0_transform_3 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S16384x16384 : Shape := ⟨2, ![16384, 16384]⟩
abbrev S2x4x2048x2048 : Shape := ⟨4, ![2, 4, 2048, 2048]⟩
abbrev S8192 : Shape := ⟨1, ![8192]⟩
abbrev S16384x2048 : Shape := ⟨2, ![16384, 2048]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S1x1x2048x2048 : Shape := ⟨4, ![1, 1, 2048, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S2x4x2048x2048, .f32⟩
  | .hbm, ⟨2, _⟩ => ⟨S8192, .f32⟩
  | .hbm, ⟨3, _⟩ => ⟨S16384x2048, .f32⟩
  | .hbm, ⟨4, _⟩ => ⟨S16384x2048, .f32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S1x16384, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S1x16384, .i32⟩
  | .hbm, ⟨27, _⟩ => ⟨S16384x1, .i32⟩
  | .hbm, ⟨28, _⟩ => ⟨S16384x16384, .i32⟩
  | .hbm, ⟨29, _⟩ => ⟨S16384x16384, .i32⟩
  | .hbm, ⟨30, _⟩ => ⟨S16384x16384, .i1⟩
  | .hbm, ⟨31, _⟩ => ⟨S16384x16384, .i1⟩
  | .hbm, ⟨32, _⟩ => ⟨S16384x16384, .f32⟩
  | .hbm, ⟨33, _⟩ => ⟨S16384x2048, .f32⟩
  | .hbm, ⟨34, _⟩ => ⟨S16384, .i32⟩
  | .hbm, ⟨35, _⟩ => ⟨S16384, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S1x1x2048x2048, .f32⟩
  | .hbm, ⟨41, _⟩ => ⟨S2048x2048, .f32⟩
  | .hbm, ⟨42, _⟩ => ⟨S16384x2048, .f32⟩
  | .hbm, ⟨43, _⟩ => ⟨S2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .bf16⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel14.lean ====
abbrev S16384x4096 : Shape := ⟨2, ![16384, 4096]⟩
abbrev S4096 : Shape := ⟨1, ![4096]⟩
abbrev S2x4096x10240 : Shape := ⟨3, ![2, 4096, 10240]⟩
abbrev S1x4096 : Shape := ⟨2, ![1, 4096]⟩
abbrev S16384x1 : Shape := ⟨2, ![16384, 1]⟩
abbrev S4096x10240 : Shape := ⟨2, ![4096, 10240]⟩
abbrev S512x4096 : Shape := ⟨2, ![512, 4096]⟩
abbrev S1x128x10240 : Shape := ⟨3, ![1, 128, 10240]⟩
abbrev S512x1 : Shape := ⟨2, ![512, 1]⟩
abbrev S128x10240 : Shape := ⟨2, ![128, 10240]⟩
abbrev S512 : Shape := ⟨1, ![512]⟩

abbrev nBuf : Space → Nat
  | .hbm => 7
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S2x4096x10240, .f32⟩
  | .hbm, ⟨3, _⟩ => ⟨S1x4096, .f32⟩
  | .hbm, ⟨4, _⟩ => ⟨S16384x4096, .bf16⟩
  | .hbm, ⟨5, _⟩ => ⟨S16384x1, .f32⟩
  | .hbm, ⟨6, _⟩ => ⟨S4096x10240, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x128x10240, .f32⟩
  | .local _ .vmem, ⟨4, _⟩ => ⟨S1x128x10240, .f32⟩
  | .local _ .vmem, ⟨5, _⟩ => ⟨S512x4096, .bf16⟩
  | .local _ .vmem, ⟨6, _⟩ => ⟨S512x4096, .bf16⟩
  | .local _ .vmem, ⟨7, _⟩ => ⟨S512x1, .f32⟩
  | .local _ .vmem, ⟨8, _⟩ => ⟨S512x1, .f32⟩
  | .local _ .vmem, ⟨9, _⟩ => ⟨S128x10240, .bf16⟩
  | .local _ .vmem, ⟨10, _⟩ => ⟨S128x10240, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi c0_i32 v0
  let c31_i32 : BitVec 32 := 31#32
  let v2 : BitVec 32 := Scalar.minsi v1 c31_i32
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi c0_i32 v0
  let c31_i32 : BitVec 32 := 31#32
  let v2 : BitVec 32 := Scalar.minsi v1 c31_i32
  let c0_i32_0 : BitVec 32 := 0#32
  let c0_i32_1 : BitVec 32 := 0#32
  ![v2.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x10240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x10240 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S16384x4096 : Shape := ⟨2, ![16384, 4096]⟩
abbrev S4096 : Shape := ⟨1, ![4096]⟩
abbrev S2x4096x10240 : Shape := ⟨3, ![2, 4096, 10240]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S1x4096x10240 : Shape := ⟨3, ![1, 4096, 10240]⟩
abbrev S4096x10240 : Shape := ⟨2, ![4096, 10240]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S2x4096x10240, .f32⟩
  | .hbm, ⟨3, _⟩ => ⟨S1x4096, .f32⟩
  | .hbm, ⟨4, _⟩ => ⟨S16384x4096, .f32⟩
  | .hbm, ⟨5, _⟩ => ⟨S16384x4096, .f32⟩
  | .hbm, ⟨6, _⟩ => ⟨S16384x4096, .bf16⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S1x4096x10240, .f32⟩
  | .hbm, ⟨19, _⟩ => ⟨S4096x10240, .f32⟩
  | .hbm, ⟨20, _⟩ => ⟨S4096x10240, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Kernel.Frame.RunA.lean ====
module

public import proofs.«01_k».proof.Proof.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3044000 in
/-- The body's triple IN CASE A (`scf.if` 0 not taken, `scf.if` 1 taken: points 0, 63): on whole staging memrefs — the inputs' at their contents,
    the FORGOTTEN outputs' (7) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole) (hc0 : ¬cond0_0 i) (hc1 : cond0_1 i)
    (x0 : Vec F S32 .f32) (x1 : Vec F S32x128x384 .f32) (x2 : Vec F S256x4096 .bf16) (x3 : Vec F S128x2048 .bf16) (x4 : Vec F S256x2048 .bf16) (x5 : Vec F S128x2048 .bf16) (x6 : Vec F S256x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)) -∗ K ⟨⟩))
          ⊢ wp frame (wpE (defs₀ (F := F)) Variants.none c none) E (cc0_banded_attention i arg1 harg1 arg2 harg2 arg3 harg3 arg4 harg4 arg5 harg5 arg6 harg6 arg7 harg7 arg8 harg8) K := by
    intro E K
    simp only [cc0_banded_attention_eq_skeleton]; unfold cc0_banded_attention_skel
    simp only [k0_part133_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _, _; isplitr; swap; · iexact H7
    ipureintro; rfl

end Cert.Kernel.Gen

end
-- ==== Proof.Kernel.Frame.RunB.lean ====
module

public import proofs.«01_k».proof.Proof.Kernel.Frame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3008000 in
/-- The body's triple IN CASE B (`scf.if` 0 taken, `scf.if` 1 not taken: points 1, 2, … 62: 62 of 64): on whole staging memrefs — the inputs' at their contents,
    the FORGOTTEN outputs' (7) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole) (hc0 : cond0_0 i) (hc1 : ¬cond0_1 i)
    (x0 : Vec F S32 .f32) (x1 : Vec F S32x128x384 .f32) (x2 : Vec F S256x4096 .bf16) (x3 : Vec F S128x2048 .bf16) (x4 : Vec F S256x2048 .bf16) (x5 : Vec F S128x2048 .bf16) (x6 : Vec F S256x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)) -∗ K ⟨⟩))
          ⊢ wp frame (wpE (defs₀ (F := F)) Variants.none c none) E (cc0_banded_attention i arg1 harg1 arg2 harg2 arg3 harg3 arg4 harg4 arg5 harg5 arg6 harg6 arg7 harg7 arg8 harg8) K := by
    intro E K
    simp only [cc0_banded_attention_eq_skeleton]; unfold cc0_banded_attention_skel
    simp only [k0_part65_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _, _; isplitr; swap; · iexact H7
    ipureintro; rfl

end Cert.Kernel.Gen

end
-- ==== Proof.Kernel.Frame.lean ====
module

public import proofs.«01_k».proof.Proof.Kernel.Frame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  have hN : t.val < 64 := lt_of_lt_of_eq t.isLt (show cfg0.N = 64 from N_0)
  by_cases h0 : (1 ≤ t.val % 64 ∧ t.val % 64 ≤ 62)
  · by_cases h1 : t.val % 63 = 0
    · exfalso; rw [Nat.mod_eq_of_lt hN] at h0; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ ((hcond0_0 t).mpr h0) (fun h => h1 ((hcond0_1 t).mp h)) (iblk m c 0 t) (iblk m c 1 t) (X0_2 m c t) (iblk m c 3 t) (iblk m c 4 t) (iblk m c 5 t) (iblk m c 6 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h1 : t.val % 63 = 0
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ (fun h => h0 ((hcond0_0 t).mp h)) ((hcond0_1 t).mpr h1) (iblk m c 0 t) (iblk m c 1 t) (X0_2 m c t) (iblk m c 3 t) (iblk m c 4 t) (iblk m c 5 t) (iblk m c 6 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; rw [Nat.mod_eq_of_lt hN] at h0; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.KernelIdeal.Frame.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is of the clipped KIND (its block does not tile its array `S16384x6144`), but no block the grid
    reaches is cut, so no part of its staging buffer is left unfilled by a fetch. A default for such a part, which
    nothing reads. -/
def dflt0_2 : (cfg0.win 2).block.Idx → Elt F (cfg0.win 2).elt := fun _ => Classical.choice inferInstance
/-- What input window 2's current staging buffer holds when the body runs at `t`: its block read off the array,
    filled over `dflt0_2` (block-typed, where `iblk` is typed at the cut). -/
def X0_2 (c : Dev nD) (t : Fin cfg0.N) : (cfg0.win 2).block.Idx → Elt F (cfg0.win 2).elt :=
  (cfg0.win 2).fill (cfg0.grid.coords t) dflt0_2 (iblk m c 2 t)
/-- At every point the cut's extent is the block's, decided over the grid: no transfer of input window 2 is cut. -/
theorem xsize0_2 : ∀ t : Fin cfg0.N, ∀ a, (cfg0.win 2).xsize (cfg0.grid.coords t) a = (cfg0.win 2).size a := by decide +kernel
/-- Every index of input window 2's block is moved at every point. -/
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
/-- A fill of input window 2's block covers the whole buffer, whatever it held. -/
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
/-- Input window 2's current staging buffer holds `X0_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_2`). -/
theorem before0_2_of {c : Dev nD} (dat : Dat τ (Elt F) Unit ℕ (UR sig nD τ) ℕ cfg0 c) (hA : dat.A 2 = V m c (Pipeline.arrRef spec0 2))
    (hafter : ∀ t, dat.after 2 t = X0_2 m c t) (t : Fin cfg0.N) (d) : dat.before 2 t d = X0_2 m c t :=
  (dat.before_in_eq_fetched 2 rfl (fun _ => rfl)
      (fun t t' h => funext fun a => congrArg (fun n => Pipeline.Clip.of n ((cfg0.win 2).size a) (S16384x6144.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 6).trans (((dats 0 c).arrAt_in 6 rfl _).trans ((hA c 6).trans (V_main_arg3 m c))),
      ((h c).1 0).trans (((dats 0 c).arrAt_in 0 rfl _).trans ((hA c 0).trans (V_main_arg4 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have 1 ≤ i0 and i0 ≤ 62 — decided over the grid. -/
theorem hcond0_0 : ∀ t : Fin cfg0.N, cond0_0 (grid0.coords t) ↔ (1 ≤ t.val % 64 ∧ t.val % 64 ≤ 62) :=
  (by decide +kernel : ∀ t : Fin grid0.N, cond0_0 (grid0.coords t) ↔ (1 ≤ t.val % 64 ∧ t.val % 64 ≤ 62))

/-- The condition of the body's `scf.if` 1 (`k0_h2`), from the grid coordinates (the skeleton's scalar
    chain substituted). -/
abbrev cond0_1 (i : grid0.Coords) : Prop := k0_cond2 i = 1#1
/-- It holds at the points ≡ 0 (mod 63) — decided over the grid. -/
theorem hcond0_1 : ∀ t : Fin cfg0.N, cond0_1 (grid0.coords t) ↔ t.val % 63 = 0 :=
  (by decide +kernel : ∀ t : Fin grid0.N, cond0_1 (grid0.coords t) ↔ t.val % 63 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 live: the case stores into it. -/
theorem liveAt0_7_A : ∀ t : Fin cfg0.N, ¬cond0_0 (grid0.coords t) → cond0_1 (grid0.coords t) → cfg0.idle 7 (grid0.coords t) = false := by decide +kernel
/-- At the points of case B the printed configuration (`Cfg.idle`) calls output 7 live: the case stores into it. -/
theorem liveAt0_7_B : ∀ t : Fin cfg0.N, cond0_0 (grid0.coords t) → ¬cond0_1 (grid0.coords t) → cfg0.idle 7 (grid0.coords t) = false := by decide +kernel

/-! ## The kernel body on any staging memrefs: a subtype the run finds -/

/-- One staging buffer of output window 7, through which its contents are stated (`View.read_writes_of_cover`: the
    choice does not matter). -/
abbrev VO0_7 : View sig .tc .vmem S256x4096 .bf16 := (Memref.whole cc0_stg7_0 : Memref sig .tc .vmem S256x4096 .bf16).view
/-- Each window's current staging memref at point `t`, spelled as the pipeline passes it (`bodyAt0`), and its wholeness. -/
abbrev ms0_0 (t : Fin cfg0.N) : Memref sig .tc .smem S32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4096 .bf16 := win0_7.stage (cfg0.slots t 7)
abbrev hs0_7 (t : Fin cfg0.N) : (ms0_7 t).IsWhole := hstage0_7 ((cfg0.slots t 7).cast nbuf0_7)

end Cert.KernelIdeal.Gen

end
-- ==== Proof.KernelIdeal.Frame.RunA.lean ====
module

public import proofs.«01_k».proof.Proof.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3044000 in
/-- What the body's stores leave in each output's staging memref, as pieces (last first) IN CASE A (`scf.if` 0 not taken, `scf.if` 1 taken: points 0, 63), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole) (hc0 : ¬cond0_0 i) (hc1 : cond0_1 i)
    (x0 : Vec F S32 .f32) (x1 : Vec F S32x128x384 .f32) (x2 : Vec F S256x4096 .bf16) (x3 : Vec F S128x2048 .bf16) (x4 : Vec F S256x2048 .bf16) (x5 : Vec F S128x2048 .bf16) (x6 : Vec F S256x4096 .f32) :
    { L7 : List (View.Piece (Elt F) S256x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc0_banded_attention i arg1 harg1 arg2 harg2 arg3 harg3 arg4 harg4 arg5 harg5 arg6 harg6 arg7 harg7 arg8 harg8) K } := by
  refine ⟨?_, fun E K => ?run⟩
  case run =>
    simp only [cc0_banded_attention_eq_skeleton]; unfold cc0_banded_attention_skel
    simp only [k0_part133_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.KernelIdeal.Gen

end
-- ==== Proof.KernelIdeal.Frame.RunB.lean ====
module

public import proofs.«01_k».proof.Proof.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3008000 in
/-- What the body's stores leave in each output's staging memref, as pieces (last first) IN CASE B (`scf.if` 0 taken, `scf.if` 1 not taken: points 1, 2, … 62: 62 of 64), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole) (hc0 : cond0_0 i) (hc1 : ¬cond0_1 i)
    (x0 : Vec F S32 .f32) (x1 : Vec F S32x128x384 .f32) (x2 : Vec F S256x4096 .bf16) (x3 : Vec F S128x2048 .bf16) (x4 : Vec F S256x2048 .bf16) (x5 : Vec F S128x2048 .bf16) (x6 : Vec F S256x4096 .f32) :
    { L7 : List (View.Piece (Elt F) S256x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc0_banded_attention i arg1 harg1 arg2 harg2 arg3 harg3 arg4 harg4 arg5 harg5 arg6 harg6 arg7 harg7 arg8 harg8) K } := by
  refine ⟨?_, fun E K => ?run⟩
  case run =>
    simp only [cc0_banded_attention_eq_skeleton]; unfold cc0_banded_attention_skel
    simp only [k0_part65_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.KernelIdeal.Gen

end
-- ==== Proof.KernelIdeal.Frame.lean ====
module

public import proofs.«01_k».proof.Proof.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 7 tile its block (64 stores of `S128x128`, checked by the kernel's evaluation: Lib/Ring.lean `Piece.tiledL`, linear in the pieces, through a loop's `@[irreducible]` trip theorem too), so they cover it. -/
theorem cover0_A_7 (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole) (hc0 : ¬cond0_0 i) (hc1 : cond0_1 i)
    (x0 : Vec F S32 .f32) (x1 : Vec F S32x128x384 .f32) (x2 : Vec F S256x4096 .bf16) (x3 : Vec F S128x2048 .bf16) (x4 : Vec F S256x2048 .bf16) (x5 : Vec F S128x2048 .bf16) (x6 : Vec F S256x4096 .f32) (y : S256x4096.Idx) :
    ∃ pc ∈ (kernelRun0_A c i arg1 harg1 arg2 harg2 arg3 harg3 arg4 harg4 arg5 harg5 arg6 harg6 arg7 harg7 arg8 harg8 hc0 hc1 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 hc0 hc1 x0 x1 x2 x3 x4 x5 x6).1 S128x128.size (by sl_kernel_rfl) y

/-- What case A leaves in output 7's staging buffer: its pieces read back over junk. -/
def out0_A_7 (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole) (hc0 : ¬cond0_0 i) (hc1 : cond0_1 i)
    (x0 : Vec F S32 .f32) (x1 : Vec F S32x128x384 .f32) (x2 : Vec F S256x4096 .bf16) (x3 : Vec F S128x2048 .bf16) (x4 : Vec F S256x2048 .bf16) (x5 : Vec F S128x2048 .bf16) (x6 : Vec F S256x4096 .f32) : Vec F S256x4096 .bf16 :=
  VO0_7.read (Elt F) (VO0_7.writes (Elt F) VO0_7.junk (kernelRun0_A c i arg1 harg1 arg2 harg2 arg3 harg3 arg4 harg4 arg5 harg5 arg6 harg6 arg7 harg7 arg8 harg8 hc0 hc1 x0 x1 x2 x3 x4 x5 x6).1)

/-- Case B's pieces for output 7 tile its block (64 stores of `S128x128`, checked by the kernel's evaluation: Lib/Ring.lean `Piece.tiledL`, linear in the pieces, through a loop's `@[irreducible]` trip theorem too), so they cover it. -/
theorem cover0_B_7 (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole) (hc0 : cond0_0 i) (hc1 : ¬cond0_1 i)
    (x0 : Vec F S32 .f32) (x1 : Vec F S32x128x384 .f32) (x2 : Vec F S256x4096 .bf16) (x3 : Vec F S128x2048 .bf16) (x4 : Vec F S256x2048 .bf16) (x5 : Vec F S128x2048 .bf16) (x6 : Vec F S256x4096 .f32) (y : S256x4096.Idx) :
    ∃ pc ∈ (kernelRun0_B c i arg1 harg1 arg2 harg2 arg3 harg3 arg4 harg4 arg5 harg5 arg6 harg6 arg7 harg7 arg8 harg8 hc0 hc1 x0 x1 x2 x3 x4 x5 x6).1, y ∈ pc.1.set :=
  View.cover_of_tiledL (kernelRun0_B c i arg1 harg1 arg2 harg2 arg3 harg3 arg4 harg4 arg5 harg5 arg6 harg6 arg7 harg7 arg8 harg8 hc0 hc1 x0 x1 x2 x3 x4 x5 x6).1 S128x128.size (by sl_kernel_rfl) y

/-- What case B leaves in output 7's staging buffer: its pieces read back over junk. -/
def out0_B_7 (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole) (hc0 : cond0_0 i) (hc1 : ¬cond0_1 i)
    (x0 : Vec F S32 .f32) (x1 : Vec F S32x128x384 .f32) (x2 : Vec F S256x4096 .bf16) (x3 : Vec F S128x2048 .bf16) (x4 : Vec F S256x2048 .bf16) (x5 : Vec F S128x2048 .bf16) (x6 : Vec F S256x4096 .f32) : Vec F S256x4096 .bf16 :=
  VO0_7.read (Elt F) (VO0_7.writes (Elt F) VO0_7.junk (kernelRun0_B c i arg1 harg1 arg2 harg2 arg3 harg3 arg4 harg4 arg5 harg5 arg6 harg6 arg7 harg7 arg8 harg8 hc0 hc1 x0 x1 x2 x3 x4 x5 x6).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x4096 .bf16
  | 0, hn => out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (fun h => (fun h => by (try dsimp only at h); omega) ((hcond0_0 ⟨0, hn⟩).mp h)) ((hcond0_1 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩) (iblk m c 5 ⟨0, hn⟩) (iblk m c 6 ⟨0, hn⟩)
  | n + 1, hn =>
    if h0 : (1 ≤ (n + 1) % 64 ∧ (n + 1) % 64 ≤ 62) then
      if h1 : (n + 1) % 63 = 0 then
        False.elim (by have hN : n + 1 < 64 := lt_of_lt_of_eq hn (show cfg0.N = 64 from N_0); omega)
      else
        out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩)
    else
      if h1 : (n + 1) % 63 = 0 then
        out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩)
      else
        False.elim (by have hN : n + 1 < 64 := lt_of_lt_of_eq hn (show cfg0.N = 64 from N_0); omega)

/-- `outsAt0` at a point of case A: that case's contents. -/
theorem outsAt0_A (c : Dev nD) (t : Fin cfg0.N) (h0 : ¬(1 ≤ t.val % 64 ∧ t.val % 64 ≤ 62)) (h1 : t.val % 63 = 0) :
    outsAt0 m c t.val t.isLt = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (iblk m c 1 t) (X0_2 m c t) (iblk m c 3 t) (iblk m c 4 t) (iblk m c 5 t) (iblk m c 6 t) := by
  obtain ⟨n, hn⟩ := t
  cases n with
  | zero => exact rfl
  | succ n => exact (dif_neg h0).trans ((dif_pos h1).trans rfl)

/-- `outsAt0` at a point of case B: that case's contents. -/
theorem outsAt0_B (c : Dev nD) (t : Fin cfg0.N) (h0 : (1 ≤ t.val % 64 ∧ t.val % 64 ≤ 62)) (h1 : ¬t.val % 63 = 0) :
    outsAt0 m c t.val t.isLt = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk m c 0 t) (iblk m c 1 t) (X0_2 m c t) (iblk m c 3 t) (iblk m c 4 t) (iblk m c 5 t) (iblk m c 6 t) := by
  obtain ⟨n, hn⟩ := t
  cases n with
  | zero => exact (by exfalso; (try dsimp only at h0); exact by omega)
  | succ n => exact (dif_pos h0).trans ((dif_neg h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  have hN : t.val < 64 := lt_of_lt_of_eq t.isLt (show cfg0.N = 64 from N_0)
  by_cases h0 : (1 ≤ t.val % 64 ∧ t.val % 64 ≤ 62)
  · by_cases h1 : t.val % 63 = 0
    · exfalso; rw [Nat.mod_eq_of_lt hN] at h0; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_B t ((hcond0_0 t).mpr h0) (fun h => h1 ((hcond0_1 t).mp h))], after0_7]
      rw [outsAt0_B m c t h0 h1]
      unfold out0_B_7
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ ((hcond0_0 t).mpr h0) (fun h => h1 ((hcond0_1 t).mp h)) (iblk m c 0 t) (iblk m c 1 t) (X0_2 m c t) (iblk m c 3 t) (iblk m c 4 t) (iblk m c 5 t) (iblk m c 6 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_B_7 c _ _ _ _ _ _ _ _ _ _ _ _ _ _ _ _ _ _ _ _ _ _ _ _ _ _)
  · by_cases h1 : t.val % 63 = 0
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_A t (fun h => h0 ((hcond0_0 t).mp h)) ((hcond0_1 t).mpr h1)], after0_7]
      rw [outsAt0_A m c t h0 h1]
      unfold out0_A_7
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ (fun h => h0 ((hcond0_0 t).mp h)) ((hcond0_1 t).mpr h1) (iblk m c 0 t) (iblk m c 1 t) (X0_2 m c t) (iblk m c 3 t) (iblk m c 4 t) (iblk m c 5 t) (iblk m c 6 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; rw [Nat.mod_eq_of_lt hN] at h0; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KernelIdeal.Value.lean ====
module

public import proofs.«01_k».proof.Proof.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`), read through the window's block. -/
theorem flushed7 (c : Dev nD) (t : Fin cfg0.N) :
    (dats m 0 c).flushed 7 t = (cfg0.win 7).cut (grid0.coords t) (outsAt0 m c t.val t.isLt) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : ¬(1 ≤ t.val % 64 ∧ t.val % 64 ≤ 62)) (h1 : t.val % 63 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (iblk m c 1 t) (X0_2 m c t) (iblk m c 3 t) (iblk m c 4 t) (iblk m c 5 t) (iblk m c 6 t)) := by
  simp only [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : (1 ≤ t.val % 64 ∧ t.val % 64 ≤ 62)) (h1 : ¬t.val % 63 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk m c 0 t) (iblk m c 1 t) (X0_2 m c t) (iblk m c 3 t) (iblk m c 4 t) (iblk m c 5 t) (iblk m c 6 t)) := by
  simp only [flushed7, outsAt0_B m c t h0 h1]

/-- The index map sends distinct grid points to distinct block indices (decided over the 64 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S16384x4096.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v44) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 6 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 6).trans (((dats m 0 c).arrAt_in 6 rfl _).trans ((A_eq m c 6).trans (V_main_arg3 m c)))

/-- After the frame run, argument `main_arg4` is as launched: input window 0 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 0).trans (((dats m 0 c).arrAt_in 0 rfl _).trans ((A_eq m c 0).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v44) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      kept_main_arg0 m r h c,
      kept_main_arg1 m r h c,
      kept_main_arg2 m r h c,
      kept_main_arg3 m r h c,
      kept_main_arg4 m r h c⟩)
    (run_main m ρ)

end Cert.KernelIdeal.Value

end
-- ==== Proof.KernelIdeal.Tile.lean ====
module

public import proofs.«01_k».proof.Proof.KernelIdeal.Frame
public import Idealize.ShloMosaic.Lib.Pipeline.ValueKit

@[expose] public section

set_option maxRecDepth 16384

/-! What one grid point stores, as one tile function of the blocks: every store of the body is that function at its row
half `u`, its key-value head and its query head within the group. -/

noncomputable section

namespace Cert.KernelIdeal.Tile

open Idealize.ShloMosaic Cert.KernelIdeal Cert.KernelIdeal.Gen
open Cert.KernelIdeal.Facts

variable {F : FTy → Type} [FloatOps F] [Named F]

theorem sl384 (g : Fin 4) : S512x384.Slices ![128 * g.val, 0] S128x384 := by revert g; decide
theorem sl128 (g : Fin 4) : S512x128.Slices ![128 * g.val, 0] S128x128 := by revert g; decide

/-- Three tiles of 128 rows stacked: a window of keys or of values. -/
def stack3 (a b c : FVec F S128x128 .bf16) : FVec F S384x128 .bf16 :=
  concatenate S384x128 0 [⟨S128x128, shapeCast S128x128 a shapeCasts_S128x128_S128x128⟩,
    ⟨S128x128, shapeCast S128x128 b shapeCasts_S128x128_S128x128⟩,
    ⟨S128x128, shapeCast S128x128 c shapeCasts_S128x128_S128x128⟩] concatenates_S128x128_S128x128_S128x128_S384x128_d0

/-- The four query heads of a group stacked. -/
def stack4 (q : Fin 4 → FVec F S128x128 .bf16) : FVec F S512x128 .bf16 :=
  concatenate S512x128 0 [⟨S128x128, shapeCast S128x128 (q 0) shapeCasts_S128x128_S128x128⟩,
    ⟨S128x128, shapeCast S128x128 (q 1) shapeCasts_S128x128_S128x128⟩,
    ⟨S128x128, shapeCast S128x128 (q 2) shapeCasts_S128x128_S128x128⟩,
    ⟨S128x128, shapeCast S128x128 (q 3) shapeCasts_S128x128_S128x128⟩]
    concatenates_S128x128_S128x128_S128x128_S128x128_S512x128_d0

/-- The biased scores of one query head, before the edge mask. -/
def score (q : Fin 4 → FVec F S128x128 .bf16) (kw : FVec F S384x128 .bf16) (g : Fin 4) (b : Vec F S1x128x384 .f32) :
    FVec F S128x384 .f32 :=
  addf (extractStridedSlice S128x384 ![128 * g.val, 0]
      (matmul dot_S512x128_S384x128_S512x384_1_1_0_0_n_n none (stack4 q) kw (constant S512x384 .f32 0x00000000#32)) (sl384 g))
    (shapeCast S128x384 b shapeCasts_S1x128x384_S128x384)

/-- The scaled sink of a head. -/
def snk (s : Elt F .f32) : F .f32 := Scalar.mulf s (Named.named κ "log2e" 0x3FB8AA3B#32)

def rowMax (sc : FVec F S128x384 .f32) (s : Elt F .f32) : FVec F S128x1 .f32 :=
  maximumf (shapeCast S128x1
      (multiReduction .maximumf [1] S128 sc 0xFF800000#32 reduces_S128x384_S128 (.inl rfl) rfl) shapeCasts_S128_S128x1)
    (broadcast S128x1 (snk s))

def expo (sc : FVec F S128x384 .f32) (s : Elt F .f32) : FVec F S128x384 .f32 :=
  exp2 (subf sc (broadcastTo S128x384 (rowMax sc s) broadcasts_S128x1_S128x384))

def rcp (sc : FVec F S128x384 .f32) (s : Elt F .f32) : FVec F S128x1 .f32 :=
  divf (broadcast S128x1 (Scalar.ofBits .f32 0x3F800000#32))
    (addf (shapeCast S128x1
        (multiReduction .add [1] S128 (expo sc s) 0x00000000#32 reduces_S128x384_S128 (.inl rfl) rfl) shapeCasts_S128_S128x1)
      (exp2 (subf (broadcast S128x1 (snk s)) (rowMax sc s))))

/-- The four heads' unnormalised weights applied to the window of values. -/
def mix (sc : Fin 4 → FVec F S128x384 .f32) (s : Fin 4 → Elt F .f32) (vw : FVec F S384x128 .bf16) : FVec F S512x128 .f32 :=
  matmul dot_S512x384_S384x128_S512x128_1_0_0_1_n_n none
    (concatenate S512x384 0 [⟨S128x384, truncf .bf16 (expo (sc 0) (s 0)) bitsLt_bf16_f32⟩,
      ⟨S128x384, truncf .bf16 (expo (sc 1) (s 1)) bitsLt_bf16_f32⟩,
      ⟨S128x384, truncf .bf16 (expo (sc 2) (s 2)) bitsLt_bf16_f32⟩,
      ⟨S128x384, truncf .bf16 (expo (sc 3) (s 3)) bitsLt_bf16_f32⟩]
      concatenates_S128x384_S128x384_S128x384_S128x384_S512x384_d0)
    vw (constant S512x128 .f32 0x00000000#32)

def half (z : Vec F S128x128 .f32) : FVec F S128x128 .f32 :=
  mulf (broadcast S128x128 (Scalar.ofBits .f32 0x3F000000#32)) z

/-- The stored tile of head `g` of a group. -/
def tile (sc : Fin 4 → FVec F S128x384 .f32) (s : Fin 4 → Elt F .f32) (vw : FVec F S384x128 .bf16) (g : Fin 4)
    (z : Vec F S128x128 .f32) : FVec F S128x128 .bf16 :=
  truncf .bf16 (mulf (extractStridedSlice S128x128 ![128 * g.val, 0] (mix sc s vw) (sl128 g))
    (mulf (broadcastTo S128x128 (rcp (sc g) (s g)) broadcasts_S128x1_S128x128)
      (addf (half z) (mulf (half z) (tanh (half z)))))) bitsLt_bf16_f32

/-! The loads. -/

theorem inb1 (h : ℕ) (hh : h < 32) : ∀ a, (![h] : Fin S32.rank → ℕ) a + S1.size a ≤ S32.size a := by
  intro a; match a with | 0 => show h + 1 ≤ 32; omega

theorem inbB (h : ℕ) (hh : h < 32) : ∀ a, (![h, 0, 0] : Fin S32x128x384.rank → ℕ) a + S1x128x384.size a ≤ S32x128x384.size a := by
  intro a
  match a with
  | 0 => show h + 1 ≤ 32; omega
  | 1 => show 0 + 128 ≤ 128; omega
  | 2 => show 0 + 384 ≤ 384; omega

theorem inbQ (u h : ℕ) (hu : u < 2) (hh : h < 32) :
    ∀ a, (![128 * u, 128 * h] : Fin S256x4096.rank → ℕ) a + S128x128.size a ≤ S256x4096.size a := by
  intro a
  match a with
  | 0 => show 128 * u + 128 ≤ 256; omega
  | 1 => show 128 * h + 128 ≤ 4096; omega

theorem inbC (u h : ℕ) (hu : u < 2) (hh : h < 16) :
    ∀ a, (![128 * u, 128 * h] : Fin S256x2048.rank → ℕ) a + S128x128.size a ≤ S256x2048.size a := by
  intro a
  match a with
  | 0 => show 128 * u + 128 ≤ 256; omega
  | 1 => show 128 * h + 128 ≤ 2048; omega

theorem inbH (h : ℕ) (hh : h < 16) :
    ∀ a, (![0, 128 * h] : Fin S128x2048.rank → ℕ) a + S128x128.size a ≤ S128x2048.size a := by
  intro a
  match a with
  | 0 => show 0 + 128 ≤ 128; omega
  | 1 => show 128 * h + 128 ≤ 2048; omega

theorem hd (k : Fin 8) (g : Fin 4) : 4 * k.val + g.val < 32 := by omega
theorem hu (u : Fin 2) : u.val < 2 := u.isLt

/-- Column block `n` of the three tiles under a row half: the halo before and the block, or the block and the halo after. -/
def win (x3 : Vec F S128x2048 .bf16) (x4 : Vec F S256x2048 .bf16) (x5 : Vec F S128x2048 .bf16) (n : ℕ) (hn : n < 16)
    (u : Fin 2) : FVec F S384x128 .bf16 :=
  match u with
  | 0 => stack3 (View.ld x3 (Rect.unit ![0, 128 * n] S128x128.size (inbH n hn)))
      (View.ld x4 (Rect.unit ![128 * 0, 128 * n] S128x128.size (inbC 0 n (by omega) hn)))
      (View.ld x4 (Rect.unit ![128 * 1, 128 * n] S128x128.size (inbC 1 n (by omega) hn)))
  | 1 => stack3 (View.ld x4 (Rect.unit ![128 * 0, 128 * n] S128x128.size (inbC 0 n (by omega) hn)))
      (View.ld x4 (Rect.unit ![128 * 1, 128 * n] S128x128.size (inbC 1 n (by omega) hn)))
      (View.ld x5 (Rect.unit ![0, 128 * n] S128x128.size (inbH n hn)))

/-- The sinks of a group, the scores of a group. -/
def sinks (x0 : Vec F S32 .f32) (k : Fin 8) (g : Fin 4) : Elt F .f32 :=
  View.ld x0 (Rect.unit ![4 * k.val + g.val] S1.size (inb1 _ (hd k g))) (Shape.Idx.first (by decide : 0 < S1.numel))

def scores (x1 : Vec F S32x128x384 .f32) (x2 : Vec F S256x4096 .bf16) (x3 : Vec F S128x2048 .bf16)
    (x4 : Vec F S256x2048 .bf16) (x5 : Vec F S128x2048 .bf16) (u : Fin 2) (k : Fin 8) (g : Fin 4) : FVec F S128x384 .f32 :=
  score (fun g => View.ld x2 (Rect.unit ![128 * u.val, 128 * (4 * k.val + g.val)] S128x128.size (inbQ _ _ (hu u) (hd k g))))
    (win x3 x4 x5 k.val (by omega) u) g
    (View.ld x1 (Rect.unit ![4 * k.val + g.val, 0, 0] S1x128x384.size (inbB _ (hd k g))))

/-- One store of a point: its rectangle and its tile. -/
def piece (msk : Fin 2 → FVec F S128x384 .f32 → FVec F S128x384 .f32) (x0 : Vec F S32 .f32) (x1 : Vec F S32x128x384 .f32)
    (x2 : Vec F S256x4096 .bf16) (x3 : Vec F S128x2048 .bf16) (x4 : Vec F S256x2048 .bf16) (x5 : Vec F S128x2048 .bf16)
    (x6 : Vec F S256x4096 .f32) (p : Fin 2 × Fin 8 × Fin 4) : View.Piece (Elt F) S256x4096 .bf16 :=
  ⟨Rect.unit ![128 * p.1.val, 128 * (4 * p.2.1.val + p.2.2.val)] S128x128.size (inbQ _ _ (hu p.1) (hd p.2.1 p.2.2)),
    tile (fun g => msk p.1 (scores x1 x2 x3 x4 x5 p.1 p.2.1 g)) (sinks x0 p.2.1)
      (win x3 x4 x5 (8 + p.2.1.val) (by omega) p.1) p.2.2
      (View.ld x6 (Rect.unit ![128 * p.1.val, 128 * (4 * p.2.1.val + p.2.2.val)] S128x128.size
        (inbQ _ _ (hu p.1) (hd p.2.1 p.2.2))))⟩

/-- The stores of a point, last first. -/
abbrev order : List (Fin 2 × Fin 8 × Fin 4) :=
  ([1, 0] : List (Fin 2)).flatMap fun u => ([7, 6, 5, 4, 3, 2, 1, 0] : List (Fin 8)).flatMap fun k =>
    ([3, 2, 1, 0] : List (Fin 4)).map fun g => (u, k, g)

/-- The mask of the two edge points: the columns before the first key, or past the last. -/
def edge (i : grid0.Coords) (u : Fin 2) (v : FVec F S128x384 .f32) : FVec F S128x384 .f32 :=
  match u with
  | 0 => select (k0_pay563 (Scalar.cmpi .eq (BitVec.ofNat 32 (i 0).val) 0#32))
      (broadcast S128x384 (Named.named κ "mask" 0xF149F2CA#32)) v
  | 1 => select (k0_pay564 (Scalar.cmpi .eq (BitVec.ofNat 32 (i 0).val) 63#32))
      (broadcast S128x384 (Named.named κ "mask" 0xF149F2CA#32)) v

open Idealize.ShloMosaic.TcCoe Idealize.ShloMosaic.Tactic

set_option maxHeartbeats 1000000 in
theorem pieces_A (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole) (hc0 : ¬cond0_0 i) (hc1 : cond0_1 i)
    (x0 : Vec F S32 .f32) (x1 : Vec F S32x128x384 .f32) (x2 : Vec F S256x4096 .bf16) (x3 : Vec F S128x2048 .bf16) (x4 : Vec F S256x2048 .bf16) (x5 : Vec F S128x2048 .bf16) (x6 : Vec F S256x4096 .f32) :
    (kernelRun0_A c i arg1 harg1 arg2 harg2 arg3 harg3 arg4 harg4 arg5 harg5 arg6 harg6 arg7 harg7 arg8 harg8 hc0 hc1 x0 x1 x2 x3 x4 x5 x6).1
      = order.map (piece (edge i) (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))) := by
  sl_kernel_rfl

set_option maxHeartbeats 1000000 in
theorem pieces_B (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole) (hc0 : cond0_0 i) (hc1 : ¬cond0_1 i)
    (x0 : Vec F S32 .f32) (x1 : Vec F S32x128x384 .f32) (x2 : Vec F S256x4096 .bf16) (x3 : Vec F S128x2048 .bf16) (x4 : Vec F S256x2048 .bf16) (x5 : Vec F S128x2048 .bf16) (x6 : Vec F S256x4096 .f32) :
    (kernelRun0_B c i arg1 harg1 arg2 harg2 arg3 harg3 arg4 harg4 arg5 harg5 arg6 harg6 arg7 harg7 arg8 harg8 hc0 hc1 x0 x1 x2 x3 x4 x5 x6).1
      = order.map (piece (fun _ v => v) (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))) := by
  sl_kernel_rfl

end Cert.KernelIdeal.Tile

end
-- ==== Proof.Attn.Softmax.lean ====
module

public import Idealize.ShloMosaic.Lib.Pointwise
public import Idealize.ShloMosaic.PureOps.Ideal

@[expose] public section

/-! The softmax of one query row over the extended reals: sums and maxima over all keys against the same over a window
of keys, base-2 scores against natural ones, and the gate. -/

namespace Cert.Attn

open Idealize.ShloMosaic

/-- The reciprocal of the natural logarithm of two. -/
noncomputable abbrev lg : ℝ := (Real.log 2)⁻¹

theorem lg_pos : 0 < lg := inv_pos.2 (Real.log_pos (by norm_num))

theorem exp2_lg (x : EReal) : Ideal.exp2 ((lg : EReal) * x) = Ideal.exp x := by
  induction x with
  | bot => rw [EReal.coe_mul_bot_of_pos lg_pos]; rfl
  | top => rw [EReal.coe_mul_top_of_pos lg_pos]; rfl
  | coe r =>
    rw [← EReal.coe_mul, Ideal.exp2_coe, Ideal.exp_coe]
    have h2 : Real.log 2 ≠ 0 := (Real.log_pos (by norm_num)).ne'
    have : Real.rpow 2 (lg * r) = Real.exp r := by
      rw [Real.rpow_eq_pow, Real.rpow_def_of_pos (by norm_num), ← mul_assoc, mul_inv_cancel₀ h2, one_mul]
    rw [this]

theorem lg_sub (a : EReal) (b : ℝ) : (lg : EReal) * a - (lg : EReal) * b = (lg : EReal) * (a - b) := by
  induction a with
  | bot => rw [EReal.coe_mul_bot_of_pos lg_pos, ← EReal.coe_mul, EReal.bot_sub, EReal.bot_sub, EReal.coe_mul_bot_of_pos lg_pos]
  | top => rw [EReal.coe_mul_top_of_pos lg_pos, ← EReal.coe_mul, EReal.top_sub_coe, EReal.top_sub_coe, EReal.coe_mul_top_of_pos lg_pos]
  | coe r => rw [← EReal.coe_mul, ← EReal.coe_mul, ← EReal.coe_sub, ← EReal.coe_sub, ← EReal.coe_mul, mul_sub]

theorem lg_mono : Monotone fun x : EReal => (lg : EReal) * x := fun _ _ h =>
  mul_le_mul_of_nonneg_left h (by exact_mod_cast lg_pos.le)

theorem lg_max (a b : EReal) : max ((lg : EReal) * a) ((lg : EReal) * b) = (lg : EReal) * max a b :=
  (lg_mono.map_max (a := a) (b := b)).symm

/-- The columns of a 384-wide window that begins 128 before row `128 H`, and the keys they stand for. -/
theorem sum_window (H : ℕ) (f : Fin 384 → EReal) (F : Fin 16384 → EReal)
    (hin : ∀ (j : Fin 384) (t : Fin 16384), (t : ℕ) + 128 = 128 * H + j → f j = F t)
    (hout : ∀ j : Fin 384, (∀ t : Fin 16384, (t : ℕ) + 128 ≠ 128 * H + j) → f j = 0)
    (hfar : ∀ t : Fin 16384, (∀ j : Fin 384, (t : ℕ) + 128 ≠ 128 * H + j) → F t = 0) :
    ∑ j, f j = ∑ t, F t := by
  have key : ∀ j : Fin 384, f j ≠ 0 → ∃ t : Fin 16384, (t : ℕ) + 128 = 128 * H + j := by
    intro j h; by_contra hc; push Not at hc; exact h (hout j hc)
  refine Finset.sum_bij_ne_zero (fun j _ h => (key j h).choose) (fun _ _ _ => Finset.mem_univ _) ?_ ?_ ?_
  · intro a _ ha b _ hb e
    have h1 := (key a ha).choose_spec; have h2 := (key b hb).choose_spec
    rw [show (key a ha).choose = (key b hb).choose from e] at h1; exact Fin.ext (by omega)
  · intro t _ ht
    by_contra hc
    refine ht (hfar t fun j hj => hc ⟨j, Finset.mem_univ _, ?_, ?_⟩)
    · rw [hin j t hj]; exact ht
    · have hne : f j ≠ 0 := by rw [hin j t hj]; exact ht
      have h1 := (key j hne).choose_spec
      exact Fin.ext (by omega)
  · intro j _ hj; exact hin j _ (key j hj).choose_spec

theorem sup_window (H : ℕ) (f : Fin 384 → EReal) (F : Fin 16384 → EReal)
    (hin : ∀ (j : Fin 384) (t : Fin 16384), (t : ℕ) + 128 = 128 * H + j → f j = F t)
    (hout : ∀ j : Fin 384, (∀ t : Fin 16384, (t : ℕ) + 128 ≠ 128 * H + j) → f j = ⊥)
    (hfar : ∀ t : Fin 16384, (∀ j : Fin 384, (t : ℕ) + 128 ≠ 128 * H + j) → F t = ⊥) :
    Finset.univ.sup f = Finset.univ.sup F := by
  refine le_antisymm (Finset.sup_le fun j _ => ?_) (Finset.sup_le fun t _ => ?_)
  · by_cases h : ∃ t : Fin 16384, (t : ℕ) + 128 = 128 * H + j
    · obtain ⟨t, ht⟩ := h; rw [hin j t ht]; exact Finset.le_sup (Finset.mem_univ t)
    · push Not at h; rw [hout j h]; exact bot_le
  · by_cases h : ∃ j : Fin 384, (t : ℕ) + 128 = 128 * H + j
    · obtain ⟨j, hj⟩ := h; rw [← hin j t hj]; exact Finset.le_sup (Finset.mem_univ j)
    · push Not at h; rw [hfar t h]; exact bot_le

theorem sup_lg {n : ℕ} (F : Fin n → EReal) :
    Finset.univ.sup (fun t => (lg : EReal) * F t) = (lg : EReal) * Finset.univ.sup F :=
  (Finset.comp_sup_eq_sup_comp (fun x : EReal => (lg : EReal) * x) (fun a b => lg_mono.map_sup a b)
    (EReal.coe_mul_bot_of_pos lg_pos)).symm

theorem sum_mul_pos {n : ℕ} (f : Fin n → EReal) (r : ℝ) (hr : 0 ≤ r) :
    (∑ t, f t) * (r : EReal) = ∑ t, f t * (r : EReal) := by
  classical
  have : ∀ s : Finset (Fin n), (∑ t ∈ s, f t) * (r : EReal) = ∑ t ∈ s, f t * (r : EReal) := by
    intro s
    induction s using Finset.induction_on with
    | empty => simp
    | insert a s ha ih =>
      rw [Finset.sum_insert ha, Finset.sum_insert ha, ← ih,
        EReal.right_distrib_of_nonneg_of_ne_top (by exact_mod_cast hr) (EReal.coe_ne_top r)]
  exact this _

theorem coe_sum {n : ℕ} (f : Fin n → ℝ) : ((∑ t, f t : ℝ) : EReal) = ∑ t, (f t : EReal) :=
  map_sum (⟨⟨Real.toEReal, EReal.coe_zero⟩, EReal.coe_add⟩ : ℝ →+ EReal) _ _

theorem scale_sum {n : ℕ} (f W : Fin n → EReal) (r : ℝ) (hr : 0 ≤ r) (G : EReal) :
    (∑ t, f t * W t) * ((r : EReal) * G) = (∑ t, W t * (f t * (r : EReal))) * G := by
  rw [← mul_assoc, sum_mul_pos _ _ hr]
  refine congrArg (· * G) (Finset.sum_congr rfl fun t _ => ?_)
  rw [← mul_assoc, mul_comm (W t)]

/-- The gate: half of `z` times one plus the hyperbolic tangent of half of `z` is `z` times its logistic. -/
theorem gate (z : EReal) (hz : z ≠ ⊥) :
    ((1 / 2 : ℝ) : EReal) * z + ((1 / 2 : ℝ) : EReal) * z * Ideal.tanh (((1 / 2 : ℝ) : EReal) * z)
      = z * Ideal.div 1 (1 + Ideal.exp (-z)) := by
  induction z with
  | bot => exact absurd rfl hz
  | top =>
    rw [EReal.coe_mul_top_of_pos (by norm_num)]
    simp [Ideal.div]
  | coe r =>
    have hd : (1 : ℝ) + Real.exp (-r) ≠ 0 := by positivity
    rw [← EReal.coe_mul, Ideal.tanh_coe, ← EReal.coe_mul, ← EReal.coe_add, ← EReal.coe_neg, Ideal.exp_coe,
      ← EReal.coe_one, ← EReal.coe_add, Ideal.div_coe hd, ← EReal.coe_mul, ← EReal.coe_mul]
    congr 1
    rw [Real.tanh_eq_sinh_div_cosh, Real.sinh_eq, Real.cosh_eq]
    have e : Real.exp (-r) = Real.exp (-(1 / 2 * r)) * Real.exp (-(1 / 2 * r)) := by rw [← Real.exp_add]; ring_nf
    have e1 : Real.exp (1 / 2 * r) * Real.exp (-(1 / 2 * r)) = 1 := by rw [← Real.exp_add]; simp
    rw [e]
    set a := Real.exp (1 / 2 * r); set b := Real.exp (-(1 / 2 * r))
    have ha : 0 < a := Real.exp_pos _
    have hb : 0 < b := Real.exp_pos _
    have h1 : a + b ≠ 0 := by positivity
    have h2 : 1 + b * b ≠ 0 := by positivity
    field_simp
    linear_combination (2 * b * r) * e1

/-- One row of banded attention: the window's base-2 softmax with the sink in its denominator, applied to the window's
values and scaled at the end, is the softmax over all keys and the sink, applied to all values. -/
theorem row (H : ℕ) (SC V : Fin 384 → EReal) (S W : Fin 16384 → EReal) (snk z : EReal)
    (hin : ∀ (j : Fin 384) (t : Fin 16384), (t : ℕ) + 128 = 128 * H + j → SC j = (lg : EReal) * S t ∧ V j = W t)
    (hout : ∀ j : Fin 384, (∀ t : Fin 16384, (t : ℕ) + 128 ≠ 128 * H + j) → SC j = ⊥)
    (hfar : ∀ t : Fin 16384, (∀ j : Fin 384, (t : ℕ) + 128 ≠ 128 * H + j) → S t = ⊥)
    (hS : ∀ t, S t ≠ ⊤) (hex : ∃ t, S t ≠ ⊥) (hs : snk ≠ ⊤) (hz : z ≠ ⊥) :
    (∑ j, Ideal.exp2 (SC j - max (Finset.univ.fold max ⊥ SC) (snk * (lg : EReal))) * V j)
        * (Ideal.div 1 ((∑ j, Ideal.exp2 (SC j - max (Finset.univ.fold max ⊥ SC) (snk * (lg : EReal))))
              + Ideal.exp2 (snk * (lg : EReal) - max (Finset.univ.fold max ⊥ SC) (snk * (lg : EReal))))
          * (((1 / 2 : ℝ) : EReal) * z + ((1 / 2 : ℝ) : EReal) * z * Ideal.tanh (((1 / 2 : ℝ) : EReal) * z)))
      = (∑ t, W t * Ideal.div (Ideal.exp (S t - max (Finset.univ.sup S) snk))
            ((∑ t, Ideal.exp (S t - max (Finset.univ.sup S) snk)) + Ideal.exp (snk - max (Finset.univ.sup S) snk)))
          * (z * Ideal.div 1 (1 + Ideal.exp (-z))) := by
  have hsup : Finset.univ.fold max ⊥ SC = (lg : EReal) * Finset.univ.sup S := by
    rw [← sup_lg]
    exact sup_window H SC _ (fun j t h => (hin j t h).1) hout
      (fun t h => by rw [hfar t h, EReal.coe_mul_bot_of_pos lg_pos])
  have hmt : max (Finset.univ.sup S) snk ≠ ⊤ := by
    have h1 : Finset.univ.sup S < ⊤ := (Finset.sup_lt_iff bot_lt_top).2 fun t _ => lt_top_iff_ne_top.2 (hS t)
    exact (max_lt h1 (lt_top_iff_ne_top.2 hs)).ne
  have hmb : max (Finset.univ.sup S) snk ≠ ⊥ := by
    obtain ⟨t, ht⟩ := hex
    have : S t ≤ max (Finset.univ.sup S) snk := (Finset.le_sup (Finset.mem_univ t)).trans (le_max_left _ _)
    exact fun h => ht (le_bot_iff.1 (h ▸ this))
  obtain ⟨μ, hμ⟩ : ∃ μ : ℝ, (μ : EReal) = max (Finset.univ.sup S) snk := ⟨_, EReal.coe_toReal hmt hmb⟩
  rw [hsup, mul_comm snk, lg_max, ← hμ, lg_sub, exp2_lg, gate z hz]
  have hE : ∀ x : EReal, x ≠ ⊤ → ∃ r : ℝ, 0 ≤ r ∧ Ideal.exp (x - (μ : EReal)) = (r : EReal) := by
    intro x hx
    induction x with
    | bot => exact ⟨0, le_rfl, by rw [EReal.bot_sub]; rfl⟩
    | top => exact absurd rfl hx
    | coe a => exact ⟨Real.exp (a - μ), (Real.exp_pos _).le, by rw [← EReal.coe_sub]; rfl⟩
  choose! e he0 he using hE
  have hEt : ∀ t, Ideal.exp (S t - (μ : EReal)) = (e (S t) : EReal) := fun t => he _ (hS t)
  have hSC : ∀ (j : Fin 384) (t : Fin 16384), (t : ℕ) + 128 = 128 * H + j →
      Ideal.exp2 (SC j - (lg : EReal) * (μ : EReal)) = (e (S t) : EReal) := by
    intro j t h; rw [(hin j t h).1, lg_sub, exp2_lg, hEt]
  have hSC0 : ∀ j : Fin 384, (∀ t : Fin 16384, (t : ℕ) + 128 ≠ 128 * H + j) →
      Ideal.exp2 (SC j - (lg : EReal) * (μ : EReal)) = 0 := by
    intro j h; rw [hout j h, EReal.bot_sub]; rfl
  have hfar0 : ∀ t : Fin 16384, (∀ j : Fin 384, (t : ℕ) + 128 ≠ 128 * H + j) → (e (S t) : EReal) = 0 := by
    intro t h; rw [← hEt, hfar t h, EReal.bot_sub]; rfl
  rw [sum_window H _ (fun t => (e (S t) : EReal)) hSC hSC0 hfar0,
    sum_window H _ (fun t => (e (S t) : EReal) * W t) (fun j t h => by rw [hSC j t h, (hin j t h).2])
      (fun j h => by rw [hSC0 j h, zero_mul]) (fun t h => by rw [hfar0 t h, zero_mul]), he _ hs]
  simp only [hEt]
  -- the denominator is a positive real
  have hden : (∑ t, (e (S t) : EReal)) + (e snk : EReal) = ((∑ t, e (S t) + e snk : ℝ) : EReal) := by
    rw [EReal.coe_add, coe_sum]
  have hpos : 0 < ∑ t, e (S t) + e snk := by
    have hone : ∀ x : EReal, x = (μ : EReal) → e x = 1 := by
      intro x hx
      have := he x (hx ▸ EReal.coe_ne_top μ)
      rw [hx, ← EReal.coe_sub, Ideal.exp_coe, sub_self, Real.exp_zero] at this
      rw [hx]; exact_mod_cast this.symm
    have hnn : 0 ≤ ∑ t, e (S t) := Finset.sum_nonneg fun t _ => he0 _ (hS t)
    rcases le_total (Finset.univ.sup S) snk with h | h
    · rw [max_eq_right h] at hμ; rw [hone snk hμ.symm]; linarith
    · rw [max_eq_left h] at hμ
      obtain ⟨t, -, ht⟩ := Finset.exists_mem_eq_sup Finset.univ ⟨⟨0, by norm_num⟩, Finset.mem_univ _⟩ S
      have h1 : e (S t) = 1 := hone _ (ht.symm.trans hμ.symm)
      have h2 : e (S t) ≤ ∑ t, e (S t) := Finset.single_le_sum (fun t _ => he0 _ (hS t)) (Finset.mem_univ t)
      have := he0 _ hs
      linarith
  rw [hden]
  generalize hδ : ∑ t, e (S t) + e snk = δ at hpos ⊢
  simp only [Ideal.div_coe hpos.ne']
  rw [one_mul]
  exact scale_sum _ _ _ (one_div_pos.2 hpos).le _

end Cert.Attn

end
-- ==== Proof.KernelIdeal.TileAt.lean ====
module

public import proofs.«01_k».proof.Proof.KernelIdeal.Tile
public import proofs.«01_k».proof.Proof.Attn.Softmax
public import Idealize.ShloMosaic.Lib.Pointwise

@[expose] public section

set_option maxRecDepth 16384

/-! The stored tile over the extended reals, at one row and one column. -/

noncomputable section

namespace Cert.KernelIdeal.Tile

open Idealize.ShloMosaic Cert.KernelIdeal Cert.KernelIdeal.Gen
open Cert.KernelIdeal.Facts

theorem log2e_eq : (Named.named (F := Ideal) κ "log2e" 0x3FB8AA3B#32 : Ideal .f32) = (Cert.Attn.lg : EReal) :=
  IdealRules.named_const.ideal_named_scalar _ _ _ _ rfl

theorem mask_eq : (Named.named (F := Ideal) κ "mask" 0xF149F2CA#32 : Ideal .f32) = (⊥ : EReal) :=
  IdealRules.named_const.ideal_named_scalar _ _ _ _ rfl

theorem ofBits_neg_inf : Ideal.ofBits .f32 0xFF800000#32 = (⊥ : EReal) := by
  simp [Ideal.ofBits, Ideal.ieee]

theorem ofBits_half : Ideal.ofBits .f32 0x3F000000#32 = ((1 / 2 : ℝ) : EReal) := by
  simp [Ideal.ofBits, Ideal.ieee]
  rw [← EReal.coe_mul]
  norm_num

theorem at2 (r : Fin 128) : ¬ 256 + r.val < 128 ∧ ¬ 256 + r.val - 128 < 128 ∧ 256 + r.val - 128 - 128 < 128
    ∧ ∀ h : 256 + r.val - 128 - 128 < 128, (⟨256 + r.val - 128 - 128, h⟩ : Fin 128) = r :=
  ⟨by omega, by omega, by omega, fun _ => Fin.ext (by show 256 + r.val - 128 - 128 = r.val; omega)⟩

theorem at3 (r : Fin 128) : ¬ 384 + r.val < 128 ∧ ¬ 384 + r.val - 128 < 128 ∧ ¬ 384 + r.val - 128 - 128 < 128
    ∧ ∀ h : 384 + r.val - 128 - 128 - 128 < 128, (⟨384 + r.val - 128 - 128 - 128, h⟩ : Fin 128) = r :=
  ⟨by omega, by omega, by omega, fun _ => Fin.ext (by show 384 + r.val - 128 - 128 - 128 = r.val; omega)⟩

theorem mix_at (sc : Fin 4 → FVec Ideal S128x384 .f32) (s : Fin 4 → Elt Ideal .f32) (vw : FVec Ideal S384x128 .bf16)
    (g : Fin 4) (r d : Fin 128) :
    mix sc s vw (ix2 ⟨128 * g.val + r.val, by omega⟩ d) = ∑ j : Fin 384, expo (sc g) (s g) (ix2 r j) * vw (ix2 j d) := by
  match g with
  | 0 => pointwise [mix]
  | 1 => pointwise [mix]
  | 2 =>
    pointwise [mix]
    simp only [dif_neg (at2 r).1, dif_neg (at2 r).2.1, dif_pos (at2 r).2.2.1, (at2 r).2.2.2]
  | 3 =>
    pointwise [mix]
    simp only [dif_neg (at3 r).1, dif_neg (at3 r).2.1, dif_neg (at3 r).2.2.1, (at3 r).2.2.2]

theorem rowMax_at (sc : FVec Ideal S128x384 .f32) (s : Elt Ideal .f32) (r : Fin 128) :
    rowMax sc s (ix2 r 0) = max (Finset.univ.fold max ⊥ fun j : Fin 384 => sc (ix2 r j)) (s * (Cert.Attn.lg : EReal)) := by
  pointwise [rowMax, snk, log2e_eq]
  rw [ofBits_neg_inf]

theorem expo_at (sc : FVec Ideal S128x384 .f32) (s : Elt Ideal .f32) (r : Fin 128) (j : Fin 384) :
    expo sc s (ix2 r j) = Ideal.exp2 (sc (ix2 r j) - rowMax sc s (ix2 r 0)) := by
  pointwise [expo]
  rfl

theorem rcp_at (sc : FVec Ideal S128x384 .f32) (s : Elt Ideal .f32) (r : Fin 128) :
    rcp sc s (ix2 r 0) = Ideal.div 1 ((∑ j : Fin 384, expo sc s (ix2 r j))
      + Ideal.exp2 (s * (Cert.Attn.lg : EReal) - rowMax sc s (ix2 r 0))) := by
  pointwise [rcp, snk, log2e_eq]
  rfl

theorem tile_eq (sc : Fin 4 → FVec Ideal S128x384 .f32) (s : Fin 4 → Elt Ideal .f32) (vw : FVec Ideal S384x128 .bf16)
    (g : Fin 4) (z : Vec Ideal S128x128 .f32) (r d : Fin 128) :
    tile sc s vw g z (ix2 r d) = mix sc s vw (ix2 ⟨128 * g.val + r.val, by omega⟩ d) * (rcp (sc g) (s g) (ix2 r 0) *
      (((1 / 2 : ℝ) : EReal) * z (ix2 r d)
        + ((1 / 2 : ℝ) : EReal) * z (ix2 r d) * Ideal.tanh (((1 / 2 : ℝ) : EReal) * z (ix2 r d)))) := by
  pointwise [tile, half]
  rw [ofBits_half]

theorem score_at (q : Fin 4 → FVec Ideal S128x128 .bf16) (kw : FVec Ideal S384x128 .bf16) (g : Fin 4)
    (b : Vec Ideal S1x128x384 .f32) (r : Fin 128) (j : Fin 384) :
    score q kw g b (ix2 r j) = (∑ e : Fin 128, q g (ix2 r e) * kw (ix2 j e)) + b (ix3 0 r j) := by
  match g with
  | 0 => pointwise [score, stack4]
  | 1 => pointwise [score, stack4]
  | 2 =>
    pointwise [score, stack4]
    simp only [dif_neg (at2 r).1, dif_neg (at2 r).2.1, dif_pos (at2 r).2.2.1, (at2 r).2.2.2]
  | 3 =>
    pointwise [score, stack4]
    simp only [dif_neg (at3 r).1, dif_neg (at3 r).2.1, dif_neg (at3 r).2.2.1, (at3 r).2.2.2]

theorem stack3_at (a b c : FVec Ideal S128x128 .bf16) (j : Fin 384) (e : Fin 128) :
    stack3 a b c (ix2 j e) = if h : j.val < 128 then a (ix2 ⟨j.val, h⟩ e)
      else if h' : j.val - 128 < 128 then b (ix2 ⟨j.val - 128, h'⟩ e) else c (ix2 ⟨j.val - 128 - 128, by omega⟩ e) := by
  pointwise [stack3]

end Cert.KernelIdeal.Tile

end
-- ==== Proof.Attn.Words.lean ====
module

public import proofs.«01_k».proof.Proof.Attn.Softmax
public import Idealize.ShloMosaic.Lib.Pointwise

@[expose] public section

/-! The integer words and the literals that both programs read: distances, the band test, the slopes and the scale. -/

noncomputable section

namespace Cert.Attn

open Idealize.ShloMosaic

/-- The distance of two positions. -/
def gap (a b : ℕ) : ℕ := a - b + (b - a)

theorem word_gap {a b : ℕ} (ha : a < 2 ^ 20) (hb : b < 2 ^ 20) :
    IntOp.absi (IntOp.subi (BitVec.ofNat 32 a) (BitVec.ofNat 32 b)) = BitVec.ofNat 32 (gap a b) := by
  unfold gap
  show (BitVec.ofNat 32 a - BitVec.ofNat 32 b).abs = _
  rw [BitVec.abs]
  rcases Nat.lt_or_ge a b with h | h
  · have hm : (BitVec.ofNat 32 a - BitVec.ofNat 32 b).msb = true := by
      rw [BitVec.msb_eq_decide, decide_eq_true_iff, BitVec.toNat_sub, BitVec.toNat_ofNat, BitVec.toNat_ofNat]; omega
    rw [if_pos hm]
    apply BitVec.eq_of_toNat_eq
    show (-(BitVec.ofNat 32 a - BitVec.ofNat 32 b)).toNat = _
    rw [BitVec.toNat_neg, BitVec.toNat_sub, BitVec.toNat_ofNat, BitVec.toNat_ofNat, BitVec.toNat_ofNat]; omega
  · have hm : (BitVec.ofNat 32 a - BitVec.ofNat 32 b).msb = false := by
      rw [BitVec.msb_eq_decide, decide_eq_false_iff_not, BitVec.toNat_sub, BitVec.toNat_ofNat, BitVec.toNat_ofNat]; omega
    rw [if_neg (by rw [hm]; decide)]
    apply BitVec.eq_of_toNat_eq
    rw [BitVec.toNat_sub, BitVec.toNat_ofNat, BitVec.toNat_ofNat, BitVec.toNat_ofNat]; omega

theorem word_sitofp {n : ℕ} (hn : n < 2 ^ 21) :
    (FloatOps.sitofp .f32 (BitVec.ofNat 32 n) : Ideal .f32) = ((n : ℝ) : EReal) := by
  have h : (BitVec.ofNat 32 n).toInt = (n : ℤ) := by
    rw [BitVec.toInt_eq_toNat_of_lt (by rw [BitVec.toNat_ofNat]; omega), BitVec.toNat_ofNat]; omega
  show (((BitVec.ofNat 32 n).toInt : ℝ) : EReal) = _
  rw [h, Int.cast_natCast]

theorem word_band {α : Type} {n : ℕ} (hn : n < 2 ^ 21) (x y : α) :
    Scalar.select (IntOp.cmpi .sle (BitVec.ofNat 32 n) 128#32) x y = if n ≤ 128 then x else y := by
  show Scalar.select (BitVec.ofBool (decide ((BitVec.ofNat 32 n).toInt ≤ (128#32).toInt))) x y = _
  have h : (BitVec.ofNat 32 n).toInt = (n : ℤ) := by
    rw [BitVec.toInt_eq_toNat_of_lt (by rw [BitVec.toNat_ofNat]; omega), BitVec.toNat_ofNat]; omega
  have h' : (128#32).toInt = 128 := by decide
  rw [h, h']
  by_cases c : n ≤ 128
  · rw [decide_eq_true (by omega : (n : ℤ) ≤ 128), if_pos c]; rfl
  · rw [decide_eq_false (by omega : ¬ (n : ℤ) ≤ 128), if_neg c]; rfl

theorem ofBits_bot : Ideal.ofBits .f32 0xFF800000#32 = (⊥ : EReal) := by
  simp [Ideal.ofBits, Ideal.ieee]

theorem ofBits_two : Ideal.ofBits .f32 0x40000000#32 = ((2 : ℝ) : EReal) := by
  simp [Ideal.ofBits, Ideal.ieee]
  rw [← EReal.coe_mul]
  norm_num

theorem ofBits_neg8 : Ideal.ofBits .f32 0xC1000000#32 = ((-8 : ℝ) : EReal) := by
  simp [Ideal.ofBits, Ideal.ieee]
  rw [← EReal.coe_mul]
  norm_num

theorem ofBits_32 : Ideal.ofBits .f32 0x42000000#32 = ((32 : ℝ) : EReal) := by
  simp [Ideal.ofBits, Ideal.ieee]
  rw [← EReal.coe_mul]
  norm_num

/-- The scale of the scores, the float nearest to the reciprocal root of the head width. -/
def scl : ℝ := 11863283 / 2 ^ 27

theorem ofBits_scl : Ideal.ofBits .f32 0x3DB504F3#32 = (scl : EReal) := by
  simp [Ideal.ofBits, Ideal.ieee, scl]
  rw [← EReal.coe_mul]
  norm_num

/-- The slope of head `h`. -/
def slope (h : ℕ) : ℝ := Real.rpow 2 (-8 * (1 + h) * (1 / 32))

theorem slope_eq (h : ℕ) (hh : h < 2 ^ 21) :
    Ideal.pow (Ideal.ofBits .f32 0x40000000#32) (Ideal.div (Ideal.ofBits .f32 0xC1000000#32
      * (1 + (FloatOps.sitofp .f32 (BitVec.ofNat 32 h) : Ideal .f32))) (Ideal.ofBits .f32 0x42000000#32))
      = (slope h : EReal) := by
  rw [word_sitofp hh, ofBits_two, ofBits_neg8, ofBits_32, Ideal.div_coe (by norm_num), ← EReal.coe_one, ← EReal.coe_add,
    ← EReal.coe_mul, ← EReal.coe_mul, Ideal.pow_coe_coe]
  rfl

theorem rlog_eq : Ideal.div 1 (Ideal.log (Ideal.ofBits .f32 0x40000000#32)) = (lg : EReal) := by
  have h : Real.log 2 ≠ 0 := (Real.log_pos (by norm_num)).ne'
  rw [ofBits_two, Ideal.log_coe, if_neg (by norm_num), Ideal.div_coe h, one_mul, lg, one_div]

end Cert.Attn

end
-- ==== Proof.KernelIdeal.Host.lean ====
module

public import proofs.«01_k».proof.Proof.KernelIdeal.Frame
public import proofs.«01_k».proof.Proof.KernelIdeal.TileAt
public import proofs.«01_k».proof.Proof.Attn.Words
public import Idealize.ShloMosaic.Lib.Pipeline.ValueKit
public import Idealize.ShloMosaic.Lib.Claim
public import Idealize.ShloMosaic.Lib.Pointwise

@[expose] public section

set_option maxRecDepth 16384

/-! The two operands the host prepares: the scaled queries beside the keys and the values, and the bias table. -/

noncomputable section

namespace Cert.KernelIdeal.Operand

open Idealize.ShloMosaic Idealize.ShloMosaic.TcCoe Idealize.ShloMosaic.Tactic
open Cert.KernelIdeal Cert.KernelIdeal.Gen Cert.KernelIdeal.Facts

/-- The reciprocal of the logarithm of two, as the host computes it. -/
def rlog : FVec Ideal S_ .f32 := Host.divf (constant S_ .f32 0x3F800000#32) (Host.log (constant S_ .f32 0x40000000#32))

/-- The queries scaled, beside the keys and the values. -/
def qkv (q : FVec Ideal S16384x4096 .bf16) (k v : FVec Ideal S16384x1024 .bf16) : FVec Ideal S16384x6144 .bf16 :=
  truncf .bf16 (concatenate S16384x6144 1
    [⟨S16384x4096, mulf (extf .f32 q bitsLt_bf16_f32)
        (broadcastInDim S16384x4096 ![] bcast_S_S16384x4096 (mulf (constant S_ .f32 0x3DB504F3#32) rlog))⟩,
      ⟨S16384x1024, extf .f32 k bitsLt_bf16_f32⟩, ⟨S16384x1024, extf .f32 v bitsLt_bf16_f32⟩]
    concatenates_S16384x4096_S16384x1024_S16384x1024_S16384x6144_d1) bitsLt_bf16_f32

/-- The slopes of the heads. -/
def slopes : FVec Ideal S32 .f32 :=
  Host.powf (broadcastInDim S32 ![] bcast_S_S32 (constant S_ .f32 0x40000000#32))
    (Host.divf (mulf (broadcastInDim S32 ![] bcast_S_S32 (constant S_ .f32 0xC1000000#32))
        (addf (broadcastInDim S32 ![] bcast_S_S32 (constant S_ .f32 0x3F800000#32)) (sitofp .f32 (iotaInDim S32 32 0))))
      (broadcastInDim S32 ![] bcast_S_S32 (constant S_ .f32 0x42000000#32)))

/-- The distance from a query row of a half to a key of its window. -/
def dist : IVec S128x384 32 :=
  absi (subi (broadcastInDim S128x384 ![0, 1] bcast_S128x1_S128x384_0_1
      (addi (broadcastInDim S128x1 ![0] bcast_S128_S128x1_0 (iotaInDim S128 32 0))
        (broadcastInDim S128x1 ![] bcast_S_S128x1 (constantI S_ 32 128#32))))
    (broadcastInDim S128x384 ![0, 1] bcast_S1x384_S128x384_0_1
      (broadcastInDim S1x384 ![1] bcast_S384_S1x384_1 (iotaInDim S384 32 0))))

/-- The bias table. -/
def bias : FVec Ideal S32x128x384 .f32 :=
  select (broadcastInDim S32x128x384 ![0, 1, 2] bcast_S1x128x384_S32x128x384_0_1_2
      (broadcastInDim S1x128x384 ![1, 2] bcast_S128x384_S1x128x384_1_2
        (cmpi .sle dist (broadcastInDim S128x384 ![] bcast_S_S128x384 (constantI S_ 32 128#32)))))
    (mulf (broadcastInDim S32x128x384 ![0, 1, 2] bcast_S32x1x1_S32x128x384_0_1_2
        (Host.negf (broadcastInDim S32x1x1 ![0] bcast_S32_S32x1x1_0
          (mulf slopes (broadcastInDim S32 ![] bcast_S_S32 rlog)))))
      (broadcastInDim S32x128x384 ![0, 1, 2] bcast_S1x128x384_S32x128x384_0_1_2
        (broadcastInDim S1x128x384 ![1, 2] bcast_S128x384_S1x128x384_1_2 (sitofp .f32 dist))))
    (broadcastInDim S32x128x384 ![] bcast_S_S32x128x384 (constant S_ .f32 0xFF800000#32))

variable (m : (ℓ : Loc nD τ sig) → Buf (Elt Ideal) ℓ)

theorem after_app {τ : Topo} {sig : RefSig} {Val : EltTy → Type} (l l' : List (HloOp τ sig Val)) (X : Valuation τ sig Val) :
    StableHlo.after (l ++ l') X = StableHlo.after l' (StableHlo.after l X) := by
  induction l generalizing X with
  | nil => rfl
  | cons o l ih => exact ih _

variable (X : Valuation τ sig (Elt Ideal))

theorem pre_v5 : StableHlo.after (hostOps0.take 11) X (Proc.devRef .tc main_v5)
    = mulf (extf .f32 (X (Proc.devRef .tc main_arg0) : FVec Ideal S16384x4096 .bf16) bitsLt_bf16_f32)
        (broadcastInDim S16384x4096 ![] bcast_S_S16384x4096 (mulf (constant S_ .f32 0x3DB504F3#32) rlog)) := by
  simp only [hostOps0, List.take_succ_cons, List.take_zero, StableHlo.after_cons, StableHlo.after_nil]
  after_results_loop
  all_goals rfl

theorem pre_v6 : StableHlo.after (hostOps0.take 11) X (Proc.devRef .tc main_v6)
    = (extf .f32 (X (Proc.devRef .tc main_arg1) : FVec Ideal S16384x1024 .bf16) bitsLt_bf16_f32 : FVec Ideal S16384x1024 .f32) := by
  simp only [hostOps0, List.take_succ_cons, List.take_zero, StableHlo.after_cons, StableHlo.after_nil]
  after_results_loop
  all_goals rfl

theorem pre_v7 : StableHlo.after (hostOps0.take 11) X (Proc.devRef .tc main_v7)
    = (extf .f32 (X (Proc.devRef .tc main_arg2) : FVec Ideal S16384x1024 .bf16) bitsLt_bf16_f32 : FVec Ideal S16384x1024 .f32) := by
  simp only [hostOps0, List.take_succ_cons, List.take_zero, StableHlo.after_cons, StableHlo.after_nil]
  after_results_loop
  all_goals rfl

theorem mid_v9 : StableHlo.after ((hostOps0.drop 11).take 2) X (Proc.devRef .tc main_v9)
    = (truncf .bf16 (concatenate S16384x6144 1
      [⟨S16384x4096, (X (Proc.devRef .tc main_v5) : FVec Ideal S16384x4096 .f32)⟩,
        ⟨S16384x1024, (X (Proc.devRef .tc main_v6) : FVec Ideal S16384x1024 .f32)⟩,
        ⟨S16384x1024, (X (Proc.devRef .tc main_v7) : FVec Ideal S16384x1024 .f32)⟩]
      concatenates_S16384x4096_S16384x1024_S16384x1024_S16384x6144_d1) bitsLt_bf16_f32 : FVec Ideal S16384x6144 .bf16) := by
  simp only [hostOps0, List.drop_succ_cons, List.drop_zero, List.take_succ_cons, List.take_zero, StableHlo.after_cons,
    StableHlo.after_nil]
  rw [StableHlo.unary_result, StableHlo.nary_result]
  rfl

theorem V_v9 (c : Dev nD) : V m c main_v9 = qkv (m (c.tc.loc main_arg0)) (m (c.tc.loc main_arg1)) (m (c.tc.loc main_arg2)) := by
  have e : (List.flatten [hostOps0, hostOps0_1] : List (HloOp τ sig (Elt Ideal)))
      = hostOps0.take 11 ++ ((hostOps0.drop 11).take 2 ++ (hostOps0.drop 13 ++ hostOps0_1)) := rfl
  rw [V, e, after_app, after_app, StableHlo.after_of_forall_not_mem (b := Proc.devRef .tc main_v9) _ _ (List.forall_iff_forall_mem.mp (by
    simp only [hostOps0, hostOps0_1, List.drop_succ_cons, List.drop_zero, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))]
  rw [mid_v9, pre_v5, pre_v6, pre_v7]
  rfl

set_option maxHeartbeats 4000000 in
theorem V_v43 (c : Dev nD) : V m c main_v43 = bias := by
  simp only [V, hostOps0, hostOps0_1, List.flatten_cons, List.flatten_nil, List.append_nil, List.cons_append,
    List.nil_append, StableHlo.after_cons, StableHlo.after_nil]
  after_results_simp
  after_results_loop
  all_goals rfl

open Cert.Attn

theorem dist_at (r : Fin 128) (j : Fin 384) : dist (ix2 r j) = BitVec.ofNat 32 (gap (r.val + 128) j.val) := by
  pointwise [dist]
  rw [← word_gap (by omega) (by omega), BitVec.ofNat_add]
  rfl

theorem slopes_at (h : Fin 32) : slopes (ix1 h) = (slope h.val : EReal) := by
  pointwise [slopes]
  exact slope_eq _ (by omega)

theorem bias_at (h : Fin 32) (r : Fin 128) (j : Fin 384) : bias (ix3 h r j)
    = if gap (r.val + 128) j.val ≤ 128 then ((-(slope h.val * lg) * (gap (r.val + 128) j.val : ℝ) : ℝ) : EReal) else ⊥ := by
  pointwise [bias, rlog]
  have hg : gap (r.val + 128) j.val < 2 ^ 21 := by unfold gap; omega
  rw [dist_at, word_band hg, word_sitofp hg, slopes_at, rlog_eq]
  refine if_congr Iff.rfl ?_ Cert.KernelIdeal.Tile.ofBits_neg_inf
  push_cast
  rfl

theorem qkv_at (q : FVec Ideal S16384x4096 .bf16) (k v : FVec Ideal S16384x1024 .bf16) (s : Fin 16384) (j : Fin 6144) :
    qkv q k v (ix2 s j) = if h : j.val < 4096 then q (ix2 s ⟨j.val, h⟩) * ((scl : EReal) * (lg : EReal))
      else if h' : j.val - 4096 < 1024 then k (ix2 s ⟨j.val - 4096, h'⟩)
      else v (ix2 s ⟨j.val - 4096 - 1024, by omega⟩) := by
  pointwise [qkv, rlog]
  rw [rlog_eq, ofBits_scl]

end Cert.KernelIdeal.Operand

end
-- ==== Proof.Attn.Target.lean ====
module

public import proofs.«01_k».proof.Proof.Attn.Words

@[expose] public section

/-! Windowed attention with sinks and a gate, one element at a time. -/

noncomputable section

namespace Cert.Attn

open Idealize.ShloMosaic

/-- The head of a key-value head and a place in its group. -/
abbrev head (b : Fin 8) (g : Fin 4) : Fin 32 := ⟨4 * b.val + g.val, by omega⟩

/-- A column of a key-value head. -/
abbrev kvcol (b : Fin 8) (e : Fin 128) : Fin 1024 := ⟨128 * b.val + e.val, by omega⟩

/-- A column of a query head. -/
abbrev qcol (b : Fin 8) (g : Fin 4) (e : Fin 128) : Fin 4096 := ⟨128 * (4 * b.val + g.val) + e.val, by omega⟩

/-- The score of key `t` for query `s` of a head; the keys outside the window score `⊥`. -/
def point (q : Fin 16384 → Fin 4096 → EReal) (k : Fin 16384 → Fin 1024 → EReal) (b : Fin 8) (g : Fin 4)
    (s t : Fin 16384) : EReal :=
  if gap s.val t.val ≤ 128 then
    (∑ e : Fin 128, k t (kvcol b e) * q s (qcol b g e)) * (scl : EReal)
      - (slope (4 * b.val + g.val) : EReal) * ((gap s.val t.val : ℝ) : EReal)
  else ⊥

/-- The largest score of a row, the sink's included. -/
def top (S : Fin 16384 → EReal) (snk : EReal) : EReal := max (Finset.univ.sup S) snk

/-- A row's weights applied to a column of values. -/
def mixed (S W : Fin 16384 → EReal) (snk : EReal) : EReal :=
  ∑ t, W t * Ideal.div (Ideal.exp (S t - top S snk))
    ((∑ t, Ideal.exp (S t - top S snk)) + Ideal.exp (snk - top S snk))

/-- The gated result. -/
def target (q : Fin 16384 → Fin 4096 → EReal) (k v : Fin 16384 → Fin 1024 → EReal) (z : Fin 16384 → Fin 4096 → EReal)
    (snk : Fin 32 → EReal) (s : Fin 16384) (b : Fin 8) (g : Fin 4) (d : Fin 128) : EReal :=
  mixed (point q k b g s) (fun t => v t (kvcol b d)) (snk (head b g))
    * (z s (qcol b g d) * Ideal.div 1 (1 + Ideal.exp (-z s (qcol b g d))))

end Cert.Attn

end
-- ==== Proof.Attn.Scores.lean ====
module

public import proofs.«01_k».proof.Proof.Attn.Target

@[expose] public section

/-! A score with finite queries and keys: what the kernel computes is the reference's times the reciprocal logarithm. -/

noncomputable section

namespace Cert.Attn

open Idealize.ShloMosaic

theorem real_dot {n : ℕ} (Q K : Fin n → ℝ) :
    (∑ e, (K e : EReal) * (Q e : EReal)) = ((∑ e, K e * Q e : ℝ) : EReal) := by
  rw [coe_sum]
  simp only [EReal.coe_mul]

theorem real_dot_scaled {n : ℕ} (Q K : Fin n → ℝ) :
    (∑ e, (Q e : EReal) * ((scl : EReal) * (lg : EReal)) * (K e : EReal)) = ((lg * ((∑ e, K e * Q e) * scl) : ℝ) : EReal) := by
  have h : lg * ((∑ e, K e * Q e) * scl) = ∑ e, Q e * (scl * lg) * K e := by
    rw [Finset.sum_mul, Finset.mul_sum]
    exact Finset.sum_congr rfl fun e _ => by ring
  rw [h, coe_sum]
  simp only [EReal.coe_mul]

variable (q : Fin 16384 → Fin 4096 → EReal) (k : Fin 16384 → Fin 1024 → EReal)
  (hq : ∀ s j, ∃ r : ℝ, q s j = (r : EReal)) (hk : ∀ s j, ∃ r : ℝ, k s j = (r : EReal))

include hq hk

theorem point_band (b : Fin 8) (g : Fin 4) (s t : Fin 16384) (h : gap s.val t.val ≤ 128) :
    ∃ r : ℝ, point q k b g s t = (r : EReal) := by
  choose Q hQ using hq s
  choose K hK using hk t
  refine ⟨(∑ e : Fin 128, K (kvcol b e) * Q (qcol b g e)) * scl - slope (4 * b.val + g.val) * (gap s.val t.val : ℝ), ?_⟩
  rw [point, if_pos h]
  simp only [hQ, hK]
  rw [real_dot fun e => Q (qcol b g e)]
  push_cast
  rfl

theorem scaled_point (b : Fin 8) (g : Fin 4) (s t : Fin 16384) :
    (∑ e : Fin 128, q s (qcol b g e) * ((scl : EReal) * (lg : EReal)) * k t (kvcol b e))
      + (if gap s.val t.val ≤ 128 then ((-(slope (4 * b.val + g.val) * lg) * (gap s.val t.val : ℝ) : ℝ) : EReal) else ⊥)
      = (lg : EReal) * point q k b g s t := by
  choose Q hQ using hq s
  choose K hK using hk t
  rw [point]
  simp only [hQ, hK]
  rw [real_dot fun e => Q (qcol b g e), real_dot_scaled fun e => Q (qcol b g e)]
  by_cases h : gap s.val t.val ≤ 128
  · rw [if_pos h, if_pos h]
    simp only [← EReal.coe_add, ← EReal.coe_mul, ← EReal.coe_sub]
    exact congrArg _ (by ring)
  · rw [if_neg h, if_neg h, EReal.coe_mul_bot_of_pos lg_pos, EReal.add_bot]

theorem point_ne_top (b : Fin 8) (g : Fin 4) (s t : Fin 16384) : point q k b g s t ≠ ⊤ := by
  by_cases h : gap s.val t.val ≤ 128
  · obtain ⟨r, hr⟩ := point_band q k hq hk b g s t h
    rw [hr]; exact EReal.coe_ne_top r
  · rw [point, if_neg h]; exact bot_ne_top

theorem point_self (b : Fin 8) (g : Fin 4) (s : Fin 16384) : point q k b g s s ≠ ⊥ := by
  obtain ⟨r, hr⟩ := point_band q k hq hk b g s s (by unfold gap; omega)
  rw [hr]; exact EReal.coe_ne_bot r

end Cert.Attn

end
-- ==== Proof.KernelIdeal.Block.lean ====
module

public import proofs.«01_k».proof.Proof.KernelIdeal.TileAt
public import proofs.«01_k».proof.Proof.KernelIdeal.Host
public import proofs.«01_k».proof.Proof.Attn.Scores
public import Idealize.ShloMosaic.Lib.Pointwise

@[expose] public section

set_option maxRecDepth 16384

/-! A grid point's tiles are the attention of its rows. -/

noncomputable section

namespace Cert.KernelIdeal.Tile

open Idealize.ShloMosaic Cert.KernelIdeal Cert.KernelIdeal.Gen Cert.Attn
open Cert.KernelIdeal.Facts

/-- A column of a head's keys. -/
abbrev kcol (k : Fin 8) (e : Fin 128) : Fin 2048 := ⟨128 * k.val + e.val, by omega⟩

/-- A column of a head's values. -/
abbrev vcol (k : Fin 8) (e : Fin 128) : Fin 2048 := ⟨128 * (8 + k.val) + e.val, by omega⟩

/-- The blocks of point `n`, by the rows they hold. -/
structure Blocks (n : ℕ) (q : Fin 16384 → Fin 4096 → EReal) (kv : Fin 16384 → Fin 2048 → EReal)
    (z : Fin 16384 → Fin 4096 → EReal) (snk : Fin 32 → EReal)
    (x0 : FVec Ideal S32 .f32) (x1 : FVec Ideal S32x128x384 .f32) (x2 : FVec Ideal S256x4096 .bf16) (x3 : FVec Ideal S128x2048 .bf16)
    (x4 : FVec Ideal S256x2048 .bf16) (x5 : FVec Ideal S128x2048 .bf16) (x6 : FVec Ideal S256x4096 .f32) : Prop where
  sinks : ∀ h, x0 (ix1 h) = snk h
  bias : x1 = Operand.bias
  queries : ∀ (s : Fin 16384) (i : Fin 256) (j : Fin 4096), s.val = 256 * n + i.val → x2 (ix2 i j) = q s j
  before : ∀ (s : Fin 16384) (i : Fin 128) (j : Fin 2048), s.val + 128 = 256 * n + i.val → x3 (ix2 i j) = kv s j
  here : ∀ (s : Fin 16384) (i : Fin 256) (j : Fin 2048), s.val = 256 * n + i.val → x4 (ix2 i j) = kv s j
  after : ∀ (s : Fin 16384) (i : Fin 128) (j : Fin 2048), s.val = 256 * n + 256 + i.val → x5 (ix2 i j) = kv s j
  gate : ∀ (s : Fin 16384) (i : Fin 256) (j : Fin 4096), s.val = 256 * n + i.val → x6 (ix2 i j) = z s j

variable {n : ℕ} {q : Fin 16384 → Fin 4096 → EReal} {kv : Fin 16384 → Fin 2048 → EReal}
    {z : Fin 16384 → Fin 4096 → EReal} {snk : Fin 32 → EReal}
    {x0 : FVec Ideal S32 .f32} {x1 : FVec Ideal S32x128x384 .f32} {x2 : FVec Ideal S256x4096 .bf16} {x3 : FVec Ideal S128x2048 .bf16}
    {x4 : FVec Ideal S256x2048 .bf16} {x5 : FVec Ideal S128x2048 .bf16} {x6 : FVec Ideal S256x4096 .f32}
    (B : Blocks n q kv z snk x0 x1 x2 x3 x4 x5 x6)

theorem ld_h (x : FVec Ideal S128x2048 .bf16) (w : ℕ) (hw : w < 16) (j e : Fin 128) :
    View.ld (Val := Elt Ideal) (e' := .bf16) x (Rect.unit ![0, 128 * w] S128x128.size (inbH w hw)) (ix2 j e) = x (ix2 j ⟨128 * w + e.val, by omega⟩) :=
  View.ld_unit_apply_of _ _ _ _ _ _ fun a => by
    match a with
    | 0 => show j.val = 0 + j.val; omega
    | 1 => rfl

theorem ld_c (x : FVec Ideal S256x2048 .bf16) (u w : ℕ) (hu : u < 2) (hw : w < 16) (j e : Fin 128) :
    View.ld (Val := Elt Ideal) (e' := .bf16) x (Rect.unit ![128 * u, 128 * w] S128x128.size (inbC u w hu hw)) (ix2 j e)
      = x (ix2 ⟨128 * u + j.val, by omega⟩ ⟨128 * w + e.val, by omega⟩) :=
  View.ld_unit_apply_of _ _ _ _ _ _ fun a => by
    match a with
    | 0 => rfl
    | 1 => rfl

include B in
/-- The window of a half holds the keys (or the values) of its rows. -/
theorem win_at (u : Fin 2) (w : ℕ) (hw : w < 16) (j : Fin 384) (e : Fin 128) (t : Fin 16384)
    (ht : t.val + 128 = 128 * (2 * n + u.val) + j.val) :
    win (F := Ideal) x3 x4 x5 w hw u (ix2 j e) = kv t ⟨128 * w + e.val, by omega⟩ := by
  match u with
  | 0 =>
    have ht' : t.val + 128 = 128 * (2 * n + 0) + j.val := ht
    rw [win, stack3_at]
    split_ifs with h1 h2
    · rw [ld_h _ w hw]; exact B.before _ _ _ (by show t.val + 128 = 256 * n + j.val; omega)
    · rw [ld_c _ 0 w (by omega) hw]; exact B.here _ _ _ (by show t.val = 256 * n + (128 * 0 + (j.val - 128)); omega)
    · rw [ld_c _ 1 w (by omega) hw]; exact B.here _ _ _ (by show t.val = 256 * n + (128 * 1 + (j.val - 128 - 128)); omega)
  | 1 =>
    have ht' : t.val + 128 = 128 * (2 * n + 1) + j.val := ht
    rw [win, stack3_at]
    split_ifs with h1 h2
    · rw [ld_c _ 0 w (by omega) hw]; exact B.here _ _ _ (by show t.val = 256 * n + (128 * 0 + j.val); omega)
    · rw [ld_c _ 1 w (by omega) hw]; exact B.here _ _ _ (by show t.val = 256 * n + (128 * 1 + (j.val - 128)); omega)
    · rw [ld_h _ w hw]; exact B.after _ _ _ (by show t.val = 256 * n + 256 + (j.val - 128 - 128); omega)

include B in
theorem sinks_at (k : Fin 8) (g : Fin 4) : Tile.sinks (F := Ideal) x0 k g = snk (head k g) := by
  rw [← B.sinks]
  exact View.ld_unit_apply_of (Val := Elt Ideal) (e := .f32) (S := S32) x0 ![4 * k.val + g.val] S1.size (inb1 _ (hd k g)) _
    (ix1 (head k g)) fun a => by
    match a with
    | 0 => rfl

theorem ld_b (k : Fin 8) (g : Fin 4) (r : Fin 128) (j : Fin 384) :
    View.ld (Val := Elt Ideal) (e' := .f32) Operand.bias (Rect.unit ![4 * k.val + g.val, 0, 0] S1x128x384.size (inbB _ (hd k g))) (ix3 0 r j)
      = Operand.bias (ix3 (head k g) r j) :=
  View.ld_unit_apply_of _ _ _ _ _ _ fun a => by
    match a with
    | 0 => rfl
    | 1 => show r.val = 0 + r.val; omega
    | 2 => show j.val = 0 + j.val; omega

theorem ld_q {φ : EltTy} (x : Vec Ideal S256x4096 φ) (u : Fin 2) (k : Fin 8) (g : Fin 4) (r e : Fin 128) :
    View.ld (Val := Elt Ideal) (e' := φ) x (Rect.unit ![128 * u.val, 128 * (4 * k.val + g.val)] S128x128.size (inbQ _ _ (hu u) (hd k g))) (ix2 r e)
      = x (ix2 ⟨128 * u.val + r.val, by omega⟩ (qcol k g e)) :=
  View.ld_unit_apply_of _ _ _ _ _ _ fun a => by
    match a with
    | 0 => rfl
    | 1 => rfl

include B in
theorem scores_at (u : Fin 2) (k : Fin 8) (g : Fin 4) (r : Fin 128) (j : Fin 384) (s t : Fin 16384)
    (hs : s.val = 256 * n + (128 * u.val + r.val)) (ht : t.val + 128 = 128 * (2 * n + u.val) + j.val) :
    scores (F := Ideal) x1 x2 x3 x4 x5 u k g (ix2 r j)
      = (∑ e : Fin 128, q s (qcol k g e) * kv t ⟨128 * k.val + e.val, by omega⟩)
        + (if gap s.val t.val ≤ 128 then ((-(Cert.Attn.slope (4 * k.val + g.val) * lg) * (gap s.val t.val : ℝ) : ℝ) : EReal) else ⊥) := by
  have hgap : gap (r.val + 128) j.val = gap s.val t.val := by unfold gap; omega
  rw [scores, score_at, B.bias, ld_b, Operand.bias_at, hgap]
  refine congrArg₂ (· + ·) (Finset.sum_congr rfl fun e _ => ?_) rfl
  rw [ld_q, win_at B u k.val _ j e t ht, B.queries s _ _ hs]

/-- The keys before the first and past the last are masked; the others are not. -/
def Masks (n : ℕ) (msk : Fin 2 → FVec Ideal S128x384 .f32 → FVec Ideal S128x384 .f32) : Prop :=
  ∀ (u : Fin 2) (v : FVec Ideal S128x384 .f32) (r : Fin 128) (j : Fin 384),
    ((∃ t : Fin 16384, t.val + 128 = 128 * (2 * n + u.val) + j.val) → msk u v (ix2 r j) = v (ix2 r j))
    ∧ ((∀ t : Fin 16384, t.val + 128 ≠ 128 * (2 * n + u.val) + j.val) → msk u v (ix2 r j) = ⊥)

theorem masks_inner (h1 : 1 ≤ n) (h2 : n ≤ 62) : Masks n fun _ v => v := fun u v r j =>
  ⟨fun _ => rfl, fun h => absurd (show 128 * (2 * n + u.val) + j.val - 128 + 128 = 128 * (2 * n + u.val) + j.val by omega)
    (h ⟨128 * (2 * n + u.val) + j.val - 128, by omega⟩)⟩

theorem pay563_at (v : BitVec 1) (r : Fin 128) (j : Fin 384) :
    k0_pay563 v (ix2 r j) = v &&& BitVec.ofBool (decide (j.val < 128)) := by
  pointwise [k0_pay563]
  exact congrArg (v &&& ·) (by revert j; decide)

theorem pay564_at (v : BitVec 1) (r : Fin 128) (j : Fin 384) :
    k0_pay564 v (ix2 r j) = v &&& BitVec.ofBool (decide (256 ≤ j.val)) := by
  pointwise [k0_pay564]
  exact congrArg (v &&& ·) (by revert j; decide)

theorem sel {α : Type} (c : Prop) [Decidable c] (p : Prop) [Decidable p] (a b : α) :
    Scalar.select (BitVec.ofBool (decide c) &&& BitVec.ofBool (decide p)) a b = if c ∧ p then a else b := by
  by_cases h : c <;> by_cases h' : p <;> simp [h, h', Scalar.select]

theorem first_word (i : Fin 64) : Scalar.cmpi .eq (BitVec.ofNat 32 i.val) 0#32 = BitVec.ofBool (decide (i.val = 0)) := by
  revert i; decide

theorem last_word (i : Fin 64) : Scalar.cmpi .eq (BitVec.ofNat 32 i.val) 63#32 = BitVec.ofBool (decide (i.val = 63)) := by
  revert i; decide

theorem masks_edge (i : grid0.Coords) (hi : (i 0).val = n) (h : n = 0 ∨ n = 63) : Masks n (edge i) := by
  intro u v r j
  match u with
  | 0 =>
    have e : edge i 0 v (ix2 r j) = if (i 0).val = 0 ∧ j.val < 128 then (⊥ : EReal) else v (ix2 r j) := by
      pointwise [edge]
      rw [pay563_at, mask_eq, first_word (i 0), sel]
    show (_ → edge i 0 v (ix2 r j) = _) ∧ (_ → edge i 0 v (ix2 r j) = _)
    rw [e, hi]
    constructor
    · rintro ⟨t, ht⟩
      have ht' : t.val + 128 = 128 * (2 * n + 0) + j.val := ht
      rw [if_neg (by omega)]
    · intro ht
      by_cases hn : n = 0 ∧ j.val < 128
      · rw [if_pos hn]
      · exact absurd (show 128 * (2 * n + 0) + j.val - 128 + 128 = 128 * (2 * n + 0) + j.val by omega)
          (ht ⟨128 * (2 * n + 0) + j.val - 128, by omega⟩)
  | 1 =>
    have e : edge i 1 v (ix2 r j) = if (i 0).val = 63 ∧ 256 ≤ j.val then (⊥ : EReal) else v (ix2 r j) := by
      pointwise [edge]
      rw [pay564_at, mask_eq, last_word (i 0), sel]
    show (_ → edge i 1 v (ix2 r j) = _) ∧ (_ → edge i 1 v (ix2 r j) = _)
    rw [e, hi]
    constructor
    · rintro ⟨t, ht⟩
      have ht' : t.val + 128 = 128 * (2 * n + 1) + j.val := ht
      rw [if_neg (by omega)]
    · intro ht
      by_cases hn : n = 63 ∧ 256 ≤ j.val
      · rw [if_pos hn]
      · exact absurd (show 128 * (2 * n + 1) + j.val - 128 + 128 = 128 * (2 * n + 1) + j.val by omega)
          (ht ⟨128 * (2 * n + 1) + j.val - 128, by omega⟩)

section

variable {Q : Fin 16384 → Fin 4096 → EReal} {K V : Fin 16384 → Fin 1024 → EReal}
  (hQ : ∀ s j, ∃ r : ℝ, Q s j = (r : EReal)) (hK : ∀ s j, ∃ r : ℝ, K s j = (r : EReal))
  (hsnk : ∀ h, snk h ≠ ⊤) (hz : ∀ s j, z s j ≠ ⊥)
  (eq : ∀ s j, q s j = Q s j * ((scl : EReal) * (lg : EReal)))
  (ek : ∀ (s : Fin 16384) (k : Fin 8) (e : Fin 128), kv s (kcol k e) = K s (kvcol k e))
  (ev : ∀ (s : Fin 16384) (k : Fin 8) (e : Fin 128), kv s (vcol k e) = V s (kvcol k e))
  {msk : Fin 2 → FVec Ideal S128x384 .f32 → FVec Ideal S128x384 .f32} (hm : Masks n msk)

include B hQ hK hsnk hz eq ek ev hm in
/-- The tile stored for a half, a key-value head and a place in its group, at a row and a column. -/
theorem tile_at (u : Fin 2) (k : Fin 8) (g : Fin 4) (r d : Fin 128) (s : Fin 16384)
    (hs : s.val = 256 * n + (128 * u.val + r.val)) :
    (piece msk x0 x1 x2 x3 x4 x5 x6 (u, k, g)).2 (ix2 r d) = target Q K V z snk s k g d := by
  show tile (F := Ideal) (fun g => msk u (scores x1 x2 x3 x4 x5 u k g)) (Tile.sinks x0 k) (win x3 x4 x5 (8 + k.val) (by omega) u) g
    (View.ld (Val := Elt Ideal) (e' := .f32) x6 (Rect.unit ![128 * u.val, 128 * (4 * k.val + g.val)] S128x128.size (inbQ _ _ (hu u) (hd k g)))) (ix2 r d) = _
  rw [tile_eq, mix_at, rcp_at]
  simp only [expo_at, rowMax_at]
  rw [ld_q, B.gate s _ _ hs, sinks_at B]
  refine row (2 * n + u.val) (fun j => msk u (scores x1 x2 x3 x4 x5 u k g) (ix2 r j))
    (fun j => win (F := Ideal) x3 x4 x5 (8 + k.val) (by omega) u (ix2 j d)) (point Q K k g s) (fun t => V t (kvcol k d))
    (snk (head k g)) (z s (qcol k g d)) ?_ ?_ ?_ ?_ ⟨s, point_self Q K hQ hK k g s⟩ (hsnk _) (hz _ _)
  · intro j t ht
    refine ⟨?_, ?_⟩
    · show msk u (scores x1 x2 x3 x4 x5 u k g) (ix2 r j) = _
      rw [((hm u _ r j).1 ⟨t, ht⟩), scores_at B u k g r j s t hs ht, ← scaled_point Q K hQ hK]
      simp only [eq, ek]
    · show win (F := Ideal) x3 x4 x5 (8 + k.val) _ u (ix2 j d) = _
      rw [win_at B u _ _ j d t ht, ev]
  · intro j hj
    exact (hm u _ r j).2 hj
  · intro t ht
    have h : ¬ gap s.val t.val ≤ 128 := by
      intro hg
      unfold gap at hg
      exact ht ⟨t.val + 128 - 128 * (2 * n + u.val), by omega⟩ (by
        show t.val + 128 = 128 * (2 * n + u.val) + (t.val + 128 - 128 * (2 * n + u.val)); omega)
    rw [point, if_neg h]
  · exact point_ne_top Q K hQ hK k g s

end

end Cert.KernelIdeal.Tile

end
-- ==== Proof.KernelIdeal.Final.lean ====
module

public import proofs.«01_k».proof.Proof.KernelIdeal.Block
public import proofs.«01_k».proof.Proof.KernelIdeal.Value
public import Idealize.ShloMosaic.Lib.Pipeline.ValueKit

@[expose] public section

set_option maxRecDepth 16384

/-! The array the run leaves, point by point. -/

noncomputable section

namespace Cert.KernelIdeal.Final

open Idealize.ShloMosaic Idealize.ShloMosaic.TcCoe Cert.KernelIdeal Cert.KernelIdeal.Gen Cert.KernelIdeal.Tile Cert.Attn
open Idealize.ShloMosaic.Pipeline (Dat)

variable (m : (ℓ : Loc nD τ sig) → Buf (Elt Ideal) ℓ)

theorem idx : ∀ t : Fin cfg0.N, win0_0.index t = ![0] ∧ win0_1.index t = ![0, 0, 0] ∧ win0_2.index t = ![t.val, 0]
      ∧ win0_3.index t = ![2 * t.val - 1, 2] ∧ win0_4.index t = ![t.val, 2] ∧ win0_5.index t = ![min (2 * t.val + 2) 127, 2]
      ∧ win0_6.index t = ![t.val, 0] ∧ win0_7.index t = ![t.val, 0] ∧ (grid0.coords t 0).val = t.val :=
  (by decide +kernel : ∀ t : Fin grid0.N, win0_0.index t = ![0] ∧ win0_1.index t = ![0, 0, 0] ∧ win0_2.index t = ![t.val, 0]
      ∧ win0_3.index t = ![2 * t.val - 1, 2] ∧ win0_4.index t = ![t.val, 2] ∧ win0_5.index t = ![min (2 * t.val + 2) 127, 2]
      ∧ win0_6.index t = ![t.val, 0] ∧ win0_7.index t = ![t.val, 0] ∧ (grid0.coords t 0).val = t.val)

/-- The operand of scaled queries, keys and values. -/
abbrev packed (c : Dev nD) : FVec Ideal S16384x6144 .bf16 := V m c main_v9

abbrev qf (c : Dev nD) (s : Fin 16384) (j : Fin 4096) : EReal := packed m c (ix2 s ⟨j.val, by omega⟩)
abbrev kvf (c : Dev nD) (s : Fin 16384) (j : Fin 2048) : EReal := packed m c (ix2 s ⟨4096 + j.val, by omega⟩)
abbrev zf (c : Dev nD) (s : Fin 16384) (j : Fin 4096) : EReal :=
  (m ((c : Thread nD τ).loc main_arg3) : FVec Ideal S16384x4096 .f32) (ix2 s j)
abbrev sf (c : Dev nD) (h : Fin 32) : EReal := (m ((c : Thread nD τ).loc main_arg4) : FVec Ideal S32 .f32) (ix1 h)

theorem blk0 (c : Dev nD) (t : Fin cfg0.N) (h : Fin 32) : (iblk m c 0 t : FVec Ideal S32 .f32) (ix1 h) = sf m c h := by
  blk_ext [iblk, V_main_arg4, idx t]

theorem blk1 (c : Dev nD) (t : Fin cfg0.N) : (iblk m c 1 t : FVec Ideal S32x128x384 .f32) = Operand.bias := by
  rw [← Operand.V_v43 m c]
  funext y
  blk_ext [iblk, idx t]

theorem blk2 (c : Dev nD) (t : Fin cfg0.N) (s : Fin 16384) (i : Fin 256) (j : Fin 4096) (h : s.val = 256 * t.val + i.val) :
    (X0_2 m c t : FVec Ideal S256x4096 .bf16) (ix2 i j) = qf m c s j := by
  unfold X0_2 Pipeline.Window.fill
  rw [dif_pos (moved0_2 t _)]
  blk_ext [iblk, idx t]

theorem blk3 (c : Dev nD) (t : Fin cfg0.N) (s : Fin 16384) (i : Fin 128) (j : Fin 2048) (h : s.val + 128 = 256 * t.val + i.val) :
    (iblk m c 3 t : FVec Ideal S128x2048 .bf16) (ix2 i j) = kvf m c s j := by
  blk_ext [iblk, idx t]

theorem blk4 (c : Dev nD) (t : Fin cfg0.N) (s : Fin 16384) (i : Fin 256) (j : Fin 2048) (h : s.val = 256 * t.val + i.val) :
    (iblk m c 4 t : FVec Ideal S256x2048 .bf16) (ix2 i j) = kvf m c s j := by
  blk_ext [iblk, idx t]

theorem blk5 (c : Dev nD) (t : Fin cfg0.N) (s : Fin 16384) (i : Fin 128) (j : Fin 2048) (h : s.val = 256 * t.val + 256 + i.val) :
    (iblk m c 5 t : FVec Ideal S128x2048 .bf16) (ix2 i j) = kvf m c s j := by
  blk_ext [iblk, idx t]

theorem blk6 (c : Dev nD) (t : Fin cfg0.N) (s : Fin 16384) (i : Fin 256) (j : Fin 4096) (h : s.val = 256 * t.val + i.val) :
    (iblk m c 6 t : FVec Ideal S256x4096 .f32) (ix2 i j) = zf m c s j := by
  blk_ext [iblk, V_main_arg3, idx t]

theorem blocks (c : Dev nD) (t : Fin cfg0.N) :
    Blocks t.val (qf m c) (kvf m c) (zf m c) (sf m c) (iblk m c 0 t) (iblk m c 1 t) (X0_2 m c t) (iblk m c 3 t)
      (iblk m c 4 t) (iblk m c 5 t) (iblk m c 6 t) :=
  ⟨blk0 m c t, blk1 m c t, blk2 m c t, blk3 m c t, blk4 m c t, blk5 m c t, blk6 m c t⟩

/-- The gated attention of a device's arguments, as an array. -/
def attended (q : FVec Ideal S16384x4096 .bf16) (k v : FVec Ideal S16384x1024 .bf16) (z : FVec Ideal S16384x4096 .f32)
    (snk : FVec Ideal S32 .f32) : FVec Ideal S16384x4096 .bf16 := fun i =>
  target (fun s j => q (ix2 s j)) (fun s j => k (ix2 s j)) (fun s j => v (ix2 s j)) (fun s j => z (ix2 s j))
    (fun h => snk (ix1 h)) (i 0) ⟨(i 1).val / 512, by have := (i 1).isLt; simp only [S16384x4096] at this; change (i 1).val < 4096 at this; omega⟩
    ⟨(i 1).val / 128 % 4, by omega⟩ ⟨(i 1).val % 128, by omega⟩

/-- Every entry of the queries and keys is a real number, no gate is the least element, no sink the greatest. -/
structure Proper (q : FVec Ideal S16384x4096 .bf16) (k : FVec Ideal S16384x1024 .bf16) (z : FVec Ideal S16384x4096 .f32)
    (snk : FVec Ideal S32 .f32) : Prop where
  queries : ∀ s j, ∃ r : ℝ, q (ix2 s j) = (r : EReal)
  keys : ∀ s j, ∃ r : ℝ, k (ix2 s j) = (r : EReal)
  gates : ∀ s j, z (ix2 s j) ≠ ⊥
  sinks : ∀ h, snk (ix1 h) ≠ ⊤

theorem attended_at (q k v z snk) (s : Fin 16384) (b : Fin 8) (g : Fin 4) (d : Fin 128) (i : S16384x4096.Idx)
    (h0 : (i 0).val = s.val) (h1 : (i 1).val = 128 * (4 * b.val + g.val) + d.val) :
    attended q k v z snk i = target (fun s j => q (ix2 s j)) (fun s j => k (ix2 s j)) (fun s j => v (ix2 s j))
      (fun s j => z (ix2 s j)) (fun h => snk (ix1 h)) s b g d := by
  unfold attended
  congr 1
  · exact Fin.ext h0
  · exact Fin.ext (by show (i 1).val / 512 = b.val; omega)
  · exact Fin.ext (by show (i 1).val / 128 % 4 = g.val; omega)
  · exact Fin.ext (by show (i 1).val % 128 = d.val; omega)

theorem packed_key (q k v) (s : Fin 16384) (j : Fin 6144) (e : Fin 1024) (h : j.val = 4096 + e.val) :
    Operand.qkv q k v (ix2 s j) = k (ix2 s e) := by
  have he := e.isLt
  rw [Operand.qkv_at, dif_neg (by omega), dif_pos (by omega)]
  exact congrArg (fun e => k (ix2 s e)) (Fin.ext (by show j.val - 4096 = e.val; omega))

theorem packed_value (q k v) (s : Fin 16384) (j : Fin 6144) (e : Fin 1024) (h : j.val = 5120 + e.val) :
    Operand.qkv q k v (ix2 s j) = v (ix2 s e) := by
  have he := e.isLt
  rw [Operand.qkv_at, dif_neg (by omega), dif_neg (by omega)]
  exact congrArg (fun e => v (ix2 s e)) (Fin.ext (by show j.val - 4096 - 1024 = e.val; omega))

/-- The part of the attention a point's block is to hold. -/
def spread (c : Dev nD) (t : Fin cfg0.N) (y : S256x4096.Idx) : EReal :=
  attended (m ((c : Thread nD τ).loc main_arg0)) (m ((c : Thread nD τ).loc main_arg1)) (m ((c : Thread nD τ).loc main_arg2))
    (m ((c : Thread nD τ).loc main_arg3)) (m ((c : Thread nD τ).loc main_arg4)) ((win0_7.blk t).view.emb y)

variable {m} in
/-- One stored tile of a point. -/
theorem piece_at (c : Dev nD) (hp : Proper (m ((c : Thread nD τ).loc main_arg0)) (m ((c : Thread nD τ).loc main_arg1))
      (m ((c : Thread nD τ).loc main_arg3)) (m ((c : Thread nD τ).loc main_arg4))) (t : Fin cfg0.N)
    (msk) (hm : Masks t.val msk) (p : Fin 2 × Fin 8 × Fin 4) :
    ∀ x : (piece (F := Ideal) msk (iblk m c 0 t) (iblk m c 1 t) (X0_2 m c t) (iblk m c 3 t) (iblk m c 4 t) (iblk m c 5 t) (iblk m c 6 t) p).1.shape.Idx,
      (piece (F := Ideal) msk (iblk m c 0 t) (iblk m c 1 t) (X0_2 m c t) (iblk m c 3 t) (iblk m c 4 t) (iblk m c 5 t) (iblk m c 6 t) p).2 x
        = spread m c t
          ((piece (F := Ideal) msk (iblk m c 0 t) (iblk m c 1 t) (X0_2 m c t) (iblk m c 3 t) (iblk m c 4 t) (iblk m c 5 t) (iblk m c 6 t) p).1.emb x) := by
  obtain ⟨u, k, g⟩ := p
  intro x
  have hN : t.val < 64 := lt_of_lt_of_eq t.isLt N_0
  obtain ⟨r, d, rfl⟩ : ∃ (r d : Fin 128), x = ix2 r d := ⟨x 0, x 1, by funext a; match a with | 0 => rfl | 1 => rfl⟩
  refine (tile_at (blocks m c t) (Q := fun s j => _) (K := fun s j => _) (V := fun s j => _) hp.queries hp.keys hp.sinks hp.gates ?_ ?_ ?_ hm u k g r d
    ⟨256 * t.val + (128 * u.val + r.val), by omega⟩ rfl).trans (attended_at _ _ (m ((c : Thread nD τ).loc main_arg2)) _ _ _ k g d _ ?_ ?_).symm
  · intro s j
    show (V m c main_v9 : FVec Ideal S16384x6144 .bf16) _ = _
    rw [Operand.V_v9 m c]
    exact (Operand.qkv_at _ _ _ _ _).trans (dif_pos j.isLt)
  · intro s k e
    show (V m c main_v9 : FVec Ideal S16384x6144 .bf16) _ = _
    rw [Operand.V_v9 m c]
    exact packed_key _ _ _ s _ _ rfl
  · intro s k e
    show (V m c main_v9 : FVec Ideal S16384x6144 .bf16) _ = _
    rw [Operand.V_v9 m c]
    exact packed_value _ _ _ s _ _ (by show 4096 + (128 * (8 + k.val) + e.val) = 5120 + (128 * k.val + e.val); omega)
  · show _ = _
    blk_simp [idx t]
    have e : ((piece (F := Ideal) msk (iblk m c 0 t) (iblk m c 1 t) (X0_2 m c t) (iblk m c 3 t) (iblk m c 4 t) (iblk m c 5 t) (iblk m c 6 t) (u, k, g)).1.emb (ix2 r d) 0).val
        = 128 * u.val + 1 * r.val := rfl
    rw [e]
    show t.val * 256 + _ = 256 * t.val + (128 * u.val + r.val)
    omega
  · show _ = _
    blk_simp [idx t]
    have e : ((piece (F := Ideal) msk (iblk m c 0 t) (iblk m c 1 t) (X0_2 m c t) (iblk m c 3 t) (iblk m c 4 t) (iblk m c 5 t) (iblk m c 6 t) (u, k, g)).1.emb (ix2 r d) 1).val
        = 128 * (4 * k.val + g.val) + 1 * d.val := rfl
    rw [e]
    omega

/-- What an edge point stores, tile by tile. -/
theorem out_A (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole)
    (hc0 : ¬cond0_0 i) (hc1 : cond0_1 i)
    (x0 : Vec Ideal S32 .f32) (x1 : Vec Ideal S32x128x384 .f32) (x2 : Vec Ideal S256x4096 .bf16) (x3 : Vec Ideal S128x2048 .bf16)
    (x4 : Vec Ideal S256x2048 .bf16) (x5 : Vec Ideal S128x2048 .bf16) (x6 : Vec Ideal S256x4096 .f32) (G : S256x4096.Idx → EReal)
    (hG : ∀ p, ∀ x : (piece (F := Ideal) (edge i) x0 x1 x2 x3 x4 x5 x6 p).1.shape.Idx,
      (piece (F := Ideal) (edge i) x0 x1 x2 x3 x4 x5 x6 p).2 x = G ((piece (F := Ideal) (edge i) x0 x1 x2 x3 x4 x5 x6 p).1.emb x)) (y : S256x4096.Idx) :
    out0_A_7 c i arg1 harg1 arg2 harg2 arg3 harg3 arg4 harg4 arg5 harg5 arg6 harg6 arg7 harg7 arg8 harg8 hc0 hc1 x0 x1 x2 x3 x4 x5 x6 y = G y := by
  unfold out0_A_7
  rw [View.read_writes_eq_canon _ _ _ (cover0_A_7 c i arg1 harg1 arg2 harg2 arg3 harg3 arg4 harg4 arg5 harg5 arg6 harg6 arg7 harg7 arg8 harg8 hc0 hc1 x0 x1 x2 x3 x4 x5 x6)]
  refine View.canon_apply_of_pieces G _ ?_ y (cover0_A_7 c i arg1 harg1 arg2 harg2 arg3 harg3 arg4 harg4 arg5 harg5 arg6 harg6 arg7 harg7 arg8 harg8 hc0 hc1 x0 x1 x2 x3 x4 x5 x6 y)
  have e := pieces_A (F := Ideal) c i arg1 harg1 arg2 harg2 arg3 harg3 arg4 harg4 arg5 harg5 arg6 harg6 arg7 harg7 arg8 harg8 hc0 hc1 x0 x1 x2 x3 x4 x5 x6
  simp only [harg1.read_unread, harg2.read_unread, harg3.read_unread, harg4.read_unread, harg5.read_unread, harg6.read_unread, harg7.read_unread] at e
  rw [e]
  intro pc hpc
  obtain ⟨p, -, rfl⟩ := List.mem_map.1 hpc
  exact hG p

/-- What an inner point stores, tile by tile. -/
theorem out_B (c : Dev nD) (i : grid0.Coords) (arg1 : Memref sig .tc .smem S32 .f32) (harg1 : arg1.IsWhole) (arg2 : Memref sig .tc .vmem S32x128x384 .f32) (harg2 : arg2.IsWhole) (arg3 : Memref sig .tc .vmem S256x4096 .bf16) (harg3 : arg3.IsWhole) (arg4 : Memref sig .tc .vmem S128x2048 .bf16) (harg4 : arg4.IsWhole) (arg5 : Memref sig .tc .vmem S256x2048 .bf16) (harg5 : arg5.IsWhole) (arg6 : Memref sig .tc .vmem S128x2048 .bf16) (harg6 : arg6.IsWhole) (arg7 : Memref sig .tc .vmem S256x4096 .f32) (harg7 : arg7.IsWhole) (arg8 : Memref sig .tc .vmem S256x4096 .bf16) (harg8 : arg8.IsWhole)
    (hc0 : cond0_0 i) (hc1 : ¬cond0_1 i)
    (x0 : Vec Ideal S32 .f32) (x1 : Vec Ideal S32x128x384 .f32) (x2 : Vec Ideal S256x4096 .bf16) (x3 : Vec Ideal S128x2048 .bf16)
    (x4 : Vec Ideal S256x2048 .bf16) (x5 : Vec Ideal S128x2048 .bf16) (x6 : Vec Ideal S256x4096 .f32) (G : S256x4096.Idx → EReal)
    (hG : ∀ p, ∀ x : (piece (F := Ideal) (fun _ v => v) x0 x1 x2 x3 x4 x5 x6 p).1.shape.Idx,
      (piece (F := Ideal) (fun _ v => v) x0 x1 x2 x3 x4 x5 x6 p).2 x = G ((piece (F := Ideal) (fun _ v => v) x0 x1 x2 x3 x4 x5 x6 p).1.emb x)) (y : S256x4096.Idx) :
    out0_B_7 c i arg1 harg1 arg2 harg2 arg3 harg3 arg4 harg4 arg5 harg5 arg6 harg6 arg7 harg7 arg8 harg8 hc0 hc1 x0 x1 x2 x3 x4 x5 x6 y = G y := by
  unfold out0_B_7
  rw [View.read_writes_eq_canon _ _ _ (cover0_B_7 c i arg1 harg1 arg2 harg2 arg3 harg3 arg4 harg4 arg5 harg5 arg6 harg6 arg7 harg7 arg8 harg8 hc0 hc1 x0 x1 x2 x3 x4 x5 x6)]
  refine View.canon_apply_of_pieces G _ ?_ y (cover0_B_7 c i arg1 harg1 arg2 harg2 arg3 harg3 arg4 harg4 arg5 harg5 arg6 harg6 arg7 harg7 arg8 harg8 hc0 hc1 x0 x1 x2 x3 x4 x5 x6 y)
  have e := pieces_B (F := Ideal) c i arg1 harg1 arg2 harg2 arg3 harg3 arg4 harg4 arg5 harg5 arg6 harg6 arg7 harg7 arg8 harg8 hc0 hc1 x0 x1 x2 x3 x4 x5 x6
  simp only [harg1.read_unread, harg2.read_unread, harg3.read_unread, harg4.read_unread, harg5.read_unread, harg6.read_unread, harg7.read_unread] at e
  rw [e]
  intro pc hpc
  obtain ⟨p, -, rfl⟩ := List.mem_map.1 hpc
  exact hG p

variable {m} in
/-- What a point leaves in the output's buffer. -/
theorem left_at (c : Dev nD) (hp : Proper (m ((c : Thread nD τ).loc main_arg0)) (m ((c : Thread nD τ).loc main_arg1))
      (m ((c : Thread nD τ).loc main_arg3)) (m ((c : Thread nD τ).loc main_arg4))) (t : Fin cfg0.N) (y : S256x4096.Idx) :
    (outsAt0 m c t.val t.isLt : FVec Ideal S256x4096 .bf16) y
      = spread m c t y := by
  have hN : t.val < 64 := lt_of_lt_of_eq t.isLt N_0
  have h64 : t.val % 64 = t.val := Nat.mod_eq_of_lt hN
  by_cases h0 : 1 ≤ t.val ∧ t.val ≤ 62
  · have h63 : t.val % 63 = t.val := Nat.mod_eq_of_lt (by omega)
    have hB0 : 1 ≤ t.val % 64 ∧ t.val % 64 ≤ 62 := by rw [h64]; exact h0
    have hB1 : ¬t.val % 63 = 0 := by rw [h63]; omega
    rw [outsAt0_B m c t hB0 hB1]
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr hB0) (fun h => hB1 ((hcond0_1 t).mp h))
      (iblk m c 0 t) (iblk m c 1 t) (X0_2 m c t) (iblk m c 3 t) (iblk m c 4 t) (iblk m c 5 t) (iblk m c 6 t) (spread m c t) (piece_at c hp t _ (masks_inner h0.1 h0.2)) y
  · have h63 : t.val = 0 ∨ t.val = 63 := by omega
    have hA0 : ¬(1 ≤ t.val % 64 ∧ t.val % 64 ≤ 62) := by rw [h64]; exact h0
    have hA1 : t.val % 63 = 0 := by rcases h63 with h | h <;> rw [h]
    rw [outsAt0_A m c t hA0 hA1]
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => hA0 ((hcond0_0 t).mp h)) ((hcond0_1 t).mpr hA1)
      (iblk m c 0 t) (iblk m c 1 t) (X0_2 m c t) (iblk m c 3 t) (iblk m c 4 t) (iblk m c 5 t) (iblk m c 6 t) (spread m c t) (piece_at c hp t _ (masks_edge _ (idx t).2.2.2.2.2.2.2.2 h63)) y

variable {m} in
/-- The array after the last point. -/
theorem final (c : Dev nD) (hp : Proper (m ((c : Thread nD τ).loc main_arg0)) (m ((c : Thread nD τ).loc main_arg1))
      (m ((c : Thread nD τ).loc main_arg3)) (m ((c : Thread nD τ).loc main_arg4))) :
    (dats m 0 c).arrAt 7 cfg0.N = attended (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  exact left_at c hp t y

end Cert.KernelIdeal.Final

end
-- ==== Proof.ReferenceIdeal.Score.lean ====
module

public import proofs.«01_k».proof.Proof.Attn.Target
public import proofs.«01_k».proof.Proof.Gen.ReferenceIdeal.Read
public import Idealize.ShloMosaic.Lib.Pointwise

@[expose] public section

set_option maxRecDepth 16384

/-! The reference's scores at one query and one key. -/

noncomputable section

namespace Cert.ReferenceIdeal.Value

open Idealize.ShloMosaic Cert.ReferenceIdeal Cert.ReferenceIdeal.Read Cert.Attn
open Cert.ReferenceIdeal.Facts

/-- The last place beside the others. -/
abbrev up {n N : ℕ} (h : N = n + 1) (t : Fin n) : Fin N := ⟨t.val, by omega⟩
abbrev lastPlace {n N : ℕ} (h : N = n + 1) : Fin N := ⟨n, by omega⟩

theorem sup_last {n N : ℕ} (h : N = n + 1) (f : Fin N → EReal) :
    Finset.univ.sup f = max (Finset.univ.sup fun t : Fin n => f (up h t)) (f (lastPlace h)) := by
  subst h
  refine le_antisymm (Finset.sup_le fun t _ => ?_)
    (max_le (Finset.sup_le fun t _ => Finset.le_sup (Finset.mem_univ _)) (Finset.le_sup (Finset.mem_univ _)))
  refine Fin.lastCases ?_ (fun t => ?_) t
  · exact le_max_right _ _
  · exact le_max_of_le_left (Finset.le_sup (f := fun t : Fin n => f t.castSucc) (Finset.mem_univ t))

theorem sum_last {n N : ℕ} (h : N = n + 1) (f : Fin N → EReal) :
    ∑ t, f t = (∑ t : Fin n, f (up h t)) + f (lastPlace h) := by
  subst h
  exact Fin.sum_univ_castSucc f

theorem one_more : 16385 = 16384 + 1 := rfl

theorem fold_max_sup {n : ℕ} (x : EReal) (f : Fin n → EReal) :
    (Finset.univ.fold max x f) = max x (Finset.univ.sup f) := by
  refine le_antisymm ((Finset.fold_max_le _).2 ⟨le_max_left _ _, fun t _ => le_max_of_le_right (Finset.le_sup (Finset.mem_univ _))⟩)
    (max_le ((Finset.le_fold_max _).2 (.inl le_rfl)) (Finset.sup_le fun t ht => (Finset.le_fold_max _).2 (.inr ⟨t, ht, le_rfl⟩)))

/-- The largest element over the last axis of a four-axis array. -/
theorem reduce_max {a b c n : ℕ} {u : Shape} (x : Shape.Idx ⟨4, ![a, b, c, n]⟩ → EReal) (init : u.Idx → EReal)
    (h' : Shape.ReducesTo ⟨4, ![a, b, c, n]⟩ [3] ⟨3, ![a, b, c]⟩) (h : Shape.Reduces ⟨4, ![a, b, c, n]⟩ [3] ⟨3, ![a, b, c]⟩)
    (hu : 0 < u.numel) (i : Fin a) (j : Fin b) (k : Fin c) :
    Host.reduce (FloatOps.maximumf (F := Ideal) (φ := .f32)) x init h' hu (ix3 i j k)
      = max (init (Shape.Idx.first hu)) (Finset.univ.sup fun t : Fin n => x (ix4 i j k t)) := by
  have e := Host.reduce_eq_fold_single (fun p q : EReal => max p q) x init h' h hu (ix3 i j k)
  refine (e.trans (fold_max_sup _ _)).trans ?_
  refine congrArg (max _) (congrArg (Finset.univ.sup) ?_)
  funext t
  refine congrArg x ?_
  funext d
  refine Fin.ext ?_
  rw [h.lift_val]
  match d with
  | 0 => rfl
  | 1 => rfl
  | 2 => rfl
  | 3 => rfl

variable (x0 : FVec Ideal S16384x4096 .bf16) (x1 x2 : FVec Ideal S16384x1024 .bf16) (x3 : FVec Ideal S16384x4096 .f32)
  (x4 : FVec Ideal S32 .f32)

theorem gap_at (s t : Fin 16384) : val_main_v22 (F := Ideal) (ix2 s t) = BitVec.ofNat 32 (gap s.val t.val) := by
  pointwise [val_main_v22, val_main_v21, val_main_v20, val_main_v19, val_main_v18, val_main_v17, val_main_v16]
  exact word_gap (by omega) (by omega)

theorem slope_at (b : Fin 8) (g : Fin 4) : val_main_v15 (F := Ideal) (ix2 b g) = (slope (4 * b.val + g.val) : EReal) := by
  pointwise [val_main_v15, val_main_v14, val_main_v13, val_main_v12, val_main_v11, val_main_v10, val_main_v9, val_main_v8, val_main_v7, val_main_v6, val_main_cst, val_main_cst_0, val_main_cst_1, val_main_cst_2]
  rw [slope_eq _ (by omega), mul_comm b.val 4]

theorem qcol_eq (b : Fin 8) (g : Fin 4) (e : Fin 128) (p : b.val * 512 + g.val * 128 + e.val < 4096) :
    (⟨b.val * 512 + g.val * 128 + e.val, p⟩ : Fin 4096) = qcol b g e := Fin.ext (by show b.val * 512 + g.val * 128 + e.val = 128 * (4 * b.val + g.val) + e.val; omega)

theorem kvcol_eq (b : Fin 8) (e : Fin 128) (p : b.val * 128 + e.val < 1024) :
    (⟨b.val * 128 + e.val, p⟩ : Fin 1024) = kvcol b e := Fin.ext (by show b.val * 128 + e.val = 128 * b.val + e.val; omega)

theorem dot_at (b : Fin 8) (g : Fin 4) (s t : Fin 16384) : val_main_v24 (F := Ideal) x0 x1 (ix4 b g s t)
    = ∑ e : Fin 128, x1 (ix2 t (kvcol b e)) * x0 (ix2 s (qcol b g e)) := by
  pointwise [val_main_v24, val_main_v23, val_main_v3, val_main_v2, val_main_v1, val_main_v0]
  simp only [qcol_eq, kvcol_eq]

/-- The arrays by row and column. -/
abbrev rq : Fin 16384 → Fin 4096 → EReal := fun s j => x0 (ix2 s j)
abbrev rk : Fin 16384 → Fin 1024 → EReal := fun s j => x1 (ix2 s j)
abbrev rz : Fin 16384 → Fin 4096 → EReal := fun s j => x3 (ix2 s j)
abbrev rs : Fin 32 → EReal := fun h => x4 (ix1 h)

theorem score_at (b : Fin 8) (g : Fin 4) (s t : Fin 16384) :
    val_main_v36 (F := Ideal) x0 x1 (ix4 b g s t) = point (rq x0) (rk x1) b g s t := by
  pointwise [val_main_v36, val_main_call0_v0, val_main_call0_v1, val_main_call0_v2, val_main_v35, val_main_v34, val_main_v33, val_main_v32, val_main_v31, val_main_v30, val_main_v29, val_main_v28, val_main_v27, val_main_v26, val_main_v25, val_main_cst_3, val_main_cst_4, val_main_c]
  have hg : gap s.val t.val < 2 ^ 21 := by unfold gap; omega
  rw [gap_at, word_band hg, word_sitofp hg, dot_at, slope_at, ofBits_scl]
  exact if_congr Iff.rfl rfl ofBits_bot

theorem cat_any (b : Fin 8) (g : Fin 4) (s : Fin 16384) (t : Fin 16385) :
    val_main_v40 (F := Ideal) x0 x1 x4 (ix4 b g s t)
      = if h : t.val < 16384 then val_main_v36 (F := Ideal) x0 x1 (ix4 b g s ⟨t.val, h⟩)
        else x4 (ix1 ⟨b.val * 4 + g.val, by omega⟩) := by
  pointwise [val_main_v40, val_main_v39, val_main_v38, val_main_v37]

theorem cat_at (b : Fin 8) (g : Fin 4) (s : Fin 16384) (t : Fin 16384) :
    val_main_v40 (F := Ideal) x0 x1 x4 (ix4 b g s (up one_more t)) = point (rq x0) (rk x1) b g s t := by
  rw [cat_any, dif_pos t.isLt]
  exact score_at x0 x1 b g s t

theorem cat_last (b : Fin 8) (g : Fin 4) (s : Fin 16384) :
    val_main_v40 (F := Ideal) x0 x1 x4 (ix4 b g s (lastPlace one_more)) = rs x4 (head b g) := by
  rw [cat_any, dif_neg (lt_irrefl _)]
  exact congrArg (fun h => x4 (ix1 h)) (Fin.ext (by show b.val * 4 + g.val = 4 * b.val + g.val; omega))

end Cert.ReferenceIdeal.Value

end
-- ==== Proof.ReferenceIdeal.Ref.lean ====
module

public import proofs.«01_k».proof.Proof.ReferenceIdeal.Score
public import Idealize.ShloMosaic.Lib.Pointwise

@[expose] public section

set_option maxRecDepth 16384

/-! The reference read at one element. -/

noncomputable section

namespace Cert.ReferenceIdeal.Value

open Idealize.ShloMosaic Cert.ReferenceIdeal Cert.ReferenceIdeal.Read Cert.Attn
open Cert.ReferenceIdeal.Facts

variable (x0 : FVec Ideal S16384x4096 .bf16) (x1 x2 : FVec Ideal S16384x1024 .bf16) (x3 : FVec Ideal S16384x4096 .f32)
  (x4 : FVec Ideal S32 .f32)

theorem reduces : Shape.Reduces S8x4x16384x16385 [3] S8x4x16384 := by decide

theorem v42_at (i : S8x4x16384.Idx) : val_main_v42 (F := Ideal) i = Ideal.ofBits .f32 0xFF800000#32 := by
  rw [val_main_v42_apply]
  rfl

theorem top_a (i : S8x4x16384.Idx) : val_main_v43 (F := Ideal) x0 x1 x4 i
      = max (Ideal.ofBits .f32 0xFF800000#32) (val_main_v41 (F := Ideal) x0 x1 x4 i) := by
  rw [val_main_v43_apply, v42_at]
  generalize val_main_v41 (F := Ideal) x0 x1 x4 i = y
  rfl

theorem top_b (y : FVec Ideal S8x4x16384x16385 .f32) (b : Fin 8) (g : Fin 4) (s : Fin 16384) :
    Host.reduce (FloatOps.maximumf (F := Ideal) (φ := .f32)) y (val_main_cst_5 (F := Ideal))
      Gen.reducesTo_S8x4x16384x16385_S8x4x16384_d3 Gen.h_S_ (ix3 b g s)
      = max (Ideal.ofBits .f32 0xFF800000#32) (Finset.univ.sup fun t : Fin 16385 => y (ix4 b g s t)) :=
  reduce_max y (val_main_cst_5 (F := Ideal)) _ reduces _ b g s

theorem top_at (b : Fin 8) (g : Fin 4) (s : Fin 16384) :
    val_main_v43 (F := Ideal) x0 x1 x4 (ix3 b g s) = top (point (rq x0) (rk x1) b g s) (rs x4 (head b g)) := by
  rw [top_a, val_main_v41, top_b, ofBits_bot, max_eq_right bot_le, max_eq_right bot_le, sup_last one_more, cat_last]
  simp only [cat_at]
  rfl

theorem exp_any (b : Fin 8) (g : Fin 4) (s : Fin 16384) (t : Fin 16385) : val_main_v47 (F := Ideal) x0 x1 x4 (ix4 b g s t)
    = Ideal.exp (val_main_v40 (F := Ideal) x0 x1 x4 (ix4 b g s t)
      - top (point (rq x0) (rk x1) b g s) (rs x4 (head b g))) := by
  pointwise [val_main_v47, val_main_v46, val_main_v45, val_main_v44]
  rw [top_at]

theorem exp_at (b : Fin 8) (g : Fin 4) (s t : Fin 16384) : val_main_v47 (F := Ideal) x0 x1 x4 (ix4 b g s (up one_more t))
    = Ideal.exp (point (rq x0) (rk x1) b g s t - top (point (rq x0) (rk x1) b g s) (rs x4 (head b g))) := by
  rw [exp_any, cat_at]

theorem exp_last (b : Fin 8) (g : Fin 4) (s : Fin 16384) : val_main_v47 (F := Ideal) x0 x1 x4 (ix4 b g s (lastPlace one_more))
    = Ideal.exp (rs x4 (head b g) - top (point (rq x0) (rk x1) b g s) (rs x4 (head b g))) := by
  rw [exp_any, cat_last]

theorem idx48 (b : Fin 8) (g : Fin 4) (s : Fin 16384) (t : Fin 16385) : idx_main_v48 (ix3 b g s) t = ix4 b g s t := by
  funext d
  match d with
  | 0 => rfl
  | 1 => rfl
  | 2 => rfl
  | 3 => rfl

theorem sum_a (b : Fin 8) (g : Fin 4) (s : Fin 16384) : val_main_v48 (F := Ideal) x0 x1 x4 (ix3 b g s)
      = ∑ t : Fin 16385, val_main_v47 (F := Ideal) x0 x1 x4 (ix4 b g s t) := by
  rw [val_main_v48_apply]
  simp only [idx48]
  generalize val_main_v47 (F := Ideal) x0 x1 x4 = y
  have e : (val_main_cst_7 (F := Ideal)) (Shape.Idx.first Gen.h_S_) = 0 := by
    rw [val_main_cst_7_apply]
    exact Ideal.ofBits_zero_f32
  rw [e, zero_add]

theorem sum_at (b : Fin 8) (g : Fin 4) (s : Fin 16384) : val_main_v48 (F := Ideal) x0 x1 x4 (ix3 b g s)
    = (∑ t, Ideal.exp (point (rq x0) (rk x1) b g s t - top (point (rq x0) (rk x1) b g s) (rs x4 (head b g))))
      + Ideal.exp (rs x4 (head b g) - top (point (rq x0) (rk x1) b g s) (rs x4 (head b g))) := by
  rw [sum_a, sum_last one_more, exp_last]
  simp only [exp_at]

theorem pr_at (b : Fin 8) (g : Fin 4) (s t : Fin 16384) : val_main_v52 (F := Ideal) x0 x1 x4 (ix4 b g s t)
    = Ideal.div (val_main_v47 (F := Ideal) x0 x1 x4 (ix4 b g s (up one_more t))) (val_main_v48 (F := Ideal) x0 x1 x4 (ix3 b g s)) := by
  pointwise [val_main_v52, val_main_v51, val_main_v50, val_main_v49]

theorem out_at (s : Fin 16384) (b : Fin 8) (g : Fin 4) (d : Fin 128) :
    val_main_v55 (F := Ideal) x0 x1 x2 x4 (ix2 s (qcol b g d))
      = mixed (point (rq x0) (rk x1) b g s) (fun t => rk x2 t (kvcol b d)) (rs x4 (head b g)) := by
  have e : val_main_v55 (F := Ideal) x0 x1 x2 x4 (ix2 s (qcol b g d))
      = ∑ t : Fin 16384, x2 (ix2 t ⟨(128 * (4 * b.val + g.val) + d.val) / 512 * 128 + (128 * (4 * b.val + g.val) + d.val) % 128, by omega⟩)
        * val_main_v52 (F := Ideal) x0 x1 x4 (ix4 ⟨(128 * (4 * b.val + g.val) + d.val) / 512, by omega⟩
            ⟨(128 * (4 * b.val + g.val) + d.val) / 128 % 4, by omega⟩ s t) := by
    pointwise [val_main_v55, val_main_v54, val_main_v53, val_main_v5, val_main_v4]
  have c1 : ∀ p, (⟨(128 * (4 * b.val + g.val) + d.val) / 512 * 128 + (128 * (4 * b.val + g.val) + d.val) % 128, p⟩ : Fin 1024)
      = kvcol b d := fun p => Fin.ext (by show _ = 128 * b.val + d.val; dsimp only; omega)
  have c2 : ∀ p, (⟨(128 * (4 * b.val + g.val) + d.val) / 512, p⟩ : Fin 8) = b := fun p => Fin.ext (by dsimp only; omega)
  have c3 : ∀ p, (⟨(128 * (4 * b.val + g.val) + d.val) / 128 % 4, p⟩ : Fin 4) = g := fun p => Fin.ext (by dsimp only; omega)
  rw [e, c1, c2, c3]
  simp only [pr_at, exp_at, sum_at]
  rfl

theorem res_at (s : Fin 16384) (b : Fin 8) (g : Fin 4) (d : Fin 128) : val_main_v58 (F := Ideal) x0 x1 x2 x3 x4 (ix2 s (qcol b g d))
    = target (rq x0) (rk x1) (rk x2) (rz x3) (rs x4) s b g d := by
  pointwise [val_main_v58, val_main_v57, val_main_v56, val_main_call1_v0, val_main_call1_v1, val_main_call1_v2, val_main_call1_v3, val_main_call1_v4, val_main_call1_v5, val_main_call1_cst, val_main_call1_cst_0]
  rw [out_at]
  rfl

end Cert.ReferenceIdeal.Value

end
-- ==== Proof.Bridge.lean ====
module

public import proofs.«01_k».proof.Defs
public import proofs.«01_k».proof.Proof.KernelIdeal.Final
public import proofs.«01_k».proof.Proof.ReferenceIdeal.Ref
public import Idealize.ShloMosaic.Lib.ReduceAll

@[expose] public section

set_option maxRecDepth 16384

/-! The two programs over the reals: the same array. -/

noncomputable section

namespace Cert.Bridge

open Idealize.ShloMosaic Idealize.ShloMosaic.TcCoe Idealize.SL.Sem Cert.Attn

instance shapes : Cert.Pre_finite.Facts where
  bitsLt_bf16_f32 := by decide
  bcast_S_S16384x4096 := by decide
  reducesTo_S16384x4096_S_d0_1 := by decide
  h_S_ := by decide
  bcast_S_S16384x1024 := by decide
  reducesTo_S16384x1024_S_d0_1 := by decide
  bcast_S_S32 := by decide
  reducesTo_S32_S_d0 := by decide

theorem both {a b : BitVec 1} (h : a &&& b = 1#1) : a = 1#1 ∧ b = 1#1 := by
  revert a b; decide

theorem holds {p : Prop} [Decidable p] (h : BitVec.ofBool (decide p) = 1#1) : p := by
  by_contra hp
  simp [hp] at h

theorem ofBits_inf : Ideal.ofBits .f32 0x7F800000#32 = (⊤ : EReal) := by
  simp [Ideal.ofBits, Ideal.ieee]

theorem real_of_lt {x : EReal} (h : max x (-x) < ⊤) : ∃ r : ℝ, x = (r : EReal) := by
  induction x with
  | bot => simp at h
  | top => simp at h
  | coe r => exact ⟨r, rfl⟩

instance : Subsingleton Cert.Pre_finite.S_.Idx := ⟨fun a b => funext fun i => i.elim0⟩

theorem proper (q k v z snk) (h : Cert.Pre_finite.fn (F := Ideal) q k v z snk = fun _ => 1#1) :
    Cert.KernelIdeal.Final.Proper q k z snk := by
  have h0 := congrFun h (fun i => i.elim0)
  obtain ⟨h1, h4⟩ := both h0
  obtain ⟨h1, h3⟩ := both h1
  obtain ⟨h1, h2⟩ := both h1
  refine ⟨fun s j => ?_, fun s j => ?_, fun s j => ?_, fun s => ?_⟩
  · have e : BitVec.ofBool (decide (max (q (ix2 s j)) (-q (ix2 s j)) < Ideal.ofBits .f32 0x7F800000#32)) = 1#1 :=
      Host.reduce_andi_all _ _ _ _ _ h1 (ix2 s j)
    rw [ofBits_inf] at e
    exact real_of_lt (holds e)
  · have e : BitVec.ofBool (decide (max (k (ix2 s j)) (-k (ix2 s j)) < Ideal.ofBits .f32 0x7F800000#32)) = 1#1 :=
      Host.reduce_andi_all _ _ _ _ _ h2 (ix2 s j)
    rw [ofBits_inf] at e
    exact real_of_lt (holds e)
  · have e : BitVec.ofBool (decide (Ideal.ofBits .f32 0xFF800000#32 < z (ix2 s j))) = 1#1 :=
      Host.reduce_andi_all _ _ _ _ _ h3 (ix2 s j)
    rw [ofBits_bot] at e
    exact (holds e).ne'
  · have e : BitVec.ofBool (decide (snk (ix1 s) < Ideal.ofBits .f32 0x7F800000#32)) = 1#1 :=
      Host.reduce_andi_all _ _ _ _ _ h4 (ix1 s)
    rw [ofBits_inf] at e
    exact (holds e).ne

theorem arrays (q k v z snk) : Cert.KernelIdeal.Final.attended q k v z snk
    = Cert.ReferenceIdeal.Read.val_main_v58 (F := Ideal) q k v z snk := by
  funext i
  obtain ⟨s, j, rfl⟩ : ∃ (s : Fin 16384) (j : Fin 4096), i = ix2 s j := ⟨i 0, i 1, by funext a; match a with | 0 => rfl | 1 => rfl⟩
  have hj := j.isLt
  obtain ⟨b, g, d, rfl⟩ : ∃ (b : Fin 8) (g : Fin 4) (d : Fin 128), j = qcol b g d :=
    ⟨⟨j.val / 512, by omega⟩, ⟨j.val / 128 % 4, by omega⟩, ⟨j.val % 128, by omega⟩, Fin.ext (by
      show j.val = 128 * (4 * (j.val / 512) + j.val / 128 % 4) + j.val % 128; omega)⟩
  refine (Cert.KernelIdeal.Final.attended_at q k v z snk s b g d _ rfl rfl).trans (Eq.trans ?_ (Cert.ReferenceIdeal.Value.res_at q k v z snk s b g d).symm)
  rfl

theorem algebraic : Cert.algebraic_KernelIdeal_ReferenceIdeal_pre_finite := by
  intro m ρ m' ρ' hpre hagree
  refine ⟨_, Cert.KernelIdeal.Value.run_blocks m ρ, ?_⟩
  refine (θ_run _ _ _).mono (fun _ h c => ⟨(h c).1.trans ?_, (h c).2⟩) (Cert.ReferenceIdeal.Value.run m' ρ')
  rw [Cert.ReferenceIdeal.Read.val_main_v58_eq, Cert.KernelIdeal.Final.final c (proper _ _ _ _ _ (hpre c)), arrays]
  obtain ⟨e0, e1, e2, e3, e4⟩ := hagree c
  rw [e0, e1, e2, e3, e4]

end Cert.Bridge

end
-- ==== Proof.Norm.Rms.lean ====
module

public import Idealize.ShloMosaic.Lib.Pointwise
public import Idealize.ShloMosaic.PureOps.Ideal.Laws

@[expose] public section

/-! The reciprocal root mean square of a row, and that a product with it may be taken before or after a contraction. -/

noncomputable section

namespace Cert.Norm

open Idealize.ShloMosaic

variable {K : ℕ}

/-- The reciprocal root mean square of a row of `n` numbers, the small constant added: both constants as the programs write them. -/
def rms (n : EReal) (x : Fin K → EReal) : EReal :=
  Ideal.rsqrt (Ideal.div (∑ k, x k * x k) n + Ideal.ofBits .f32 0x358637BD#32)

theorem sq_nonneg (x : EReal) : 0 ≤ x * x := by
  induction x with
  | bot => simp
  | top => simp
  | coe r => rw [← EReal.coe_mul]; exact EReal.coe_nonneg.2 (mul_self_nonneg r)

theorem eps_pos : ∃ e : ℝ, 0 < e ∧ Ideal.ofBits .f32 0x358637BD#32 = (e : EReal) := by
  refine ⟨8796093 * (2 ^ 43)⁻¹, by norm_num, ?_⟩
  simp [Ideal.ofBits, Ideal.ieee]

theorem div_nonneg {x n : EReal} (hx : 0 ≤ x) (hn : 0 < n) : 0 ≤ Ideal.div x n := by
  unfold Ideal.div
  rw [if_neg hn.ne']
  exact mul_nonneg hx (EReal.inv_nonneg_of_nonneg hn.le)

theorem rsqrt_pos {x : EReal} (hx : 0 < x) : ∃ r : ℝ, 0 ≤ r ∧ Ideal.rsqrt x = (r : EReal) := by
  induction x with
  | bot => simp at hx
  | top => exact ⟨0, le_rfl, rfl⟩
  | coe a =>
    have ha : 0 < a := EReal.coe_pos.1 hx
    refine ⟨(Real.sqrt a)⁻¹, inv_nonneg.2 (Real.sqrt_nonneg a), ?_⟩
    rw [Ideal.rsqrt_coe, if_neg (not_lt.2 ha.le), if_neg ha.ne']

/-- A row's reciprocal root mean square is a nonnegative real number, whatever the row. -/
theorem rms_real {n : EReal} (hn : 0 < n) (x : Fin K → EReal) : ∃ r : ℝ, 0 ≤ r ∧ rms n x = (r : EReal) := by
  obtain ⟨e, he, h⟩ := eps_pos
  refine rsqrt_pos ?_
  rw [h]
  exact lt_of_lt_of_le (EReal.coe_pos.2 he) (le_add_of_nonneg_left (div_nonneg (Finset.sum_nonneg fun k _ => sq_nonneg _) hn))

/-- A nonnegative real factor distributes over any sum. -/
theorem mul_sum {ι : Type} (S : Finset ι) (f : ι → EReal) {r : ℝ} (hr : 0 ≤ r) :
    (∑ k ∈ S, f k) * (r : EReal) = ∑ k ∈ S, f k * (r : EReal) := by
  classical
  induction S using Finset.induction_on with
  | empty => simp
  | insert a S ha ih =>
    rw [Finset.sum_insert ha, Finset.sum_insert ha, ← ih, mul_comm, mul_comm (f a), mul_comm (∑ k ∈ S, f k)]
    exact EReal.left_distrib_of_nonneg_of_ne_top (EReal.coe_nonneg.2 hr) (EReal.coe_ne_top r) _ _

/-- The product of the scaled row with a column, then the reciprocal root mean square: as the product of the normalised row. -/
theorem dot_rms {n : EReal} (hn : 0 < n) (x g w : Fin K → EReal) :
    (∑ k, x k * g k * w k) * rms n x = ∑ k, x k * rms n x * g k * w k := by
  obtain ⟨r, hr, h⟩ := rms_real hn x
  rw [h, mul_sum _ _ hr]
  refine Finset.sum_congr rfl fun k _ => ?_
  rw [mul_right_comm, mul_right_comm (x k)]

theorem ofBits_4096 : Ideal.ofBits .f32 0x45800000#32 = ((4096 : ℝ) : EReal) := by
  simp [Ideal.ofBits, Ideal.ieee]
  rw [← EReal.coe_mul]
  norm_num

theorem pos_4096 : 0 < Ideal.ofBits .f32 0x45800000#32 := by
  rw [ofBits_4096]; exact EReal.coe_pos.2 (by norm_num)

end Cert.Norm

end
-- ==== Proof.Norm.Host.lean ====
module

public import proofs.«01_k».proof.Proof.Norm.Rms

@[expose] public section

set_option maxRecDepth 16384

/-! The two operands every projection's host prepares, an array of rows scaled column by column and each row's reciprocal
root mean square, and a row of the plain normalisation. -/

noncomputable section

namespace Cert.Norm

open Idealize.ShloMosaic

abbrev Rows : Shape := ⟨2, ![16384, 4096]⟩
abbrev Cols : Shape := ⟨1, ![4096]⟩
abbrev Cols1 : Shape := ⟨2, ![1, 4096]⟩
abbrev Each : Shape := ⟨1, ![16384]⟩
abbrev Each1 : Shape := ⟨2, ![16384, 1]⟩
abbrev One : Shape := ⟨0, ![]⟩

/-- A row's reciprocal root mean square, the row's length as the programs write it. -/
def row (x : FVec Ideal Rows .f32) (s : Fin 16384) : EReal := rms (Ideal.ofBits .f32 0x45800000#32) fun k : Fin 4096 => x (ix2 s k)

theorem scaled_at (x : FVec Ideal Rows .f32) (g : FVec Ideal Cols .f32) (hb : Cols1.BroadcastsInDim Rows (![0, 1] : Fin 2 → Fin Rows.rank))
    (hc : Cols.BroadcastsInDim Cols1 (![1] : Fin 1 → Fin Cols1.rank)) (ht : FTy.bits .bf16 < FTy.bits .f32) (s : Fin 16384) (k : Fin 4096) :
    truncf .bf16 (mulf x (broadcastInDim Rows ![0, 1] hb
      (broadcastInDim Cols1 ![1] hc g))) ht (ix2 s k) = x (ix2 s k) * g (ix1 k) := by
  pointwise

theorem recip_at (x : FVec Ideal Rows .f32) (h1 : Each.BroadcastsInDim Each1 (![0] : Fin 1 → Fin Each1.rank))
    (h2 : Rows.ReducesTo [1] Each) (h3 : 0 < One.numel) (h4 h5 : One.BroadcastsInDim Each1 (![] : Fin 0 → Fin Each1.rank)) (s : Fin 16384) :
    Host.rsqrt (addf (Host.divf (broadcastInDim Each1 ![0] h1
        (Host.reduceAdd (mulf x x) (constant One .f32 0x00000000#32) h2 h3))
        (broadcastInDim Each1 ![] h4 (constant One .f32 0x45800000#32)))
      (broadcastInDim Each1 ![] h5 (constant One .f32 0x358637BD#32))) (ix2 s 0) = row x s := by
  pointwise; rfl

/-- The normalised row, as the plain program computes it. -/
theorem normed_at (x : FVec Ideal Rows .f32) (g : FVec Ideal Cols .f32) (h0 : Each1.BroadcastsInDim Rows (![0, 1] : Fin 2 → Fin Rows.rank)) (h1 : Each.BroadcastsInDim Each1 (![0] : Fin 1 → Fin Each1.rank))
    (h2 : Rows.ReducesTo [1] Each) (h3 : 0 < One.numel) (h4 h5 : One.BroadcastsInDim Each1 (![] : Fin 0 → Fin Each1.rank)) (hb : Cols1.BroadcastsInDim Rows (![0, 1] : Fin 2 → Fin Rows.rank))
    (hc : Cols.BroadcastsInDim Cols1 (![1] : Fin 1 → Fin Cols1.rank)) (s : Fin 16384) (k : Fin 4096) :
    mulf (mulf x (broadcastInDim Rows ![0, 1] h0
      (Host.rsqrt (addf (Host.divf (broadcastInDim Each1 ![0] h1
        (Host.reduceAdd (mulf x x) (constant One .f32 0x00000000#32) h2 h3))
        (broadcastInDim Each1 ![] h4 (constant One .f32 0x45800000#32)))
      (broadcastInDim Each1 ![] h5 (constant One .f32 0x358637BD#32))))))
      (broadcastInDim Rows ![0, 1] hb
        (broadcastInDim Cols1 ![1] hc g)) (ix2 s k) = x (ix2 s k) * row x s * g (ix1 k) := by
  pointwise; rfl

/-- The product of the scaled rows with a column, scaled afterwards: the product of the normalised row. -/
theorem dot_row (x : FVec Ideal Rows .f32) (g : FVec Ideal Cols .f32) (s : Fin 16384) (w : Fin 4096 → EReal) :
    (∑ k : Fin 4096, x (ix2 s k) * g (ix1 k) * w k) * row x s = ∑ k : Fin 4096, x (ix2 s k) * row x s * g (ix1 k) * w k :=
  dot_rms pos_4096 (fun k => x (ix2 s k)) (fun k => g (ix1 k)) w

/-- An index of a matrix is a row and a column. -/
theorem pair {a b : ℕ} (y : (⟨2, ![a, b]⟩ : Shape).Idx) : ∃ (i : Fin a) (j : Fin b), y = ix2 i j :=
  ⟨y 0, y 1, by funext e; match e with | 0 => rfl | 1 => rfl⟩

end Cert.Norm

end
-- ==== Proof.Pool.Final.lean ====
module

public import proofs.«01_k».proof.Proof.Gen.Kernel2Ideal.Value
public import proofs.«01_k».proof.Proof.Gen.Reference2Ideal.Read
public import proofs.«01_k».proof.Proof.Norm.Host
public import Idealize.ShloMosaic.Lib.Pipeline.ValueKit
public import Idealize.ShloMosaic.Lib.Claim
public import Idealize.ShloMosaic.Lib.Pointwise

@[expose] public section

set_option maxRecDepth 16384

/-! The input projection of the pooling block: what the host prepares, a block's product, the arrays the run leaves. -/

noncomputable section

namespace Cert.Kernel2Ideal.Final

open Idealize.ShloMosaic Idealize.ShloMosaic.TcCoe Idealize.ShloMosaic.Tactic Cert.Kernel2Ideal Cert.Kernel2Ideal.Gen
open Idealize.ShloMosaic.Pipeline (Dat)

variable (m : (ℓ : Loc nD τ sig) → Buf (Elt Ideal) ℓ) (c : Dev nD)

abbrev x0 : FVec Ideal S16384x4096 .f32 := m ((c : Thread nD τ).loc main_arg0)
abbrev g0 : FVec Ideal S4096 .f32 := m ((c : Thread nD τ).loc main_arg1)
abbrev w0 : FVec Ideal S4096x16384 .f32 := m ((c : Thread nD τ).loc main_arg2)

theorem V_xg : (V m c main_v3 : FVec Ideal S16384x4096 .bf16)
    = truncf .bf16 (mulf (x0 m c) (broadcastInDim S16384x4096 ![0, 1] bcast_S1x4096_S16384x4096_0_1
        (broadcastInDim S1x4096 ![1] bcast_S4096_S1x4096_1 (g0 m c)))) bitsLt_bf16_f32 := by
  simp only [V, hostOps0, StableHlo.after_cons, StableHlo.after_nil]
  after_results_loop
  all_goals rfl

theorem V_rinv : (V m c main_v11 : FVec Ideal S16384x1 .f32)
    = Host.rsqrt (addf (Host.divf (broadcastInDim S16384x1 ![0] bcast_S16384_S16384x1_0
        (Host.reduceAdd (mulf (x0 m c) (x0 m c)) (constant S_ .f32 0x00000000#32) reducesTo_S16384x4096_S16384_d1 h_S_))
        (broadcastInDim S16384x1 ![] bcast_S_S16384x1 (constant S_ .f32 0x45800000#32)))
      (broadcastInDim S16384x1 ![] bcast_S_S16384x1 (constant S_ .f32 0x358637BD#32))) := by
  simp only [V, hostOps0, StableHlo.after_cons, StableHlo.after_nil]
  after_results_loop
  all_goals rfl

theorem V_w : (V m c main_v12 : FVec Ideal S4096x16384 .bf16) = truncf .bf16 (w0 m c) bitsLt_bf16_f32 := by
  simp only [V, hostOps0, StableHlo.after_cons, StableHlo.after_nil]
  after_results_loop
  all_goals rfl

theorem xg_at (s : Fin 16384) (k : Fin 4096) :
    (V m c main_v3 : FVec Ideal S16384x4096 .bf16) (ix2 s k) = x0 m c (ix2 s k) * g0 m c (ix1 k) := by
  rw [V_xg]; exact Norm.scaled_at _ _ _ _ _ s k

theorem rinv_at (s : Fin 16384) :
    (V m c main_v11 : FVec Ideal S16384x1 .f32) (ix2 s 0)
      = Norm.row (x0 m c) s := by
  rw [V_rinv]; exact Norm.recip_at _ _ _ _ _ _ s

theorem w_at (k : Fin 4096) (j : Fin 16384) :
    (V m c main_v12 : FVec Ideal S4096x16384 .bf16) (ix2 k j) = w0 m c (ix2 k j) := by
  rw [V_w]; pointwise

/-- A block's product at a row and a column. -/
theorem tile_at (a : FVec Ideal S1024x4096 .bf16) (w : FVec Ideal S4096x1024 .bf16) (r : FVec Ideal S1024x1 .f32)
    (i j : Fin 1024) : k0_pay1 (F := Ideal) a w r (ix2 i j) = (∑ k : Fin 4096, a (ix2 i k) * w (ix2 k j)) * r (ix2 i 0) := by
  pointwise [k0_pay1]

/-- The reference's product at a row and a column. -/
theorem ref_at (x : FVec Ideal S16384x4096 .f32) (g : FVec Ideal S4096 .f32) (w : FVec Ideal S4096x16384 .f32)
    (s : Fin 16384) (j : Fin 16384) :
    Cert.Reference2Ideal.Read.val_main_v13 (F := Ideal) x g w (ix2 s j)
      = ∑ k : Fin 4096, x (ix2 s k) * Norm.row x s * g (ix1 k) * w (ix2 k j) := by
  rw [Cert.Reference2Ideal.Read.val_main_v13_apply]
  refine Finset.sum_congr rfl fun k _ => ?_
  have el : Cert.Reference2Ideal.Read.lidx_main_v13 (ix2 s j) k = ix2 s k := by funext a; match a with | 0 => rfl | 1 => rfl
  have er : Cert.Reference2Ideal.Read.ridx_main_v13 (ix2 s j) k = ix2 k j := by funext a; match a with | 0 => rfl | 1 => rfl
  rw [el, er]
  exact congrArg (· * _) (Norm.normed_at x g _ _ _ _ _ _ _ _ s k)

theorem idx : ∀ t : Fin cfg0.N, win0_0.index t = ![t.val / 16, 0] ∧ win0_1.index t = ![t.val / 16, 0] ∧ win0_2.index t = ![0, t.val % 16]
      ∧ win0_3.index t = ![3, t.val, 0] ∧ win0_4.index t = ![3, min t.val 15, 0] ∧ win0_5.index t = ![1, t.val, 0]
      ∧ win0_6.index t = ![t.val / 16, t.val % 16] ∧ win0_7.index t = ![t.val, 0] ∧ win0_8.index t = ![min t.val 15, 0]
      ∧ win0_9.index t = ![t.val, 0] :=
  (by decide +kernel : ∀ t : Fin grid0.N, win0_0.index t = ![t.val / 16, 0] ∧ win0_1.index t = ![t.val / 16, 0] ∧ win0_2.index t = ![0, t.val % 16]
      ∧ win0_3.index t = ![3, t.val, 0] ∧ win0_4.index t = ![3, min t.val 15, 0] ∧ win0_5.index t = ![1, t.val, 0]
      ∧ win0_6.index t = ![t.val / 16, t.val % 16] ∧ win0_7.index t = ![t.val, 0] ∧ win0_8.index t = ![min t.val 15, 0]
      ∧ win0_9.index t = ![t.val, 0])

theorem blk0 (t : Fin cfg0.N) (s : Fin 16384) (i : Fin 1024) (k : Fin 4096) (h : s.val = 1024 * (t.val / 16) + i.val) :
    (iblk m c 0 t : FVec Ideal S1024x4096 .bf16) (ix2 i k) = x0 m c (ix2 s k) * g0 m c (ix1 k) := by
  rw [← xg_at]
  blk_ext [iblk, idx t]

theorem blk1 (t : Fin cfg0.N) (s : Fin 16384) (i : Fin 1024) (h : s.val = 1024 * (t.val / 16) + i.val) :
    (iblk m c 1 t : FVec Ideal S1024x1 .f32) (ix2 i 0) = Norm.row (x0 m c) s := by
  rw [← rinv_at]
  blk_ext [iblk, idx t]

theorem blk2 (t : Fin cfg0.N) (k : Fin 4096) (i : Fin 1024) (j : Fin 16384) (h : j.val = 1024 * (t.val % 16) + i.val) :
    (iblk m c 2 t : FVec Ideal S4096x1024 .bf16) (ix2 k i) = w0 m c (ix2 k j) := by
  rw [← w_at]
  blk_ext [iblk, idx t]

theorem final6 : (dats m 0 c).arrAt 6 cfg0.N = Cert.Reference2Ideal.Read.val_main_v13 (F := Ideal) (x0 m c) (g0 m c) (w0 m c) := by
  refine (dats m 0 c).arrAt_eq_of_covers 6 _ (by decide +kernel) fun t _ y => ?_
  blk_simp
  rw [after0_6]
  have hN : t.val < 256 := lt_of_lt_of_eq t.isLt N_0
  obtain ⟨i, j, rfl⟩ := Norm.pair y
  have e : (win0_6.blk t).view.emb (ix2 i j) = ix2 (⟨1024 * (t.val / 16) + i.val, by omega⟩ : Fin 16384) (⟨1024 * (t.val % 16) + j.val, by omega⟩ : Fin 16384) := by
    blk_ext [idx t]
  refine Eq.trans ?_ (congrArg _ e.symm)
  rw [ref_at, ← Norm.dot_row]
  unfold out0_6
  rw [View.canon_cons_unit_lit, View.ld_unit_lit, View.ld_unit_lit, View.ld_unit_lit, tile_at, blk1 m c t ⟨1024 * (t.val / 16) + i.val, by omega⟩ i rfl]
  · refine congrArg (· * _) (Finset.sum_congr rfl fun k _ => ?_)
    rw [blk0 m c t ⟨1024 * (t.val / 16) + i.val, by omega⟩ i k rfl, blk2 m c t k j ⟨1024 * (t.val % 16) + j.val, by omega⟩ rfl]
  all_goals decide

abbrev gate0 : FVec Ideal S4x4096x4096 .f32 := m ((c : Thread nD τ).loc main_arg3)
abbrev proj0 : FVec Ideal S4x256x4096 .f32 := m ((c : Thread nD τ).loc main_arg4)
abbrev pool0 : FVec Ideal S2x8192x4096 .f32 := m ((c : Thread nD τ).loc main_arg5)

theorem final7 : (dats m 0 c).arrAt 7 cfg0.N = Cert.Reference2Ideal.Read.val_main_v16 (F := Ideal) (gate0 m c) := by
  refine (dats m 0 c).arrAt_eq_of_covers 7 _ (by decide +kernel) fun t _ y => ?_
  blk_simp
  rw [after0_7]
  have hN : t.val < 256 := lt_of_lt_of_eq t.isLt N_0
  obtain ⟨i, j, rfl⟩ := Norm.pair y
  have e : (win0_7.blk t).view.emb (ix2 i j) = ix2 (⟨16 * t.val + i.val, by omega⟩ : Fin 4096) j := by
    blk_ext [idx t]
  refine Eq.trans ?_ (congrArg _ e.symm)
  unfold out0_7
  rw [View.canon_cons_unit_lit, View.ld_unit_lit]
  · open Cert.Reference2Ideal.Read in
    pointwise [k0_pay2, val_main_v16, val_main_v15, val_main_v14]
    blk_ext [iblk, V_main_arg3, idx t]
  all_goals decide

theorem final8 : (dats m 0 c).arrAt 8 cfg0.N = Cert.Reference2Ideal.Read.val_main_v21 (F := Ideal) (proj0 m c) := by
  refine (dats m 0 c).arrAt_eq_of_covers 8 _ (by decide +kernel) fun t _ y => ?_
  blk_simp
  rw [after0_8]
  have hN : t.val < 256 := lt_of_lt_of_eq t.isLt N_0
  obtain ⟨i, j, rfl⟩ := Norm.pair y
  have e : (win0_8.blk t).view.emb (ix2 i j) = ix2 (⟨16 * min t.val 15 + i.val, by omega⟩ : Fin 256) j := by
    blk_ext [idx t]
  refine Eq.trans ?_ (congrArg _ e.symm)
  unfold out0_8
  rw [View.canon_cons_unit_lit, View.ld_unit_lit]
  · open Cert.Reference2Ideal.Read in
    pointwise [k0_pay3, val_main_v21, val_main_v20, val_main_v19, val_main_v18, val_main_v17, val_main_cst_2]
    rw [mul_comm]
    refine congrArg (_ * ·) ?_
    blk_ext [iblk, V_main_arg4, idx t]
  all_goals decide

theorem final9 : (dats m 0 c).arrAt 9 cfg0.N = Cert.Reference2Ideal.Read.val_main_v24 (F := Ideal) (pool0 m c) := by
  refine (dats m 0 c).arrAt_eq_of_covers 9 _ (by decide +kernel) fun t _ y => ?_
  blk_simp
  rw [after0_9]
  have hN : t.val < 256 := lt_of_lt_of_eq t.isLt N_0
  obtain ⟨i, j, rfl⟩ := Norm.pair y
  have e : (win0_9.blk t).view.emb (ix2 i j) = ix2 (⟨32 * t.val + i.val, by omega⟩ : Fin 8192) j := by
    blk_ext [idx t]
  refine Eq.trans ?_ (congrArg _ e.symm)
  unfold out0_9
  rw [View.canon_cons_unit_lit, View.ld_unit_lit]
  · open Cert.Reference2Ideal.Read in
    pointwise [k0_pay4, val_main_v24, val_main_v23, val_main_v22]
    blk_ext [iblk, V_main_arg5, idx t]
  all_goals decide

end Cert.Kernel2Ideal.Final

end
-- ==== Proof.Pool.Bridge.lean ====
module

public import proofs.«01_k».proof.Defs
public import proofs.«01_k».proof.Proof.Pool.Final

@[expose] public section

set_option maxRecDepth 16384

/-! The input projection of the pooling block: the two programs over the reals, the same arrays. -/

noncomputable section

namespace Cert.Kernel2Ideal

open Idealize.ShloMosaic Idealize.ShloMosaic.TcCoe Idealize.SL.Sem

theorem algebraic : Cert.algebraic_Kernel2Ideal_Reference2Ideal := by
  intro m ρ m' ρ' _ hagree
  refine ⟨_, _, _, _, Cert.Kernel2Ideal.Value.run_blocks m ρ, ?_⟩
  refine (θ_run _ _ _).mono (fun _ h c => ⟨(h c).1.trans ?_, (h c).2.1.trans ?_, (h c).2.2.1.trans ?_, (h c).2.2.2.1.trans ?_, (h c).2.2.2.2⟩)
    (Cert.Reference2Ideal.Value.run m' ρ')
  all_goals obtain ⟨e0, e1, e2, e3, e4, e5⟩ := hagree c
  · rw [Cert.Reference2Ideal.Read.val_main_v13_eq, Final.final6 m c, e0, e1, e2]
  · rw [Cert.Reference2Ideal.Read.val_main_v16_eq, Final.final7 m c, e3]
  · rw [Cert.Reference2Ideal.Read.val_main_v21_eq, Final.final8 m c, e4]
  · rw [Cert.Reference2Ideal.Read.val_main_v24_eq, Final.final9 m c, e5]

end Cert.Kernel2Ideal

end
-- ==== Proof.Norm.Block.lean ====
module

public import proofs.«01_k».proof.Proof.Norm.Host
public import Idealize.ShloMosaic.Lib.Pipeline.ValueKit

@[expose] public section

set_option maxRecDepth 16384

/-! What the blocks of several projections share: the columns of a block from one on, and a row's squares gathered a
stretch of columns at a time. -/

noncomputable section

namespace Cert.Norm

open Idealize.ShloMosaic

/-- Columns of a block from one on. -/
theorem ld_cols {a b : ℕ} {ty : EltTy} (v : (⟨2, ![a, b]⟩ : Shape).Idx → Elt Ideal ty) (o : ℕ) (n : Fin 2 → ℕ) (h) (i : Fin a) (k : Fin b) (y) (e0 : (y 0).val = i.val) (e1 : k.val = o + (y 1).val) :
    View.ld (Val := Elt Ideal) (e' := ty) v (Rect.unit (s := ⟨2, ![a, b]⟩) ![0, o] n h) y = v (ix2 i k) :=
  View.ld_unit_apply_of _ _ _ _ _ _ fun a => by
    match a with
    | 0 => show i.val = 0 + (y 0).val; omega
    | 1 => exact e1

/-- The square of a row's entry, nothing past the row's end. -/
def sq (x : FVec Ideal Rows .f32) (s : Fin 16384) (n : ℕ) : EReal :=
  if h : n < 4096 then x (ix2 s ⟨n, h⟩) * x (ix2 s ⟨n, h⟩) else 0

theorem sum_sq (x : FVec Ideal Rows .f32) (s : Fin 16384) :
    ∑ n ∈ Finset.range 4096, sq x s n = ∑ k : Fin 4096, x (ix2 s k) * x (ix2 s k) := by
  rw [Finset.sum_range]
  exact Finset.sum_congr rfl fun k _ => dif_pos k.isLt

/-- A stretch's squares, the stretch given entry by entry. -/
theorem sum_stretch {w : ℕ} (x : FVec Ideal Rows .f32) (s : Fin 16384) (o : ℕ) (ho : o + w ≤ 4096) (f : Fin w → EReal)
    (h : ∀ (j : Fin w) (q : Fin 4096), q.val = o + j.val → f j = x (ix2 s q)) :
    ∑ j, f j * f j = ∑ n ∈ Finset.range w, sq x s (o + n) := by
  rw [Finset.sum_range]
  refine Finset.sum_congr rfl fun j _ => ?_
  have hj : o + j.val < 4096 := by omega
  rw [h j ⟨o + j.val, hj⟩ rfl]
  unfold sq
  rw [dif_pos hj]

theorem ofBits_recip : Ideal.ofBits .f32 0x39800000#32 = ((4096⁻¹ : ℝ) : EReal) := by
  simp [Ideal.ofBits, Ideal.ieee]
  rw [← EReal.coe_mul]
  norm_num

/-- Multiplying the gathered squares by the length's reciprocal is dividing them by it. -/
theorem row_of_sum (x : FVec Ideal Rows .f32) (s : Fin 16384) :
    Ideal.rsqrt ((∑ n ∈ Finset.range 4096, sq x s n) * Ideal.ofBits .f32 0x39800000#32 + Ideal.ofBits .f32 0x358637BD#32) = row x s := by
  unfold row rms
  rw [sum_sq, ofBits_recip, ofBits_4096]
  unfold Ideal.div
  rw [if_neg (by simp), EReal.coe_inv]

end Cert.Norm

end
-- ==== Proof.Embed.Gate.lean ====
module

public import proofs.«01_k».proof.Proof.Norm.Rms

@[expose] public section

/-! The logistic gate through the hyperbolic tangent of half its argument. -/

noncomputable section

namespace Cert.Norm

open Idealize.ShloMosaic

theorem half : Ideal.ofBits .f32 0x3F000000#32 = ((1 / 2 : ℝ) : EReal) := by
  simp [Ideal.ofBits, Ideal.ieee]
  rw [← EReal.coe_mul]
  norm_num

theorem one : Ideal.ofBits .f32 0x3F800000#32 = (1 : EReal) := by
  simp [Ideal.ofBits, Ideal.ieee]
  rw [← EReal.coe_mul]
  norm_num

theorem tanh_half (r : ℝ) : 1 / (1 + Real.exp (-r)) = (1 + Real.tanh (r * (1 / 2))) / 2 := by
  rw [Real.tanh_eq_sinh_div_cosh, Real.sinh_eq, Real.cosh_eq]
  have e : Real.exp (-r) = Real.exp (-(r * (1 / 2))) * Real.exp (-(r * (1 / 2))) := by rw [← Real.exp_add]; ring_nf
  have e1 : Real.exp (r * (1 / 2)) * Real.exp (-(r * (1 / 2))) = 1 := by rw [← Real.exp_add]; simp
  rw [e]
  set a := Real.exp (r * (1 / 2)); set b := Real.exp (-(r * (1 / 2)))
  have ha : 0 < a := Real.exp_pos _
  have hb : 0 < b := Real.exp_pos _
  have h1 : a + b ≠ 0 := by positivity
  have h2 : 1 + b * b ≠ 0 := by positivity
  field_simp
  linear_combination (-2 * b) * e1

/-- A logistic is one plus a hyperbolic tangent, halved, at every argument: both are real numbers. -/
theorem gate_real (y : EReal) : ∃ u : ℝ, Ideal.tanh (y * ((1 / 2 : ℝ) : EReal)) = (u : EReal)
    ∧ Ideal.div 1 (1 + Ideal.exp (-y)) = (((1 + u) / 2 : ℝ) : EReal) := by
  induction y with
  | bot =>
    refine ⟨-1, ?_, ?_⟩
    · rw [EReal.bot_mul_coe_of_pos (by norm_num)]; simp
    · have e : (1 : EReal) + ⊤ = ⊤ := EReal.add_top_of_ne_bot (EReal.coe_ne_bot 1)
      simp [Ideal.div, e]
  | top =>
    refine ⟨1, ?_, ?_⟩
    · rw [EReal.top_mul_coe_of_pos (by norm_num)]; simp
    · simp [Ideal.div]
  | coe r =>
    refine ⟨Real.tanh (r * (1 / 2)), ?_, ?_⟩
    · rw [← EReal.coe_mul, Ideal.tanh_coe]
    · have hd : (1 : ℝ) + Real.exp (-r) ≠ 0 := by positivity
      rw [← EReal.coe_neg, Ideal.exp_coe, ← EReal.coe_one, ← EReal.coe_add, Ideal.div_coe hd, ← EReal.coe_mul, ← tanh_half, one_div, one_mul]

/-- Half of a real number, and that half times the tangent, added: the number times its gate. -/
theorem gated (a : ℝ) (y : EReal) :
    (a : EReal) * ((1 / 2 : ℝ) : EReal) + (a : EReal) * ((1 / 2 : ℝ) : EReal) * Ideal.tanh (y * ((1 / 2 : ℝ) : EReal))
      = (a : EReal) * Ideal.div 1 (1 + Ideal.exp (-y)) := by
  obtain ⟨u, h1, h2⟩ := gate_real y
  rw [h1, h2, ← EReal.coe_mul, ← EReal.coe_mul, ← EReal.coe_mul, ← EReal.coe_add]
  congr 1
  ring

/-- A sum of products of real numbers is a real number. -/
theorem sum_real {K : ℕ} (p w : Fin K → EReal) (hp : ∀ k, ∃ r : ℝ, p k = (r : EReal)) (hw : ∀ k, ∃ r : ℝ, w k = (r : EReal)) :
    ∃ r : ℝ, ∑ k, p k * w k = (r : EReal) := by
  choose a ha using hp
  choose b hb using hw
  refine ⟨∑ k, a k * b k, ?_⟩
  simp only [ha, hb, ← EReal.coe_mul]
  exact (map_sum (⟨⟨((↑) : ℝ → EReal), EReal.coe_zero⟩, EReal.coe_add⟩ : ℝ →+ EReal) _ _).symm

end Cert.Norm

end
-- ==== Proof.Embed.Final.lean ====
module

public import proofs.«01_k».proof.Proof.Gen.Kernel3Ideal.Value
public import proofs.«01_k».proof.Proof.Gen.Reference3Ideal.Read
public import proofs.«01_k».proof.Proof.Norm.Block
public import proofs.«01_k».proof.Proof.Embed.Gate
public import Idealize.ShloMosaic.Lib.Pipeline.ValueKit
public import Idealize.ShloMosaic.Lib.Claim
public import Idealize.ShloMosaic.Lib.Pointwise

@[expose] public section

set_option maxRecDepth 16384

/-! The last layer's embedding: what the host prepares, what a block stores, the array the run leaves. -/

noncomputable section

namespace Cert.Kernel3Ideal.Final

open Idealize.ShloMosaic Idealize.ShloMosaic.TcCoe Idealize.ShloMosaic.Tactic Cert.Kernel3Ideal Cert.Kernel3Ideal.Gen
open Idealize.ShloMosaic.Pipeline (Dat)

/-! ### The reference -/

/-- The stream as a matrix of rows. -/
def rows (x : FVec Ideal S1x16384x4096 .f32) : FVec Ideal S16384x4096 .f32 := fun i => x (ix3 0 (i 0) (i 1))

/-- The gate's argument, the embedding, and the result, at a row and a column. -/
def arg (x : FVec Ideal S1x16384x4096 .f32) (g : FVec Ideal S4096 .f32) (w : FVec Ideal S4096x4096 .f32) (s : Fin 16384) (j : Fin 4096) : EReal :=
  ∑ k : Fin 4096, x (ix3 0 s k) * Norm.row (rows x) s * g (ix1 k) * w (ix2 k j)

def emb (p : FVec Ideal S4x1x16384x256 .f32) (q : FVec Ideal S256x4096 .f32) (s : Fin 16384) (j : Fin 4096) : EReal :=
  ∑ k : Fin 256, p (ix4 3 0 s k) * q (ix2 k j)

section
open Cert.Reference3Ideal.Read

theorem normed_at (x : FVec Ideal S1x16384x4096 .f32) (g : FVec Ideal S4096 .f32) (s : Fin 16384) (k : Fin 4096) :
    val_main_v12 (F := Ideal) x g (ix3 0 s k) = x (ix3 0 s k) * Norm.row (rows x) s * g (ix1 k) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem arg_at (x : FVec Ideal S1x16384x4096 .f32) (g : FVec Ideal S4096 .f32) (w : FVec Ideal S4096x4096 .f32) (s : Fin 16384) (j : Fin 4096) :
    val_main_v13 (F := Ideal) x g w (ix3 0 s j) = arg x g w s j := by
  rw [val_main_v13_apply]
  refine Finset.sum_congr rfl fun k _ => ?_
  have el : lidx_main_v13 (ix3 0 s j) k = ix3 0 s k := by funext a; match a with | 0 => rfl | 1 => rfl | 2 => rfl
  have er : ridx_main_v13 (ix3 0 s j) k = ix2 k j := by funext a; match a with | 0 => rfl | 1 => rfl
  rw [el, er, normed_at]

theorem emb_at (p : FVec Ideal S4x1x16384x256 .f32) (q : FVec Ideal S256x4096 .f32) (s : Fin 16384) (j : Fin 4096) :
    val_main_v22 (F := Ideal) p q (ix3 0 s j) = emb p q s j := by
  rw [val_main_v22_apply]
  refine Finset.sum_congr rfl fun k _ => ?_
  have el : lidx_main_v22 (ix3 0 s j) k = ix3 0 s k := by funext a; match a with | 0 => rfl | 1 => rfl | 2 => rfl
  have er : ridx_main_v22 (ix3 0 s j) k = ix2 k j := by funext a; match a with | 0 => rfl | 1 => rfl
  have ep : val_main_v21 (F := Ideal) p (ix3 0 s k) = p (ix4 3 0 s k) := by pointwise [val_main_v21, val_main_v20]
  rw [el, er, ep]

theorem ref_at (x : FVec Ideal S1x16384x4096 .f32) (p : FVec Ideal S4x1x16384x256 .f32) (g : FVec Ideal S4096 .f32)
    (w : FVec Ideal S4096x4096 .f32) (q : FVec Ideal S256x4096 .f32) (s : Fin 16384) (j : Fin 4096) :
    val_main_v25 (F := Ideal) x p g w q (ix2 s j)
      = x (ix3 0 s j) + emb p q s j * Ideal.div 1 (1 + Ideal.exp (-arg x g w s j)) := by
  rw [← arg_at, ← emb_at, ← Norm.one]
  generalize hy : val_main_v13 (F := Ideal) x g w = y
  generalize hz : val_main_v22 (F := Ideal) p q = z
  pointwise [val_main_v25, val_main_v24, val_main_v23, val_main_v19, val_main_v18, val_main_v17, val_main_v16, val_main_v15, val_main_v14,
    val_main_cst_2, val_main_cst_3, hy, hz]

end

/-! ### What the host prepares -/

section
variable (m : (ℓ : Loc nD τ sig) → Buf (Elt Ideal) ℓ) (c : Dev nD)

abbrev x0 : FVec Ideal S1x16384x4096 .f32 := m ((c : Thread nD τ).loc main_arg0)
abbrev p0 : FVec Ideal S4x1x16384x256 .f32 := m ((c : Thread nD τ).loc main_arg1)
abbrev g0 : FVec Ideal S4096 .f32 := m ((c : Thread nD τ).loc main_arg2)
abbrev w0 : FVec Ideal S4096x4096 .f32 := m ((c : Thread nD τ).loc main_arg3)
abbrev q0 : FVec Ideal S256x4096 .f32 := m ((c : Thread nD τ).loc main_arg4)

theorem rows_eq (x : FVec Ideal S1x16384x4096 .f32) : shapeCast S16384x4096 x shapeCasts_S1x16384x4096_S16384x4096 = rows x := by
  funext y
  obtain ⟨i, j, rfl⟩ := Norm.pair y
  unfold rows
  pointwise

theorem V_x : (V m c main_v0 : FVec Ideal S16384x4096 .f32) = shapeCast S16384x4096 (x0 m c) shapeCasts_S1x16384x4096_S16384x4096 := by
  simp only [V, hostOps0, StableHlo.after_cons, StableHlo.after_nil]
  after_results_loop
  all_goals rfl

theorem V_xg : (V m c main_v4 : FVec Ideal S16384x4096 .bf16)
    = truncf .bf16 (mulf (shapeCast S16384x4096 (x0 m c) shapeCasts_S1x16384x4096_S16384x4096) (broadcastInDim S16384x4096 ![0, 1] bcast_S1x4096_S16384x4096_0_1
        (broadcastInDim S1x4096 ![1] bcast_S4096_S1x4096_1 (g0 m c)))) bitsLt_bf16_f32 := by
  simp only [V, hostOps0, StableHlo.after_cons, StableHlo.after_nil]
  after_results_loop
  all_goals rfl

theorem V_rinv : (V m c main_v12 : FVec Ideal S16384x1 .f32)
    = Host.rsqrt (addf (Host.divf (broadcastInDim S16384x1 ![0] bcast_S16384_S16384x1_0
        (Host.reduceAdd (mulf (shapeCast S16384x4096 (x0 m c) shapeCasts_S1x16384x4096_S16384x4096) (shapeCast S16384x4096 (x0 m c) shapeCasts_S1x16384x4096_S16384x4096)) (constant S_ .f32 0x00000000#32) reducesTo_S16384x4096_S16384_d1 h_S_))
        (broadcastInDim S16384x1 ![] bcast_S_S16384x1 (constant S_ .f32 0x45800000#32)))
      (broadcastInDim S16384x1 ![] bcast_S_S16384x1 (constant S_ .f32 0x358637BD#32))) := by
  simp only [V, hostOps0, StableHlo.after_cons, StableHlo.after_nil]
  after_results_loop
  all_goals rfl

theorem V_w : (V m c main_v13 : FVec Ideal S4096x4096 .bf16) = truncf .bf16 (w0 m c) bitsLt_bf16_f32 := by
  simp only [V, hostOps0, StableHlo.after_cons, StableHlo.after_nil]
  after_results_loop
  all_goals rfl

theorem V_q : (V m c main_v16 : FVec Ideal S256x4096 .bf16)
    = truncf .bf16 (mulf (q0 m c) (broadcastInDim S256x4096 ![] bcast_S_S256x4096 (constant S_ .f32 0x3F000000#32))) bitsLt_bf16_f32 := by
  simp only [V, hostOps0, StableHlo.after_cons, StableHlo.after_nil]
  after_results_loop
  all_goals rfl

theorem x_at (s : Fin 16384) (j : Fin 4096) : (V m c main_v0 : FVec Ideal S16384x4096 .f32) (ix2 s j) = x0 m c (ix3 0 s j) := by
  rw [V_x, rows_eq]; rfl

theorem xg_at (s : Fin 16384) (k : Fin 4096) :
    (V m c main_v4 : FVec Ideal S16384x4096 .bf16) (ix2 s k) = x0 m c (ix3 0 s k) * g0 m c (ix1 k) := by
  rw [V_xg, rows_eq]; exact Norm.scaled_at _ _ _ _ _ s k

theorem rinv_at (s : Fin 16384) : (V m c main_v12 : FVec Ideal S16384x1 .f32) (ix2 s 0) = Norm.row (rows (x0 m c)) s := by
  rw [V_rinv, rows_eq]; exact Norm.recip_at _ _ _ _ _ _ s

theorem w_at (k j : Fin 4096) : (V m c main_v13 : FVec Ideal S4096x4096 .bf16) (ix2 k j) = w0 m c (ix2 k j) := by
  rw [V_w]; pointwise

theorem q_at (k : Fin 256) (j : Fin 4096) :
    (V m c main_v16 : FVec Ideal S256x4096 .bf16) (ix2 k j) = q0 m c (ix2 k j) * ((1 / 2 : ℝ) : EReal) := by
  rw [V_q, ← Norm.half]; pointwise

theorem idx : ∀ t : Fin cfg0.N, win0_0.index t = ![t.val / 8, 0] ∧ win0_1.index t = ![t.val / 8, 0] ∧ win0_2.index t = ![0, t.val % 8]
      ∧ win0_3.index t = ![3, 0, t.val / 8, 0] ∧ win0_4.index t = ![0, 0] ∧ win0_5.index t = ![t.val / 8, t.val % 8]
      ∧ win0_6.index t = ![t.val / 8, t.val % 8] ∧ (grid0.coords t 1).val = t.val % 8 :=
  (by decide +kernel : ∀ t : Fin grid0.N, win0_0.index t = ![t.val / 8, 0] ∧ win0_1.index t = ![t.val / 8, 0] ∧ win0_2.index t = ![0, t.val % 8]
      ∧ win0_3.index t = ![3, 0, t.val / 8, 0] ∧ win0_4.index t = ![0, 0] ∧ win0_5.index t = ![t.val / 8, t.val % 8]
      ∧ win0_6.index t = ![t.val / 8, t.val % 8] ∧ (grid0.coords t 1).val = t.val % 8)

theorem blk0 (t : Fin cfg0.N) (s : Fin 16384) (i : Fin 1024) (k : Fin 4096) (h : s.val = 1024 * (t.val / 8) + i.val) :
    (iblk m c 0 t : FVec Ideal S1024x4096 .bf16) (ix2 i k) = x0 m c (ix3 0 s k) * g0 m c (ix1 k) := by
  rw [← xg_at]
  blk_ext [iblk, idx t]

theorem blk1 (t : Fin cfg0.N) (s : Fin 16384) (i : Fin 1024) (h : s.val = 1024 * (t.val / 8) + i.val) :
    (iblk m c 1 t : FVec Ideal S1024x1 .f32) (ix2 i 0) = Norm.row (rows (x0 m c)) s := by
  rw [← rinv_at]
  blk_ext [iblk, idx t]

theorem blk2 (t : Fin cfg0.N) (k : Fin 4096) (i : Fin 512) (j : Fin 4096) (h : j.val = 512 * (t.val % 8) + i.val) :
    (iblk m c 2 t : FVec Ideal S4096x512 .bf16) (ix2 k i) = w0 m c (ix2 k j) := by
  rw [← w_at]
  blk_ext [iblk, idx t]

theorem blk3 (t : Fin cfg0.N) (s : Fin 16384) (i : Fin 1024) (k : Fin 256) (h : s.val = 1024 * (t.val / 8) + i.val) :
    (iblk m c 3 t : FVec Ideal S1x1x1024x256 .f32) (ix4 0 0 i k) = p0 m c (ix4 3 0 s k) := by
  blk_ext [iblk, V_main_arg1, idx t]

theorem blk4 (t : Fin cfg0.N) (k : Fin 256) (j : Fin 4096) :
    (iblk m c 4 t : FVec Ideal S256x4096 .bf16) (ix2 k j) = q0 m c (ix2 k j) * ((1 / 2 : ℝ) : EReal) := by
  rw [← q_at]
  blk_ext [iblk, idx t]

theorem blk5 (t : Fin cfg0.N) (s : Fin 16384) (j : Fin 4096) (i : Fin 1024) (k : Fin 512) (h : s.val = 1024 * (t.val / 8) + i.val)
    (hk : j.val = 512 * (t.val % 8) + k.val) :
    (iblk m c 5 t : FVec Ideal S1024x512 .f32) (ix2 i k) = x0 m c (ix3 0 s j) := by
  rw [← x_at]
  blk_ext [iblk, idx t]

end

/-! ### A block -/

/-- A block's entry: the stream plus the half embedding and its product with the tangent. -/
def entry (a : Fin 4096 → EReal) (u : Fin 4096 → EReal) (r : EReal) (p v : Fin 256 → EReal) (x : EReal) : EReal :=
  x + ((∑ k, p k * v k) + (∑ k, p k * v k) * Ideal.tanh ((∑ k, a k * u k) * (((1 / 2 : ℝ) : EReal) * r)))

theorem first_at (p : FVec Ideal S1x1x1024x256 .f32) (r : FVec Ideal S1024x1 .f32) (a : FVec Ideal S1024x4096 .bf16) (u : FVec Ideal S4096x256 .bf16)
    (v : FVec Ideal S256x256 .bf16) (x : FVec Ideal S1024x256 .f32) (i : Fin 1024) (j : Fin 256) :
    k0_pay4 (F := Ideal) p r a u v x (ix2 i j)
      = entry (fun k => a (ix2 i k)) (fun k => u (ix2 k j)) (r (ix2 i 0)) (fun k => p (ix4 0 0 i k)) (fun k => v (ix2 k j)) (x (ix2 i j)) := by
  unfold entry
  rw [← Norm.half]
  pointwise [k0_pay4, k0_pay2, k0_pay3]

theorem second_at (p : FVec Ideal S1x1x1024x256 .f32) (r : FVec Ideal S1024x1 .f32) (a : FVec Ideal S1024x4096 .bf16) (u : FVec Ideal S4096x256 .bf16)
    (v : FVec Ideal S256x256 .bf16) (x : FVec Ideal S1024x256 .f32) (i : Fin 1024) (j : Fin 256) :
    k0_pay1 (F := Ideal) (k0_pay2 p) (k0_pay3 r) (k0_pay5 a) (k0_pay6 u) (constant S1024x256 .f32 0x00000000#32) v x (ix2 i j)
      = entry (fun k => a (ix2 i k)) (fun k => u (ix2 k j)) (r (ix2 i 0)) (fun k => p (ix4 0 0 i k)) (fun k => v (ix2 k j)) (x (ix2 i j)) := by
  unfold entry
  rw [← Norm.half]
  pointwise [k0_pay1, k0_pay2, k0_pay3, k0_pay5, k0_pay6]

/-- The two stores of a block, the second first. -/
theorem pieces_A (c : Dev nD) (i : grid0.Coords) (arg2 : Memref sig .tc .vmem S1024x4096 .bf16) (harg2 : arg2.IsWhole) (arg3 : Memref sig .tc .vmem S1024x1 .f32) (harg3 : arg3.IsWhole) (arg4 : Memref sig .tc .vmem S4096x512 .bf16) (harg4 : arg4.IsWhole) (arg5 : Memref sig .tc .vmem S1x1x1024x256 .f32) (harg5 : arg5.IsWhole) (arg6 : Memref sig .tc .vmem S256x4096 .bf16) (harg6 : arg6.IsWhole) (arg7 : Memref sig .tc .vmem S1024x512 .f32) (harg7 : arg7.IsWhole) (arg8 : Memref sig .tc .vmem S1024x512 .f32) (harg8 : arg8.IsWhole)
    (x0 : Vec Ideal S1024x4096 .bf16) (x1 : Vec Ideal S1024x1 .f32) (x2 : Vec Ideal S4096x512 .bf16) (x3 : Vec Ideal S1x1x1024x256 .f32) (x4 : Vec Ideal S256x4096 .bf16) (x5 : Vec Ideal S1024x512 .f32) :
    (kernelRun0_A c i arg2 harg2 arg3 harg3 arg4 harg4 arg5 harg5 arg6 harg6 arg7 harg7 arg8 harg8 x0 x1 x2 x3 x4 x5).1
      = [⟨Rect.unit (s := S1024x512) ![0, 256] S1024x256.size inb_S1024x512_S1024x256_0_256,
          k0_pay1 (k0_pay2 (View.ld (arg5.view.read (Elt Ideal) (harg5.unread x3)) (Rect.unit (s := S1x1x1024x256) ![0, 0, 0, 0] S1x1x1024x256.size inb_S1x1x1024x256_S1x1x1024x256_0_0_0_0)))
            (k0_pay3 (View.ld (arg3.view.read (Elt Ideal) (harg3.unread x1)) (Rect.unit (s := S1024x1) ![0, 0] S1024x1.size inb_S1024x1_S1024x1_0_0)))
            (k0_pay5 (View.ld (arg2.view.read (Elt Ideal) (harg2.unread x0)) (Rect.unit (s := S1024x4096) ![0, 0] S1024x4096.size inb_S1024x4096_S1024x4096_0_0)))
            (k0_pay6 (View.ld (arg4.view.read (Elt Ideal) (harg4.unread x2)) (Rect.unit (s := S4096x512) ![0, 256] S4096x256.size inb_S4096x512_S4096x256_0_256)))
            (constant S1024x256 .f32 0x00000000#32)
            (View.ld (arg6.view.read (Elt Ideal) (harg6.unread x4)) (Rect.unit (s := S256x4096) (k0_off1 i 256#32) S256x256.size (k0_off1_inb i 1)))
            (View.ld (arg7.view.read (Elt Ideal) (harg7.unread x5)) (Rect.unit (s := S1024x512) ![0, 256] S1024x256.size inb_S1024x512_S1024x256_0_256))⟩,
        ⟨Rect.unit (s := S1024x512) ![0, 0] S1024x256.size inb_S1024x512_S1024x256_0_0,
          k0_pay4 (View.ld (arg5.view.read (Elt Ideal) (harg5.unread x3)) (Rect.unit (s := S1x1x1024x256) ![0, 0, 0, 0] S1x1x1024x256.size inb_S1x1x1024x256_S1x1x1024x256_0_0_0_0))
            (View.ld (arg3.view.read (Elt Ideal) (harg3.unread x1)) (Rect.unit (s := S1024x1) ![0, 0] S1024x1.size inb_S1024x1_S1024x1_0_0))
            (View.ld (arg2.view.read (Elt Ideal) (harg2.unread x0)) (Rect.unit (s := S1024x4096) ![0, 0] S1024x4096.size inb_S1024x4096_S1024x4096_0_0))
            (View.ld (arg4.view.read (Elt Ideal) (harg4.unread x2)) (Rect.unit (s := S4096x512) ![0, 0] S4096x256.size inb_S4096x512_S4096x256_0_0))
            (View.ld (arg6.view.read (Elt Ideal) (harg6.unread x4)) (Rect.unit (s := S256x4096) (k0_off1 i 0#32) S256x256.size (k0_off1_inb i 0)))
            (View.ld (arg7.view.read (Elt Ideal) (harg7.unread x5)) (Rect.unit (s := S1024x512) ![0, 0] S1024x256.size inb_S1024x512_S1024x256_0_0))⟩] := by
  sl_kernel_rfl

/-- The columns of the projection that a point reads, for either half of its block. -/
theorem ld_proj (i : grid0.Coords) (v : FVec Ideal S256x4096 .bf16) (r : Fin 2) (k j : Fin 256) (q : Fin 4096) (hq : q.val = 512 * (i 1).val + 256 * r.val + j.val) :
    View.ld (Val := Elt Ideal) (e' := .bf16) v (Rect.unit (s := S256x4096) (k0_off1 i (BitVec.ofNat 32 (256 * r.val))) S256x256.size (k0_off1_inb i r)) (ix2 k j) = v (ix2 k q) :=
  View.ld_unit_apply_of _ _ _ _ _ _ fun a => by
    have e := congrFun (k0_off1_eq i r) a
    match a with
    | 0 =>
      show k.val = k0_off1 i (BitVec.ofNat 32 (256 * r.val)) 0 + k.val
      rw [e]; show k.val = 0 + k.val; omega
    | 1 =>
      show q.val = k0_off1 i (BitVec.ofNat 32 (256 * r.val)) 1 + j.val
      rw [e]; exact hq

theorem emb_cols {a b n : ℕ} (o : ℕ) (h) (i : Fin a) (j : Fin n) (k : Fin b) (hk : k.val = o + j.val) :
    (Rect.unit (s := ⟨2, ![a, b]⟩) ![0, o] ![a, n] h).emb (ix2 i j) = ix2 i k := by
  funext e
  refine Fin.ext ?_
  match e with
  | 0 => show 0 + 1 * i.val = i.val; omega
  | 1 => show o + 1 * j.val = k.val; omega

theorem entry_congr {a u u' : Fin 4096 → EReal} {r : EReal} {p v v' : Fin 256 → EReal} {x x' : EReal} (hu : ∀ k, u k = u' k) (hv : ∀ k, v k = v' k) (hx : x = x') :
    entry a u r p v x = entry a u' r p v' x' := by
  rw [funext hu, funext hv, hx]

/-- What a point stores, half by half. -/
theorem out_A (c : Dev nD) (i : grid0.Coords) (arg2 : Memref sig .tc .vmem S1024x4096 .bf16) (harg2 : arg2.IsWhole) (arg3 : Memref sig .tc .vmem S1024x1 .f32) (harg3 : arg3.IsWhole) (arg4 : Memref sig .tc .vmem S4096x512 .bf16) (harg4 : arg4.IsWhole) (arg5 : Memref sig .tc .vmem S1x1x1024x256 .f32) (harg5 : arg5.IsWhole) (arg6 : Memref sig .tc .vmem S256x4096 .bf16) (harg6 : arg6.IsWhole) (arg7 : Memref sig .tc .vmem S1024x512 .f32) (harg7 : arg7.IsWhole) (arg8 : Memref sig .tc .vmem S1024x512 .f32) (harg8 : arg8.IsWhole)
    (x0 : Vec Ideal S1024x4096 .bf16) (x1 : Vec Ideal S1024x1 .f32) (x2 : Vec Ideal S4096x512 .bf16) (x3 : Vec Ideal S1x1x1024x256 .f32) (x4 : Vec Ideal S256x4096 .bf16) (x5 : Vec Ideal S1024x512 .f32) (G : S1024x512.Idx → EReal)
    (hG : ∀ (y : Fin 1024) (r : Fin 2) (j : Fin 256) (k : Fin 512) (q : Fin 4096), k.val = 256 * r.val + j.val → q.val = 512 * (i 1).val + k.val →
      entry (fun n => x0 (ix2 y n)) (fun n => x2 (ix2 n k)) (x1 (ix2 y 0)) (fun n => x3 (ix4 0 0 y n)) (fun n => x4 (ix2 n q)) (x5 (ix2 y k)) = G (ix2 y k)) (y : S1024x512.Idx) :
    out0_A_6 c i arg2 harg2 arg3 harg3 arg4 harg4 arg5 harg5 arg6 harg6 arg7 harg7 arg8 harg8 x0 x1 x2 x3 x4 x5 y = G y := by
  unfold out0_A_6
  rw [View.read_writes_eq_canon _ _ _ (cover0_A_6 c i arg2 harg2 arg3 harg3 arg4 harg4 arg5 harg5 arg6 harg6 arg7 harg7 arg8 harg8 x0 x1 x2 x3 x4 x5)]
  refine View.canon_apply_of_pieces G _ ?_ y (cover0_A_6 c i arg2 harg2 arg3 harg3 arg4 harg4 arg5 harg5 arg6 harg6 arg7 harg7 arg8 harg8 x0 x1 x2 x3 x4 x5 y)
  have e := pieces_A c i arg2 harg2 arg3 harg3 arg4 harg4 arg5 harg5 arg6 harg6 arg7 harg7 arg8 harg8 x0 x1 x2 x3 x4 x5
  simp only [harg2.read_unread, harg3.read_unread, harg4.read_unread, harg5.read_unread, harg6.read_unread, harg7.read_unread] at e
  rw [e]
  have i1 : (i 1).val < 8 := (i 1).isLt
  intro pc hpc
  rcases List.mem_cons.1 hpc with rfl | hpc
  · intro x
    obtain ⟨a, j, rfl⟩ : ∃ (a : Fin 1024) (j : Fin 256), x = ix2 a j := Norm.pair x
    have hq : 512 * (i 1).val + (256 + j.val) < 4096 := by omega
    refine Eq.trans ?_ ((hG a 1 j ⟨256 + j.val, by omega⟩ ⟨512 * (i 1).val + (256 + j.val), hq⟩ rfl rfl).trans
      (congrArg G (emb_cols 256 inb_S1024x512_S1024x256_0_256 a j ⟨256 + j.val, by omega⟩ rfl).symm))
    refine (second_at _ _ _ _ _ _ a j).trans ?_
    rw [View.ld_unit_lit, View.ld_unit_lit, View.ld_unit_lit]
    · refine entry_congr (fun n => ?_) (fun n => ?_) ?_
      · exact Norm.ld_cols (ty := .bf16) x2 256 _ _ n ⟨256 + j.val, by omega⟩ (ix2 n j) rfl rfl
      · exact ld_proj i x4 1 n j ⟨512 * (i 1).val + (256 + j.val), hq⟩ (by show 512 * (i 1).val + (256 + j.val) = 512 * (i 1).val + 256 * 1 + j.val; omega)
      · exact Norm.ld_cols (ty := .f32) x5 256 _ _ a ⟨256 + j.val, by omega⟩ (ix2 a j) rfl rfl
    all_goals decide
  · obtain rfl := List.mem_singleton.1 hpc
    intro x
    obtain ⟨a, j, rfl⟩ : ∃ (a : Fin 1024) (j : Fin 256), x = ix2 a j := Norm.pair x
    have hq : 512 * (i 1).val + j.val < 4096 := by omega
    refine Eq.trans ?_ ((hG a 0 j ⟨j.val, by omega⟩ ⟨512 * (i 1).val + j.val, hq⟩ (by show j.val = 256 * 0 + j.val; omega) rfl).trans
      (congrArg G (emb_cols 0 inb_S1024x512_S1024x256_0_0 a j ⟨j.val, by omega⟩ (by show j.val = 0 + j.val; omega)).symm))
    refine (first_at _ _ _ _ _ _ a j).trans ?_
    rw [View.ld_unit_lit, View.ld_unit_lit, View.ld_unit_lit]
    · refine entry_congr (fun n => ?_) (fun n => ?_) ?_
      · exact Norm.ld_cols (ty := .bf16) x2 0 _ _ n ⟨j.val, by omega⟩ (ix2 n j) rfl (by show j.val = 0 + j.val; omega)
      · exact ld_proj i x4 0 n j ⟨512 * (i 1).val + j.val, hq⟩ (by show 512 * (i 1).val + j.val = 512 * (i 1).val + 256 * 0 + j.val; omega)
      · exact Norm.ld_cols (ty := .f32) x5 0 _ _ a ⟨j.val, by omega⟩ (ix2 a j) rfl (by show j.val = 0 + j.val; omega)
    all_goals decide

/-- A real embedding through the tangent is the embedding through the logistic. -/
theorem entry_eq (a u : Fin 4096 → EReal) (r : EReal) (p v : Fin 256 → EReal) (x b : EReal) (z : ℝ)
    (hz : ∑ k, p k * v k = (z : EReal)) (hb : (∑ k, a k * u k) * r = b) :
    entry a u r p (fun k => v k * ((1 / 2 : ℝ) : EReal)) x = x + (∑ k, p k * v k) * Ideal.div 1 (1 + Ideal.exp (-b)) := by
  have e : ∑ k, p k * (v k * ((1 / 2 : ℝ) : EReal)) = (∑ k, p k * v k) * ((1 / 2 : ℝ) : EReal) := by
    rw [Norm.mul_sum _ _ (by norm_num)]
    exact Finset.sum_congr rfl fun k _ => (mul_assoc _ _ _).symm
  unfold entry
  rw [e, hz, mul_comm ((1 / 2 : ℝ) : EReal) r, ← mul_assoc, hb, Norm.gated]

section
variable (m : (ℓ : Loc nD τ sig) → Buf (Elt Ideal) ℓ) (c : Dev nD)

/-- The embedding's two arrays hold real numbers. -/
structure Proper (p : FVec Ideal S4x1x16384x256 .f32) (q : FVec Ideal S256x4096 .f32) : Prop where
  p (s : Fin 16384) (k : Fin 256) : ∃ r : ℝ, p (ix4 3 0 s k) = (r : EReal)
  q (k : Fin 256) (j : Fin 4096) : ∃ r : ℝ, q (ix2 k j) = (r : EReal)

theorem final6 (hp : Proper (p0 m c) (q0 m c)) : (dats m 0 c).arrAt 6 cfg0.N
    = Cert.Reference3Ideal.Read.val_main_v25 (F := Ideal) (x0 m c) (p0 m c) (g0 m c) (w0 m c) (q0 m c) := by
  refine (dats m 0 c).arrAt_eq_of_covers 6 _ (by decide +kernel) fun t _ y => ?_
  blk_simp
  rw [after0_6]
  have hN : t.val < 128 := lt_of_lt_of_eq t.isLt N_0
  have i1 := (idx t).2.2.2.2.2.2.2
  refine out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t)
    (fun y => Cert.Reference3Ideal.Read.val_main_v25 (F := Ideal) (x0 m c) (p0 m c) (g0 m c) (w0 m c) (q0 m c) ((win0_6.blk t).view.emb y)) (fun i r j k q hk hq => ?_) y
  rw [i1] at hq
  have e : (win0_6.blk t).view.emb (ix2 i k) = ix2 (⟨1024 * (t.val / 8) + i.val, by omega⟩ : Fin 16384) q := by
    blk_ext [idx t]
  show _ = Cert.Reference3Ideal.Read.val_main_v25 (F := Ideal) (x0 m c) (p0 m c) (g0 m c) (w0 m c) (q0 m c) ((win0_6.blk t).view.emb (ix2 i k))
  rw [e, ref_at]
  obtain ⟨z, hz⟩ := Norm.sum_real (fun n => p0 m c (ix4 3 0 ⟨1024 * (t.val / 8) + i.val, by omega⟩ n)) (fun n => q0 m c (ix2 n q)) (hp.p _) (fun n => hp.q n q)
  refine Eq.trans ?_ (entry_eq (fun n => x0 m c (ix3 0 ⟨1024 * (t.val / 8) + i.val, by omega⟩ n) * g0 m c (ix1 n)) (fun n => w0 m c (ix2 n q))
    (Norm.row (rows (x0 m c)) ⟨1024 * (t.val / 8) + i.val, by omega⟩) (fun n => p0 m c (ix4 3 0 ⟨1024 * (t.val / 8) + i.val, by omega⟩ n)) (fun n => q0 m c (ix2 n q)) _ _ z hz
    (Norm.dot_row (rows (x0 m c)) (g0 m c) ⟨1024 * (t.val / 8) + i.val, by omega⟩ (fun n => w0 m c (ix2 n q))))
  rw [blk1 m c t ⟨1024 * (t.val / 8) + i.val, by omega⟩ i rfl, blk5 m c t ⟨1024 * (t.val / 8) + i.val, by omega⟩ q i k rfl hq]
  simp only [fun n => blk0 m c t ⟨1024 * (t.val / 8) + i.val, by omega⟩ i n rfl, fun n => blk2 m c t n k q hq, fun n => blk3 m c t ⟨1024 * (t.val / 8) + i.val, by omega⟩ i n rfl,
    fun n => blk4 m c t n q]

end

end Cert.Kernel3Ideal.Final

end
-- ==== Proof.Embed.Bridge.lean ====
module

public import proofs.«01_k».proof.Defs
public import proofs.«01_k».proof.Proof.Bridge
public import proofs.«01_k».proof.Proof.Embed.Final
public import Idealize.ShloMosaic.Lib.ReduceAll

@[expose] public section

set_option maxRecDepth 16384

/-! The last layer's embedding: the two programs over the reals, the same array. -/

noncomputable section

namespace Cert.Kernel3Ideal

open Idealize.ShloMosaic Idealize.ShloMosaic.TcCoe Idealize.SL.Sem Cert.Bridge

instance shapes : Cert.Pre_finite_embed.Facts where
  slices_S4x1x16384x256_S1x1x16384x256_3_0_0_0 := by decide
  shapeCasts_S1x1x16384x256_S1x16384x256 := by decide
  bcast_S_S1x16384x256 := by decide
  reducesTo_S1x16384x256_S_d0_1_2 := by decide
  h_S_ := by decide
  bcast_S_S256x4096 := by decide
  reducesTo_S256x4096_S_d0_1 := by decide

instance : Subsingleton Cert.Pre_finite_embed.S_.Idx := ⟨fun a b => funext fun i => i.elim0⟩

theorem proper (x p g w q) (h : Cert.Pre_finite_embed.fn (F := Ideal) x p g w q = fun _ => 1#1) : Final.Proper p q := by
  have h0 := congrFun h (fun i => i.elim0)
  obtain ⟨h1, h2⟩ := both h0
  refine ⟨fun s k => ?_, fun k j => ?_⟩
  · have e := Host.reduce_andi_all _ _ _ _ _ h1 (ix3 0 s k)
    have e1 : extractStridedSlice Cert.Pre_finite_embed.S1x1x16384x256 ![3, 0, 0, 0] p Cert.Pre_finite_embed.Facts.slices_S4x1x16384x256_S1x1x16384x256_3_0_0_0
        = fun i => p (ix4 3 0 (i 2) (i 3)) := by
      funext i
      obtain ⟨a, b, c, d, rfl⟩ : ∃ (a b : Fin 1) (c : Fin 16384) (d : Fin 256), i = ix4 a b c d :=
        ⟨i 0, i 1, i 2, i 3, by funext e; match e with | 0 => rfl | 1 => rfl | 2 => rfl | 3 => rfl⟩
      pointwise
    have e2 : shapeCast Cert.Pre_finite_embed.S1x16384x256 (extractStridedSlice Cert.Pre_finite_embed.S1x1x16384x256 ![3, 0, 0, 0] p Cert.Pre_finite_embed.Facts.slices_S4x1x16384x256_S1x1x16384x256_3_0_0_0)
        Cert.Pre_finite_embed.Facts.shapeCasts_S1x1x16384x256_S1x16384x256 (ix3 0 s k) = p (ix4 3 0 s k) := by
      rw [e1]; pointwise
    have e : BitVec.ofBool (decide (max (p (ix4 3 0 s k)) (-p (ix4 3 0 s k)) < Ideal.ofBits .f32 0x7F800000#32)) = 1#1 := by
      rw [← e2]; exact e
    rw [ofBits_inf] at e
    exact real_of_lt (holds e)
  · have e : BitVec.ofBool (decide (max (q (ix2 k j)) (-q (ix2 k j)) < Ideal.ofBits .f32 0x7F800000#32)) = 1#1 :=
      Host.reduce_andi_all _ _ _ _ _ h2 (ix2 k j)
    rw [ofBits_inf] at e
    exact real_of_lt (holds e)

theorem algebraic : Cert.algebraic_Kernel3Ideal_Reference3Ideal_pre_finite_embed := by
  intro m ρ m' ρ' hpre hagree
  refine ⟨_, Cert.Kernel3Ideal.Value.run_blocks m ρ, ?_⟩
  refine (θ_run _ _ _).mono (fun _ h c => ⟨(h c).1.trans ?_, (h c).2⟩) (Cert.Reference3Ideal.Value.run m' ρ')
  rw [Cert.Reference3Ideal.Read.val_main_v25_eq, Final.final6 m c (proper _ _ _ _ _ (hpre c))]
  obtain ⟨e0, e1, e2, e3, e4⟩ := hagree c
  rw [e0, e1, e2, e3, e4]

end Cert.Kernel3Ideal

end
-- ==== Proof.Gate.Final.lean ====
module

public import proofs.«01_k».proof.Proof.Gen.Kernel4Ideal.Value
public import proofs.«01_k».proof.Proof.Gen.Reference4Ideal.Read
public import proofs.«01_k».proof.Proof.Norm.Host
public import Idealize.ShloMosaic.Lib.Pipeline.ValueKit
public import Idealize.ShloMosaic.Lib.Claim
public import Idealize.ShloMosaic.Lib.Pointwise

@[expose] public section

set_option maxRecDepth 16384

/-! The gate's projection: what the host prepares, a block's product, the arrays the run leaves. -/

noncomputable section

namespace Cert.Kernel4Ideal.Final

open Idealize.ShloMosaic Idealize.ShloMosaic.TcCoe Idealize.ShloMosaic.Tactic Cert.Kernel4Ideal Cert.Kernel4Ideal.Gen
open Idealize.ShloMosaic.Pipeline (Dat)

variable (m : (ℓ : Loc nD τ sig) → Buf (Elt Ideal) ℓ) (c : Dev nD)

abbrev x0 : FVec Ideal S16384x4096 .f32 := m ((c : Thread nD τ).loc main_arg0)
abbrev g0 : FVec Ideal S4096 .f32 := m ((c : Thread nD τ).loc main_arg1)
abbrev w0 : FVec Ideal S4096x10240 .f32 := m ((c : Thread nD τ).loc main_arg2)

theorem V_xg : (V m c main_v3 : FVec Ideal S16384x4096 .bf16)
    = truncf .bf16 (mulf (x0 m c) (broadcastInDim S16384x4096 ![0, 1] bcast_S1x4096_S16384x4096_0_1
        (broadcastInDim S1x4096 ![1] bcast_S4096_S1x4096_1 (g0 m c)))) bitsLt_bf16_f32 := by
  simp only [V, hostOps0, StableHlo.after_cons, StableHlo.after_nil]
  after_results_loop
  all_goals rfl

theorem V_rinv : (V m c main_v11 : FVec Ideal S16384x1 .f32)
    = Host.rsqrt (addf (Host.divf (broadcastInDim S16384x1 ![0] bcast_S16384_S16384x1_0
        (Host.reduceAdd (mulf (x0 m c) (x0 m c)) (constant S_ .f32 0x00000000#32) reducesTo_S16384x4096_S16384_d1 h_S_))
        (broadcastInDim S16384x1 ![] bcast_S_S16384x1 (constant S_ .f32 0x45800000#32)))
      (broadcastInDim S16384x1 ![] bcast_S_S16384x1 (constant S_ .f32 0x358637BD#32))) := by
  simp only [V, hostOps0, StableHlo.after_cons, StableHlo.after_nil]
  after_results_loop
  all_goals rfl

theorem V_w : (V m c main_v12 : FVec Ideal S4096x10240 .bf16) = truncf .bf16 (w0 m c) bitsLt_bf16_f32 := by
  simp only [V, hostOps0, StableHlo.after_cons, StableHlo.after_nil]
  after_results_loop
  all_goals rfl

theorem xg_at (s : Fin 16384) (k : Fin 4096) :
    (V m c main_v3 : FVec Ideal S16384x4096 .bf16) (ix2 s k) = x0 m c (ix2 s k) * g0 m c (ix1 k) := by
  rw [V_xg]; exact Norm.scaled_at _ _ _ _ _ s k

theorem rinv_at (s : Fin 16384) :
    (V m c main_v11 : FVec Ideal S16384x1 .f32) (ix2 s 0)
      = Norm.row (x0 m c) s := by
  rw [V_rinv]; exact Norm.recip_at _ _ _ _ _ _ s

theorem w_at (k : Fin 4096) (j : Fin 10240) :
    (V m c main_v12 : FVec Ideal S4096x10240 .bf16) (ix2 k j) = w0 m c (ix2 k j) := by
  rw [V_w]; pointwise

/-- A block's product at a row and a column. -/
theorem tile_at (a : FVec Ideal S1024x4096 .bf16) (w : FVec Ideal S4096x1024 .bf16) (r : FVec Ideal S1024x1 .f32)
    (i j : Fin 1024) : k0_pay1 (F := Ideal) a w r (ix2 i j) = (∑ k : Fin 4096, a (ix2 i k) * w (ix2 k j)) * r (ix2 i 0) := by
  pointwise [k0_pay1]

/-- The reference's product at a row and a column. -/
theorem ref_at (x : FVec Ideal S16384x4096 .f32) (g : FVec Ideal S4096 .f32) (w : FVec Ideal S4096x10240 .f32)
    (s : Fin 16384) (j : Fin 4096) :
    Cert.Reference4Ideal.Read.val_main_v14 (F := Ideal) x g w (ix2 s j)
      = ∑ k : Fin 4096, x (ix2 s k) * Norm.row x s * g (ix1 k) * w (ix2 k ⟨6144 + j.val, by omega⟩) := by
  rw [Cert.Reference4Ideal.Read.val_main_v14_apply]
  refine Finset.sum_congr rfl fun k _ => ?_
  have el : Cert.Reference4Ideal.Read.lidx_main_v14 (ix2 s j) k = ix2 s k := by funext a; match a with | 0 => rfl | 1 => rfl
  have er : Cert.Reference4Ideal.Read.ridx_main_v14 (ix2 s j) k = ix2 k j := by funext a; match a with | 0 => rfl | 1 => rfl
  have ew : Cert.Reference4Ideal.Read.val_main_v13 (F := Ideal) w (ix2 k j) = w (ix2 k ⟨6144 + j.val, by omega⟩) := by
    pointwise [Cert.Reference4Ideal.Read.val_main_v13]
  rw [el, er, ew]
  exact congrArg (· * _) (Norm.normed_at x g _ _ _ _ _ _ _ _ s k)

theorem idx : ∀ t : Fin cfg0.N, win0_0.index t = ![t.val / 4, 0] ∧ win0_1.index t = ![t.val / 4, 0] ∧ win0_2.index t = ![0, 6 + t.val % 4]
      ∧ win0_3.index t = ![2, t.val, 0] ∧ win0_4.index t = ![2, min t.val 15, 0]
      ∧ win0_5.index t = ![t.val / 4, t.val % 4] ∧ win0_6.index t = ![t.val, 0] ∧ win0_7.index t = ![min t.val 15, 0] :=
  (by decide +kernel : ∀ t : Fin grid0.N, win0_0.index t = ![t.val / 4, 0] ∧ win0_1.index t = ![t.val / 4, 0] ∧ win0_2.index t = ![0, 6 + t.val % 4]
      ∧ win0_3.index t = ![2, t.val, 0] ∧ win0_4.index t = ![2, min t.val 15, 0]
      ∧ win0_5.index t = ![t.val / 4, t.val % 4] ∧ win0_6.index t = ![t.val, 0] ∧ win0_7.index t = ![min t.val 15, 0])

theorem blk0 (t : Fin cfg0.N) (s : Fin 16384) (i : Fin 1024) (k : Fin 4096) (h : s.val = 1024 * (t.val / 4) + i.val) :
    (iblk m c 0 t : FVec Ideal S1024x4096 .bf16) (ix2 i k) = x0 m c (ix2 s k) * g0 m c (ix1 k) := by
  rw [← xg_at]
  blk_ext [iblk, idx t]

theorem blk1 (t : Fin cfg0.N) (s : Fin 16384) (i : Fin 1024) (h : s.val = 1024 * (t.val / 4) + i.val) :
    (iblk m c 1 t : FVec Ideal S1024x1 .f32) (ix2 i 0) = Norm.row (x0 m c) s := by
  rw [← rinv_at]
  blk_ext [iblk, idx t]

theorem blk2 (t : Fin cfg0.N) (k : Fin 4096) (i : Fin 1024) (j : Fin 10240) (h : j.val = 1024 * (6 + t.val % 4) + i.val) :
    (iblk m c 2 t : FVec Ideal S4096x1024 .bf16) (ix2 k i) = w0 m c (ix2 k j) := by
  rw [← w_at]
  blk_ext [iblk, idx t]

theorem final5 : (dats m 0 c).arrAt 5 cfg0.N = Cert.Reference4Ideal.Read.val_main_v14 (F := Ideal) (x0 m c) (g0 m c) (w0 m c) := by
  refine (dats m 0 c).arrAt_eq_of_covers 5 _ (by decide +kernel) fun t _ y => ?_
  blk_simp
  rw [after0_5]
  have hN : t.val < 64 := lt_of_lt_of_eq t.isLt N_0
  obtain ⟨i, j, rfl⟩ := Norm.pair y
  have e : (win0_5.blk t).view.emb (ix2 i j) = ix2 (⟨1024 * (t.val / 4) + i.val, by omega⟩ : Fin 16384) (⟨1024 * (t.val % 4) + j.val, by omega⟩ : Fin 4096) := by
    blk_ext [idx t]
  refine Eq.trans ?_ (congrArg _ e.symm)
  rw [ref_at, ← Norm.dot_row]
  unfold out0_5
  rw [View.canon_cons_unit_lit, View.ld_unit_lit, View.ld_unit_lit, View.ld_unit_lit, tile_at, blk1 m c t ⟨1024 * (t.val / 4) + i.val, by omega⟩ i rfl]
  · refine congrArg (· * _) (Finset.sum_congr rfl fun k _ => ?_)
    rw [blk0 m c t ⟨1024 * (t.val / 4) + i.val, by omega⟩ i k rfl, blk2 m c t k j ⟨6144 + (1024 * (t.val % 4) + j.val), by omega⟩ (by show 6144 + (1024 * (t.val % 4) + j.val) = 1024 * (6 + t.val % 4) + j.val; omega)]
  all_goals decide

abbrev gate0 : FVec Ideal S4x4096x4096 .f32 := m ((c : Thread nD τ).loc main_arg3)
abbrev proj0 : FVec Ideal S4x256x4096 .f32 := m ((c : Thread nD τ).loc main_arg4)

theorem final6 : (dats m 0 c).arrAt 6 cfg0.N = Cert.Reference4Ideal.Read.val_main_v17 (F := Ideal) (gate0 m c) := by
  refine (dats m 0 c).arrAt_eq_of_covers 6 _ (by decide +kernel) fun t _ y => ?_
  blk_simp
  rw [after0_6]
  have hN : t.val < 64 := lt_of_lt_of_eq t.isLt N_0
  obtain ⟨i, j, rfl⟩ := Norm.pair y
  have e : (win0_6.blk t).view.emb (ix2 i j) = ix2 (⟨64 * t.val + i.val, by omega⟩ : Fin 4096) j := by
    blk_ext [idx t]
  refine Eq.trans ?_ (congrArg _ e.symm)
  unfold out0_6
  rw [View.canon_cons_unit_lit, View.ld_unit_lit]
  · open Cert.Reference4Ideal.Read in
    pointwise [k0_pay2, val_main_v17, val_main_v16, val_main_v15]
    blk_ext [iblk, V_main_arg3, idx t]
  all_goals decide

theorem final7 : (dats m 0 c).arrAt 7 cfg0.N = Cert.Reference4Ideal.Read.val_main_v22 (F := Ideal) (proj0 m c) := by
  refine (dats m 0 c).arrAt_eq_of_covers 7 _ (by decide +kernel) fun t _ y => ?_
  blk_simp
  rw [after0_7]
  have hN : t.val < 64 := lt_of_lt_of_eq t.isLt N_0
  obtain ⟨i, j, rfl⟩ := Norm.pair y
  have e : (win0_7.blk t).view.emb (ix2 i j) = ix2 (⟨16 * min t.val 15 + i.val, by omega⟩ : Fin 256) j := by
    blk_ext [idx t]
  refine Eq.trans ?_ (congrArg _ e.symm)
  unfold out0_7
  rw [View.canon_cons_unit_lit, View.ld_unit_lit]
  · open Cert.Reference4Ideal.Read in
    pointwise [k0_pay3, val_main_v22, val_main_v21, val_main_v20, val_main_v19, val_main_v18, val_main_cst_2]
    rw [mul_comm]
    refine congrArg (_ * ·) ?_
    blk_ext [iblk, V_main_arg4, idx t]
  all_goals decide

end Cert.Kernel4Ideal.Final

end
-- ==== Proof.Gate.Bridge.lean ====
module

public import proofs.«01_k».proof.Defs
public import proofs.«01_k».proof.Proof.Gate.Final

@[expose] public section

set_option maxRecDepth 16384

/-! The gate's projection: the two programs over the reals, the same arrays. -/

noncomputable section

namespace Cert.Kernel4Ideal

open Idealize.ShloMosaic Idealize.ShloMosaic.TcCoe Idealize.SL.Sem

theorem algebraic : Cert.algebraic_Kernel4Ideal_Reference4Ideal := by
  intro m ρ m' ρ' _ hagree
  refine ⟨_, _, _, Cert.Kernel4Ideal.Value.run_blocks m ρ, ?_⟩
  refine (θ_run _ _ _).mono (fun _ h c => ⟨(h c).1.trans ?_, (h c).2.1.trans ?_, (h c).2.2.1.trans ?_, (h c).2.2.2⟩)
    (Cert.Reference4Ideal.Value.run m' ρ')
  all_goals obtain ⟨e0, e1, e2, e3, e4⟩ := hagree c
  · rw [Cert.Reference4Ideal.Read.val_main_v14_eq, Final.final5 m c, e0, e1, e2]
  · rw [Cert.Reference4Ideal.Read.val_main_v17_eq, Final.final6 m c, e3]
  · rw [Cert.Reference4Ideal.Read.val_main_v22_eq, Final.final7 m c, e4]

end Cert.Kernel4Ideal

end
-- ==== Proof.Half.Final.lean ====
module

public import proofs.«01_k».proof.Proof.Gen.Kernel6Ideal.Value
public import proofs.«01_k».proof.Proof.Gen.Reference6Ideal.Read
public import proofs.«01_k».proof.Proof.Norm.Host
public import Idealize.ShloMosaic.Lib.Pipeline.ValueKit
public import Idealize.ShloMosaic.Lib.Claim
public import Idealize.ShloMosaic.Lib.Pointwise

@[expose] public section

set_option maxRecDepth 16384

/-! The first half of the pool's way out: two gated halves against the first rows of the weights, on top of the stream. -/

noncomputable section

namespace Cert.Kernel6Ideal.Final

open Idealize.ShloMosaic Idealize.ShloMosaic.TcCoe Idealize.ShloMosaic.Tactic Cert.Kernel6Ideal Cert.Kernel6Ideal.Gen
open Idealize.ShloMosaic.Pipeline (Dat)

variable (m : (ℓ : Loc nD τ sig) → Buf (Elt Ideal) ℓ) (c : Dev nD)

abbrev lo : FVec Ideal S16384x2048 .bf16 := m ((c : Thread nD τ).loc main_arg0)
abbrev hi : FVec Ideal S16384x2048 .bf16 := m ((c : Thread nD τ).loc main_arg1)
abbrev w0 : FVec Ideal S8192x4096 .f32 := m ((c : Thread nD τ).loc main_arg2)
abbrev x0 : FVec Ideal S16384x4096 .f32 := m ((c : Thread nD τ).loc main_arg3)

theorem V_w : (V m c main_v0 : FVec Ideal S8192x4096 .bf16) = truncf .bf16 (w0 m c) bitsLt_bf16_f32 := by
  simp only [V, hostOps0, StableHlo.after_cons, StableHlo.after_nil]
  after_results_loop
  all_goals rfl

theorem w_at (k : Fin 8192) (j : Fin 4096) :
    (V m c main_v0 : FVec Ideal S8192x4096 .bf16) (ix2 k j) = w0 m c (ix2 k j) := by
  rw [V_w]; pointwise

/-- A block's sum at a row and a column. -/
theorem tile_at (x : FVec Ideal S1024x1024 .f32) (a : FVec Ideal S1024x2048 .bf16) (u : FVec Ideal S2048x1024 .bf16)
    (b : FVec Ideal S1024x2048 .bf16) (v : FVec Ideal S2048x1024 .bf16) (i j : Fin 1024) :
    k0_pay1 (F := Ideal) x a u b v (ix2 i j)
      = x (ix2 i j) + (∑ k : Fin 2048, a (ix2 i k) * u (ix2 k j)) + ∑ k : Fin 2048, b (ix2 i k) * v (ix2 k j) := by
  pointwise [k0_pay1]

theorem cat_lo (a b : FVec Ideal S16384x2048 .bf16) (s : Fin 16384) (k : Fin 2048) :
    Cert.Reference6Ideal.Read.val_main_v1 (F := Ideal) a b (ix2 s ⟨k.val, by omega⟩) = a (ix2 s k) := by
  pointwise [Cert.Reference6Ideal.Read.val_main_v1, Cert.Reference6Ideal.Read.val_main_v0]

theorem cat_hi (a b : FVec Ideal S16384x2048 .bf16) (s : Fin 16384) (k : Fin 2048) :
    Cert.Reference6Ideal.Read.val_main_v1 (F := Ideal) a b (ix2 s ⟨2048 + k.val, by omega⟩) = b (ix2 s k) := by
  pointwise [Cert.Reference6Ideal.Read.val_main_v1, Cert.Reference6Ideal.Read.val_main_v0]

/-- A sum in two halves. -/
theorem halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

/-- The reference's array at a row and a column. -/
theorem ref_at (a b : FVec Ideal S16384x2048 .bf16) (w : FVec Ideal S8192x4096 .f32) (x : FVec Ideal S16384x4096 .f32)
    (s : Fin 16384) (j : Fin 4096) :
    Cert.Reference6Ideal.Read.val_main_v4 (F := Ideal) a b w x (ix2 s j)
      = x (ix2 s j) + (∑ k : Fin 2048, a (ix2 s k) * w (ix2 ⟨k.val, by omega⟩ j)) + ∑ k : Fin 2048, b (ix2 s k) * w (ix2 ⟨2048 + k.val, by omega⟩ j) := by
  rw [Cert.Reference6Ideal.Read.val_main_v4_apply, add_assoc]
  refine congrArg (x (ix2 s j) + ·) ?_
  rw [Cert.Reference6Ideal.Read.val_main_v3_apply, halves]
  have el (k : Fin 4096) : Cert.Reference6Ideal.Read.lidx_main_v3 (ix2 s j) k = ix2 s k := by funext a; match a with | 0 => rfl | 1 => rfl
  have er (k : Fin 4096) : Cert.Reference6Ideal.Read.ridx_main_v3 (ix2 s j) k = ix2 k j := by funext a; match a with | 0 => rfl | 1 => rfl
  have ew (k : Fin 4096) : Cert.Reference6Ideal.Read.val_main_v2 (F := Ideal) w (ix2 k j) = w (ix2 ⟨k.val, by omega⟩ j) := by
    rw [Cert.Reference6Ideal.Read.val_main_v2_apply]
    exact congrArg w (by funext a; match a with | 0 => rfl | 1 => rfl)
  refine congrArg₂ (· + ·) (Finset.sum_congr rfl fun k _ => ?_) (Finset.sum_congr rfl fun k _ => ?_)
  · rw [el, er, ew, cat_lo]
  · rw [el, er, ew, cat_hi]

theorem idx : ∀ t : Fin cfg0.N, win0_0.index t = ![t.val / 4, 0] ∧ win0_1.index t = ![t.val / 4, 0] ∧ win0_2.index t = ![0, t.val % 4]
      ∧ win0_3.index t = ![t.val / 4, t.val % 4] ∧ win0_4.index t = ![t.val / 4, t.val % 4] :=
  (by decide +kernel : ∀ t : Fin grid0.N, win0_0.index t = ![t.val / 4, 0] ∧ win0_1.index t = ![t.val / 4, 0] ∧ win0_2.index t = ![0, t.val % 4]
      ∧ win0_3.index t = ![t.val / 4, t.val % 4] ∧ win0_4.index t = ![t.val / 4, t.val % 4])

theorem blk0 (t : Fin cfg0.N) (s : Fin 16384) (i : Fin 1024) (k : Fin 2048) (h : s.val = 1024 * (t.val / 4) + i.val) :
    (iblk m c 0 t : FVec Ideal S1024x2048 .bf16) (ix2 i k) = lo m c (ix2 s k) := by
  blk_ext [iblk, V_main_arg0, idx t]

theorem blk1 (t : Fin cfg0.N) (s : Fin 16384) (i : Fin 1024) (k : Fin 2048) (h : s.val = 1024 * (t.val / 4) + i.val) :
    (iblk m c 1 t : FVec Ideal S1024x2048 .bf16) (ix2 i k) = hi m c (ix2 s k) := by
  blk_ext [iblk, V_main_arg1, idx t]

theorem blk2 (t : Fin cfg0.N) (k : Fin 4096) (q : Fin 8192) (i : Fin 1024) (j : Fin 4096) (h : j.val = 1024 * (t.val % 4) + i.val) (hk : q.val = k.val) :
    (iblk m c 2 t : FVec Ideal S4096x1024 .bf16) (ix2 k i) = w0 m c (ix2 q j) := by
  rw [← w_at]
  blk_ext [iblk, idx t]

theorem blk3 (t : Fin cfg0.N) (s : Fin 16384) (j : Fin 4096) (i k : Fin 1024) (h : s.val = 1024 * (t.val / 4) + i.val) (hk : j.val = 1024 * (t.val % 4) + k.val) :
    (iblk m c 3 t : FVec Ideal S1024x1024 .f32) (ix2 i k) = x0 m c (ix2 s j) := by
  blk_ext [iblk, V_main_arg3, idx t]

/-- The first and the second half of a block's rows. -/
theorem ld_lo (v : FVec Ideal S4096x1024 .bf16) (k : Fin 2048) (j : Fin 1024) :
    View.ld (Val := Elt Ideal) (e' := .bf16) v (Rect.unit (s := S4096x1024) ![0, 0] S2048x1024.size inb_S4096x1024_S2048x1024_0_0) (ix2 k j) = v (ix2 ⟨k.val, by omega⟩ j) :=
  View.ld_unit_apply_of _ _ _ _ _ _ fun a => by
    match a with
    | 0 => show k.val = 0 + k.val; omega
    | 1 => show j.val = 0 + j.val; omega

theorem ld_hi (v : FVec Ideal S4096x1024 .bf16) (k : Fin 2048) (j : Fin 1024) :
    View.ld (Val := Elt Ideal) (e' := .bf16) v (Rect.unit (s := S4096x1024) ![2048, 0] S2048x1024.size inb_S4096x1024_S2048x1024_2048_0) (ix2 k j) = v (ix2 ⟨2048 + k.val, by omega⟩ j) :=
  View.ld_unit_apply_of _ _ _ _ _ _ fun a => by
    match a with
    | 0 => rfl
    | 1 => show j.val = 0 + j.val; omega

theorem final4 : (dats m 0 c).arrAt 4 cfg0.N = Cert.Reference6Ideal.Read.val_main_v4 (F := Ideal) (lo m c) (hi m c) (w0 m c) (x0 m c) := by
  refine (dats m 0 c).arrAt_eq_of_covers 4 _ (by decide +kernel) fun t _ y => ?_
  blk_simp
  rw [after0_4]
  have hN : t.val < 64 := lt_of_lt_of_eq t.isLt N_0
  obtain ⟨i, j, rfl⟩ := Norm.pair y
  have e : (win0_4.blk t).view.emb (ix2 i j) = ix2 (⟨1024 * (t.val / 4) + i.val, by omega⟩ : Fin 16384) (⟨1024 * (t.val % 4) + j.val, by omega⟩ : Fin 4096) := by
    blk_ext [idx t]
  refine Eq.trans ?_ (congrArg _ e.symm)
  rw [ref_at]
  unfold out0_4
  rw [View.canon_cons_unit_lit, View.ld_unit_lit, View.ld_unit_lit, View.ld_unit_lit, tile_at,
    blk3 m c t ⟨1024 * (t.val / 4) + i.val, by omega⟩ ⟨1024 * (t.val % 4) + j.val, by omega⟩ i j rfl rfl]
  · refine congrArg₂ (_ + · + ·) (Finset.sum_congr rfl fun k _ => ?_) (Finset.sum_congr rfl fun k _ => ?_)
    · rw [ld_lo, blk0 m c t ⟨1024 * (t.val / 4) + i.val, by omega⟩ i k rfl,
        blk2 m c t ⟨k.val, by omega⟩ ⟨k.val, by omega⟩ j ⟨1024 * (t.val % 4) + j.val, by omega⟩ rfl rfl]
    · rw [ld_hi, blk1 m c t ⟨1024 * (t.val / 4) + i.val, by omega⟩ i k rfl,
        blk2 m c t ⟨2048 + k.val, by omega⟩ ⟨2048 + k.val, by omega⟩ j ⟨1024 * (t.val % 4) + j.val, by omega⟩ rfl rfl]
  all_goals decide

end Cert.Kernel6Ideal.Final

end
-- ==== Proof.Half.Bridge.lean ====
module

public import proofs.«01_k».proof.Defs
public import proofs.«01_k».proof.Proof.Half.Final

@[expose] public section

set_option maxRecDepth 16384

/-! The first half of the pool's way out: the two programs over the reals, the same array. -/

noncomputable section

namespace Cert.Kernel6Ideal

open Idealize.ShloMosaic Idealize.ShloMosaic.TcCoe Idealize.SL.Sem

theorem algebraic : Cert.algebraic_Kernel6Ideal_Reference6Ideal := by
  intro m ρ m' ρ' _ hagree
  refine ⟨_, Cert.Kernel6Ideal.Value.run_blocks m ρ, ?_⟩
  refine (θ_run _ _ _).mono (fun _ h c => ⟨(h c).1.trans ?_, (h c).2⟩) (Cert.Reference6Ideal.Value.run m' ρ')
  obtain ⟨e0, e1, e2, e3⟩ := hagree c
  rw [Cert.Reference6Ideal.Read.val_main_v4_eq, Final.final4 m c, e0, e1, e2, e3]

end Cert.Kernel6Ideal

end
-- ==== Proof.Heads.Ref.lean ====
module

public import proofs.«01_k».proof.Proof.Gen.Reference5Ideal.Read
public import proofs.«01_k».proof.Proof.Norm.Host
public import Idealize.ShloMosaic.Lib.Pointwise

@[expose] public section

set_option maxRecDepth 16384

/-! The plain program of the heads' projection, entry by entry. -/

noncomputable section

namespace Cert.Heads

open Idealize.ShloMosaic Cert.Reference5Ideal Cert.Reference5Ideal.Read

/-- An entry of a head of 128 columns after its normalisation. -/
def head (d : Fin 128 → EReal) (g : EReal) (j : Fin 128) : EReal :=
  d j * Ideal.rsqrt (Ideal.div (∑ l, d l * d l) (Ideal.ofBits .f32 0x43000000#32) + Ideal.ofBits .f32 0x358637BD#32) * g

variable (x : FVec Ideal S16384x4096 .f32) (g : FVec Ideal S4096 .f32) (w : FVec Ideal S4096x10240 .f32) (qg kg : FVec Ideal S128 .f32)

/-- The projection of a normalised row on a column. -/
def proj (s : Fin 16384) (n : Fin 6144) : EReal :=
  ∑ k : Fin 4096, x (ix2 s k) * Norm.row x s * g (ix1 k) * w (ix2 k ⟨n.val, by omega⟩)

theorem proj_at (s : Fin 16384) (n : Fin 6144) : val_main_v14 (F := Ideal) x g w (ix2 s n) = proj x g w s n := by
  rw [val_main_v14_apply]
  refine Finset.sum_congr rfl fun k _ => ?_
  have el : lidx_main_v14 (ix2 s n) k = ix2 s k := by funext a; match a with | 0 => rfl | 1 => rfl
  have er : ridx_main_v14 (ix2 s n) k = ix2 k n := by funext a; match a with | 0 => rfl | 1 => rfl
  have ew : val_main_v13 (F := Ideal) w (ix2 k n) = w (ix2 k ⟨n.val, by omega⟩) := by
    pointwise [val_main_v13]
  rw [el, er, ew]
  exact congrArg (· * _) (Norm.normed_at x g _ _ _ _ _ _ _ _ s k)

theorem q_at (s : Fin 16384) (h : Fin 32) (j : Fin 128) :
    val_main_v31 (F := Ideal) x g w qg (ix3 s h j)
      = head (fun l => val_main_v15 (F := Ideal) x g w (ix2 s ⟨h.val * 128 + l.val, by omega⟩)) (qg (ix1 j)) j := by
  unfold val_main_v31 val_main_v30 val_main_v29 val_main_v28 val_main_v27 val_main_v26 val_main_v25 val_main_v24 val_main_v23 val_main_v22 val_main_v21 val_main_v20 val_main_v19 val_main_v18 val_main_cst_2 val_main_cst_3 val_main_cst_4
  generalize val_main_v15 (F := Ideal) x g w = y
  unfold head
  pointwise

theorem k_at (s : Fin 16384) (h : Fin 8) (j : Fin 128) :
    val_main_v46 (F := Ideal) x g w kg (ix3 s h j)
      = head (fun l => val_main_v16 (F := Ideal) x g w (ix2 s ⟨h.val * 128 + l.val, by omega⟩)) (kg (ix1 j)) j := by
  unfold val_main_v46 val_main_v45 val_main_v44 val_main_v43 val_main_v42 val_main_v41 val_main_v40 val_main_v39 val_main_v38 val_main_v37 val_main_v36 val_main_v35 val_main_v34 val_main_v33 val_main_cst_5 val_main_cst_6 val_main_cst_7
  generalize val_main_v16 (F := Ideal) x g w = y
  unfold head
  pointwise

/-- A head's gain: the queries' for the first 32 heads, the keys' for the next 8. -/
def gain (h : Fin 40) (j : Fin 128) : EReal := if h.val < 32 then qg (ix1 j) else kg (ix1 j)

/-- The normalised heads. -/
theorem heads_at (s : Fin 16384) (h : Fin 40) (j : Fin 128) :
    val_main_v49 (F := Ideal) x g w qg kg (ix2 s ⟨h.val * 128 + j.val, by omega⟩)
      = head (fun l => proj x g w s ⟨h.val * 128 + l.val, by omega⟩) (gain qg kg h j) j := by
  unfold val_main_v49 val_main_v48
  by_cases hh : h.val < 32
  · have e : val_main_v32 (F := Ideal) x g w qg (ix2 s ⟨h.val * 128 + j.val, by omega⟩) = head (fun l => proj x g w s ⟨h.val * 128 + l.val, by omega⟩) (gain qg kg h j) j := by
      have ei : idx_main_v32 (ix2 s ⟨h.val * 128 + j.val, by omega⟩) = ix3 s ⟨h.val, hh⟩ j := by
        have h0 := s.isLt
        have h1 := j.isLt
        funext a
        match a with
        | 0 => exact Fin.ext (by show (s.val * 4096 + (h.val * 128 + j.val)) / 4096 = s.val; omega)
        | 1 => exact Fin.ext (by show (s.val * 4096 + (h.val * 128 + j.val)) / 128 % 32 = h.val; omega)
        | 2 => exact Fin.ext (by show (s.val * 4096 + (h.val * 128 + j.val)) % 128 = j.val; omega)
      rw [val_main_v32_apply, ei, q_at, gain, if_pos hh]
      refine congrArg (fun d => head d _ _) (funext fun l => ?_)
      rw [← proj_at]
      unfold val_main_v15
      generalize val_main_v14 (F := Ideal) x g w = y
      pointwise
    rw [← e]
    generalize val_main_v32 (F := Ideal) x g w qg = y0
    generalize val_main_v47 (F := Ideal) x g w kg = y1
    generalize val_main_v17 (F := Ideal) x g w = y2
    pointwise
    rw [dif_pos (by omega)]
  · have e : val_main_v47 (F := Ideal) x g w kg (ix2 s ⟨h.val * 128 + j.val - 4096, by omega⟩) = head (fun l => proj x g w s ⟨h.val * 128 + l.val, by omega⟩) (gain qg kg h j) j := by
      have ei : idx_main_v47 (ix2 s ⟨h.val * 128 + j.val - 4096, by omega⟩) = ix3 s ⟨h.val - 32, by omega⟩ j := by
        have h0 := s.isLt
        have h1 := j.isLt
        funext a
        match a with
        | 0 => exact Fin.ext (by show (s.val * 1024 + (h.val * 128 + j.val - 4096)) / 1024 = s.val; omega)
        | 1 => exact Fin.ext (by show (s.val * 1024 + (h.val * 128 + j.val - 4096)) / 128 % 8 = h.val - 32; omega)
        | 2 => exact Fin.ext (by show (s.val * 1024 + (h.val * 128 + j.val - 4096)) % 128 = j.val; omega)
      rw [val_main_v47_apply, ei, k_at, gain, if_neg hh]
      refine congrArg (fun d => head d _ _) (funext fun l => ?_)
      rw [← proj_at]
      unfold val_main_v16
      generalize val_main_v14 (F := Ideal) x g w = y
      pointwise
      exact congrArg y (congrArg (ix2 s) (Fin.ext (by show 4096 + ((h.val - 32) * 128 + l.val) = h.val * 128 + l.val; omega)))
    rw [← e]
    generalize val_main_v32 (F := Ideal) x g w qg = y0
    generalize val_main_v47 (F := Ideal) x g w kg = y1
    generalize val_main_v17 (F := Ideal) x g w = y2
    pointwise
    rw [dif_neg (by omega), dif_pos (by omega)]

/-- The values, which keep their projection. -/
theorem values_at (s : Fin 16384) (n : Fin 6144) (hn : 5120 ≤ n.val) :
    val_main_v49 (F := Ideal) x g w qg kg (ix2 s n) = proj x g w s n := by
  rw [← proj_at]
  unfold val_main_v49 val_main_v48
  generalize val_main_v32 (F := Ideal) x g w qg = y0
  generalize val_main_v47 (F := Ideal) x g w kg = y1
  unfold val_main_v17
  generalize val_main_v14 (F := Ideal) x g w = y
  pointwise
  rw [dif_neg (by omega), dif_neg (by omega)]
  exact congrArg y (congrArg (ix2 s) (Fin.ext (by show 5120 + (n.val - 4096 - 1024) = n.val; omega)))

end Cert.Heads

end
-- ==== Proof.Heads.Final.lean ====
module

public import proofs.«01_k».proof.Proof.Gen.Kernel5Ideal.Value
public import proofs.«01_k».proof.Proof.Heads.Ref
public import proofs.«01_k».proof.Proof.Norm.Block
public import Idealize.ShloMosaic.Lib.Pipeline.ValueKit
public import Idealize.ShloMosaic.Lib.Claim
public import Idealize.ShloMosaic.Lib.Pointwise

@[expose] public section

set_option maxRecDepth 16384

/-! The heads' projection: what the host prepares, a block's heads, the arrays the run leaves. -/

noncomputable section

namespace Cert.Kernel5Ideal.Final

open Idealize.ShloMosaic Idealize.ShloMosaic.TcCoe Idealize.ShloMosaic.Tactic Cert.Kernel5Ideal Cert.Kernel5Ideal.Gen
open Idealize.ShloMosaic.Pipeline (Dat)
open Cert.Heads (head gain proj)

/-! ### A block -/

section
variable (a : FVec Ideal S1024x4096 .bf16) (w : FVec Ideal S4096x256 .bf16) (r : FVec Ideal S1024x1 .f32) (g : FVec Ideal S1x128 .f32) (i : Fin 1024) (j : Fin 128)

theorem first_acc (n : Fin 256) : k0_pay5 (F := Ideal) a w r (ix2 i n) = (∑ k : Fin 4096, a (ix2 i k) * w (ix2 k n)) * r (ix2 i 0) := by
  pointwise [k0_pay5]

theorem second_acc (n : Fin 256) : k0_pay10 (F := Ideal) a w r (ix2 i n) = (∑ k : Fin 4096, a (ix2 i k) * w (ix2 k n)) * r (ix2 i 0) := by
  pointwise [k0_pay10]

theorem head0 : k0_pay6 (F := Ideal) a w r g (ix2 i j) = head (fun l => k0_pay5 (F := Ideal) a w r (ix2 i ⟨l.val, by omega⟩)) (g (ix2 0 j)) j := by
  unfold k0_pay6
  generalize k0_pay5 (F := Ideal) a w r = y
  unfold head
  pointwise

theorem head1 : k0_pay9 (F := Ideal) (k0_pay7 a w r) (k0_pay8 a w r) g (ix2 i j)
    = head (fun l => k0_pay5 (F := Ideal) a w r (ix2 i ⟨128 + l.val, by omega⟩)) (g (ix2 0 j)) j := by
  unfold k0_pay9 k0_pay8 k0_pay7
  generalize k0_pay5 (F := Ideal) a w r = y
  unfold head
  pointwise

theorem head2 : k0_pay11 (F := Ideal) a w r g (ix2 i j) = head (fun l => k0_pay10 (F := Ideal) a w r (ix2 i ⟨l.val, by omega⟩)) (g (ix2 0 j)) j := by
  unfold k0_pay11
  generalize k0_pay10 (F := Ideal) a w r = y
  unfold head
  pointwise

theorem head3 (y : FVec Ideal S1024x256 .f32) : k0_pay1 (F := Ideal) y g (ix2 i j) = head (fun l => y (ix2 i ⟨128 + l.val, by omega⟩)) (g (ix2 0 j)) j := by
  unfold head
  pointwise [k0_pay1]

theorem plain (w : FVec Ideal S4096x512 .bf16) (n : Fin 512) :
    k0_pay2 (F := Ideal) a w r (ix2 i n) = (∑ k : Fin 4096, a (ix2 i k) * w (ix2 k n)) * r (ix2 i 0) := by
  pointwise [k0_pay2]

end

/-! ### What the host prepares, and a point's blocks -/

section
variable (m : (ℓ : Loc nD τ sig) → Buf (Elt Ideal) ℓ) (c : Dev nD)

abbrev x0 : FVec Ideal S16384x4096 .f32 := m ((c : Thread nD τ).loc main_arg0)
abbrev g0 : FVec Ideal S4096 .f32 := m ((c : Thread nD τ).loc main_arg1)
abbrev w0 : FVec Ideal S4096x10240 .f32 := m ((c : Thread nD τ).loc main_arg2)
abbrev q0 : FVec Ideal S128 .f32 := m ((c : Thread nD τ).loc main_arg3)
abbrev k0 : FVec Ideal S128 .f32 := m ((c : Thread nD τ).loc main_arg4)
abbrev o0 : FVec Ideal S2x4096x4096 .f32 := m ((c : Thread nD τ).loc main_arg5)
abbrev p0 : FVec Ideal S2x4096x16384 .f32 := m ((c : Thread nD τ).loc main_arg6)

theorem V_xg : (V m c main_v3 : FVec Ideal S16384x4096 .bf16)
    = truncf .bf16 (mulf (x0 m c) (broadcastInDim S16384x4096 ![0, 1] bcast_S1x4096_S16384x4096_0_1
        (broadcastInDim S1x4096 ![1] bcast_S4096_S1x4096_1 (g0 m c)))) bitsLt_bf16_f32 := by
  simp only [V, hostOps0, StableHlo.after_cons, StableHlo.after_nil]
  after_results_loop
  all_goals rfl

theorem V_rinv : (V m c main_v11 : FVec Ideal S16384x1 .f32)
    = Host.rsqrt (addf (Host.divf (broadcastInDim S16384x1 ![0] bcast_S16384_S16384x1_0
        (Host.reduceAdd (mulf (x0 m c) (x0 m c)) (constant S_ .f32 0x00000000#32) reducesTo_S16384x4096_S16384_d1 h_S_))
        (broadcastInDim S16384x1 ![] bcast_S_S16384x1 (constant S_ .f32 0x45800000#32)))
      (broadcastInDim S16384x1 ![] bcast_S_S16384x1 (constant S_ .f32 0x358637BD#32))) := by
  simp only [V, hostOps0, StableHlo.after_cons, StableHlo.after_nil]
  after_results_loop
  all_goals rfl

theorem V_w : (V m c main_v21 : FVec Ideal S4096x10240 .bf16) = truncf .bf16 (w0 m c) bitsLt_bf16_f32 := by
  simp only [V, hostOps0, StableHlo.after_cons, StableHlo.after_nil]
  after_results_loop
  all_goals rfl

theorem xg_at (s : Fin 16384) (k : Fin 4096) :
    (V m c main_v3 : FVec Ideal S16384x4096 .bf16) (ix2 s k) = x0 m c (ix2 s k) * g0 m c (ix1 k) := by
  rw [V_xg]; exact Norm.scaled_at _ _ _ _ _ s k

theorem rinv_at (s : Fin 16384) :
    (V m c main_v11 : FVec Ideal S16384x1 .f32) (ix2 s 0)
      = Norm.row (x0 m c) s := by
  rw [V_rinv]; exact Norm.recip_at _ _ _ _ _ _ s

theorem w_at (k : Fin 4096) (j : Fin 10240) :
    (V m c main_v21 : FVec Ideal S4096x10240 .bf16) (ix2 k j) = w0 m c (ix2 k j) := by
  rw [V_w]; pointwise

theorem V_q : (V m c main_v14 : FVec Ideal S4096 .f32) = shapeCast S4096 (broadcastInDim S32x128 ![0, 1] bcast_S1x128_S32x128_0_1 (shapeCast S1x128 (q0 m c) shapeCasts_S128_S1x128)) shapeCasts_S32x128_S4096 := by
  simp only [V, hostOps0, StableHlo.after_cons, StableHlo.after_nil]
  after_results_loop
  all_goals rfl

theorem V_k : (V m c main_v17 : FVec Ideal S1024 .f32) = shapeCast S1024 (broadcastInDim S8x128 ![0, 1] bcast_S1x128_S8x128_0_1 (shapeCast S1x128 (k0 m c) shapeCasts_S128_S1x128)) shapeCasts_S8x128_S1024 := by
  simp only [V, hostOps0, StableHlo.after_cons, StableHlo.after_nil]
  after_results_loop
  all_goals rfl

/-- The heads' gains side by side, and ones after them. -/
def gains (a : FVec Ideal S4096 .f32) (b d : FVec Ideal S1024 .f32) : FVec Ideal S1x6144 .f32 :=
  shapeCast S1x6144 (concatenate S6144 0 [⟨S4096, a⟩, ⟨S1024, b⟩, ⟨S1024, d⟩] concatenates_S4096_S1024_S1024_S6144_d0) shapeCasts_S6144_S1x6144

theorem gains_of (f : (b : DevRef τ sig) → b.ty.Contents (Elt Ideal)) :
    shapeCast S1x6144 ((fun u : (k : Fin 3) → ((![main_v14, main_v17, main_v18] : Fin 3 → Ref sig .tc) k).ty.Contents (Elt Ideal) =>
      (concatenate S6144 0 [⟨S4096, (u 0 : FVec Ideal S4096 .f32)⟩, ⟨S1024, (u 1 : FVec Ideal S1024 .f32)⟩, ⟨S1024, (u 2 : FVec Ideal S1024 .f32)⟩]
        concatenates_S4096_S1024_S1024_S6144_d0 : FVec Ideal S6144 .f32))
      fun k => f (Proc.tc.devRef ((![main_v14, main_v17, main_v18] : Fin 3 → Ref sig .tc) k))) shapeCasts_S6144_S1x6144
      = gains (f (Proc.tc.devRef main_v14)) (f (Proc.tc.devRef main_v17)) (f (Proc.tc.devRef main_v18)) := rfl

theorem V_g : (V m c main_v20 : FVec Ideal S1x6144 .f32) = gains (V m c main_v14) (V m c main_v17) (V m c main_v18) := by
  simp only [V, hostOps0, StableHlo.after_cons, StableHlo.after_nil]
  rw [StableHlo.unary_result_ne]
  on_goal 2 => decide
  rw [StableHlo.reshape_result, StableHlo.nary_result]
  refine (gains_of _).trans ?_
  after_results_loop
  all_goals rfl

theorem gains_at (a : FVec Ideal S4096 .f32) (b d : FVec Ideal S1024 .f32) (n : Fin 6144) :
    gains a b d (ix2 0 n) = if h : n.val < 4096 then a (ix1 ⟨n.val, h⟩)
      else if h : n.val - 4096 < 1024 then b (ix1 ⟨n.val - 4096, h⟩) else d (ix1 ⟨n.val - 4096 - 1024, by omega⟩) := by
  unfold gains
  pointwise

theorem tile_q (q : FVec Ideal S128 .f32) (n : Fin 4096) (h : Fin 32) (j : Fin 128) (hn : n.val = h.val * 128 + j.val) :
    shapeCast S4096 (broadcastInDim S32x128 ![0, 1] bcast_S1x128_S32x128_0_1 (shapeCast S1x128 q shapeCasts_S128_S1x128)) shapeCasts_S32x128_S4096 (ix1 n)
      = q (ix1 j) := by
  obtain ⟨n, hn'⟩ := n
  obtain rfl : n = h.val * 128 + j.val := hn
  refine (shapeCast_apply _ _ _ (ix2 h j) (by rw [Shape.rowMajor_val_two, Shape.rowMajor_val_one]; rfl)).trans ?_
  pointwise

theorem tile_k (q : FVec Ideal S128 .f32) (n : Fin 1024) (h : Fin 8) (j : Fin 128) (hn : n.val = h.val * 128 + j.val) :
    shapeCast S1024 (broadcastInDim S8x128 ![0, 1] bcast_S1x128_S8x128_0_1 (shapeCast S1x128 q shapeCasts_S128_S1x128)) shapeCasts_S8x128_S1024 (ix1 n)
      = q (ix1 j) := by
  obtain ⟨n, hn'⟩ := n
  obtain rfl : n = h.val * 128 + j.val := hn
  refine (shapeCast_apply _ _ _ (ix2 h j) (by rw [Shape.rowMajor_val_two, Shape.rowMajor_val_one]; rfl)).trans ?_
  pointwise

theorem g_at (h : Fin 40) (j : Fin 128) (n : Fin 6144) (hn : n.val = h.val * 128 + j.val) :
    (V m c main_v20 : FVec Ideal S1x6144 .f32) (ix2 0 n) = gain (q0 m c) (k0 m c) h j := by
  rw [V_g, V_q, V_k, gains_at, gain]
  by_cases hh : h.val < 32
  · rw [dif_pos (by omega), if_pos hh]
    exact tile_q _ _ ⟨h.val, hh⟩ j hn
  · rw [dif_neg (by omega), dif_pos (by omega), if_neg hh]
    exact tile_k _ _ ⟨h.val - 32, by omega⟩ j (by show n.val - 4096 = (h.val - 32) * 128 + j.val; omega)
theorem idx : ∀ t : Fin cfg0.N, win0_0.index t = ![t.val / 12, 0] ∧ win0_1.index t = ![t.val / 12, 0] ∧ win0_2.index t = ![0, t.val % 12]
      ∧ win0_3.index t = ![0, 0] ∧ win0_4.index t = ![1, min t.val 127, 0] ∧ win0_5.index t = ![1, min t.val 127, 0]
      ∧ win0_6.index t = ![t.val / 12, t.val % 12] ∧ win0_7.index t = ![min t.val 127, 0] ∧ win0_8.index t = ![min t.val 127, 0]
      ∧ (grid0.coords t 1).val = t.val % 12 :=
  (by decide +kernel : ∀ t : Fin grid0.N, win0_0.index t = ![t.val / 12, 0] ∧ win0_1.index t = ![t.val / 12, 0] ∧ win0_2.index t = ![0, t.val % 12]
      ∧ win0_3.index t = ![0, 0] ∧ win0_4.index t = ![1, min t.val 127, 0] ∧ win0_5.index t = ![1, min t.val 127, 0]
      ∧ win0_6.index t = ![t.val / 12, t.val % 12] ∧ win0_7.index t = ![min t.val 127, 0] ∧ win0_8.index t = ![min t.val 127, 0]
      ∧ (grid0.coords t 1).val = t.val % 12)

variable (t : Fin cfg0.N) (s : Fin 16384) (i : Fin 1024) (h : s.val = 1024 * (t.val / 12) + i.val)
include h

theorem blk0 (k : Fin 4096) : (iblk m c 0 t : FVec Ideal S1024x4096 .bf16) (ix2 i k) = x0 m c (ix2 s k) * g0 m c (ix1 k) := by
  rw [← xg_at]
  blk_ext [iblk, idx t]

theorem blk1 : (iblk m c 1 t : FVec Ideal S1024x1 .f32) (ix2 i 0) = Norm.row (x0 m c) s := by
  rw [← rinv_at]
  blk_ext [iblk, idx t]

omit h in
theorem blk2 (k : Fin 4096) (l : Fin 512) (q : Fin 6144) (hq : q.val = 512 * (t.val % 12) + l.val) :
    (iblk m c 2 t : FVec Ideal S4096x512 .bf16) (ix2 k l) = w0 m c (ix2 k ⟨q.val, q.isLt.trans (by decide)⟩) := by
  rw [← w_at]
  blk_ext [iblk, idx t]

omit h in
theorem blk3 (q : Fin 6144) : (iblk m c 3 t : FVec Ideal S1x6144 .f32) (ix2 0 q) = (V m c main_v20 : FVec Ideal S1x6144 .f32) (ix2 0 q) := by
  blk_ext [iblk, idx t]

/-- An entry of the first half of a point's product, of the second, and of the whole. -/
theorem first_out (n : Fin 256) (q : Fin 6144) (hq : q.val = 512 * (t.val % 12) + n.val) :
    k0_pay5 (F := Ideal) (iblk m c 0 t) (View.ld (iblk m c 2 t) (Rect.unit (s := S4096x512) ![0, 0] S4096x256.size inb_S4096x512_S4096x256_0_0))
      (iblk m c 1 t) (ix2 i n) = proj (x0 m c) (g0 m c) (w0 m c) s q := by
  have hn := n.isLt
  rw [first_acc, blk1 m c t s i h, proj, ← Norm.dot_row]
  refine congrArg (· * _) (Finset.sum_congr rfl fun k _ => congrArg₂ (· * ·) (blk0 m c t s i h k) ?_)
  exact (Norm.ld_cols (ty := .bf16) _ 0 _ _ k ⟨n.val, by omega⟩ (ix2 k n) rfl (by show n.val = 0 + n.val; omega)).trans (blk2 m c t k _ q hq)

theorem second_out (n : Fin 256) (q : Fin 6144) (hq : q.val = 512 * (t.val % 12) + 256 + n.val) :
    k0_pay10 (F := Ideal) (iblk m c 0 t) (View.ld (iblk m c 2 t) (Rect.unit (s := S4096x512) ![0, 256] S4096x256.size inb_S4096x512_S4096x256_0_256))
      (iblk m c 1 t) (ix2 i n) = proj (x0 m c) (g0 m c) (w0 m c) s q := by
  have hn := n.isLt
  rw [second_acc, blk1 m c t s i h, proj, ← Norm.dot_row]
  refine congrArg (· * _) (Finset.sum_congr rfl fun k _ => congrArg₂ (· * ·) (blk0 m c t s i h k) ?_)
  exact (Norm.ld_cols (ty := .bf16) _ 256 _ _ k ⟨256 + n.val, by omega⟩ (ix2 k n) rfl rfl).trans (blk2 m c t k _ q (hq.trans (Nat.add_assoc _ _ _)))

theorem whole_out (n : Fin 512) (q : Fin 6144) (hq : q.val = 512 * (t.val % 12) + n.val) :
    k0_pay2 (F := Ideal) (iblk m c 0 t) (iblk m c 2 t) (iblk m c 1 t) (ix2 i n) = proj (x0 m c) (g0 m c) (w0 m c) s q := by
  rw [plain, blk1 m c t s i h, proj, ← Norm.dot_row]
  exact congrArg (· * _) (Finset.sum_congr rfl fun k _ => congrArg₂ (· * ·) (blk0 m c t s i h k) (blk2 m c t k n q hq))

omit h in
/-- The gain of a head of a point's block. -/
theorem ld_gain (hc : k0_cond1 (grid0.coords t) = 1#1) (r : Fin 4) (j : Fin 128) (n : Fin 40) (hn : n.val = 4 * (t.val % 12) + r.val) :
    View.ld (Val := Elt Ideal) (e' := .f32) (iblk m c 3 t) (Rect.unit (s := S1x6144) (k0_off1 (grid0.coords t) (BitVec.ofNat 32 (128 * r.val))) S1x128.size
      (k0_off1_inb (grid0.coords t) hc r)) (ix2 0 j) = gain (q0 m c) (k0 m c) n j := by
  rw [← g_at m c n j ⟨n.val * 128 + j.val, by omega⟩ rfl, ← blk3 m c t]
  refine View.ld_unit_apply_of _ _ _ _ _ (ix2 0 ⟨n.val * 128 + j.val, by omega⟩) fun a => ?_
  have e := congrFun (k0_off1_eq (grid0.coords t) r) a
  rw [(idx t).2.2.2.2.2.2.2.2.2] at e
  match a with
  | 0 =>
    show 0 = k0_off1 (grid0.coords t) (BitVec.ofNat 32 (128 * r.val)) 0 + 0
    rw [e]; rfl
  | 1 =>
    show n.val * 128 + j.val = k0_off1 (grid0.coords t) (BitVec.ofNat 32 (128 * r.val)) 1 + j.val
    rw [e]
    show n.val * 128 + j.val = 512 * (t.val % 12) + 128 * r.val + j.val
    omega

omit h in
/-- A head of a point's block is the plain program's. -/
theorem closed (n : Fin 40) (j : Fin 128) (q : Fin 6144) (hq : q.val = n.val * 128 + j.val) (d : Fin 128 → EReal)
    (hd : ∀ (l : Fin 128) (p : Fin 6144), p.val = n.val * 128 + l.val → d l = proj (x0 m c) (g0 m c) (w0 m c) s p) :
    head d (gain (q0 m c) (k0 m c) n j) j
      = Cert.Reference5Ideal.Read.val_main_v49 (F := Ideal) (x0 m c) (g0 m c) (w0 m c) (q0 m c) (k0 m c) (ix2 s q) := by
  rw [show q = ⟨n.val * 128 + j.val, by omega⟩ from Fin.ext hq, Heads.heads_at]
  exact congrArg (fun d => head d _ _) (funext fun l => hd l _ rfl)

end

/-! ### What a point leaves -/

section
variable (m : (ℓ : Loc nD τ sig) → Buf (Elt Ideal) ℓ) (c : Dev nD)

theorem outs6 (t : Fin cfg0.N) (y : S1024x512.Idx) (s : Fin 16384) (q : Fin 6144) (hs : s.val = 1024 * (t.val / 12) + (y 0).val)
    (hq : q.val = 512 * (t.val % 12) + (y 1).val) : (outsAt0 m c t.val t.isLt).1 y
      = Cert.Reference5Ideal.Read.val_main_v49 (F := Ideal) (x0 m c) (g0 m c) (w0 m c) (q0 m c) (k0 m c) (ix2 s q) := by
  by_cases b : t.val % 12 ≤ 9
  · rw [outsAt0_A m c t b (by omega)]
    have hc := (hcond0_0 t).mpr b
    frame_out
    canon_tiles z e
    all_goals
      obtain ⟨i, j, rfl⟩ : ∃ (i : Fin 1024) (j : Fin 128), z = ix2 i j := Norm.pair z
      have hi : s.val = 1024 * (t.val / 12) + i.val := hs.trans (by rw [e0]; rfl)
      rw [e1] at hq
    · refine (head3 _ _ _ _).trans ?_
      refine (congrArg (fun g => head _ g _) (ld_gain m c t hc 3 j ⟨4 * (t.val % 12) + 3, by omega⟩ rfl)).trans ?_
      refine closed m c s _ j q (hq.trans (by show 512 * (t.val % 12) + (384 + j.val) = (4 * (t.val % 12) + 3) * 128 + j.val; omega)) _ fun l p hp => ?_
      exact second_out m c t s i hi _ p (hp.trans (by show (4 * (t.val % 12) + 3) * 128 + l.val = 512 * (t.val % 12) + 256 + (128 + l.val); omega))
    · refine (head2 _ _ _ _ _ _).trans ?_
      refine (congrArg (fun g => head _ g _) (ld_gain m c t hc 2 j ⟨4 * (t.val % 12) + 2, by omega⟩ rfl)).trans ?_
      refine closed m c s _ j q (hq.trans (by show 512 * (t.val % 12) + (256 + j.val) = (4 * (t.val % 12) + 2) * 128 + j.val; omega)) _ fun l p hp => ?_
      exact second_out m c t s i hi _ p (hp.trans (by show (4 * (t.val % 12) + 2) * 128 + l.val = 512 * (t.val % 12) + 256 + l.val; omega))
    · refine (head1 _ _ _ _ _ _).trans ?_
      refine (congrArg (fun g => head _ g _) (ld_gain m c t hc 1 j ⟨4 * (t.val % 12) + 1, by omega⟩ rfl)).trans ?_
      refine closed m c s _ j q (hq.trans (by show 512 * (t.val % 12) + (128 + j.val) = (4 * (t.val % 12) + 1) * 128 + j.val; omega)) _ fun l p hp => ?_
      exact first_out m c t s i hi _ p (hp.trans (by show (4 * (t.val % 12) + 1) * 128 + l.val = 512 * (t.val % 12) + (128 + l.val); omega))
    · refine (head0 _ _ _ _ _ _).trans ?_
      refine (congrArg (fun g => head _ g _) (ld_gain m c t hc 0 j ⟨4 * (t.val % 12), by omega⟩ rfl)).trans ?_
      refine closed m c s _ j q (hq.trans (by show 512 * (t.val % 12) + j.val = (4 * (t.val % 12)) * 128 + j.val; omega)) _ fun l p hp => ?_
      exact first_out m c t s i hi _ p (hp.trans (by show (4 * (t.val % 12)) * 128 + l.val = 512 * (t.val % 12) + l.val; omega))
  · rw [outsAt0_B m c t b (by omega)]
    frame_out
    obtain ⟨i, j, rfl⟩ : ∃ (i : Fin 1024) (j : Fin 512), y = ix2 i j := Norm.pair y
    have hq' : q.val = 512 * (t.val % 12) + j.val := hq
    rw [Heads.values_at _ _ _ _ _ _ _ (by omega)]
    exact whole_out m c t s i hs j q hq'

theorem outs7 (t : Fin cfg0.N) : (outsAt0 m c t.val t.isLt).2.1 = k0_pay3 (F := Ideal) (iblk m c 4 t) := by
  funext y
  by_cases b : t.val % 12 ≤ 9
  on_goal 1 => rw [outsAt0_A m c t b (by omega)]
  on_goal 2 => rw [outsAt0_B m c t b (by omega)]
  all_goals frame_out

theorem outs8 (t : Fin cfg0.N) : (outsAt0 m c t.val t.isLt).2.2 = k0_pay4 (F := Ideal) (iblk m c 5 t) := by
  funext y
  by_cases b : t.val % 12 ≤ 9
  on_goal 1 => rw [outsAt0_A m c t b (by omega)]
  on_goal 2 => rw [outsAt0_B m c t b (by omega)]
  all_goals frame_out

/-! ### The arrays the run leaves -/

theorem final6 : (dats m 0 c).arrAt 6 cfg0.N
    = Cert.Reference5Ideal.Read.val_main_v49 (F := Ideal) (x0 m c) (g0 m c) (w0 m c) (q0 m c) (k0 m c) := by
  refine (dats m 0 c).arrAt_eq_of_covers 6 _ (by decide +kernel) fun t _ y => ?_
  blk_simp
  rw [after0_6]
  have hN : t.val < 192 := lt_of_lt_of_eq t.isLt N_0
  obtain ⟨i, j, rfl⟩ : ∃ (i : Fin 1024) (j : Fin 512), y = ix2 i j := Norm.pair y
  have e : (win0_6.blk t).view.emb (ix2 i j) = ix2 (⟨1024 * (t.val / 12) + i.val, by omega⟩ : Fin 16384) (⟨512 * (t.val % 12) + j.val, by omega⟩ : Fin 6144) := by
    blk_ext [idx t]
  exact (outs6 m c t (ix2 i j) _ _ rfl rfl).trans (congrArg _ e.symm)

theorem final7 : (dats m 0 c).arrAt 7 cfg0.N = Cert.Reference5Ideal.Read.val_main_v52 (F := Ideal) (o0 m c) := by
  refine (dats m 0 c).arrAt_eq_of_covers 7 _ (by decide +kernel) fun t _ y => ?_
  blk_simp
  rw [after0_7, outs7]
  have hN : t.val < 192 := lt_of_lt_of_eq t.isLt N_0
  obtain ⟨i, j, rfl⟩ : ∃ (i : Fin 32) (j : Fin 4096), y = ix2 i j := Norm.pair y
  have e : (win0_7.blk t).view.emb (ix2 i j) = ix2 (⟨32 * min t.val 127 + i.val, by omega⟩ : Fin 4096) j := by
    blk_ext [idx t]
  refine Eq.trans ?_ (congrArg _ e.symm)
  open Cert.Reference5Ideal.Read in
  pointwise [k0_pay3, val_main_v52, val_main_v51, val_main_v50]
  blk_ext [iblk, V_main_arg5, idx t]

theorem final8 : (dats m 0 c).arrAt 8 cfg0.N = Cert.Reference5Ideal.Read.val_main_v55 (F := Ideal) (p0 m c) := by
  refine (dats m 0 c).arrAt_eq_of_covers 8 _ (by decide +kernel) fun t _ y => ?_
  blk_simp
  rw [after0_8, outs8]
  have hN : t.val < 192 := lt_of_lt_of_eq t.isLt N_0
  obtain ⟨i, j, rfl⟩ : ∃ (i : Fin 32) (j : Fin 16384), y = ix2 i j := Norm.pair y
  have e : (win0_8.blk t).view.emb (ix2 i j) = ix2 (⟨32 * min t.val 127 + i.val, by omega⟩ : Fin 4096) j := by
    blk_ext [idx t]
  refine Eq.trans ?_ (congrArg _ e.symm)
  open Cert.Reference5Ideal.Read in
  pointwise [k0_pay4, val_main_v55, val_main_v54, val_main_v53]
  blk_ext [iblk, V_main_arg6, idx t]

end

end Cert.Kernel5Ideal.Final

end
-- ==== Proof.Heads.Bridge.lean ====
module

public import proofs.«01_k».proof.Defs
public import proofs.«01_k».proof.Proof.Heads.Final

@[expose] public section

set_option maxRecDepth 16384

/-! The heads' projection: the two programs over the reals, the same arrays. -/

noncomputable section

namespace Cert.Kernel5Ideal

open Idealize.ShloMosaic Idealize.ShloMosaic.TcCoe Idealize.SL.Sem

theorem algebraic : Cert.algebraic_Kernel5Ideal_Reference5Ideal := by
  intro m ρ m' ρ' _ hagree
  refine ⟨_, _, _, Cert.Kernel5Ideal.Value.run_blocks m ρ, ?_⟩
  refine (θ_run _ _ _).mono (fun _ h c => ⟨(h c).1.trans ?_, (h c).2.1.trans ?_, (h c).2.2.1.trans ?_, (h c).2.2.2⟩)
    (Cert.Reference5Ideal.Value.run m' ρ')
  all_goals obtain ⟨e0, e1, e2, e3, e4, e5, e6⟩ := hagree c
  · rw [Cert.Reference5Ideal.Read.val_main_v49_eq, Final.final6 m c, e0, e1, e2, e3, e4]
  · rw [Cert.Reference5Ideal.Read.val_main_v52_eq, Final.final7 m c, e5]
  · rw [Cert.Reference5Ideal.Read.val_main_v55_eq, Final.final8 m c, e6]

end Cert.Kernel5Ideal

end
-- ==== Proof.Out.Final.lean ====
module

public import proofs.«01_k».proof.Proof.Gen.Kernel7Ideal.Value
public import proofs.«01_k».proof.Proof.Gen.Reference7Ideal.Read
public import proofs.«01_k».proof.Proof.Norm.Block
public import Idealize.ShloMosaic.Lib.Claim
public import Idealize.ShloMosaic.Lib.Pointwise

@[expose] public section

set_option maxRecDepth 16384

/-! The attention's way out: the projection added to the stream, the sum scaled, and each row's reciprocal root mean
square, whose squares are gathered over a row's eight blocks. -/

noncomputable section

namespace Cert.Kernel7Ideal.Final

open Idealize.ShloMosaic Idealize.ShloMosaic.TcCoe Idealize.ShloMosaic.Tactic Cert.Kernel7Ideal Cert.Kernel7Ideal.Gen
open Idealize.ShloMosaic.Pipeline (Dat)

/-! ### The reference -/

section
open Cert.Reference7Ideal.Read

theorem sum_at (a : FVec Ideal S16384x4096 .bf16) (w : FVec Ideal S4096x4096 .f32) (x : FVec Ideal S16384x4096 .f32) (s : Fin 16384) (j : Fin 4096) :
    val_main_v2 (F := Ideal) a w x (ix2 s j) = x (ix2 s j) + ∑ k : Fin 4096, a (ix2 s k) * w (ix2 k j) := by
  have e : val_main_v1 (F := Ideal) a w (ix2 s j) = ∑ k : Fin 4096, a (ix2 s k) * w (ix2 k j) := by
    rw [val_main_v1_apply]
    refine Finset.sum_congr rfl fun k _ => ?_
    have el : lidx_main_v1 (ix2 s j) k = ix2 s k := by funext a; match a with | 0 => rfl | 1 => rfl
    have er : ridx_main_v1 (ix2 s j) k = ix2 k j := by funext a; match a with | 0 => rfl | 1 => rfl
    rw [el, er]
    rfl
  rw [← e]
  rfl

theorem scaled_at (a : FVec Ideal S16384x4096 .bf16) (w : FVec Ideal S4096x4096 .f32) (x : FVec Ideal S16384x4096 .f32) (g : FVec Ideal S4096 .f32)
    (s : Fin 16384) (j : Fin 4096) :
    val_main_v6 (F := Ideal) a w x g (ix2 s j) = val_main_v2 (F := Ideal) a w x (ix2 s j) * g (ix1 j) := by
  unfold val_main_v6 val_main_v5 val_main_v4 val_main_v3
  exact Norm.scaled_at _ _ _ _ _ s j

theorem recip_at (a : FVec Ideal S16384x4096 .bf16) (w : FVec Ideal S4096x4096 .f32) (x : FVec Ideal S16384x4096 .f32) (s : Fin 16384) :
    val_main_v14 (F := Ideal) a w x (ix2 s 0) = Norm.row (val_main_v2 (F := Ideal) a w x) s := by
  unfold val_main_v14 val_main_v13 val_main_v12 val_main_v11 val_main_v10 val_main_v9 val_main_v8 val_main_v7 val_main_cst val_main_cst_0 val_main_cst_1
  exact Norm.recip_at _ _ _ _ _ _ s

end

/-! ### A block -/

section
variable (a : FVec Ideal S1024x4096 .bf16) (i : Fin 1024) (j : Fin 256)

theorem first_at (x : FVec Ideal S1024x256 .f32) (w : FVec Ideal S4096x256 .bf16) :
    k0_pay5 (F := Ideal) x a w (ix2 i j) = x (ix2 i j) + ∑ k : Fin 4096, a (ix2 i k) * w (ix2 k j) := by
  pointwise [k0_pay5]

theorem second_at (x : FVec Ideal S1024x256 .f32) (w : FVec Ideal S4096x256 .bf16) :
    k0_pay6 (F := Ideal) x a w (ix2 i j) = x (ix2 i j) + ∑ k : Fin 4096, a (ix2 i k) * w (ix2 k j) := by
  pointwise [k0_pay6]

theorem first_scaled (x : FVec Ideal S1024x256 .f32) (w : FVec Ideal S4096x256 .bf16) (g : FVec Ideal S1x256 .f32) :
    k0_pay7 (F := Ideal) x a w g (ix2 i j) = k0_pay5 (F := Ideal) x a w (ix2 i j) * g (ix2 0 j) := by
  unfold k0_pay7
  generalize k0_pay5 (F := Ideal) x a w = y
  pointwise

theorem second_scaled (y : FVec Ideal S1024x256 .f32) (g : FVec Ideal S1x256 .f32) :
    k0_pay1 (F := Ideal) y g (ix2 i j) = y (ix2 i j) * g (ix2 0 j) := by
  pointwise [k0_pay1]

theorem first_squares (x : FVec Ideal S1024x256 .f32) (w : FVec Ideal S4096x256 .bf16) :
    k0_pay8 (F := Ideal) x a w (ix2 i 0) = ∑ j, k0_pay5 (F := Ideal) x a w (ix2 i j) * k0_pay5 (F := Ideal) x a w (ix2 i j) := by
  unfold k0_pay8
  generalize k0_pay5 (F := Ideal) x a w = y
  pointwise

theorem squares_at (y : FVec Ideal S1024x256 .f32) (u : FVec Ideal S1024x1 .f32) :
    k0_pay2 (F := Ideal) y u (ix2 i 0) = u (ix2 i 0) + ∑ j, y (ix2 i j) * y (ix2 i j) := by
  pointwise [k0_pay2]

theorem gathered_at (y : FVec Ideal S1024x256 .f32) (u v : FVec Ideal S1024x1 .f32) :
    k0_pay3 (F := Ideal) y u v (ix2 i 0) = v (ix2 i 0) + k0_pay2 (F := Ideal) y u (ix2 i 0) := by
  unfold k0_pay3
  generalize k0_pay2 (F := Ideal) y u = z
  pointwise

theorem ended_at (v : FVec Ideal S1024x1 .f32) :
    k0_pay4 (F := Ideal) v (ix2 i 0) = Ideal.rsqrt (v (ix2 i 0) * Ideal.ofBits .f32 0x39800000#32 + Ideal.ofBits .f32 0x358637BD#32) := by
  pointwise [k0_pay4]

end

/-! ### What the host prepares, and a point's blocks -/

section
variable (m : (ℓ : Loc nD τ sig) → Buf (Elt Ideal) ℓ) (c : Dev nD)

abbrev a0 : FVec Ideal S16384x4096 .bf16 := m ((c : Thread nD τ).loc main_arg0)
abbrev w0 : FVec Ideal S4096x4096 .f32 := m ((c : Thread nD τ).loc main_arg1)
abbrev x0 : FVec Ideal S16384x4096 .f32 := m ((c : Thread nD τ).loc main_arg2)
abbrev g0 : FVec Ideal S4096 .f32 := m ((c : Thread nD τ).loc main_arg3)

/-- The new stream. -/
abbrev out : FVec Ideal S16384x4096 .f32 := Cert.Reference7Ideal.Read.val_main_v2 (F := Ideal) (a0 m c) (w0 m c) (x0 m c)

theorem V_w : (V m c main_v0 : FVec Ideal S4096x4096 .bf16) = truncf .bf16 (w0 m c) bitsLt_bf16_f32 := by
  simp only [V, hostOps0, StableHlo.after_cons, StableHlo.after_nil]
  after_results_loop
  all_goals rfl

theorem V_g : (V m c main_v1 : FVec Ideal S1x4096 .f32) = shapeCast S1x4096 (g0 m c) shapeCasts_S4096_S1x4096 := by
  simp only [V, hostOps0, StableHlo.after_cons, StableHlo.after_nil]
  after_results_loop
  all_goals rfl

theorem w_at (k j : Fin 4096) : (V m c main_v0 : FVec Ideal S4096x4096 .bf16) (ix2 k j) = w0 m c (ix2 k j) := by
  rw [V_w]; pointwise

theorem g_at (j : Fin 4096) : (V m c main_v1 : FVec Ideal S1x4096 .f32) (ix2 0 j) = g0 m c (ix1 j) := by
  rw [V_g]; pointwise

theorem idx : ∀ t : Fin cfg0.N, win0_0.index t = ![t.val / 8, 0] ∧ win0_1.index t = ![0, t.val % 8] ∧ win0_2.index t = ![t.val / 8, t.val % 8]
      ∧ win0_3.index t = ![0, 0] ∧ win0_4.index t = ![t.val / 8, t.val % 8] ∧ win0_5.index t = ![t.val / 8, t.val % 8]
      ∧ win0_6.index t = ![t.val / 8, 0] ∧ (grid0.coords t 1).val = t.val % 8 :=
  (by decide +kernel : ∀ t : Fin grid0.N, win0_0.index t = ![t.val / 8, 0] ∧ win0_1.index t = ![0, t.val % 8] ∧ win0_2.index t = ![t.val / 8, t.val % 8]
      ∧ win0_3.index t = ![0, 0] ∧ win0_4.index t = ![t.val / 8, t.val % 8] ∧ win0_5.index t = ![t.val / 8, t.val % 8]
      ∧ win0_6.index t = ![t.val / 8, 0] ∧ (grid0.coords t 1).val = t.val % 8)

variable (t : Fin cfg0.N) (s : Fin 16384) (i : Fin 1024) (h : s.val = 1024 * (t.val / 8) + i.val)
include h

theorem blk0 (k : Fin 4096) : (iblk m c 0 t : FVec Ideal S1024x4096 .bf16) (ix2 i k) = a0 m c (ix2 s k) := by
  blk_ext [iblk, V_main_arg0, idx t]

omit h in
theorem blk1 (k : Fin 4096) (l : Fin 512) (q : Fin 4096) (hq : q.val = 512 * (t.val % 8) + l.val) :
    (iblk m c 1 t : FVec Ideal S4096x512 .bf16) (ix2 k l) = w0 m c (ix2 k q) := by
  rw [← w_at]
  blk_ext [iblk, idx t]

theorem blk2 (l : Fin 512) (q : Fin 4096) (hq : q.val = 512 * (t.val % 8) + l.val) :
    (iblk m c 2 t : FVec Ideal S1024x512 .f32) (ix2 i l) = x0 m c (ix2 s q) := by
  blk_ext [iblk, V_main_arg2, idx t]

omit h in
theorem blk3 (q : Fin 4096) : (iblk m c 3 t : FVec Ideal S1x4096 .f32) (ix2 0 q) = g0 m c (ix1 q) := by
  rw [← g_at]
  blk_ext [iblk, idx t]

/-- An entry of the first half of a point's block, and of the second. -/
theorem first_out (z : Fin 256) (q : Fin 4096) (hq : q.val = 512 * (t.val % 8) + z.val) :
    k0_pay5 (F := Ideal) (View.ld (iblk m c 2 t) (Rect.unit (s := S1024x512) ![0, 0] S1024x256.size inb_S1024x512_S1024x256_0_0)) (iblk m c 0 t)
      (View.ld (iblk m c 1 t) (Rect.unit (s := S4096x512) ![0, 0] S4096x256.size inb_S4096x512_S4096x256_0_0)) (ix2 i z) = out m c (ix2 s q) := by
  have hz := z.isLt
  unfold out
  rw [sum_at]
  refine (first_at _ _ _ _ _).trans (congrArg₂ (· + ·) ?_ (Finset.sum_congr rfl fun k _ => congrArg₂ (· * ·) (blk0 m c t s i h k) ?_))
  · exact (Norm.ld_cols (ty := .f32) _ 0 _ _ i ⟨z.val, by omega⟩ (ix2 i z) rfl (by show z.val = 0 + z.val; omega)).trans (blk2 m c t s i h _ q hq)
  · exact (Norm.ld_cols (ty := .bf16) _ 0 _ _ k ⟨z.val, by omega⟩ (ix2 k z) rfl (by show z.val = 0 + z.val; omega)).trans (blk1 m c t k _ q hq)

theorem second_out (z : Fin 256) (q : Fin 4096) (hq : q.val = 512 * (t.val % 8) + 256 + z.val) :
    k0_pay6 (F := Ideal) (View.ld (iblk m c 2 t) (Rect.unit (s := S1024x512) ![0, 256] S1024x256.size inb_S1024x512_S1024x256_0_256)) (iblk m c 0 t)
      (View.ld (iblk m c 1 t) (Rect.unit (s := S4096x512) ![0, 256] S4096x256.size inb_S4096x512_S4096x256_0_256)) (ix2 i z) = out m c (ix2 s q) := by
  have hz := z.isLt
  unfold out
  rw [sum_at]
  refine (second_at _ _ _ _ _).trans (congrArg₂ (· + ·) ?_ (Finset.sum_congr rfl fun k _ => congrArg₂ (· * ·) (blk0 m c t s i h k) ?_))
  · exact (Norm.ld_cols (ty := .f32) _ 256 _ _ i ⟨256 + z.val, by omega⟩ (ix2 i z) rfl rfl).trans (blk2 m c t s i h _ q (hq.trans (Nat.add_assoc _ _ _)))
  · exact (Norm.ld_cols (ty := .bf16) _ 256 _ _ k ⟨256 + z.val, by omega⟩ (ix2 k z) rfl rfl).trans (blk1 m c t k _ q (hq.trans (Nat.add_assoc _ _ _)))

/-- A block's squares. -/
theorem block_squares :
    k0_pay2 (F := Ideal)
      (k0_pay6 (View.ld (iblk m c 2 t) (Rect.unit (s := S1024x512) ![0, 256] S1024x256.size inb_S1024x512_S1024x256_0_256)) (iblk m c 0 t)
        (View.ld (iblk m c 1 t) (Rect.unit (s := S4096x512) ![0, 256] S4096x256.size inb_S4096x512_S4096x256_0_256)))
      (k0_pay8 (View.ld (iblk m c 2 t) (Rect.unit (s := S1024x512) ![0, 0] S1024x256.size inb_S1024x512_S1024x256_0_0)) (iblk m c 0 t)
        (View.ld (iblk m c 1 t) (Rect.unit (s := S4096x512) ![0, 0] S4096x256.size inb_S4096x512_S4096x256_0_0))) (ix2 i 0)
      = ∑ n ∈ Finset.range 512, Norm.sq (out m c) s (512 * (t.val % 8) + n) := by
  rw [squares_at, first_squares, show 512 = 256 + 256 from rfl, Finset.sum_range_add]
  refine congrArg₂ (· + ·) ?_ ?_
  · exact Norm.sum_stretch (out m c) s (512 * (t.val % 8)) (by omega) _ fun z q hq => first_out m c t s i h z q hq
  · refine (Norm.sum_stretch (out m c) s (512 * (t.val % 8) + 256) (by omega) _ fun z q hq => second_out m c t s i h z q hq).trans ?_
    exact Finset.sum_congr rfl fun n _ => by rw [Nat.add_assoc]

end

/-! ### What a point leaves -/

section
variable (m : (ℓ : Loc nD τ sig) → Buf (Elt Ideal) ℓ) (c : Dev nD)

theorem outs4 (t : Fin cfg0.N) (y : S1024x512.Idx) (s : Fin 16384) (q : Fin 4096) (hs : s.val = 1024 * (t.val / 8) + (y 0).val)
    (hq : q.val = 512 * (t.val % 8) + (y 1).val) : (outsAt0 m c t.val t.isLt).1 y = out m c (ix2 s q) := by
  by_cases b0 : t.val % 8 = 0
  on_goal 2 => by_cases b7 : t.val % 8 = 7
  on_goal 1 => rw [outsAt0_A m c t b0 (by omega) (by omega)]
  on_goal 2 => rw [outsAt0_C m c t b0 (by omega) b7]
  on_goal 3 => rw [outsAt0_B m c t b0 (by omega) b7]
  all_goals
    frame_out
    canon_tiles z e
    all_goals obtain ⟨i, j, rfl⟩ : ∃ (i : Fin 1024) (j : Fin 256), z = ix2 i j := Norm.pair z
    · exact second_out m c t s i (hs.trans (by rw [e0]; rfl)) j q (by rw [hq, e1]; exact (Nat.add_assoc _ _ _).symm)
    · exact first_out m c t s i (hs.trans (by rw [e0]; rfl)) j q (by rw [hq, e1]; rfl)

/-- The columns of the gain that a point reads, for either half of its block. -/
theorem ld_gain (t : Fin cfg0.N) (r : Fin 2) (j : Fin 256) (q : Fin 4096) (hq : q.val = 512 * (t.val % 8) + 256 * r.val + j.val) :
    View.ld (Val := Elt Ideal) (e' := .f32) (iblk m c 3 t) (Rect.unit (s := S1x4096) (k0_off1 (grid0.coords t) (BitVec.ofNat 32 (256 * r.val))) S1x256.size
      (k0_off1_inb (grid0.coords t) r)) (ix2 0 j) = g0 m c (ix1 q) := by
  rw [← blk3 m c t q]
  refine View.ld_unit_apply_of _ _ _ _ _ (ix2 0 q) fun a => ?_
  have e := congrFun (k0_off1_eq (grid0.coords t) r) a
  rw [(idx t).2.2.2.2.2.2.2] at e
  match a with
  | 0 =>
    show 0 = k0_off1 (grid0.coords t) (BitVec.ofNat 32 (256 * r.val)) 0 + 0
    rw [e]; rfl
  | 1 =>
    show q.val = k0_off1 (grid0.coords t) (BitVec.ofNat 32 (256 * r.val)) 1 + j.val
    rw [e]; exact hq

theorem outs5 (t : Fin cfg0.N) (y : S1024x512.Idx) (s : Fin 16384) (q : Fin 4096) (hs : s.val = 1024 * (t.val / 8) + (y 0).val)
    (hq : q.val = 512 * (t.val % 8) + (y 1).val) : (outsAt0 m c t.val t.isLt).2.1 y = out m c (ix2 s q) * g0 m c (ix1 q) := by
  by_cases b0 : t.val % 8 = 0
  on_goal 2 => by_cases b7 : t.val % 8 = 7
  on_goal 1 => rw [outsAt0_A m c t b0 (by omega) (by omega)]
  on_goal 2 => rw [outsAt0_C m c t b0 (by omega) b7]
  on_goal 3 => rw [outsAt0_B m c t b0 (by omega) b7]
  all_goals
    frame_out
    canon_tiles z e
    all_goals obtain ⟨i, j, rfl⟩ : ∃ (i : Fin 1024) (j : Fin 256), z = ix2 i j := Norm.pair z
    · have hq' : q.val = 512 * (t.val % 8) + 256 + j.val := by rw [hq, e1]; exact (Nat.add_assoc _ _ _).symm
      exact (second_scaled _ _ _ _).trans (congrArg₂ (· * ·) (second_out m c t s i (hs.trans (by rw [e0]; rfl)) j q hq') (ld_gain m c t 1 j q hq'))
    · have hq' : q.val = 512 * (t.val % 8) + j.val := by rw [hq, e1]; rfl
      exact (first_scaled _ _ _ _ _ _).trans (congrArg₂ (· * ·) (first_out m c t s i (hs.trans (by rw [e0]; rfl)) j q hq') (ld_gain m c t 0 j q hq'))

/-- Before its last block a row's squares gathered so far. -/
theorem gathered (n : ℕ) (hn : n < cfg0.N) (i : Fin 1024) (s : Fin 16384) (hs : s.val = 1024 * (n / 8) + i.val) (b7 : ¬n % 8 = 7) :
    (outsAt0 m c n hn).2.2 (ix2 i 0) = ∑ k ∈ Finset.range (512 * (n % 8) + 512), Norm.sq (out m c) s k := by
  induction n with
  | zero =>
    rw [outsAt0_A m c ⟨0, hn⟩ rfl (by show ¬1 ≤ 0 % 8; decide) (by show ¬0 % 8 = 7; decide)]
    frame_out
    refine (block_squares m c ⟨0, hn⟩ s i hs).trans (Finset.sum_congr rfl fun k _ => congrArg _ (Nat.zero_add k))
  | succ n ih =>
    rw [Finset.sum_range_add]
    by_cases b0 : (n + 1) % 8 = 0
    · rw [outsAt0_A m c ⟨n + 1, hn⟩ b0 (by show ¬1 ≤ (n + 1) % 8; omega) b7]
      frame_out
      refine (block_squares m c ⟨n + 1, hn⟩ s i hs).trans ?_
      rw [b0, Nat.mul_zero, Finset.sum_range_zero, zero_add]
    · have e := outsAt0_B m c ⟨n + 1, hn⟩ b0 (by show 1 ≤ (n + 1) % 8; omega) b7
      rw [e]
      frame_out
      refine (gathered_at _ _ _ _).trans (congrArg₂ (· + ·) ?_ (block_squares m c ⟨n + 1, hn⟩ s i hs))
      refine (ih (Nat.lt_of_succ_lt hn) (by omega) (by omega)).trans ?_
      rw [show 512 * (n % 8) + 512 = 512 * ((n + 1) % 8) by omega]

theorem outs6 (t : Fin cfg0.N) (b7 : t.val % 8 = 7) (i : Fin 1024) (s : Fin 16384) (hs : s.val = 1024 * (t.val / 8) + i.val) :
    (outsAt0 m c t.val t.isLt).2.2 (ix2 i 0) = Norm.row (out m c) s := by
  rw [outsAt0_C m c t (by omega) (by omega) b7]
  frame_out
  refine (ended_at _ _).trans ?_
  rw [← Norm.row_of_sum]
  refine congrArg (fun z => Ideal.rsqrt (z * Ideal.ofBits .f32 0x39800000#32 + Ideal.ofBits .f32 0x358637BD#32)) ?_
  rw [show Finset.range 4096 = Finset.range (512 * (t.val % 8) + 512) by rw [b7], Finset.sum_range_add]
  refine (gathered_at _ _ _ _).trans (congrArg₂ (· + ·) ?_ (block_squares m c t s i hs))
  refine (gathered m c (t.val - 1) (by omega) i s (by omega) (by omega)).trans ?_
  rw [show 512 * ((t.val - 1) % 8) + 512 = 512 * (t.val % 8) by omega]

/-! ### The arrays the run leaves -/

theorem final4 : (dats m 0 c).arrAt 4 cfg0.N = Cert.Reference7Ideal.Read.val_main_v2 (F := Ideal) (a0 m c) (w0 m c) (x0 m c) := by
  refine (dats m 0 c).arrAt_eq_of_covers 4 _ (by decide +kernel) fun t _ y => ?_
  blk_simp
  rw [after0_4]
  have hN : t.val < 128 := lt_of_lt_of_eq t.isLt N_0
  obtain ⟨i, j, rfl⟩ : ∃ (i : Fin 1024) (j : Fin 512), y = ix2 i j := Norm.pair y
  have e : (win0_4.blk t).view.emb (ix2 i j) = ix2 (⟨1024 * (t.val / 8) + i.val, by omega⟩ : Fin 16384) (⟨512 * (t.val % 8) + j.val, by omega⟩ : Fin 4096) := by
    blk_ext [idx t]
  exact (outs4 m c t (ix2 i j) _ _ rfl rfl).trans (congrArg _ e.symm)

theorem final5 : (dats m 0 c).arrAt 5 cfg0.N = Cert.Reference7Ideal.Read.val_main_v6 (F := Ideal) (a0 m c) (w0 m c) (x0 m c) (g0 m c) := by
  refine (dats m 0 c).arrAt_eq_of_covers 5 _ (by decide +kernel) fun t _ y => ?_
  blk_simp
  rw [after0_5]
  have hN : t.val < 128 := lt_of_lt_of_eq t.isLt N_0
  obtain ⟨i, j, rfl⟩ : ∃ (i : Fin 1024) (j : Fin 512), y = ix2 i j := Norm.pair y
  have e : (win0_5.blk t).view.emb (ix2 i j) = ix2 (⟨1024 * (t.val / 8) + i.val, by omega⟩ : Fin 16384) (⟨512 * (t.val % 8) + j.val, by omega⟩ : Fin 4096) := by
    blk_ext [idx t]
  exact (outs5 m c t (ix2 i j) _ _ rfl rfl).trans ((scaled_at _ _ _ _ _ _).symm.trans (congrArg _ e.symm))

theorem final6 : (dats m 0 c).arrAt 6 cfg0.N = Cert.Reference7Ideal.Read.val_main_v14 (F := Ideal) (a0 m c) (w0 m c) (x0 m c) := by
  refine (dats m 0 c).arrAt_eq_of_covers 6 _ (by decide +kernel) fun t ht y => ?_
  blk_simp
  rw [after0_6]
  have hN : t.val < 128 := lt_of_lt_of_eq t.isLt N_0
  have b7 : t.val % 8 = 7 := (flush0_6 t).mp ht
  obtain ⟨i, j, rfl⟩ : ∃ (i : Fin 1024) (j : Fin 1), y = ix2 i j := Norm.pair y
  obtain rfl : j = 0 := Subsingleton.elim _ _
  have e : (win0_6.blk t).view.emb (ix2 i 0) = ix2 (⟨1024 * (t.val / 8) + i.val, by omega⟩ : Fin 16384) (0 : Fin 1) := by
    blk_ext [idx t]
  exact (outs6 m c t b7 i _ rfl).trans ((recip_at _ _ _ _).symm.trans (congrArg _ e.symm))

end

end Cert.Kernel7Ideal.Final

end
-- ==== Proof.Out.Bridge.lean ====
module

public import proofs.«01_k».proof.Defs
public import proofs.«01_k».proof.Proof.Out.Final

@[expose] public section

set_option maxRecDepth 16384

/-! The attention's way out: the two programs over the reals, the same arrays. -/

noncomputable section

namespace Cert.Kernel7Ideal

open Idealize.ShloMosaic Idealize.ShloMosaic.TcCoe Idealize.SL.Sem

theorem algebraic : Cert.algebraic_Kernel7Ideal_Reference7Ideal := by
  intro m ρ m' ρ' _ hagree
  refine ⟨_, _, _, Cert.Kernel7Ideal.Value.run_blocks m ρ, ?_⟩
  refine (θ_run _ _ _).mono (fun _ h c => ⟨(h c).1.trans ?_, (h c).2.1.trans ?_, (h c).2.2.1.trans ?_, (h c).2.2.2⟩)
    (Cert.Reference7Ideal.Value.run m' ρ')
  all_goals obtain ⟨e0, e1, e2, e3⟩ := hagree c
  · rw [Cert.Reference7Ideal.Read.val_main_v2_eq, Final.final4 m c, e0, e1, e2]
  · rw [Cert.Reference7Ideal.Read.val_main_v6_eq, Final.final5 m c, e0, e1, e2, e3]
  · rw [Cert.Reference7Ideal.Read.val_main_v14_eq, Final.final6 m c, e0, e1, e2]

end Cert.Kernel7Ideal

end
-- ==== Proof.PoolOut.Final.lean ====
module

public import proofs.«01_k».proof.Proof.Gen.Kernel9Ideal.Value
public import proofs.«01_k».proof.Proof.Gen.Reference9Ideal.Read
public import proofs.«01_k».proof.Proof.Norm.Block
public import Idealize.ShloMosaic.Lib.Claim
public import Idealize.ShloMosaic.Lib.Pointwise

@[expose] public section

set_option maxRecDepth 16384

/-! The second half of the pool's way out: two gated halves against the last rows of the weights, added to the stream,
the sum scaled, and each row's reciprocal root mean square, whose squares are gathered over a row's eight blocks. -/

noncomputable section

namespace Cert.Kernel9Ideal.Final

open Idealize.ShloMosaic Idealize.ShloMosaic.TcCoe Idealize.ShloMosaic.Tactic Cert.Kernel9Ideal Cert.Kernel9Ideal.Gen
open Idealize.ShloMosaic.Pipeline (Dat)

/-! ### The reference -/

section
open Cert.Reference9Ideal.Read

theorem cat_lo (a b : FVec Ideal S16384x2048 .bf16) (s : Fin 16384) (k : Fin 2048) :
    val_main_v1 (F := Ideal) a b (ix2 s ⟨k.val, k.isLt.trans (by decide)⟩) = a (ix2 s k) := by
  pointwise [val_main_v1, val_main_v0]

theorem cat_hi (a b : FVec Ideal S16384x2048 .bf16) (s : Fin 16384) (k : Fin 2048) :
    val_main_v1 (F := Ideal) a b (ix2 s ⟨2048 + k.val, by omega⟩) = b (ix2 s k) := by
  pointwise [val_main_v1, val_main_v0]

/-- A row's sum over its first half and over its second. -/
theorem halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem sum_at (a b : FVec Ideal S16384x2048 .bf16) (w : FVec Ideal S8192x4096 .f32) (x : FVec Ideal S16384x4096 .f32) (s : Fin 16384) (j : Fin 4096) :
    val_main_v4 (F := Ideal) a b w x (ix2 s j)
      = x (ix2 s j) + (∑ k : Fin 2048, a (ix2 s k) * w (ix2 ⟨4096 + k.val, by omega⟩ j)) + ∑ k : Fin 2048, b (ix2 s k) * w (ix2 ⟨6144 + k.val, by omega⟩ j) := by
  rw [val_main_v4_apply, add_assoc]
  refine congrArg (x (ix2 s j) + ·) ?_
  rw [val_main_v3_apply, halves]
  have el (k : Fin 4096) : lidx_main_v3 (ix2 s j) k = ix2 s k := by funext a; match a with | 0 => rfl | 1 => rfl
  have er (k : Fin 4096) : ridx_main_v3 (ix2 s j) k = ix2 k j := by funext a; match a with | 0 => rfl | 1 => rfl
  have ew (k : Fin 4096) (q : Fin 8192) (hq : q.val = 4096 + k.val) : val_main_v2 (F := Ideal) w (ix2 k j) = w (ix2 q j) := by
    rw [val_main_v2_apply]
    refine congrArg w (funext fun a => Fin.ext ?_)
    match a with
    | 0 => exact hq.symm
    | 1 => rfl
  refine congrArg₂ (· + ·) (Finset.sum_congr rfl fun k _ => ?_) (Finset.sum_congr rfl fun k _ => ?_)
  · rw [el, er, ew _ ⟨4096 + k.val, by omega⟩ rfl, cat_lo]
  · rw [el, er, ew _ ⟨6144 + k.val, by omega⟩ (by show 6144 + k.val = 4096 + (2048 + k.val); omega), cat_hi]

theorem scaled_at (a b : FVec Ideal S16384x2048 .bf16) (w : FVec Ideal S8192x4096 .f32) (x : FVec Ideal S16384x4096 .f32) (g : FVec Ideal S4096 .f32)
    (s : Fin 16384) (j : Fin 4096) :
    val_main_v8 (F := Ideal) a b w x g (ix2 s j) = val_main_v4 (F := Ideal) a b w x (ix2 s j) * g (ix1 j) := by
  unfold val_main_v8 val_main_v7 val_main_v6 val_main_v5
  exact Norm.scaled_at _ _ _ _ _ s j

theorem recip_at (a b : FVec Ideal S16384x2048 .bf16) (w : FVec Ideal S8192x4096 .f32) (x : FVec Ideal S16384x4096 .f32) (s : Fin 16384) :
    val_main_v16 (F := Ideal) a b w x (ix2 s 0) = Norm.row (val_main_v4 (F := Ideal) a b w x) s := by
  unfold val_main_v16 val_main_v15 val_main_v14 val_main_v13 val_main_v12 val_main_v11 val_main_v10 val_main_v9 val_main_cst val_main_cst_0 val_main_cst_1
  exact Norm.recip_at _ _ _ _ _ _ s

end

/-! ### A block -/

section
variable (a b : FVec Ideal S1024x2048 .bf16) (i : Fin 1024) (j : Fin 256)

theorem first_at (x : FVec Ideal S1024x256 .f32) (u v : FVec Ideal S2048x256 .bf16) :
    k0_pay6 (F := Ideal) x a u b v (ix2 i j) = x (ix2 i j) + (∑ k : Fin 2048, a (ix2 i k) * u (ix2 k j)) + ∑ k : Fin 2048, b (ix2 i k) * v (ix2 k j) := by
  pointwise [k0_pay6]

theorem second_at (x : FVec Ideal S1024x256 .f32) (u v : FVec Ideal S2048x256 .bf16) :
    k0_pay7 (F := Ideal) x a u b v (ix2 i j) = x (ix2 i j) + (∑ k : Fin 2048, a (ix2 i k) * u (ix2 k j)) + ∑ k : Fin 2048, b (ix2 i k) * v (ix2 k j) := by
  pointwise [k0_pay7]

theorem first_scaled (y : FVec Ideal S1024x256 .f32) (g : FVec Ideal S1x256 .f32) :
    k0_pay1 (F := Ideal) y g (ix2 i j) = y (ix2 i j) * g (ix2 0 j) := by
  pointwise [k0_pay1]

theorem second_scaled (y : FVec Ideal S1024x256 .f32) (g : FVec Ideal S1x256 .f32) :
    k0_pay2 (F := Ideal) y g (ix2 i j) = y (ix2 i j) * g (ix2 0 j) := by
  pointwise [k0_pay2]

theorem squares_at (y z : FVec Ideal S1024x256 .f32) :
    k0_pay3 (F := Ideal) y z (ix2 i 0) = (∑ j, y (ix2 i j) * y (ix2 i j)) + ∑ j, z (ix2 i j) * z (ix2 i j) := by
  pointwise [k0_pay3]

theorem gathered_at (y z : FVec Ideal S1024x256 .f32) (v : FVec Ideal S1024x1 .f32) :
    k0_pay4 (F := Ideal) y z v (ix2 i 0) = v (ix2 i 0) + k0_pay3 (F := Ideal) y z (ix2 i 0) := by
  unfold k0_pay4
  generalize k0_pay3 (F := Ideal) y z = r
  pointwise

theorem ended_at (v : FVec Ideal S1024x1 .f32) :
    k0_pay5 (F := Ideal) v (ix2 i 0) = Ideal.rsqrt (v (ix2 i 0) * Ideal.ofBits .f32 0x39800000#32 + Ideal.ofBits .f32 0x358637BD#32) := by
  pointwise [k0_pay5]

end

/-- Part of the weights' block, from a row and a column on. -/
theorem ld_part (v : FVec Ideal S4096x512 .bf16) (p o : ℕ) (h) (k : Fin 2048) (z : Fin 256) (q : Fin 4096) (l : Fin 512) (hq : q.val = p + k.val) (hl : l.val = o + z.val) :
    View.ld (Val := Elt Ideal) (e' := .bf16) v (Rect.unit (s := S4096x512) ![p, o] S2048x256.size h) (ix2 k z) = v (ix2 q l) :=
  View.ld_unit_apply_of _ _ _ _ _ _ fun a => by
    match a with
    | 0 => exact hq
    | 1 => exact hl

/-! ### What the host prepares, and a point's blocks -/

section
variable (m : (ℓ : Loc nD τ sig) → Buf (Elt Ideal) ℓ) (c : Dev nD)

abbrev lo : FVec Ideal S16384x2048 .bf16 := m ((c : Thread nD τ).loc main_arg0)
abbrev hi : FVec Ideal S16384x2048 .bf16 := m ((c : Thread nD τ).loc main_arg1)
abbrev w0 : FVec Ideal S8192x4096 .f32 := m ((c : Thread nD τ).loc main_arg2)
abbrev x0 : FVec Ideal S16384x4096 .f32 := m ((c : Thread nD τ).loc main_arg3)
abbrev g0 : FVec Ideal S4096 .f32 := m ((c : Thread nD τ).loc main_arg4)

/-- The new stream. -/
abbrev out : FVec Ideal S16384x4096 .f32 := Cert.Reference9Ideal.Read.val_main_v4 (F := Ideal) (lo m c) (hi m c) (w0 m c) (x0 m c)

theorem V_w : (V m c main_v0 : FVec Ideal S8192x4096 .bf16) = truncf .bf16 (w0 m c) bitsLt_bf16_f32 := by
  simp only [V, hostOps0, StableHlo.after_cons, StableHlo.after_nil]
  after_results_loop
  all_goals rfl

theorem V_g : (V m c main_v1 : FVec Ideal S1x4096 .f32) = shapeCast S1x4096 (g0 m c) shapeCasts_S4096_S1x4096 := by
  simp only [V, hostOps0, StableHlo.after_cons, StableHlo.after_nil]
  after_results_loop
  all_goals rfl

theorem w_at (k : Fin 8192) (j : Fin 4096) : (V m c main_v0 : FVec Ideal S8192x4096 .bf16) (ix2 k j) = w0 m c (ix2 k j) := by
  rw [V_w]; pointwise

theorem g_at (j : Fin 4096) : (V m c main_v1 : FVec Ideal S1x4096 .f32) (ix2 0 j) = g0 m c (ix1 j) := by
  rw [V_g]; pointwise

theorem idx : ∀ t : Fin cfg0.N, win0_0.index t = ![t.val / 8, 0] ∧ win0_1.index t = ![t.val / 8, 0] ∧ win0_2.index t = ![1, t.val % 8] ∧ win0_3.index t = ![t.val / 8, t.val % 8]
      ∧ win0_4.index t = ![0, 0] ∧ win0_5.index t = ![t.val / 8, t.val % 8] ∧ win0_6.index t = ![t.val / 8, t.val % 8]
      ∧ win0_7.index t = ![t.val / 8, 0] ∧ (grid0.coords t 1).val = t.val % 8 :=
  (by decide +kernel : ∀ t : Fin grid0.N, win0_0.index t = ![t.val / 8, 0] ∧ win0_1.index t = ![t.val / 8, 0] ∧ win0_2.index t = ![1, t.val % 8] ∧ win0_3.index t = ![t.val / 8, t.val % 8]
      ∧ win0_4.index t = ![0, 0] ∧ win0_5.index t = ![t.val / 8, t.val % 8] ∧ win0_6.index t = ![t.val / 8, t.val % 8]
      ∧ win0_7.index t = ![t.val / 8, 0] ∧ (grid0.coords t 1).val = t.val % 8)

variable (t : Fin cfg0.N) (s : Fin 16384) (i : Fin 1024) (h : s.val = 1024 * (t.val / 8) + i.val)
include h

theorem blk0 (k : Fin 2048) : (iblk m c 0 t : FVec Ideal S1024x2048 .bf16) (ix2 i k) = lo m c (ix2 s k) := by
  blk_ext [iblk, V_main_arg0, idx t]

theorem blk1 (k : Fin 2048) : (iblk m c 1 t : FVec Ideal S1024x2048 .bf16) (ix2 i k) = hi m c (ix2 s k) := by
  blk_ext [iblk, V_main_arg1, idx t]

omit h in
theorem blk2 (k : Fin 4096) (l : Fin 512) (p : Fin 8192) (q : Fin 4096) (hp : p.val = 4096 + k.val) (hq : q.val = 512 * (t.val % 8) + l.val) :
    (iblk m c 2 t : FVec Ideal S4096x512 .bf16) (ix2 k l) = w0 m c (ix2 p q) := by
  rw [← w_at]
  blk_ext [iblk, idx t]

theorem blk3 (l : Fin 512) (q : Fin 4096) (hq : q.val = 512 * (t.val % 8) + l.val) :
    (iblk m c 3 t : FVec Ideal S1024x512 .f32) (ix2 i l) = x0 m c (ix2 s q) := by
  blk_ext [iblk, V_main_arg3, idx t]

omit h in
theorem blk4 (q : Fin 4096) : (iblk m c 4 t : FVec Ideal S1x4096 .f32) (ix2 0 q) = g0 m c (ix1 q) := by
  rw [← g_at]
  blk_ext [iblk, idx t]

/-- An entry of the first half of a point's block, and of the second. -/
theorem first_out (z : Fin 256) (q : Fin 4096) (hq : q.val = 512 * (t.val % 8) + z.val) :
    k0_pay6 (F := Ideal) (View.ld (iblk m c 3 t) (Rect.unit (s := S1024x512) ![0, 0] S1024x256.size inb_S1024x512_S1024x256_0_0)) (iblk m c 0 t)
      (View.ld (iblk m c 2 t) (Rect.unit (s := S4096x512) ![0, 0] S2048x256.size inb_S4096x512_S2048x256_0_0)) (iblk m c 1 t)
      (View.ld (iblk m c 2 t) (Rect.unit (s := S4096x512) ![2048, 0] S2048x256.size inb_S4096x512_S2048x256_2048_0)) (ix2 i z) = out m c (ix2 s q) := by
  have hz := z.isLt
  unfold out
  rw [sum_at]
  refine (first_at _ _ _ _ _ _ _).trans (congrArg₂ (· + ·) (congrArg₂ (· + ·) ?_ (Finset.sum_congr rfl fun k _ => congrArg₂ (· * ·) (blk0 m c t s i h k) ?_))
    (Finset.sum_congr rfl fun k _ => congrArg₂ (· * ·) (blk1 m c t s i h k) ?_))
  · exact (Norm.ld_cols (ty := .f32) _ 0 _ _ i ⟨z.val, by omega⟩ (ix2 i z) rfl (by show z.val = 0 + z.val; omega)).trans (blk3 m c t s i h _ q hq)
  · exact (ld_part _ 0 0 _ k z ⟨k.val, by omega⟩ ⟨z.val, by omega⟩ (by show k.val = 0 + k.val; omega) (by show z.val = 0 + z.val; omega)).trans (blk2 m c t _ _ _ q rfl hq)
  · exact (ld_part _ 2048 0 _ k z ⟨2048 + k.val, by omega⟩ ⟨z.val, by omega⟩ rfl (by show z.val = 0 + z.val; omega)).trans
      (blk2 m c t _ _ _ q (by show 6144 + k.val = 4096 + (2048 + k.val); omega) hq)

theorem second_out (z : Fin 256) (q : Fin 4096) (hq : q.val = 512 * (t.val % 8) + 256 + z.val) :
    k0_pay7 (F := Ideal) (View.ld (iblk m c 3 t) (Rect.unit (s := S1024x512) ![0, 256] S1024x256.size inb_S1024x512_S1024x256_0_256)) (iblk m c 0 t)
      (View.ld (iblk m c 2 t) (Rect.unit (s := S4096x512) ![0, 256] S2048x256.size inb_S4096x512_S2048x256_0_256)) (iblk m c 1 t)
      (View.ld (iblk m c 2 t) (Rect.unit (s := S4096x512) ![2048, 256] S2048x256.size inb_S4096x512_S2048x256_2048_256)) (ix2 i z) = out m c (ix2 s q) := by
  have hz := z.isLt
  unfold out
  rw [sum_at]
  refine (second_at _ _ _ _ _ _ _).trans (congrArg₂ (· + ·) (congrArg₂ (· + ·) ?_ (Finset.sum_congr rfl fun k _ => congrArg₂ (· * ·) (blk0 m c t s i h k) ?_))
    (Finset.sum_congr rfl fun k _ => congrArg₂ (· * ·) (blk1 m c t s i h k) ?_))
  · exact (Norm.ld_cols (ty := .f32) _ 256 _ _ i ⟨256 + z.val, by omega⟩ (ix2 i z) rfl rfl).trans (blk3 m c t s i h _ q (hq.trans (Nat.add_assoc _ _ _)))
  · exact (ld_part _ 0 256 _ k z ⟨k.val, by omega⟩ ⟨256 + z.val, by omega⟩ (by show k.val = 0 + k.val; omega) rfl).trans (blk2 m c t _ _ _ q rfl (hq.trans (Nat.add_assoc _ _ _)))
  · exact (ld_part _ 2048 256 _ k z ⟨2048 + k.val, by omega⟩ ⟨256 + z.val, by omega⟩ rfl rfl).trans
      (blk2 m c t _ _ _ q (by show 6144 + k.val = 4096 + (2048 + k.val); omega) (hq.trans (Nat.add_assoc _ _ _)))

/-- A block's squares. -/
theorem block_squares :
    k0_pay3 (F := Ideal)
      (k0_pay6 (View.ld (iblk m c 3 t) (Rect.unit (s := S1024x512) ![0, 0] S1024x256.size inb_S1024x512_S1024x256_0_0)) (iblk m c 0 t)
      (View.ld (iblk m c 2 t) (Rect.unit (s := S4096x512) ![0, 0] S2048x256.size inb_S4096x512_S2048x256_0_0)) (iblk m c 1 t)
      (View.ld (iblk m c 2 t) (Rect.unit (s := S4096x512) ![2048, 0] S2048x256.size inb_S4096x512_S2048x256_2048_0)))
      (k0_pay7 (View.ld (iblk m c 3 t) (Rect.unit (s := S1024x512) ![0, 256] S1024x256.size inb_S1024x512_S1024x256_0_256)) (iblk m c 0 t)
      (View.ld (iblk m c 2 t) (Rect.unit (s := S4096x512) ![0, 256] S2048x256.size inb_S4096x512_S2048x256_0_256)) (iblk m c 1 t)
      (View.ld (iblk m c 2 t) (Rect.unit (s := S4096x512) ![2048, 256] S2048x256.size inb_S4096x512_S2048x256_2048_256))) (ix2 i 0)
      = ∑ n ∈ Finset.range 512, Norm.sq (out m c) s (512 * (t.val % 8) + n) := by
  rw [squares_at, show 512 = 256 + 256 from rfl, Finset.sum_range_add]
  refine congrArg₂ (· + ·) ?_ ?_
  · exact Norm.sum_stretch (out m c) s (512 * (t.val % 8)) (by omega) _ fun z q hq => first_out m c t s i h z q hq
  · refine (Norm.sum_stretch (out m c) s (512 * (t.val % 8) + 256) (by omega) _ fun z q hq => second_out m c t s i h z q hq).trans ?_
    exact Finset.sum_congr rfl fun n _ => by rw [Nat.add_assoc]

end

/-! ### What a point leaves -/

section
variable (m : (ℓ : Loc nD τ sig) → Buf (Elt Ideal) ℓ) (c : Dev nD)

theorem outs5 (t : Fin cfg0.N) (y : S1024x512.Idx) (s : Fin 16384) (q : Fin 4096) (hs : s.val = 1024 * (t.val / 8) + (y 0).val)
    (hq : q.val = 512 * (t.val % 8) + (y 1).val) : (outsAt0 m c t.val t.isLt).1 y = out m c (ix2 s q) := by
  by_cases b0 : t.val % 8 = 0
  on_goal 2 => by_cases b7 : t.val % 8 = 7
  on_goal 1 => rw [outsAt0_A m c t b0 (by omega) (by omega)]
  on_goal 2 => rw [outsAt0_C m c t b0 (by omega) b7]
  on_goal 3 => rw [outsAt0_B m c t b0 (by omega) b7]
  all_goals
    frame_out
    canon_tiles z e
    all_goals obtain ⟨i, j, rfl⟩ : ∃ (i : Fin 1024) (j : Fin 256), z = ix2 i j := Norm.pair z
    · exact second_out m c t s i (hs.trans (by rw [e0]; rfl)) j q (by rw [hq, e1]; exact (Nat.add_assoc _ _ _).symm)
    · exact first_out m c t s i (hs.trans (by rw [e0]; rfl)) j q (by rw [hq, e1]; rfl)

/-- The columns of the gain that a point reads, for either half of its block. -/
theorem ld_gain (t : Fin cfg0.N) (r : Fin 2) (j : Fin 256) (q : Fin 4096) (hq : q.val = 512 * (t.val % 8) + 256 * r.val + j.val) :
    View.ld (Val := Elt Ideal) (e' := .f32) (iblk m c 4 t) (Rect.unit (s := S1x4096) (k0_off1 (grid0.coords t) (BitVec.ofNat 32 (256 * r.val))) S1x256.size
      (k0_off1_inb (grid0.coords t) r)) (ix2 0 j) = g0 m c (ix1 q) := by
  rw [← blk4 m c t q]
  refine View.ld_unit_apply_of _ _ _ _ _ (ix2 0 q) fun a => ?_
  have e := congrFun (k0_off1_eq (grid0.coords t) r) a
  rw [(idx t).2.2.2.2.2.2.2.2] at e
  match a with
  | 0 =>
    show 0 = k0_off1 (grid0.coords t) (BitVec.ofNat 32 (256 * r.val)) 0 + 0
    rw [e]; rfl
  | 1 =>
    show q.val = k0_off1 (grid0.coords t) (BitVec.ofNat 32 (256 * r.val)) 1 + j.val
    rw [e]; exact hq

theorem outs6 (t : Fin cfg0.N) (y : S1024x512.Idx) (s : Fin 16384) (q : Fin 4096) (hs : s.val = 1024 * (t.val / 8) + (y 0).val)
    (hq : q.val = 512 * (t.val % 8) + (y 1).val) : (outsAt0 m c t.val t.isLt).2.1 y = out m c (ix2 s q) * g0 m c (ix1 q) := by
  by_cases b0 : t.val % 8 = 0
  on_goal 2 => by_cases b7 : t.val % 8 = 7
  on_goal 1 => rw [outsAt0_A m c t b0 (by omega) (by omega)]
  on_goal 2 => rw [outsAt0_C m c t b0 (by omega) b7]
  on_goal 3 => rw [outsAt0_B m c t b0 (by omega) b7]
  all_goals
    frame_out
    canon_tiles z e
    all_goals obtain ⟨i, j, rfl⟩ : ∃ (i : Fin 1024) (j : Fin 256), z = ix2 i j := Norm.pair z
    · have hq' : q.val = 512 * (t.val % 8) + 256 + j.val := by rw [hq, e1]; exact (Nat.add_assoc _ _ _).symm
      exact (second_scaled _ _ _ _).trans (congrArg₂ (· * ·) (second_out m c t s i (hs.trans (by rw [e0]; rfl)) j q hq') (ld_gain m c t 1 j q hq'))
    · have hq' : q.val = 512 * (t.val % 8) + j.val := by rw [hq, e1]; rfl
      exact (first_scaled _ _ _ _).trans (congrArg₂ (· * ·) (first_out m c t s i (hs.trans (by rw [e0]; rfl)) j q hq') (ld_gain m c t 0 j q hq'))

/-- Before its last block a row's squares gathered so far. -/
theorem gathered (n : ℕ) (hn : n < cfg0.N) (i : Fin 1024) (s : Fin 16384) (hs : s.val = 1024 * (n / 8) + i.val) (b7 : ¬n % 8 = 7) :
    (outsAt0 m c n hn).2.2 (ix2 i 0) = ∑ k ∈ Finset.range (512 * (n % 8) + 512), Norm.sq (out m c) s k := by
  induction n with
  | zero =>
    rw [outsAt0_A m c ⟨0, hn⟩ rfl (by show ¬1 ≤ 0 % 8; decide) (by show ¬0 % 8 = 7; decide)]
    frame_out
    refine (block_squares m c ⟨0, hn⟩ s i hs).trans (Finset.sum_congr rfl fun k _ => congrArg _ (Nat.zero_add k))
  | succ n ih =>
    rw [Finset.sum_range_add]
    by_cases b0 : (n + 1) % 8 = 0
    · rw [outsAt0_A m c ⟨n + 1, hn⟩ b0 (by show ¬1 ≤ (n + 1) % 8; omega) b7]
      frame_out
      refine (block_squares m c ⟨n + 1, hn⟩ s i hs).trans ?_
      rw [b0, Nat.mul_zero, Finset.sum_range_zero, zero_add]
    · have e := outsAt0_B m c ⟨n + 1, hn⟩ b0 (by show 1 ≤ (n + 1) % 8; omega) b7
      rw [e]
      frame_out
      refine (gathered_at _ _ _ _).trans (congrArg₂ (· + ·) ?_ (block_squares m c ⟨n + 1, hn⟩ s i hs))
      refine (ih (Nat.lt_of_succ_lt hn) (by omega) (by omega)).trans ?_
      rw [show 512 * (n % 8) + 512 = 512 * ((n + 1) % 8) by omega]

theorem outs7 (t : Fin cfg0.N) (b7 : t.val % 8 = 7) (i : Fin 1024) (s : Fin 16384) (hs : s.val = 1024 * (t.val / 8) + i.val) :
    (outsAt0 m c t.val t.isLt).2.2 (ix2 i 0) = Norm.row (out m c) s := by
  rw [outsAt0_C m c t (by omega) (by omega) b7]
  frame_out
  refine (ended_at _ _).trans ?_
  rw [← Norm.row_of_sum]
  refine congrArg (fun z => Ideal.rsqrt (z * Ideal.ofBits .f32 0x39800000#32 + Ideal.ofBits .f32 0x358637BD#32)) ?_
  rw [show Finset.range 4096 = Finset.range (512 * (t.val % 8) + 512) by rw [b7], Finset.sum_range_add]
  refine (gathered_at _ _ _ _).trans (congrArg₂ (· + ·) ?_ (block_squares m c t s i hs))
  refine (gathered m c (t.val - 1) (by omega) i s (by omega) (by omega)).trans ?_
  rw [show 512 * ((t.val - 1) % 8) + 512 = 512 * (t.val % 8) by omega]

/-! ### The arrays the run leaves -/

theorem final5 : (dats m 0 c).arrAt 5 cfg0.N = Cert.Reference9Ideal.Read.val_main_v4 (F := Ideal) (lo m c) (hi m c) (w0 m c) (x0 m c) := by
  refine (dats m 0 c).arrAt_eq_of_covers 5 _ (by decide +kernel) fun t _ y => ?_
  blk_simp
  rw [after0_5]
  have hN : t.val < 128 := lt_of_lt_of_eq t.isLt N_0
  obtain ⟨i, j, rfl⟩ : ∃ (i : Fin 1024) (j : Fin 512), y = ix2 i j := Norm.pair y
  have e : (win0_5.blk t).view.emb (ix2 i j) = ix2 (⟨1024 * (t.val / 8) + i.val, by omega⟩ : Fin 16384) (⟨512 * (t.val % 8) + j.val, by omega⟩ : Fin 4096) := by
    blk_ext [idx t]
  exact (outs5 m c t (ix2 i j) _ _ rfl rfl).trans (congrArg _ e.symm)

theorem final6 : (dats m 0 c).arrAt 6 cfg0.N = Cert.Reference9Ideal.Read.val_main_v8 (F := Ideal) (lo m c) (hi m c) (w0 m c) (x0 m c) (g0 m c) := by
  refine (dats m 0 c).arrAt_eq_of_covers 6 _ (by decide +kernel) fun t _ y => ?_
  blk_simp
  rw [after0_6]
  have hN : t.val < 128 := lt_of_lt_of_eq t.isLt N_0
  obtain ⟨i, j, rfl⟩ : ∃ (i : Fin 1024) (j : Fin 512), y = ix2 i j := Norm.pair y
  have e : (win0_6.blk t).view.emb (ix2 i j) = ix2 (⟨1024 * (t.val / 8) + i.val, by omega⟩ : Fin 16384) (⟨512 * (t.val % 8) + j.val, by omega⟩ : Fin 4096) := by
    blk_ext [idx t]
  exact (outs6 m c t (ix2 i j) _ _ rfl rfl).trans ((scaled_at _ _ _ _ _ _ _).symm.trans (congrArg _ e.symm))

theorem final7 : (dats m 0 c).arrAt 7 cfg0.N = Cert.Reference9Ideal.Read.val_main_v16 (F := Ideal) (lo m c) (hi m c) (w0 m c) (x0 m c) := by
  refine (dats m 0 c).arrAt_eq_of_covers 7 _ (by decide +kernel) fun t ht y => ?_
  blk_simp
  rw [after0_7]
  have hN : t.val < 128 := lt_of_lt_of_eq t.isLt N_0
  have b7 : t.val % 8 = 7 := (flush0_7 t).mp ht
  obtain ⟨i, j, rfl⟩ : ∃ (i : Fin 1024) (j : Fin 1), y = ix2 i j := Norm.pair y
  obtain rfl : j = 0 := Subsingleton.elim _ _
  have e : (win0_7.blk t).view.emb (ix2 i 0) = ix2 (⟨1024 * (t.val / 8) + i.val, by omega⟩ : Fin 16384) (0 : Fin 1) := by
    blk_ext [idx t]
  exact (outs7 m c t b7 i _ rfl).trans ((recip_at _ _ _ _ _).symm.trans (congrArg _ e.symm))

end

end Cert.Kernel9Ideal.Final

end
-- ==== Proof.PoolOut.Bridge.lean ====
module

public import proofs.«01_k».proof.Defs
public import proofs.«01_k».proof.Proof.PoolOut.Final

@[expose] public section

set_option maxRecDepth 16384

/-! The second half of the pool's way out: the two programs over the reals, the same arrays. -/

noncomputable section

namespace Cert.Kernel9Ideal

open Idealize.ShloMosaic Idealize.ShloMosaic.TcCoe Idealize.SL.Sem

theorem algebraic : Cert.algebraic_Kernel9Ideal_Reference9Ideal := by
  intro m ρ m' ρ' _ hagree
  refine ⟨_, _, _, Cert.Kernel9Ideal.Value.run_blocks m ρ, ?_⟩
  refine (θ_run _ _ _).mono (fun _ h c => ⟨(h c).1.trans ?_, (h c).2.1.trans ?_, (h c).2.2.1.trans ?_, (h c).2.2.2⟩)
    (Cert.Reference9Ideal.Value.run m' ρ')
  all_goals obtain ⟨e0, e1, e2, e3, e4⟩ := hagree c
  · rw [Cert.Reference9Ideal.Read.val_main_v4_eq, Final.final5 m c, e0, e1, e2, e3]
  · rw [Cert.Reference9Ideal.Read.val_main_v8_eq, Final.final6 m c, e0, e1, e2, e3, e4]
  · rw [Cert.Reference9Ideal.Read.val_main_v16_eq, Final.final7 m c, e0, e1, e2, e3]

end Cert.Kernel9Ideal

end
-- ==== Proof.EmbedNext.Final.lean ====
module

public import proofs.«01_k».proof.Proof.Gen.Kernel10Ideal.Value
public import proofs.«01_k».proof.Proof.Gen.Reference10Ideal.Read
public import proofs.«01_k».proof.Proof.Norm.Block
public import proofs.«01_k».proof.Proof.Embed.Final
public import Idealize.ShloMosaic.Lib.Claim
public import Idealize.ShloMosaic.Lib.Pointwise

@[expose] public section

set_option maxRecDepth 16384

/-! The embedding of a layer that another follows: the gated embedding added to the stream, the sum scaled for the next
layer, and each row's reciprocal root mean square, whose squares are gathered over a row's eight blocks. -/

noncomputable section

namespace Cert.Kernel10Ideal.Final

open Idealize.ShloMosaic Idealize.ShloMosaic.TcCoe Idealize.ShloMosaic.Tactic Cert.Kernel10Ideal Cert.Kernel10Ideal.Gen
open Idealize.ShloMosaic.Pipeline (Dat)
open Cert.Kernel3Ideal.Final (entry entry_eq)

/-! ### The reference -/

/-- The gate's argument and the embedding, at a row and a column. -/
def arg (x : FVec Ideal S16384x4096 .f32) (g : FVec Ideal S4096 .f32) (w : FVec Ideal S4096x4096 .f32) (s : Fin 16384) (j : Fin 4096) : EReal :=
  ∑ k : Fin 4096, x (ix2 s k) * Norm.row x s * g (ix1 k) * w (ix2 k j)

def emb (p : FVec Ideal S4x1x16384x256 .f32) (q : FVec Ideal S256x4096 .f32) (s : Fin 16384) (j : Fin 4096) : EReal :=
  ∑ k : Fin 256, p (ix4 0 0 s k) * q (ix2 k j)

section
open Cert.Reference10Ideal.Read

theorem arg_at (x : FVec Ideal S16384x4096 .f32) (g : FVec Ideal S4096 .f32) (w : FVec Ideal S4096x4096 .f32) (s : Fin 16384) (j : Fin 4096) :
    val_main_v13 (F := Ideal) x g w (ix2 s j) = arg x g w s j := by
  rw [val_main_v13_apply]
  refine Finset.sum_congr rfl fun k _ => ?_
  have el : lidx_main_v13 (ix2 s j) k = ix2 s k := by funext a; match a with | 0 => rfl | 1 => rfl
  have er : ridx_main_v13 (ix2 s j) k = ix2 k j := by funext a; match a with | 0 => rfl | 1 => rfl
  rw [el, er]
  unfold val_main_v12 val_main_v11 val_main_v10 val_main_v9 val_main_v8 val_main_v7 val_main_v6 val_main_v5 val_main_v4 val_main_v3
    val_main_v2 val_main_v1 val_main_v0 val_main_cst val_main_cst_0 val_main_cst_1
  exact congrArg (· * _) (Norm.normed_at x g _ _ _ _ _ _ _ _ s k)

theorem emb_at (p : FVec Ideal S4x1x16384x256 .f32) (q : FVec Ideal S256x4096 .f32) (s : Fin 16384) (j : Fin 4096) :
    val_main_v22 (F := Ideal) p q (ix2 s j) = emb p q s j := by
  rw [val_main_v22_apply]
  refine Finset.sum_congr rfl fun k _ => ?_
  have el : lidx_main_v22 (ix2 s j) k = ix2 s k := by funext a; match a with | 0 => rfl | 1 => rfl
  have er : ridx_main_v22 (ix2 s j) k = ix2 k j := by funext a; match a with | 0 => rfl | 1 => rfl
  have ep : val_main_v21 (F := Ideal) p (ix2 s k) = p (ix4 0 0 s k) := by pointwise [val_main_v21, val_main_v20]
  rw [el, er, ep]

theorem sum_at (x : FVec Ideal S16384x4096 .f32) (p : FVec Ideal S4x1x16384x256 .f32) (g : FVec Ideal S4096 .f32)
    (w : FVec Ideal S4096x4096 .f32) (q : FVec Ideal S256x4096 .f32) (s : Fin 16384) (j : Fin 4096) :
    val_main_v24 (F := Ideal) x p g w q (ix2 s j)
      = x (ix2 s j) + emb p q s j * Ideal.div 1 (1 + Ideal.exp (-arg x g w s j)) := by
  rw [← arg_at, ← emb_at, ← Norm.one]
  generalize hy : val_main_v13 (F := Ideal) x g w = y
  generalize hz : val_main_v22 (F := Ideal) p q = z
  pointwise [val_main_v24, val_main_v23, val_main_v19, val_main_v18, val_main_v17, val_main_v16, val_main_v15, val_main_v14,
    val_main_cst_2, val_main_cst_3, hy, hz]

theorem scaled_at (x : FVec Ideal S16384x4096 .f32) (p : FVec Ideal S4x1x16384x256 .f32) (g : FVec Ideal S4096 .f32)
    (w : FVec Ideal S4096x4096 .f32) (q : FVec Ideal S256x4096 .f32) (n : FVec Ideal S4096 .f32) (s : Fin 16384) (j : Fin 4096) :
    val_main_v28 (F := Ideal) x p g w q n (ix2 s j) = val_main_v24 (F := Ideal) x p g w q (ix2 s j) * n (ix1 j) := by
  unfold val_main_v28 val_main_v27 val_main_v26 val_main_v25
  exact Norm.scaled_at _ _ _ _ _ s j

theorem recip_at (x : FVec Ideal S16384x4096 .f32) (p : FVec Ideal S4x1x16384x256 .f32) (g : FVec Ideal S4096 .f32)
    (w : FVec Ideal S4096x4096 .f32) (q : FVec Ideal S256x4096 .f32) (s : Fin 16384) :
    val_main_v36 (F := Ideal) x p g w q (ix2 s 0) = Norm.row (val_main_v24 (F := Ideal) x p g w q) s := by
  unfold val_main_v36 val_main_v35 val_main_v34 val_main_v33 val_main_v32 val_main_v31 val_main_v30 val_main_v29 val_main_cst_4 val_main_cst_5 val_main_cst_6
  exact Norm.recip_at _ _ _ _ _ _ s

end

/-! ### A block -/

section
variable (i : Fin 1024) (j : Fin 256)

section
variable (p : FVec Ideal S1x1x1024x256 .f32) (r : FVec Ideal S1024x1 .f32) (a : FVec Ideal S1024x4096 .bf16) (u : FVec Ideal S4096x256 .bf16)
  (v : FVec Ideal S256x256 .bf16) (x : FVec Ideal S1024x256 .f32)

theorem first_at :
    k0_pay6 (F := Ideal) p r a u v x (ix2 i j)
      = entry (fun k => a (ix2 i k)) (fun k => u (ix2 k j)) (r (ix2 i 0)) (fun k => p (ix4 0 0 i k)) (fun k => v (ix2 k j)) (x (ix2 i j)) := by
  unfold entry
  rw [← Norm.half]
  pointwise [k0_pay6, k0_pay4, k0_pay5]

theorem second_at :
    k0_pay8 (F := Ideal) (k0_pay4 p) (k0_pay5 r) (k0_pay7 a u) v x (ix2 i j)
      = entry (fun k => a (ix2 i k)) (fun k => u (ix2 k j)) (r (ix2 i 0)) (fun k => p (ix4 0 0 i k)) (fun k => v (ix2 k j)) (x (ix2 i j)) := by
  unfold entry
  rw [← Norm.half]
  pointwise [k0_pay8, k0_pay4, k0_pay5, k0_pay7]

end

theorem first_squares (y : FVec Ideal S1024x256 .f32) :
    k0_pay10 (F := Ideal) y (ix2 i 0) = ∑ j, y (ix2 i j) * y (ix2 i j) := by
  pointwise [k0_pay10]

theorem first_scaled (y : FVec Ideal S1024x256 .f32) (g : FVec Ideal S1x256 .f32) :
    k0_pay9 (F := Ideal) y g (ix2 i j) = y (ix2 i j) * g (ix2 0 j) := by
  pointwise [k0_pay9]

theorem second_scaled (p : FVec Ideal S1024x256 .bf16) (r : FVec Ideal S1024x1 .f32) (a : FVec Ideal S1024x256 .f32) (v : FVec Ideal S256x256 .bf16)
    (x : FVec Ideal S1024x256 .f32) (g : FVec Ideal S1x256 .f32) :
    k0_pay11 (F := Ideal) p r a v x g (ix2 i j) = k0_pay8 (F := Ideal) p r a v x (ix2 i j) * g (ix2 0 j) := by
  unfold k0_pay11
  generalize k0_pay8 (F := Ideal) p r a v x = y
  pointwise

theorem squares_at (y : FVec Ideal S1024x256 .f32) (u : FVec Ideal S1024x1 .f32) :
    k0_pay1 (F := Ideal) y u (ix2 i 0) = u (ix2 i 0) + ∑ j, y (ix2 i j) * y (ix2 i j) := by
  pointwise [k0_pay1]

theorem gathered_at (y : FVec Ideal S1024x256 .f32) (u v : FVec Ideal S1024x1 .f32) :
    k0_pay2 (F := Ideal) y u v (ix2 i 0) = v (ix2 i 0) + k0_pay1 (F := Ideal) y u (ix2 i 0) := by
  unfold k0_pay2
  generalize k0_pay1 (F := Ideal) y u = z
  pointwise

theorem ended_at (v : FVec Ideal S1024x1 .f32) :
    k0_pay3 (F := Ideal) v (ix2 i 0) = Ideal.rsqrt (v (ix2 i 0) * Ideal.ofBits .f32 0x39800000#32 + Ideal.ofBits .f32 0x358637BD#32) := by
  pointwise [k0_pay3]

end

theorem entry_all {a a' u u' : Fin 4096 → EReal} {r r' : EReal} {p p' v v' : Fin 256 → EReal} {x x' : EReal} (ha : ∀ k, a k = a' k) (hu : ∀ k, u k = u' k)
    (hr : r = r') (hp : ∀ k, p k = p' k) (hv : ∀ k, v k = v' k) (hx : x = x') : entry a u r p v x = entry a' u' r' p' v' x' := by
  rw [funext ha, funext hu, hr, funext hp, funext hv, hx]

/-! ### What the host prepares, and a point's blocks -/

/-- The embedding's two arrays hold real numbers. -/
structure Proper (p : FVec Ideal S4x1x16384x256 .f32) (q : FVec Ideal S256x4096 .f32) : Prop where
  p (s : Fin 16384) (k : Fin 256) : ∃ r : ℝ, p (ix4 0 0 s k) = (r : EReal)
  q (k : Fin 256) (j : Fin 4096) : ∃ r : ℝ, q (ix2 k j) = (r : EReal)

section
variable (m : (ℓ : Loc nD τ sig) → Buf (Elt Ideal) ℓ) (c : Dev nD)

abbrev x0 : FVec Ideal S16384x4096 .f32 := m ((c : Thread nD τ).loc main_arg0)
abbrev p0 : FVec Ideal S4x1x16384x256 .f32 := m ((c : Thread nD τ).loc main_arg1)
abbrev g0 : FVec Ideal S4096 .f32 := m ((c : Thread nD τ).loc main_arg2)
abbrev w0 : FVec Ideal S4096x4096 .f32 := m ((c : Thread nD τ).loc main_arg3)
abbrev q0 : FVec Ideal S256x4096 .f32 := m ((c : Thread nD τ).loc main_arg4)
abbrev n0 : FVec Ideal S4096 .f32 := m ((c : Thread nD τ).loc main_arg5)

/-- The new stream. -/
abbrev out : FVec Ideal S16384x4096 .f32 := Cert.Reference10Ideal.Read.val_main_v24 (F := Ideal) (x0 m c) (p0 m c) (g0 m c) (w0 m c) (q0 m c)

theorem V_xg : (V m c main_v3 : FVec Ideal S16384x4096 .bf16)
    = truncf .bf16 (mulf (x0 m c) (broadcastInDim S16384x4096 ![0, 1] bcast_S1x4096_S16384x4096_0_1
        (broadcastInDim S1x4096 ![1] bcast_S4096_S1x4096_1 (g0 m c)))) bitsLt_bf16_f32 := by
  simp only [V, hostOps0, StableHlo.after_cons, StableHlo.after_nil]
  after_results_loop
  all_goals rfl

theorem V_rinv : (V m c main_v11 : FVec Ideal S16384x1 .f32)
    = Host.rsqrt (addf (Host.divf (broadcastInDim S16384x1 ![0] bcast_S16384_S16384x1_0
        (Host.reduceAdd (mulf (x0 m c) (x0 m c)) (constant S_ .f32 0x00000000#32) reducesTo_S16384x4096_S16384_d1 h_S_))
        (broadcastInDim S16384x1 ![] bcast_S_S16384x1 (constant S_ .f32 0x45800000#32)))
      (broadcastInDim S16384x1 ![] bcast_S_S16384x1 (constant S_ .f32 0x358637BD#32))) := by
  simp only [V, hostOps0, StableHlo.after_cons, StableHlo.after_nil]
  after_results_loop
  all_goals rfl

theorem V_w : (V m c main_v12 : FVec Ideal S4096x4096 .bf16) = truncf .bf16 (w0 m c) bitsLt_bf16_f32 := by
  simp only [V, hostOps0, StableHlo.after_cons, StableHlo.after_nil]
  after_results_loop
  all_goals rfl

theorem V_q : (V m c main_v15 : FVec Ideal S256x4096 .bf16)
    = truncf .bf16 (mulf (q0 m c) (broadcastInDim S256x4096 ![] bcast_S_S256x4096 (constant S_ .f32 0x3F000000#32))) bitsLt_bf16_f32 := by
  simp only [V, hostOps0, StableHlo.after_cons, StableHlo.after_nil]
  after_results_loop
  all_goals rfl

theorem V_n : (V m c main_v16 : FVec Ideal S1x4096 .f32) = shapeCast S1x4096 (n0 m c) shapeCasts_S4096_S1x4096 := by
  simp only [V, hostOps0, StableHlo.after_cons, StableHlo.after_nil]
  after_results_loop
  all_goals rfl

theorem xg_at (s : Fin 16384) (k : Fin 4096) :
    (V m c main_v3 : FVec Ideal S16384x4096 .bf16) (ix2 s k) = x0 m c (ix2 s k) * g0 m c (ix1 k) := by
  rw [V_xg]; exact Norm.scaled_at _ _ _ _ _ s k

theorem rinv_at (s : Fin 16384) : (V m c main_v11 : FVec Ideal S16384x1 .f32) (ix2 s 0) = Norm.row (x0 m c) s := by
  rw [V_rinv]; exact Norm.recip_at _ _ _ _ _ _ s

theorem w_at (k j : Fin 4096) : (V m c main_v12 : FVec Ideal S4096x4096 .bf16) (ix2 k j) = w0 m c (ix2 k j) := by
  rw [V_w]; pointwise

theorem q_at (k : Fin 256) (j : Fin 4096) :
    (V m c main_v15 : FVec Ideal S256x4096 .bf16) (ix2 k j) = q0 m c (ix2 k j) * ((1 / 2 : ℝ) : EReal) := by
  rw [V_q, ← Norm.half]; pointwise

theorem n_at (j : Fin 4096) : (V m c main_v16 : FVec Ideal S1x4096 .f32) (ix2 0 j) = n0 m c (ix1 j) := by
  rw [V_n]; pointwise

theorem idx : ∀ t : Fin cfg0.N, win0_0.index t = ![t.val / 8, 0] ∧ win0_1.index t = ![t.val / 8, 0] ∧ win0_2.index t = ![0, t.val % 8]
      ∧ win0_3.index t = ![0, 0, t.val / 8, 0] ∧ win0_4.index t = ![0, 0] ∧ win0_5.index t = ![t.val / 8, t.val % 8] ∧ win0_6.index t = ![0, 0]
      ∧ win0_7.index t = ![t.val / 8, t.val % 8] ∧ win0_8.index t = ![t.val / 8, t.val % 8] ∧ win0_9.index t = ![t.val / 8, 0] ∧ (grid0.coords t 1).val = t.val % 8 :=
  (by decide +kernel : ∀ t : Fin grid0.N, win0_0.index t = ![t.val / 8, 0] ∧ win0_1.index t = ![t.val / 8, 0] ∧ win0_2.index t = ![0, t.val % 8]
      ∧ win0_3.index t = ![0, 0, t.val / 8, 0] ∧ win0_4.index t = ![0, 0] ∧ win0_5.index t = ![t.val / 8, t.val % 8] ∧ win0_6.index t = ![0, 0]
      ∧ win0_7.index t = ![t.val / 8, t.val % 8] ∧ win0_8.index t = ![t.val / 8, t.val % 8] ∧ win0_9.index t = ![t.val / 8, 0] ∧ (grid0.coords t 1).val = t.val % 8)

/-- The columns of the projection that a point reads, for either half of its block. -/
theorem ld_proj (t : Fin cfg0.N) (r : Fin 2) (k j : Fin 256) (q : Fin 4096) (hq : q.val = 512 * (t.val % 8) + 256 * r.val + j.val) :
    View.ld (Val := Elt Ideal) (e' := .bf16) (iblk m c 4 t) (Rect.unit (s := S256x4096) (k0_off1 (grid0.coords t) (BitVec.ofNat 32 (256 * r.val))) S256x256.size
      (k0_off1_inb (grid0.coords t) r)) (ix2 k j) = (iblk m c 4 t : FVec Ideal S256x4096 .bf16) (ix2 k q) := by
  refine View.ld_unit_apply_of _ _ _ _ _ (ix2 k q) fun a => ?_
  have e := congrFun (k0_off1_eq (grid0.coords t) r) a
  rw [(idx t).2.2.2.2.2.2.2.2.2.2] at e
  match a with
  | 0 =>
    show k.val = k0_off1 (grid0.coords t) (BitVec.ofNat 32 (256 * r.val)) 0 + k.val
    rw [e]; show k.val = 0 + k.val; omega
  | 1 =>
    show q.val = k0_off1 (grid0.coords t) (BitVec.ofNat 32 (256 * r.val)) 1 + j.val
    rw [e]; exact hq

/-- A block's entry at its arguments is the new stream's. -/
theorem entry_out (s : Fin 16384) (q : Fin 4096) (hp : Proper (p0 m c) (q0 m c)) :
    entry (fun k => x0 m c (ix2 s k) * g0 m c (ix1 k)) (fun k => w0 m c (ix2 k q)) (Norm.row (x0 m c) s) (fun k => p0 m c (ix4 0 0 s k))
      (fun k => q0 m c (ix2 k q) * ((1 / 2 : ℝ) : EReal)) (x0 m c (ix2 s q)) = out m c (ix2 s q) := by
  obtain ⟨z, hz⟩ := Norm.sum_real (fun k => p0 m c (ix4 0 0 s k)) (fun k => q0 m c (ix2 k q)) (hp.p s) (fun k => hp.q k q)
  unfold out
  rw [sum_at]
  exact entry_eq _ _ _ _ (fun k => q0 m c (ix2 k q)) _ _ z hz (Norm.dot_row (x0 m c) (g0 m c) s (fun k => w0 m c (ix2 k q)))

variable (t : Fin cfg0.N) (s : Fin 16384) (i : Fin 1024) (h : s.val = 1024 * (t.val / 8) + i.val)
include h

theorem blk0 (k : Fin 4096) : (iblk m c 0 t : FVec Ideal S1024x4096 .bf16) (ix2 i k) = x0 m c (ix2 s k) * g0 m c (ix1 k) := by
  rw [← xg_at]
  blk_ext [iblk, idx t]

theorem blk1 : (iblk m c 1 t : FVec Ideal S1024x1 .f32) (ix2 i 0) = Norm.row (x0 m c) s := by
  rw [← rinv_at]
  blk_ext [iblk, idx t]

omit h in
theorem blk2 (k : Fin 4096) (l : Fin 512) (q : Fin 4096) (hq : q.val = 512 * (t.val % 8) + l.val) :
    (iblk m c 2 t : FVec Ideal S4096x512 .bf16) (ix2 k l) = w0 m c (ix2 k q) := by
  rw [← w_at]
  blk_ext [iblk, idx t]

theorem blk3 (k : Fin 256) : (iblk m c 3 t : FVec Ideal S1x1x1024x256 .f32) (ix4 0 0 i k) = p0 m c (ix4 0 0 s k) := by
  blk_ext [iblk, V_main_arg1, idx t]

omit h in
theorem blk4 (k : Fin 256) (q : Fin 4096) :
    (iblk m c 4 t : FVec Ideal S256x4096 .bf16) (ix2 k q) = q0 m c (ix2 k q) * ((1 / 2 : ℝ) : EReal) := by
  rw [← q_at]
  blk_ext [iblk, idx t]

theorem blk5 (l : Fin 512) (q : Fin 4096) (hq : q.val = 512 * (t.val % 8) + l.val) :
    (iblk m c 5 t : FVec Ideal S1024x512 .f32) (ix2 i l) = x0 m c (ix2 s q) := by
  blk_ext [iblk, V_main_arg0, idx t]

omit h in
theorem blk6 (q : Fin 4096) : (iblk m c 6 t : FVec Ideal S1x4096 .f32) (ix2 0 q) = n0 m c (ix1 q) := by
  rw [← n_at]
  blk_ext [iblk, idx t]

variable (hp : Proper (p0 m c) (q0 m c))
include hp

/-- An entry of the first half of a point's block, and of the second. -/
theorem first_out (z : Fin 256) (q : Fin 4096) (hq : q.val = 512 * (t.val % 8) + z.val) :
    k0_pay6 (F := Ideal) (iblk m c 3 t) (iblk m c 1 t) (iblk m c 0 t)
        (View.ld (iblk m c 2 t) (Rect.unit (s := S4096x512) ![0, 0] S4096x256.size inb_S4096x512_S4096x256_0_0))
        (View.ld (iblk m c 4 t) (Rect.unit (s := S256x4096) (k0_off1 (grid0.coords t) 0#32) S256x256.size (k0_off1_inb (grid0.coords t) 0)))
        (View.ld (iblk m c 5 t) (Rect.unit (s := S1024x512) ![0, 0] S1024x256.size inb_S1024x512_S1024x256_0_0)) (ix2 i z) = out m c (ix2 s q) := by
  have hz := z.isLt
  refine (first_at i z _ _ _ _ _ _).trans ?_
  refine Eq.trans ?_ (entry_out m c s q hp)
  refine entry_all (fun k => blk0 m c t s i h k) (fun k => ?_) (blk1 m c t s i h) (fun k => blk3 m c t s i h k) (fun k => ?_) ?_
  · exact (Norm.ld_cols (ty := .bf16) _ 0 _ _ k ⟨z.val, by omega⟩ (ix2 k z) rfl (by show z.val = 0 + z.val; omega)).trans (blk2 m c t k _ q hq)
  · exact (ld_proj m c t 0 k z q (hq.trans rfl)).trans (blk4 m c t k q)
  · exact (Norm.ld_cols (ty := .f32) _ 0 _ _ i ⟨z.val, by omega⟩ (ix2 i z) rfl (by show z.val = 0 + z.val; omega)).trans (blk5 m c t s i h _ q hq)

theorem second_out (z : Fin 256) (q : Fin 4096) (hq : q.val = 512 * (t.val % 8) + 256 + z.val) :
    k0_pay8 (F := Ideal) (k0_pay4 (iblk m c 3 t)) (k0_pay5 (iblk m c 1 t)) (k0_pay7 (iblk m c 0 t)
        (View.ld (iblk m c 2 t) (Rect.unit (s := S4096x512) ![0, 256] S4096x256.size inb_S4096x512_S4096x256_0_256)))
        (View.ld (iblk m c 4 t) (Rect.unit (s := S256x4096) (k0_off1 (grid0.coords t) 256#32) S256x256.size (k0_off1_inb (grid0.coords t) 1)))
        (View.ld (iblk m c 5 t) (Rect.unit (s := S1024x512) ![0, 256] S1024x256.size inb_S1024x512_S1024x256_0_256)) (ix2 i z) = out m c (ix2 s q) := by
  have hz := z.isLt
  refine (second_at i z _ _ _ _ _ _).trans ?_
  refine Eq.trans ?_ (entry_out m c s q hp)
  refine entry_all (fun k => blk0 m c t s i h k) (fun k => ?_) (blk1 m c t s i h) (fun k => blk3 m c t s i h k) (fun k => ?_) ?_
  · exact (Norm.ld_cols (ty := .bf16) _ 256 _ _ k ⟨256 + z.val, by omega⟩ (ix2 k z) rfl rfl).trans (blk2 m c t k _ q (hq.trans (Nat.add_assoc _ _ _)))
  · exact (ld_proj m c t 1 k z q hq).trans (blk4 m c t k q)
  · exact (Norm.ld_cols (ty := .f32) _ 256 _ _ i ⟨256 + z.val, by omega⟩ (ix2 i z) rfl rfl).trans (blk5 m c t s i h _ q (hq.trans (Nat.add_assoc _ _ _)))

/-- A block's squares. -/
theorem block_squares :
    k0_pay1 (F := Ideal)
      (k0_pay8 (F := Ideal) (k0_pay4 (iblk m c 3 t)) (k0_pay5 (iblk m c 1 t)) (k0_pay7 (iblk m c 0 t)
        (View.ld (iblk m c 2 t) (Rect.unit (s := S4096x512) ![0, 256] S4096x256.size inb_S4096x512_S4096x256_0_256)))
        (View.ld (iblk m c 4 t) (Rect.unit (s := S256x4096) (k0_off1 (grid0.coords t) 256#32) S256x256.size (k0_off1_inb (grid0.coords t) 1)))
        (View.ld (iblk m c 5 t) (Rect.unit (s := S1024x512) ![0, 256] S1024x256.size inb_S1024x512_S1024x256_0_256)))
      (k0_pay10 (k0_pay6 (F := Ideal) (iblk m c 3 t) (iblk m c 1 t) (iblk m c 0 t)
        (View.ld (iblk m c 2 t) (Rect.unit (s := S4096x512) ![0, 0] S4096x256.size inb_S4096x512_S4096x256_0_0))
        (View.ld (iblk m c 4 t) (Rect.unit (s := S256x4096) (k0_off1 (grid0.coords t) 0#32) S256x256.size (k0_off1_inb (grid0.coords t) 0)))
        (View.ld (iblk m c 5 t) (Rect.unit (s := S1024x512) ![0, 0] S1024x256.size inb_S1024x512_S1024x256_0_0)))) (ix2 i 0)
      = ∑ n ∈ Finset.range 512, Norm.sq (out m c) s (512 * (t.val % 8) + n) := by
  rw [squares_at, first_squares, show 512 = 256 + 256 from rfl, Finset.sum_range_add]
  refine congrArg₂ (· + ·) ?_ ?_
  · exact Norm.sum_stretch (out m c) s (512 * (t.val % 8)) (by omega) _ fun z q hq => first_out m c t s i h hp z q hq
  · refine (Norm.sum_stretch (out m c) s (512 * (t.val % 8) + 256) (by omega) _ fun z q hq => second_out m c t s i h hp z q hq).trans ?_
    exact Finset.sum_congr rfl fun n _ => by rw [Nat.add_assoc]

end

/-! ### What a point leaves -/

section
variable (m : (ℓ : Loc nD τ sig) → Buf (Elt Ideal) ℓ) (c : Dev nD) (hp : Proper (p0 m c) (q0 m c))
include hp

theorem outs7 (t : Fin cfg0.N) (y : S1024x512.Idx) (s : Fin 16384) (q : Fin 4096) (hs : s.val = 1024 * (t.val / 8) + (y 0).val)
    (hq : q.val = 512 * (t.val % 8) + (y 1).val) : (outsAt0 m c t.val t.isLt).1 y = out m c (ix2 s q) := by
  by_cases b0 : t.val % 8 = 0
  on_goal 2 => by_cases b7 : t.val % 8 = 7
  on_goal 1 => rw [outsAt0_A m c t b0 (by omega) (by omega)]
  on_goal 2 => rw [outsAt0_C m c t b0 (by omega) b7]
  on_goal 3 => rw [outsAt0_B m c t b0 (by omega) b7]
  all_goals
    frame_out
    canon_tiles z e
    all_goals obtain ⟨i, j, rfl⟩ : ∃ (i : Fin 1024) (j : Fin 256), z = ix2 i j := Norm.pair z
    · exact second_out m c t s i (hs.trans (by rw [e0]; rfl)) hp j q (by rw [hq, e1]; exact (Nat.add_assoc _ _ _).symm)
    · exact first_out m c t s i (hs.trans (by rw [e0]; rfl)) hp j q (by rw [hq, e1]; rfl)

omit hp in
/-- The columns of the gain that a point reads, for either half of its block. -/
theorem ld_gain (t : Fin cfg0.N) (r : Fin 2) (j : Fin 256) (q : Fin 4096) (hq : q.val = 512 * (t.val % 8) + 256 * r.val + j.val) :
    View.ld (Val := Elt Ideal) (e' := .f32) (iblk m c 6 t) (Rect.unit (s := S1x4096) (k0_off2 (grid0.coords t) (BitVec.ofNat 32 (256 * r.val))) S1x256.size
      (k0_off2_inb (grid0.coords t) r)) (ix2 0 j) = n0 m c (ix1 q) := by
  rw [← blk6 m c t q]
  refine View.ld_unit_apply_of _ _ _ _ _ (ix2 0 q) fun a => ?_
  have e := congrFun (k0_off2_eq (grid0.coords t) r) a
  rw [(idx t).2.2.2.2.2.2.2.2.2.2] at e
  match a with
  | 0 =>
    show 0 = k0_off2 (grid0.coords t) (BitVec.ofNat 32 (256 * r.val)) 0 + 0
    rw [e]; rfl
  | 1 =>
    show q.val = k0_off2 (grid0.coords t) (BitVec.ofNat 32 (256 * r.val)) 1 + j.val
    rw [e]; exact hq

theorem outs8 (t : Fin cfg0.N) (y : S1024x512.Idx) (s : Fin 16384) (q : Fin 4096) (hs : s.val = 1024 * (t.val / 8) + (y 0).val)
    (hq : q.val = 512 * (t.val % 8) + (y 1).val) : (outsAt0 m c t.val t.isLt).2.1 y = out m c (ix2 s q) * n0 m c (ix1 q) := by
  by_cases b0 : t.val % 8 = 0
  on_goal 2 => by_cases b7 : t.val % 8 = 7
  on_goal 1 => rw [outsAt0_A m c t b0 (by omega) (by omega)]
  on_goal 2 => rw [outsAt0_C m c t b0 (by omega) b7]
  on_goal 3 => rw [outsAt0_B m c t b0 (by omega) b7]
  all_goals
    frame_out
    canon_tiles z e
    all_goals obtain ⟨i, j, rfl⟩ : ∃ (i : Fin 1024) (j : Fin 256), z = ix2 i j := Norm.pair z
    · have hq' : q.val = 512 * (t.val % 8) + 256 + j.val := by rw [hq, e1]; exact (Nat.add_assoc _ _ _).symm
      exact (second_scaled _ _ _ _ _ _ _ _).trans (congrArg₂ (· * ·) (second_out m c t s i (hs.trans (by rw [e0]; rfl)) hp j q hq') (ld_gain m c t 1 j q hq'))
    · have hq' : q.val = 512 * (t.val % 8) + j.val := by rw [hq, e1]; rfl
      exact (first_scaled _ _ _ _).trans (congrArg₂ (· * ·) (first_out m c t s i (hs.trans (by rw [e0]; rfl)) hp j q hq') (ld_gain m c t 0 j q hq'))

/-- Before its last block a row's squares gathered so far. -/
theorem gathered (n : ℕ) (hn : n < cfg0.N) (i : Fin 1024) (s : Fin 16384) (hs : s.val = 1024 * (n / 8) + i.val) (b7 : ¬n % 8 = 7) :
    (outsAt0 m c n hn).2.2 (ix2 i 0) = ∑ k ∈ Finset.range (512 * (n % 8) + 512), Norm.sq (out m c) s k := by
  induction n with
  | zero =>
    rw [outsAt0_A m c ⟨0, hn⟩ rfl (by show ¬1 ≤ 0 % 8; decide) (by show ¬0 % 8 = 7; decide)]
    frame_out
    refine (block_squares m c ⟨0, hn⟩ s i hs hp).trans (Finset.sum_congr rfl fun k _ => congrArg _ (Nat.zero_add k))
  | succ n ih =>
    rw [Finset.sum_range_add]
    by_cases b0 : (n + 1) % 8 = 0
    · rw [outsAt0_A m c ⟨n + 1, hn⟩ b0 (by show ¬1 ≤ (n + 1) % 8; omega) b7]
      frame_out
      refine (block_squares m c ⟨n + 1, hn⟩ s i hs hp).trans ?_
      rw [b0, Nat.mul_zero, Finset.sum_range_zero, zero_add]
    · have e := outsAt0_B m c ⟨n + 1, hn⟩ b0 (by show 1 ≤ (n + 1) % 8; omega) b7
      rw [e]
      frame_out
      refine (gathered_at _ _ _ _).trans (congrArg₂ (· + ·) ?_ (block_squares m c ⟨n + 1, hn⟩ s i hs hp))
      refine (ih (Nat.lt_of_succ_lt hn) (by omega) (by omega)).trans ?_
      rw [show 512 * (n % 8) + 512 = 512 * ((n + 1) % 8) by omega]

theorem outs9 (t : Fin cfg0.N) (b7 : t.val % 8 = 7) (i : Fin 1024) (s : Fin 16384) (hs : s.val = 1024 * (t.val / 8) + i.val) :
    (outsAt0 m c t.val t.isLt).2.2 (ix2 i 0) = Norm.row (out m c) s := by
  rw [outsAt0_C m c t (by omega) (by omega) b7]
  frame_out
  refine (ended_at _ _).trans ?_
  rw [← Norm.row_of_sum]
  refine congrArg (fun z => Ideal.rsqrt (z * Ideal.ofBits .f32 0x39800000#32 + Ideal.ofBits .f32 0x358637BD#32)) ?_
  rw [show Finset.range 4096 = Finset.range (512 * (t.val % 8) + 512) by rw [b7], Finset.sum_range_add]
  refine (gathered_at _ _ _ _).trans (congrArg₂ (· + ·) ?_ (block_squares m c t s i hs hp))
  refine (gathered m c hp (t.val - 1) (by omega) i s (by omega) (by omega)).trans ?_
  rw [show 512 * ((t.val - 1) % 8) + 512 = 512 * (t.val % 8) by omega]

/-! ### The arrays the run leaves -/

theorem final7 : (dats m 0 c).arrAt 7 cfg0.N = Cert.Reference10Ideal.Read.val_main_v24 (F := Ideal) (x0 m c) (p0 m c) (g0 m c) (w0 m c) (q0 m c) := by
  refine (dats m 0 c).arrAt_eq_of_covers 7 _ (by decide +kernel) fun t _ y => ?_
  blk_simp
  rw [after0_7]
  have hN : t.val < 128 := lt_of_lt_of_eq t.isLt N_0
  obtain ⟨i, j, rfl⟩ : ∃ (i : Fin 1024) (j : Fin 512), y = ix2 i j := Norm.pair y
  have e : (win0_7.blk t).view.emb (ix2 i j) = ix2 (⟨1024 * (t.val / 8) + i.val, by omega⟩ : Fin 16384) (⟨512 * (t.val % 8) + j.val, by omega⟩ : Fin 4096) := by
    blk_ext [idx t]
  exact (outs7 m c hp t (ix2 i j) _ _ rfl rfl).trans (congrArg _ e.symm)

theorem final8 : (dats m 0 c).arrAt 8 cfg0.N = Cert.Reference10Ideal.Read.val_main_v28 (F := Ideal) (x0 m c) (p0 m c) (g0 m c) (w0 m c) (q0 m c) (n0 m c) := by
  refine (dats m 0 c).arrAt_eq_of_covers 8 _ (by decide +kernel) fun t _ y => ?_
  blk_simp
  rw [after0_8]
  have hN : t.val < 128 := lt_of_lt_of_eq t.isLt N_0
  obtain ⟨i, j, rfl⟩ : ∃ (i : Fin 1024) (j : Fin 512), y = ix2 i j := Norm.pair y
  have e : (win0_8.blk t).view.emb (ix2 i j) = ix2 (⟨1024 * (t.val / 8) + i.val, by omega⟩ : Fin 16384) (⟨512 * (t.val % 8) + j.val, by omega⟩ : Fin 4096) := by
    blk_ext [idx t]
  exact (outs8 m c hp t (ix2 i j) _ _ rfl rfl).trans ((scaled_at _ _ _ _ _ _ _ _).symm.trans (congrArg _ e.symm))

theorem final9 : (dats m 0 c).arrAt 9 cfg0.N = Cert.Reference10Ideal.Read.val_main_v36 (F := Ideal) (x0 m c) (p0 m c) (g0 m c) (w0 m c) (q0 m c) := by
  refine (dats m 0 c).arrAt_eq_of_covers 9 _ (by decide +kernel) fun t ht y => ?_
  blk_simp
  rw [after0_9]
  have hN : t.val < 128 := lt_of_lt_of_eq t.isLt N_0
  have b7 : t.val % 8 = 7 := (flush0_9 t).mp ht
  obtain ⟨i, j, rfl⟩ : ∃ (i : Fin 1024) (j : Fin 1), y = ix2 i j := Norm.pair y
  obtain rfl : j = 0 := Subsingleton.elim _ _
  have e : (win0_9.blk t).view.emb (ix2 i 0) = ix2 (⟨1024 * (t.val / 8) + i.val, by omega⟩ : Fin 16384) (0 : Fin 1) := by
    blk_ext [idx t]
  exact (outs9 m c hp t b7 i _ rfl).trans ((recip_at _ _ _ _ _ _).symm.trans (congrArg _ e.symm))

end

end Cert.Kernel10Ideal.Final

end
-- ==== Proof.EmbedNext.Bridge.lean ====
module

public import proofs.«01_k».proof.Defs
public import proofs.«01_k».proof.Proof.Bridge
public import proofs.«01_k».proof.Proof.EmbedNext.Final
public import Idealize.ShloMosaic.Lib.ReduceAll

@[expose] public section

set_option maxRecDepth 16384

/-! The embedding of a layer that another follows: the two programs over the reals, the same arrays. -/

noncomputable section

namespace Cert.Kernel10Ideal

open Idealize.ShloMosaic Idealize.ShloMosaic.TcCoe Idealize.SL.Sem Cert.Bridge

instance shapes : Cert.Pre_finite_embed_first.Facts where
  slices_S4x1x16384x256_S1x1x16384x256_0_0_0_0 := by decide
  shapeCasts_S1x1x16384x256_S1x16384x256 := by decide
  bcast_S_S1x16384x256 := by decide
  reducesTo_S1x16384x256_S_d0_1_2 := by decide
  h_S_ := by decide
  bcast_S_S256x4096 := by decide
  reducesTo_S256x4096_S_d0_1 := by decide

instance : Subsingleton Cert.Pre_finite_embed_first.S_.Idx := ⟨fun a b => funext fun i => i.elim0⟩

theorem proper (x p g w q n) (h : Cert.Pre_finite_embed_first.fn (F := Ideal) x p g w q n = fun _ => 1#1) : Final.Proper p q := by
  have h0 := congrFun h (fun i => i.elim0)
  obtain ⟨h1, h2⟩ := both h0
  refine ⟨fun s k => ?_, fun k j => ?_⟩
  · have e := Host.reduce_andi_all _ _ _ _ _ h1 (ix3 0 s k)
    have e1 : extractStridedSlice Cert.Pre_finite_embed_first.S1x1x16384x256 ![0, 0, 0, 0] p Cert.Pre_finite_embed_first.Facts.slices_S4x1x16384x256_S1x1x16384x256_0_0_0_0
        = fun i => p (ix4 0 0 (i 2) (i 3)) := by
      funext i
      obtain ⟨a, b, c, d, rfl⟩ : ∃ (a b : Fin 1) (c : Fin 16384) (d : Fin 256), i = ix4 a b c d :=
        ⟨i 0, i 1, i 2, i 3, by funext e; match e with | 0 => rfl | 1 => rfl | 2 => rfl | 3 => rfl⟩
      pointwise
    have e2 : shapeCast Cert.Pre_finite_embed_first.S1x16384x256 (extractStridedSlice Cert.Pre_finite_embed_first.S1x1x16384x256 ![0, 0, 0, 0] p Cert.Pre_finite_embed_first.Facts.slices_S4x1x16384x256_S1x1x16384x256_0_0_0_0)
        Cert.Pre_finite_embed_first.Facts.shapeCasts_S1x1x16384x256_S1x16384x256 (ix3 0 s k) = p (ix4 0 0 s k) := by
      rw [e1]; pointwise
    have e : BitVec.ofBool (decide (max (p (ix4 0 0 s k)) (-p (ix4 0 0 s k)) < Ideal.ofBits .f32 0x7F800000#32)) = 1#1 := by
      rw [← e2]; exact e
    rw [ofBits_inf] at e
    exact real_of_lt (holds e)
  · have e : BitVec.ofBool (decide (max (q (ix2 k j)) (-q (ix2 k j)) < Ideal.ofBits .f32 0x7F800000#32)) = 1#1 :=
      Host.reduce_andi_all _ _ _ _ _ h2 (ix2 k j)
    rw [ofBits_inf] at e
    exact real_of_lt (holds e)

theorem algebraic : Cert.algebraic_Kernel10Ideal_Reference10Ideal_pre_finite_embed_first := by
  intro m ρ m' ρ' hpre hagree
  refine ⟨_, _, _, Cert.Kernel10Ideal.Value.run_blocks m ρ, ?_⟩
  refine (θ_run _ _ _).mono (fun _ h c => ⟨(h c).1.trans ?_, (h c).2.1.trans ?_, (h c).2.2.1.trans ?_, (h c).2.2.2⟩)
    (Cert.Reference10Ideal.Value.run m' ρ')
  all_goals
    have hp := proper _ _ _ _ _ _ (hpre c)
    obtain ⟨e0, e1, e2, e3, e4, e5⟩ := hagree c
  · rw [Cert.Reference10Ideal.Read.val_main_v24_eq, Final.final7 m c hp, e0, e1, e2, e3, e4]
  · rw [Cert.Reference10Ideal.Read.val_main_v28_eq, Final.final8 m c hp, e0, e1, e2, e3, e4, e5]
  · rw [Cert.Reference10Ideal.Read.val_main_v36_eq, Final.final9 m c hp, e0, e1, e2, e3, e4]

end Cert.Kernel10Ideal

end
-- ==== Proof.Group.Words.lean ====
module

public import Idealize.ShloMosaic.PureOps.Ideal.Laws
public import Idealize.ShloMosaic.Lib.WordCmp

@[expose] public section

set_option maxRecDepth 16384

/-! The bounds of a window of `W` rows, `L` of them above its row, as words, at every row. -/

noncomputable section

namespace Cert.Group

open Idealize.ShloMosaic

/-- A window's first row, and the row past its last. -/
def lo (L : ℕ) (s : BitVec 32) : BitVec 32 := IntOp.maxsi (IntOp.subi s (BitVec.ofNat 32 L)) 0#32
def hi (L W : ℕ) (s : BitVec 32) : BitVec 32 := IntOp.minsi (IntOp.addi (IntOp.subi s (BitVec.ofNat 32 L)) (BitVec.ofNat 32 W)) 16384#32

/-- The windows there are: at most sixteen rows, at most seven of them above. -/
def Fits (L W : ℕ) : Prop := L ≤ 7 ∧ L < W ∧ W ≤ 16

theorem max_zero (n : ℕ) (h : n < 2147483648) : IntOp.maxsi (BitVec.ofNat 32 n) 0#32 = BitVec.ofNat 32 n := by
  unfold IntOp.maxsi
  rw [BitVec.slt, WordCmp.toInt_ofNat_of_lt (a := n) (by show n < 2147483648; exact h)]
  by_cases h0 : n = 0
  · subst h0; rfl
  · rw [if_pos (decide_eq_true (by show (0 : ℤ) < n; omega))]

theorem min_end (n : ℕ) (h : n < 2147483648) : IntOp.minsi (BitVec.ofNat 32 n) 16384#32 = BitVec.ofNat 32 (min n 16384) := by
  unfold IntOp.minsi
  rw [BitVec.slt, WordCmp.toInt_ofNat_of_lt (a := n) (by show n < 2147483648; exact h)]
  by_cases h0 : n < 16384
  · rw [if_pos (decide_eq_true (by show (n : ℤ) < 16384; omega)), Nat.min_eq_left h0.le]
  · rw [if_neg (by rw [decide_eq_true_eq]; show ¬(n : ℤ) < 16384; omega), Nat.min_eq_right (by omega)]

section
variable {L W : ℕ} (hf : Fits L W)
include hf

theorem lo_eq (s : ℕ) (h : s < 16384) : lo L (BitVec.ofNat 32 s) = BitVec.ofNat 32 (s - L) := by
  obtain ⟨hL, -, -⟩ := hf
  unfold lo
  by_cases hs : s < L
  · exact (by decide : ∀ l r : Fin 8, r.val < l.val → IntOp.maxsi (IntOp.subi (BitVec.ofNat 32 r.val) (BitVec.ofNat 32 l.val)) 0#32 = BitVec.ofNat 32 (r.val - l.val))
      ⟨L, by omega⟩ ⟨s, by omega⟩ hs
  · obtain ⟨n, rfl⟩ := Nat.exists_eq_add_of_le' (Nat.le_of_not_lt hs)
    have e : IntOp.subi (BitVec.ofNat 32 (n + L)) (BitVec.ofNat 32 L) = BitVec.ofNat 32 n := by
      show BitVec.ofNat 32 (n + L) - BitVec.ofNat 32 L = _
      rw [BitVec.ofNat_add, BitVec.add_sub_cancel]
    rw [e, max_zero n (by omega), Nat.add_sub_cancel]

theorem hi_eq (s : ℕ) (h : s < 16384) : hi L W (BitVec.ofNat 32 s) = BitVec.ofNat 32 (min (s + (W - L)) 16384) := by
  obtain ⟨-, hW, hX⟩ := hf
  unfold hi
  obtain ⟨d, rfl⟩ := Nat.exists_eq_add_of_le hW.le
  have e : IntOp.addi (IntOp.subi (BitVec.ofNat 32 s) (BitVec.ofNat 32 L)) (BitVec.ofNat 32 (L + d)) = BitVec.ofNat 32 (s + d) := by
    show BitVec.ofNat 32 s - BitVec.ofNat 32 L + BitVec.ofNat 32 (L + d) = _
    rw [BitVec.ofNat_add, BitVec.ofNat_add, ← BitVec.add_assoc, BitVec.sub_add_cancel]
  rw [e, min_end _ (by omega), Nat.add_sub_cancel_left]

theorem bounds (s : Fin 16384) : (lo L (BitVec.ofNat 32 s.val)).toInt = (s.val - L : ℕ)
    ∧ (hi L W (BitVec.ofNat 32 s.val)).toInt = (min (s.val + (W - L)) 16384 : ℕ)
    ∧ (IntOp.subi (hi L W (BitVec.ofNat 32 s.val)) (lo L (BitVec.ofNat 32 s.val))).toInt ≠ 0 := by
  have hs := s.isLt
  have hf' := hf
  obtain ⟨hL, hW, hX⟩ := hf'
  have h2 : min (s.val + (W - L)) 16384 < 2147483648 := by omega
  rw [lo_eq hf s.val hs, hi_eq hf s.val hs]
  refine ⟨WordCmp.toInt_ofNat_of_lt (by show s.val - L < 2147483648; omega), WordCmp.toInt_ofNat_of_lt (by show _ < 2147483648; exact h2), ?_⟩
  obtain ⟨n, hn⟩ : ∃ n, min (s.val + (W - L)) 16384 = n + (s.val - L) := ⟨min (s.val + (W - L)) 16384 - (s.val - L), by omega⟩
  have e : IntOp.subi (BitVec.ofNat 32 (min (s.val + (W - L)) 16384)) (BitVec.ofNat 32 (s.val - L)) = BitVec.ofNat 32 n := by
    show BitVec.ofNat 32 (min (s.val + (W - L)) 16384) - BitVec.ofNat 32 (s.val - L) = _
    rw [hn, BitVec.ofNat_add, BitVec.add_sub_cancel]
  rw [e, WordCmp.toInt_ofNat_of_lt (by show n < 2147483648; omega)]
  omega

end

end Cert.Group

end
-- ==== Proof.Group.Window.lean ====
module

public import proofs.«01_k».proof.Proof.Norm.Host
public import proofs.«01_k».proof.Proof.Group.Words
public import Idealize.ShloMosaic.PureOps.Ideal.Laws
public import Idealize.ShloMosaic.Lib.Pipeline.ValueKit
public import Idealize.ShloMosaic.Lib.Pointwise
public import Idealize.ShloMosaic.Lib.WordCmp

@[expose] public section

set_option maxRecDepth 16384

/-! A window of rows about a row: its bounds as words, its sum as a sum over all the rows, and its mean. -/

noncomputable section

namespace Cert.Group

open Idealize.ShloMosaic

/-- How many rows a window has. -/
def cnt (L W : ℕ) (s : BitVec 32) : EReal := FloatOps.sitofp (F := Ideal) .f32 (IntOp.subi (hi L W s) (lo L s))

theorem cnt_ne {L W : ℕ} (hf : Fits L W) (s : Fin 16384) : cnt L W (BitVec.ofNat 32 s.val) ≠ 0 := by
  have h := (bounds hf s).2.2
  show ((((IntOp.subi (hi L W (BitVec.ofNat 32 s.val)) (lo L (BitVec.ofNat 32 s.val))).toInt : ℤ) : ℝ) : EReal) ≠ 0
  exact_mod_cast h

/-- A column with eight rows of zeros before it and zeros past its end. -/
def pad (v : Fin 16384 → EReal) (n : ℕ) : EReal := if h : 8 ≤ n ∧ n < 16392 then v ⟨n - 8, by omega⟩ else 0

theorem pad_row (v : Fin 16384 → EReal) (n : ℕ) (s : Fin 16384) (h : n = s.val + 8) : pad v n = v s := by
  have hs := s.isLt
  unfold pad
  rw [dif_pos (by omega)]
  exact congrArg v (Fin.ext (by show n - 8 = s.val; omega))

theorem pad_off (v : Fin 16384 → EReal) (n : ℕ) (h : n < 8 ∨ 16392 ≤ n) : pad v n = 0 := dif_neg (by omega)

/-- A window's sum. -/
def win (L W : ℕ) (v : Fin 16384 → EReal) (s : ℕ) : EReal := ∑ k ∈ Finset.range W, pad v (s + (8 - L) + k)

section
variable {L W : ℕ} (hf : Fits L W)
include hf

/-- The window's sum is the sum over all the rows of those inside it. -/
theorem win_eq (v : Fin 16384 → EReal) (s : Fin 16384) (f : Fin 16384 → EReal)
    (h1 : ∀ t : Fin 16384, s.val ≤ t.val + L → t.val + L < s.val + W → f t = v t) (h0 : ∀ t : Fin 16384, ¬(s.val ≤ t.val + L ∧ t.val + L < s.val + W) → f t = 0) :
    ∑ t, f t = win L W v s.val := by
  have hs := s.isLt
  obtain ⟨hL, hW, hX⟩ := hf
  let g : ℕ → EReal := fun n => if s.val + (8 - L) ≤ n ∧ n < s.val + (8 - L) + W then pad v n else 0
  have e1 : ∑ t, f t = ∑ n ∈ Finset.range 16384, g (8 + n) := by
    rw [Finset.sum_range]
    refine Finset.sum_congr rfl fun t _ => ?_
    by_cases h : s.val ≤ t.val + L ∧ t.val + L < s.val + W
    · rw [h1 t h.1 h.2]
      show v t = if s.val + (8 - L) ≤ 8 + t.val ∧ 8 + t.val < s.val + (8 - L) + W then pad v (8 + t.val) else 0
      rw [if_pos (by omega), pad_row v _ t (by omega)]
    · rw [h0 t h]
      exact (if_neg (by omega)).symm
  have e2 : ∑ n ∈ Finset.range 16408, g n = ∑ n ∈ Finset.range 16384, g (8 + n) := by
    rw [show 16408 = 8 + 16384 + 16 from rfl, Finset.sum_range_add, Finset.sum_range_add]
    rw [Finset.sum_eq_zero (s := Finset.range 8) fun n hn => ?_, Finset.sum_eq_zero (s := Finset.range 16) fun n hn => ?_, zero_add, add_zero]
    · show (if s.val + (8 - L) ≤ 8 + 16384 + n ∧ 8 + 16384 + n < s.val + (8 - L) + W then pad v (8 + 16384 + n) else 0) = 0
      rw [pad_off v _ (by omega), ite_self]
    · have := Finset.mem_range.mp hn
      show (if s.val + (8 - L) ≤ n ∧ n < s.val + (8 - L) + W then pad v n else 0) = 0
      rw [pad_off v _ (by omega), ite_self]
  have e3 : ∑ n ∈ Finset.range 16408, g n = win L W v s.val := by
    obtain ⟨q, hq⟩ : ∃ q, 16408 = s.val + (8 - L) + W + q := ⟨16408 - (s.val + (8 - L) + W), by omega⟩
    rw [hq, Finset.sum_range_add, Finset.sum_range_add]
    rw [Finset.sum_eq_zero (s := Finset.range (s.val + (8 - L))) fun n hn => ?_, Finset.sum_eq_zero (s := Finset.range q) fun n hn => ?_, zero_add, add_zero]
    · refine Finset.sum_congr rfl fun n hn => ?_
      have := Finset.mem_range.mp hn
      exact if_pos (by omega)
    · exact if_neg (by omega)
    · have := Finset.mem_range.mp hn
      exact if_neg (by omega)
  rw [e1, ← e2, e3]

/-- The reference's matrix of which row is inside which window, applied to a column. -/
theorem inside_sum (v : Fin 16384 → EReal) (s : Fin 16384) :
    ∑ t : Fin 16384, FloatOps.uitofp (F := Ideal) .f32 (IntOp.andi (IntOp.cmpi .sle (lo L (BitVec.ofNat 32 s.val)) (BitVec.ofNat 32 t.val))
      (IntOp.cmpi .slt (BitVec.ofNat 32 t.val) (hi L W (BitVec.ofNat 32 s.val)))) * v t = win L W v s.val := by
  have hs := s.isLt
  have key : ∀ t : Fin 16384, IntOp.andi (IntOp.cmpi .sle (lo L (BitVec.ofNat 32 s.val)) (BitVec.ofNat 32 t.val))
      (IntOp.cmpi .slt (BitVec.ofNat 32 t.val) (hi L W (BitVec.ofNat 32 s.val)))
        = BitVec.ofBool (decide (s.val ≤ t.val + L ∧ t.val + L < s.val + W)) := fun t => by
    have ht := t.isLt
    rw [WordCmp.cmpi_sle_eq, WordCmp.cmpi_slt_eq, (bounds hf s).1, (bounds hf s).2.1, WordCmp.toInt_ofNat_of_lt (by omega)]
    obtain ⟨hL, hW, hX⟩ := hf
    have a1 : decide (((s.val - L : ℕ) : ℤ) ≤ (t.val : ℤ)) = decide (s.val ≤ t.val + L) := decide_eq_decide.mpr (by omega)
    have a2 : decide ((t.val : ℤ) < ((min (s.val + (W - L)) 16384 : ℕ) : ℤ)) = decide (t.val + L < s.val + W) := decide_eq_decide.mpr (by omega)
    rw [a1, a2]
    by_cases h1 : s.val ≤ t.val + L <;> by_cases h2 : t.val + L < s.val + W <;> simp [h1, h2, IntOp.andi]
  refine win_eq hf v s _ (fun t h1 h2 => ?_) fun t h => ?_
  · rw [key, decide_eq_true ⟨h1, h2⟩]
    show (((1 : ℕ) : ℝ) : EReal) * v t = v t
    simp
  · rw [key, decide_eq_false h]
    show (((0 : ℕ) : ℝ) : EReal) * v t = 0
    simp

/-- Multiplying by the reciprocal of the number of rows is dividing by it. -/
theorem mul_recip (x : EReal) (s : Fin 16384) :
    x * Ideal.div 1 (cnt L W (BitVec.ofNat 32 s.val)) = Ideal.div x (cnt L W (BitVec.ofNat 32 s.val)) := by
  unfold Ideal.div
  rw [if_neg (cnt_ne hf s), if_neg (cnt_ne hf s), one_mul]

end

/-- Sixteen rows summed by doubling. -/
theorem doubled (E : ℕ → EReal) (p : ℕ) (h : 7 ≤ p) (q1 q2 q3 : ℕ → EReal) (e1 : ∀ n, 1 ≤ n → q1 n = E n + E (n - 1))
    (e2 : ∀ n, 3 ≤ n → q2 n = q1 n + q1 (n - 2)) (e3 : ∀ n, 7 ≤ n → q3 n = q2 n + q2 (n - 4)) :
    q3 p + q3 (p + 8) = ∑ k ∈ Finset.range 16, E (p - 7 + k) := by
  obtain ⟨n, rfl⟩ := Nat.exists_eq_add_of_le' h
  simp only [Finset.sum_range_succ, Finset.sum_range_zero]
  rw [e3 _ (by omega), e3 _ (by omega), e2 _ (by omega), e2 _ (by omega), e2 _ (by omega), e2 _ (by omega), e1 _ (by omega), e1 _ (by omega),
    e1 _ (by omega), e1 _ (by omega), e1 _ (by omega), e1 _ (by omega), e1 _ (by omega), e1 _ (by omega)]
  simp only [Nat.add_sub_cancel, show n + 7 - 1 = n + 6 by omega, show n + 7 - 2 = n + 5 by omega, show n + 7 - 2 - 1 = n + 4 by omega,
    show n + 7 - 4 = n + 3 by omega, show n + 7 - 4 - 1 = n + 2 by omega, show n + 7 - 4 - 2 = n + 1 by omega, show n + 7 - 4 - 2 - 1 = n by omega,
    show n + 7 + 8 - 1 = n + 14 by omega, show n + 7 + 8 - 2 = n + 13 by omega, show n + 7 + 8 - 2 - 1 = n + 12 by omega,
    show n + 7 + 8 - 4 = n + 11 by omega, show n + 7 + 8 - 4 - 1 = n + 10 by omega, show n + 7 + 8 - 4 - 2 = n + 9 by omega,
    show n + 7 + 8 - 4 - 2 - 1 = n + 8 by omega, show n + 7 + 8 = n + 15 by omega, Nat.add_zero, zero_add,
    show n + 3 - 1 = n + 2 by omega, show n + 3 - 2 = n + 1 by omega, show n + 5 - 1 = n + 4 by omega, show n + 11 - 1 = n + 10 by omega,
    show n + 11 - 2 = n + 9 by omega, show n + 13 - 1 = n + 12 by omega, show n + 1 - 1 = n by omega, show n + 9 - 1 = n + 8 by omega]
  ac_rfl

/-- Two, four and eight rows: a row and those above it by doubling, then those below. -/
theorem doubled2 (E : ℕ → EReal) (p : ℕ) : E p + E (p + 1) = ∑ k ∈ Finset.range 2, E (p + k) := by
  simp only [Finset.sum_range_succ, Finset.sum_range_zero, zero_add, Nat.add_zero]

theorem doubled4 (E : ℕ → EReal) (p : ℕ) (h : 1 ≤ p) (q1 : ℕ → EReal) (e1 : ∀ n, 1 ≤ n → q1 n = E n + E (n - 1)) :
    q1 p + q1 (p + 2) = ∑ k ∈ Finset.range 4, E (p - 1 + k) := by
  obtain ⟨n, rfl⟩ := Nat.exists_eq_add_of_le' h
  simp only [Finset.sum_range_succ, Finset.sum_range_zero]
  rw [e1 _ (by omega), e1 _ (by omega)]
  simp only [Nat.add_sub_cancel, show n + 1 + 2 = n + 3 by omega, show n + 3 - 1 = n + 2 by omega, Nat.add_zero, zero_add]
  ac_rfl

theorem doubled8 (E : ℕ → EReal) (p : ℕ) (h : 3 ≤ p) (q1 q2 : ℕ → EReal) (e1 : ∀ n, 1 ≤ n → q1 n = E n + E (n - 1))
    (e2 : ∀ n, 3 ≤ n → q2 n = q1 n + q1 (n - 2)) : q2 p + q2 (p + 4) = ∑ k ∈ Finset.range 8, E (p - 3 + k) := by
  obtain ⟨n, rfl⟩ := Nat.exists_eq_add_of_le' h
  simp only [Finset.sum_range_succ, Finset.sum_range_zero]
  rw [e2 _ (by omega), e2 _ (by omega), e1 _ (by omega), e1 _ (by omega), e1 _ (by omega), e1 _ (by omega)]
  simp only [Nat.add_sub_cancel, show n + 3 - 1 = n + 2 by omega, show n + 3 - 2 = n + 1 by omega, show n + 1 - 1 = n by omega,
    show n + 3 + 4 = n + 7 by omega, show n + 7 - 1 = n + 6 by omega, show n + 7 - 2 = n + 5 by omega, show n + 5 - 1 = n + 4 by omega,
    Nat.add_zero, zero_add]
  ac_rfl

end Cert.Group

end
-- ==== Proof.Group.Final.lean ====
module

public import proofs.«01_k».proof.Proof.Gen.Kernel8Ideal.Value
public import proofs.«01_k».proof.Proof.Gen.Reference8Ideal.Read
public import proofs.«01_k».proof.Proof.Norm.Block
public import proofs.«01_k».proof.Proof.Attn.Softmax
public import proofs.«01_k».proof.Proof.KernelIdeal.TileAt
public import proofs.«01_k».proof.Proof.Group.Window
public import Idealize.ShloMosaic.Lib.Claim
public import Idealize.ShloMosaic.Lib.IdealHost
public import Idealize.ShloMosaic.Lib.Pointwise

@[expose] public section

set_option maxRecDepth 16384

/-! A group's pooling: each row's window mean less the row, times the group's matrix, scaled and gated. -/

noncomputable section

namespace Cert.Kernel8Ideal.Final

open Idealize.ShloMosaic Idealize.ShloMosaic.TcCoe Idealize.ShloMosaic.Tactic Cert.Kernel8Ideal Cert.Kernel8Ideal.Gen
open Idealize.ShloMosaic.Pipeline (Dat)

/-! ### The reference -/

/-- A column of the group, and its gate. -/
abbrev col (u : FVec Ideal S16384x16384 .f32) (k : Fin 2048) : Fin 16384 → EReal := fun t => u (ix2 t ⟨6144 + k.val, by omega⟩)
abbrev zat (u : FVec Ideal S16384x16384 .f32) (s : Fin 16384) (j : Fin 2048) : EReal := u (ix2 s ⟨14336 + j.val, by omega⟩)

theorem fits : Group.Fits 7 16 := ⟨by decide, by decide, by decide⟩

/-- A row's window mean less the row. -/
def diff (u : FVec Ideal S16384x16384 .f32) (s : Fin 16384) (k : Fin 2048) : EReal :=
  Ideal.div (Group.win 7 16 (col u k) s.val) (Group.cnt 7 16 (BitVec.ofNat 32 s.val)) - col u k s

/-- The group's result. -/
def pooled (u : FVec Ideal S16384x16384 .f32) (w : FVec Ideal S2x4x2048x2048 .f32) (g : FVec Ideal S8192 .f32) (s : Fin 16384) (j : Fin 2048) : EReal :=
  (∑ k : Fin 2048, diff u s k * w (ix4 1 3 k j)) * g (ix1 ⟨6144 + j.val, by omega⟩)
    * (zat u s j * Ideal.div 1 (1 + Ideal.exp (-zat u s j)))

section
open Cert.Reference8Ideal.Read

theorem diff_at (u : FVec Ideal S16384x16384 .f32) (s : Fin 16384) (k : Fin 2048) :
    val_main_v31 (F := Ideal) u (ix2 s k) = diff u s k := by
  have e0 : ∀ t : Fin 16384, val_main_v0 (F := Ideal) u (ix2 t k) = col u k t := fun t => by
    rw [val_main_v0_apply]
    refine congrArg u ?_
    funext a; match a with | 0 => rfl | 1 => rfl
  have e1 : val_main_v25 (F := Ideal) u (ix2 s k) = Group.win 7 16 (col u k) s.val := by
    rw [val_main_v25_apply, ← Group.inside_sum fits]
    refine Finset.sum_congr rfl fun t _ => ?_
    have el : lidx_main_v25 (ix2 s k) t = ix2 s t := by funext a; match a with | 0 => rfl | 1 => rfl
    have er : ridx_main_v25 (ix2 s k) t = ix2 t k := by funext a; match a with | 0 => rfl | 1 => rfl
    rw [el, er, e0]
    refine congrArg (· * _) ?_
    rw [val_main_v24_apply, val_main_v23_apply, val_main_v17_apply, val_main_v22_apply, val_main_v15_apply, val_main_v16_apply, val_main_v20_apply,
      val_main_v21_apply, val_main_v13_apply, val_main_v14_apply, val_main_v18_apply, val_main_v19_apply]
    rfl
  have e2 : val_main_v29 (F := Ideal) (ix2 s k) = Group.cnt 7 16 (BitVec.ofNat 32 s.val) := by
    rw [val_main_v29_apply, val_main_v28_apply, val_main_v27_apply, val_main_v26_apply]
    rfl
  rw [val_main_v31_apply, val_main_v30_apply, e0, e1, e2]
  rfl

theorem ref_at (u : FVec Ideal S16384x16384 .f32) (w : FVec Ideal S2x4x2048x2048 .f32) (g : FVec Ideal S8192 .f32) (s : Fin 16384) (j : Fin 2048) :
    val_main_v41 (F := Ideal) u w g (ix2 s j) = pooled u w g s j := by
  have e1 : val_main_v34 (F := Ideal) u w (ix2 s j) = ∑ k : Fin 2048, diff u s k * w (ix4 1 3 k j) := by
    rw [val_main_v34_apply]
    refine Finset.sum_congr rfl fun k _ => ?_
    have el : lidx_main_v34 (ix2 s j) k = ix2 s k := by funext a; match a with | 0 => rfl | 1 => rfl
    have er : ridx_main_v34 (ix2 s j) k = ix2 k j := by funext a; match a with | 0 => rfl | 1 => rfl
    rw [el, er, diff_at]
    refine congrArg (fun x : EReal => diff u s k * x) ?_
    pointwise [val_main_v33, val_main_v32]
  have e2 : val_main_v37 (F := Ideal) g (ix2 s j) = g (ix1 ⟨6144 + j.val, by omega⟩) := by
    pointwise [val_main_v37, val_main_v36, val_main_v35]
  have e3 : val_main_v1 (F := Ideal) u (ix2 s j) = zat u s j := by
    rw [val_main_v1_apply]
    refine congrArg u ?_
    funext a; match a with | 0 => rfl | 1 => rfl
  have e4 : val_main_v39 (F := Ideal) u (ix2 s j) = zat u s j * Ideal.div 1 (1 + Ideal.exp (-zat u s j)) := by
    rw [← e3]
    show val_main_v1 (F := Ideal) u (ix2 s j) * Ideal.div (Ideal.ofBits .f32 0x3F800000#32) (Ideal.ofBits .f32 0x3F800000#32 + Ideal.exp (-val_main_v1 (F := Ideal) u (ix2 s j))) = _
    rw [Ideal.ofBits_one_f32]
  show val_main_v34 (F := Ideal) u w (ix2 s j) * val_main_v37 (F := Ideal) g (ix2 s j) * val_main_v39 (F := Ideal) u (ix2 s j) = _
  rw [e1, e2, e4]
  rfl

end

/-! ### A chunk -/

/-- A chunk's rows and the halves about it, mixed: what each of the four chunks computes. -/
def mixed (e : FVec Ideal S144x2048 .f32) (b : BitVec 32) (v : FVec Ideal S128x2048 .f32) : FVec Ideal S128x2048 .f32 :=
  have v11 : IVec S128x1 32 := addi (broadcast S128x1 b) (iota .tc S128x1 32 [0] iota_S128x1_d0_w32)
  have v15 : IVec S128x1 32 := maxsi (subi v11 (broadcast S128x1 7#32)) (broadcast S128x1 0#32)
  have v21 : IVec S128x1 32 := minsi (addi (addi v11 (broadcast S128x1 8#32)) (broadcast S128x1 1#32)) (broadcast S128x1 16384#32)
  have v25 : FVec Ideal S128x1 .f32 := divf (broadcast S128x1 (Scalar.ofBits (F := Ideal) .f32 0x3F800000#32)) (sitofp .f32 (subi v21 v15))
  have v27 : FVec Ideal S144x2048 .f32 := addf e (dynamicRotate 0 1#32 none e rotates_S144x2048_d0)
  have v29 : FVec Ideal S144x2048 .f32 := addf v27 (dynamicRotate 0 2#32 none v27 rotates_S144x2048_d0)
  have v31 : FVec Ideal S144x2048 .f32 := addf v29 (dynamicRotate 0 4#32 none v29 rotates_S144x2048_d0)
  subf (mulf (addf (extractStridedSlice S128x2048 ![8, 0] v31 slices_S144x2048_o8_0_S128x2048)
      (extractStridedSlice S128x2048 ![16, 0] v31 slices_S144x2048_o16_0_S128x2048)) (broadcastTo S128x2048 v25 broadcasts_S128x1_S128x2048)) v

abbrev cat (h : FVec Ideal S8x2048 .f32) (v : FVec Ideal S128x2048 .f32) (n : FVec Ideal S8x2048 .f32) : FVec Ideal S144x2048 .f32 :=
  concatenate S144x2048 0 [⟨S8x2048, h⟩, ⟨S128x2048, v⟩, ⟨S8x2048, n⟩] concatenates_S8x2048_S128x2048_S8x2048_S144x2048_d0

theorem rotated (x : FVec Ideal S144x2048 .f32) (k : BitVec 32) (p q : Fin 144) (j : Fin 2048) (h : q.val + k.toNat = p.val) :
    dynamicRotate 0 k none x rotates_S144x2048_d0 (ix2 p j) = x (ix2 q j) := by
  rw [Pointwise.dynamicRotate_apply]
  refine congrArg x ?_
  funext a
  match a with
  | 0 =>
    refine Fin.ext ?_
    show (p.val + 144 - (k.toNat + 0) % 144) % 144 = q.val
    omega
  | 1 => rfl

theorem doubled_at (e : FVec Ideal S144x2048 .f32) (E : ℕ → EReal) (j : Fin 2048) (he : ∀ p : Fin 144, e (ix2 p j) = E p.val)
    (v27 v29 v31 : FVec Ideal S144x2048 .f32) (h27 : v27 = addf e (dynamicRotate 0 1#32 none e rotates_S144x2048_d0))
    (h29 : v29 = addf v27 (dynamicRotate 0 2#32 none v27 rotates_S144x2048_d0))
    (h31 : v31 = addf v29 (dynamicRotate 0 4#32 none v29 rotates_S144x2048_d0)) (r : Fin 128) :
    v31 (ix2 ⟨8 + r.val, by omega⟩ j) + v31 (ix2 ⟨16 + r.val, by omega⟩ j) = ∑ k ∈ Finset.range 16, E (r.val + 1 + k) := by
  have hr := r.isLt
  let q1 : ℕ → EReal := fun n => E n + E (n - 1)
  let q2 : ℕ → EReal := fun n => q1 n + q1 (n - 2)
  let q3 : ℕ → EReal := fun n => q2 n + q2 (n - 4)
  have a1 : ∀ p : Fin 144, 1 ≤ p.val → v27 (ix2 p j) = q1 p.val := fun p hp => by
    rw [h27]
    show e (ix2 p j) + dynamicRotate 0 1#32 none e rotates_S144x2048_d0 (ix2 p j) = _
    rw [rotated e 1#32 p ⟨p.val - 1, by omega⟩ j (by show p.val - 1 + 1 = p.val; omega), he, he]
  have a2 : ∀ p : Fin 144, 3 ≤ p.val → v29 (ix2 p j) = q2 p.val := fun p hp => by
    rw [h29]
    show v27 (ix2 p j) + dynamicRotate 0 2#32 none v27 rotates_S144x2048_d0 (ix2 p j) = _
    rw [rotated v27 2#32 p ⟨p.val - 2, by omega⟩ j (by show p.val - 2 + 2 = p.val; omega), a1 p (by omega), a1 _ (by show 1 ≤ p.val - 2; omega)]
  have a3 : ∀ p : Fin 144, 7 ≤ p.val → v31 (ix2 p j) = q3 p.val := fun p hp => by
    rw [h31]
    show v29 (ix2 p j) + dynamicRotate 0 4#32 none v29 rotates_S144x2048_d0 (ix2 p j) = _
    rw [rotated v29 4#32 p ⟨p.val - 4, by omega⟩ j (by show p.val - 4 + 4 = p.val; omega), a2 p (by omega), a2 _ (by show 3 ≤ p.val - 4; omega)]
  rw [a3 _ (by show 7 ≤ 8 + r.val; omega), a3 _ (by show 7 ≤ 16 + r.val; omega)]
  show q3 (8 + r.val) + q3 (16 + r.val) = _
  rw [show 16 + r.val = 8 + r.val + 8 by omega, Group.doubled E (8 + r.val) (by omega) q1 q2 q3 (fun _ _ => rfl) (fun _ _ => rfl) (fun _ _ => rfl),
    show 8 + r.val - 7 = r.val + 1 by omega]

theorem mixed_at (e : FVec Ideal S144x2048 .f32) (b : BitVec 32) (v : FVec Ideal S128x2048 .f32) (E : ℕ → EReal) (j : Fin 2048)
    (he : ∀ p : Fin 144, e (ix2 p j) = E p.val) (r : Fin 128) (s : Fin 16384) (hs : b + BitVec.ofNat 32 r.val = BitVec.ofNat 32 s.val) :
    mixed e b v (ix2 r j) = Ideal.div (∑ k ∈ Finset.range 16, E (r.val + 1 + k)) (Group.cnt 7 16 (BitVec.ofNat 32 s.val)) - v (ix2 r j) := by
  rw [← Group.mul_recip fits, ← doubled_at e E j he _ _ _ rfl rfl rfl r]
  unfold mixed
  dsimp only
  generalize addf (addf (addf e (dynamicRotate 0 1#32 none e rotates_S144x2048_d0)) (dynamicRotate 0 2#32 none (addf e (dynamicRotate 0 1#32 none e rotates_S144x2048_d0)) rotates_S144x2048_d0)) (dynamicRotate 0 4#32 none (addf (addf e (dynamicRotate 0 1#32 none e rotates_S144x2048_d0)) (dynamicRotate 0 2#32 none (addf e (dynamicRotate 0 1#32 none e rotates_S144x2048_d0)) rotates_S144x2048_d0)) rotates_S144x2048_d0) = y
  have ec : ∀ c : BitVec 32, c = BitVec.ofNat 32 s.val → Ideal.div (Ideal.ofBits .f32 0x3F800000#32)
      (FloatOps.sitofp (F := Ideal) .f32 (IntOp.subi (IntOp.minsi (IntOp.addi (IntOp.addi c 8#32) 1#32) 16384#32) (IntOp.maxsi (IntOp.subi c 7#32) 0#32)))
      = Ideal.div 1 (Group.cnt 7 16 (BitVec.ofNat 32 s.val)) := fun c hc => by
    rw [hc, Ideal.ofBits_one_f32]
    unfold Group.cnt Group.hi Group.lo
    have : IntOp.addi (IntOp.addi (BitVec.ofNat 32 s.val) 8#32) 1#32 = IntOp.addi (IntOp.subi (BitVec.ofNat 32 s.val) 7#32) 16#32 := by
      show BitVec.ofNat 32 s.val + 8#32 + 1#32 = BitVec.ofNat 32 s.val - 7#32 + 16#32
      rw [BitVec.add_assoc, BitVec.sub_eq_add_neg, BitVec.add_assoc]
      rfl
    rw [this]
  rw [← ec _ hs]
  pointwise
  rfl

theorem cat_at (h : FVec Ideal S8x2048 .f32) (v : FVec Ideal S128x2048 .f32) (n : FVec Ideal S8x2048 .f32) (E : ℕ → EReal) (j : Fin 2048)
    (eh : ∀ r : Fin 8, h (ix2 r j) = E r.val) (ev : ∀ r : Fin 128, v (ix2 r j) = E (8 + r.val)) (en : ∀ r : Fin 8, n (ix2 r j) = E (136 + r.val)) (p : Fin 144) :
    cat h v n (ix2 p j) = E p.val := by
  have hp := p.isLt
  by_cases h1 : p.val < 8
  · refine (concatenate_apply_piece 0 _ _ (ix2 p j) 0 (by show 0 < 3; decide) S8x2048 h rfl rfl 0 rfl (ix2 ⟨p.val, h1⟩ j) (fun b hb => ?_) (by show 0 + p.val = p.val; omega)).trans (eh ⟨p.val, h1⟩)
    match b, hb with
    | 0, hb => exact absurd rfl hb
    | 1, _ => rfl
  by_cases h2 : p.val < 136
  · refine (concatenate_apply_piece 0 _ _ (ix2 p j) 1 (by show 1 < 3; decide) S128x2048 v rfl rfl 8 rfl (ix2 ⟨p.val - 8, by omega⟩ j) (fun b hb => ?_) (by show 8 + (p.val - 8) = p.val; omega)).trans
      ((ev ⟨p.val - 8, by omega⟩).trans (congrArg E (by show 8 + (p.val - 8) = p.val; omega)))
    match b, hb with
    | 0, hb => exact absurd rfl hb
    | 1, _ => rfl
  · refine (concatenate_apply_piece 0 _ _ (ix2 p j) 2 (by show 2 < 3; decide) S8x2048 n rfl rfl 136 rfl (ix2 ⟨p.val - 136, by omega⟩ j) (fun b hb => ?_) (by show 136 + (p.val - 136) = p.val; omega)).trans
      ((en ⟨p.val - 136, by omega⟩).trans (congrArg E (by show 136 + (p.val - 136) = p.val; omega)))
    match b, hb with
    | 0, hb => exact absurd rfl hb
    | 1, _ => rfl

theorem first_eq (i : grid0.Coords) (v1 v4 : FVec Ideal S8x2048 .f32) (v5 : FVec Ideal S128x2048 .f32) :
    k0_pay4 (F := Ideal) (k0_pay3 i v1 v4 v5) = mixed (cat (Scalar.select (Scalar.cmpi .sgt (BitVec.ofNat 32 (i 0).val) 0#32) v1 (broadcast S8x2048 (Scalar.ofBits (F := Ideal) .f32 0x00000000#32))) v5 v4)
      (Scalar.addi (Scalar.muli (BitVec.ofNat 32 (i 0).val) 512#32) 0#32) v5 := by
  unfold k0_pay4 k0_pay3
  exact shapeCast_self _ _

theorem second_eq (a : BitVec 32) (v1 v4 : FVec Ideal S8x2048 .f32) (v5 : FVec Ideal S128x2048 .f32) :
    k0_pay6 (F := Ideal) (k0_pay5 a v1 v4 v5) = mixed (cat v1 v5 v4) (Scalar.addi (Scalar.muli a 512#32) 128#32) v5 := by
  unfold k0_pay6 k0_pay5
  exact shapeCast_self _ _

theorem third_eq (a : BitVec 32) (v1 v4 : FVec Ideal S8x2048 .f32) (v5 : FVec Ideal S128x2048 .f32) :
    k0_pay8 (F := Ideal) (k0_pay7 a v1 v4 v5) = mixed (cat v1 v5 v4) (Scalar.addi (Scalar.muli a 512#32) 256#32) v5 := by
  unfold k0_pay8 k0_pay7
  exact shapeCast_self _ _

theorem fourth_eq (a : BitVec 32) (v1 v4 : FVec Ideal S8x2048 .f32) (v5 : FVec Ideal S128x2048 .f32) :
    k0_pay1 (F := Ideal) (k0_pay9 a v1 v4 v5) = mixed (cat v1 v5 (Scalar.select (Scalar.cmpi .slt a 31#32) v4 (broadcast S8x2048 (Scalar.ofBits (F := Ideal) .f32 0x00000000#32))))
      (Scalar.addi (Scalar.muli a 512#32) 384#32) v5 := by
  unfold k0_pay1 k0_pay9
  exact shapeCast_self _ _

theorem last_at (d : FVec Ideal S512x2048 .bf16) (w : FVec Ideal S1x1x2048x2048 .f32) (g : FVec Ideal S1x2048 .f32) (z : FVec Ideal S512x2048 .f32) (i : Fin 512) (j : Fin 2048) :
    k0_pay2 (F := Ideal) d w g z (ix2 i j) = (∑ k : Fin 2048, d (ix2 i k) * w (ix4 0 0 k j)) * g (ix2 0 j)
      * (Ideal.ofBits .f32 0x3F000000#32 * z (ix2 i j) + Ideal.ofBits .f32 0x3F000000#32 * z (ix2 i j) * Ideal.tanh (Ideal.ofBits .f32 0x3F000000#32 * z (ix2 i j))) := by
  pointwise [k0_pay2]

/-! ### A point's blocks -/

section
variable (m : (ℓ : Loc nD τ sig) → Buf (Elt Ideal) ℓ) (c : Dev nD)

abbrev u0 : FVec Ideal S16384x16384 .f32 := m ((c : Thread nD τ).loc main_arg0)
abbrev w0 : FVec Ideal S2x4x2048x2048 .f32 := m ((c : Thread nD τ).loc main_arg1)
abbrev g0 : FVec Ideal S8192 .f32 := m ((c : Thread nD τ).loc main_arg2)

theorem V_g : (V m c main_v0 : FVec Ideal S1x8192 .f32) = shapeCast S1x8192 (g0 m c) shapeCasts_S8192_S1x8192 := by
  simp only [V, hostOps0, StableHlo.after_cons, StableHlo.after_nil]
  after_results_loop
  all_goals rfl

theorem g_at (j : Fin 8192) : (V m c main_v0 : FVec Ideal S1x8192 .f32) (ix2 0 j) = g0 m c (ix1 j) := by
  rw [V_g]; pointwise

theorem idx : ∀ t : Fin cfg0.N, win0_0.index t = ![64 * t.val - 1, 3] ∧ win0_1.index t = ![t.val, 3] ∧ win0_2.index t = ![min (64 * t.val + 64) 2047, 3]
      ∧ win0_3.index t = ![1, 3, 0, 0] ∧ win0_4.index t = ![0, 3] ∧ win0_5.index t = ![t.val, 7]
      ∧ win0_6.index t = ![t.val, 0] ∧ (grid0.coords t 0).val = t.val :=
  (by decide +kernel : ∀ t : Fin grid0.N, win0_0.index t = ![64 * t.val - 1, 3] ∧ win0_1.index t = ![t.val, 3] ∧ win0_2.index t = ![min (64 * t.val + 64) 2047, 3]
      ∧ win0_3.index t = ![1, 3, 0, 0] ∧ win0_4.index t = ![0, 3] ∧ win0_5.index t = ![t.val, 7]
      ∧ win0_6.index t = ![t.val, 0] ∧ (grid0.coords t 0).val = t.val)

variable (t : Fin cfg0.N) (j : Fin 2048)

theorem blk0 (r : Fin 8) (s : Fin 16384) (h : s.val + 8 = 512 * t.val + r.val) :
    (iblk m c 0 t : FVec Ideal S8x2048 .f32) (ix2 r j) = col (u0 m c) j s := by
  unfold col
  have hr := r.isLt
  blk_ext [iblk, V_main_arg0, idx t]

theorem blk1 (r : Fin 512) (s : Fin 16384) (h : s.val = 512 * t.val + r.val) :
    (iblk m c 1 t : FVec Ideal S512x2048 .f32) (ix2 r j) = col (u0 m c) j s := by
  unfold col
  blk_ext [iblk, V_main_arg0, idx t]

theorem blk2 (r : Fin 8) (s : Fin 16384) (h : s.val = 512 * t.val + 512 + r.val) :
    (iblk m c 2 t : FVec Ideal S8x2048 .f32) (ix2 r j) = col (u0 m c) j s := by
  unfold col
  have hr := r.isLt
  have hs := s.isLt
  blk_ext [iblk, V_main_arg0, idx t]

theorem blk3 (k : Fin 2048) : (iblk m c 3 t : FVec Ideal S1x1x2048x2048 .f32) (ix4 0 0 k j) = w0 m c (ix4 1 3 k j) := by
  blk_ext [iblk, V_main_arg1, idx t]

theorem blk4 (q : Fin 8192) (h : q.val = 6144 + j.val) : (iblk m c 4 t : FVec Ideal S1x2048 .f32) (ix2 0 j) = g0 m c (ix1 q) := by
  rw [← g_at]
  blk_ext [iblk, idx t]

theorem blk5 (r : Fin 512) (s : Fin 16384) (h : s.val = 512 * t.val + r.val) :
    (iblk m c 5 t : FVec Ideal S512x2048 .f32) (ix2 r j) = zat (u0 m c) s j := by
  unfold zat
  blk_ext [iblk, V_main_arg0, idx t]

/-- A chunk's rows mixed are its rows' window means less the rows. -/
theorem chunk (o : ℕ) (b : BitVec 32) (hb : b = BitVec.ofNat 32 (512 * t.val + o)) (h : FVec Ideal S8x2048 .f32) (v : FVec Ideal S128x2048 .f32) (n : FVec Ideal S8x2048 .f32)
    (eh : ∀ r : Fin 8, h (ix2 r j) = Group.pad (col (u0 m c) j) (512 * t.val + o + r.val))
    (ev : ∀ r : Fin 128, v (ix2 r j) = Group.pad (col (u0 m c) j) (512 * t.val + o + (8 + r.val)))
    (en : ∀ r : Fin 8, n (ix2 r j) = Group.pad (col (u0 m c) j) (512 * t.val + o + (136 + r.val)))
    (r : Fin 128) (s : Fin 16384) (hs : s.val = 512 * t.val + o + r.val) :
    mixed (cat h v n) b v (ix2 r j) = diff (u0 m c) s j := by
  have he : ∀ p : Fin 144, cat h v n (ix2 p j) = (fun n => Group.pad (col (u0 m c) j) (512 * t.val + o + n)) p.val :=
    cat_at h v n (fun n => Group.pad (col (u0 m c) j) (512 * t.val + o + n)) j eh ev en
  rw [mixed_at (cat h v n) b v (fun n => Group.pad (col (u0 m c) j) (512 * t.val + o + n)) j he r s
    (by rw [hb, hs, BitVec.ofNat_add (512 * t.val + o) r.val])]
  unfold diff Group.win
  refine congrArg₂ (· - ·) (congrArg (Ideal.div · _) (Finset.sum_congr rfl fun k _ => congrArg _ ?_)) ?_
  · show 512 * t.val + o + (r.val + 1 + k) = s.val + 1 + k
    omega
  · rw [ev, Group.pad_row _ _ s (by omega)]

/-- Rows of the tile. -/
theorem inner (o : ℕ) {a : ℕ} (n : Fin 2 → ℕ) (h) (r : Fin a) (ho : o + r.val < 512) (y) (e0 : (y 0).val = r.val) (e1 : (y 1).val = j.val) (q : ℕ) (hq : q = 512 * t.val + 8 + o + r.val) :
    View.ld (Val := Elt Ideal) (e' := .f32) (iblk m c 1 t) (Rect.unit (s := S512x2048) ![o, 0] n h) y = Group.pad (col (u0 m c) j) q := by
  have hN : t.val < 32 := lt_of_lt_of_eq t.isLt N_0
  rw [Group.pad_row _ _ ⟨512 * t.val + o + r.val, by omega⟩ (by show q = 512 * t.val + o + r.val + 8; omega), ← blk1 m c t j ⟨o + r.val, ho⟩ _ (Nat.add_assoc _ _ _)]
  refine View.ld_unit_apply_of _ _ _ _ _ _ fun a => ?_
  match a with
  | 0 => show o + r.val = o + (y 0).val; omega
  | 1 => show j.val = 0 + (y 1).val; omega

/-- The eight rows above the tile, zeros above the first, and the eight below, zeros below the last. -/
theorem above (q : Fin 8) :
    (Scalar.select (Scalar.cmpi .sgt (BitVec.ofNat 32 t.val) 0#32) (iblk m c 0 t : FVec Ideal S8x2048 .f32) (broadcast S8x2048 (Scalar.ofBits (F := Ideal) .f32 0x00000000#32))
      : FVec Ideal S8x2048 .f32) (ix2 q j) = Group.pad (col (u0 m c) j) (512 * t.val + 0 + q.val) := by
  have hN : t.val < 32 := lt_of_lt_of_eq t.isLt N_0
  have hq := q.isLt
  have e : Scalar.cmpi .sgt (BitVec.ofNat 32 t.val) 0#32 = BitVec.ofBool (decide (0 < t.val)) :=
    WordCmp.cmpi_sgt_ofNat (w := 32) (a := t.val) (b := 0) (by show t.val < 2147483648; omega) (by show 0 < 2147483648; omega)
  rw [e]
  by_cases h : 0 < t.val
  · rw [decide_eq_true h]
    show (iblk m c 0 t : FVec Ideal S8x2048 .f32) (ix2 q j) = _
    rw [blk0 m c t j q ⟨512 * t.val + q.val - 8, by omega⟩ (by show 512 * t.val + q.val - 8 + 8 = 512 * t.val + q.val; omega),
      Group.pad_row _ _ ⟨512 * t.val + q.val - 8, by omega⟩ (by show 512 * t.val + 0 + q.val = 512 * t.val + q.val - 8 + 8; omega)]
  · rw [decide_eq_false h, Group.pad_off _ _ (by omega)]
    show Ideal.ofBits .f32 0x00000000#32 = 0
    exact Ideal.ofBits_zero_f32

theorem below (a : BitVec 32) (ha : a = BitVec.ofNat 32 t.val) (q : Fin 8) :
    (Scalar.select (Scalar.cmpi .slt a 31#32) (iblk m c 2 t : FVec Ideal S8x2048 .f32) (broadcast S8x2048 (Scalar.ofBits (F := Ideal) .f32 0x00000000#32))
      : FVec Ideal S8x2048 .f32) (ix2 q j) = Group.pad (col (u0 m c) j) (512 * t.val + 384 + (136 + q.val)) := by
  have hN : t.val < 32 := lt_of_lt_of_eq t.isLt N_0
  have hq := q.isLt
  have e : Scalar.cmpi .slt (BitVec.ofNat 32 t.val) 31#32 = BitVec.ofBool (decide (t.val < 31)) :=
    WordCmp.cmpi_slt_ofNat (w := 32) (a := t.val) (b := 31) (by show t.val < 2147483648; omega) (by show 31 < 2147483648; omega)
  rw [ha, e]
  by_cases h : t.val < 31
  · rw [decide_eq_true h]
    show (iblk m c 2 t : FVec Ideal S8x2048 .f32) (ix2 q j) = _
    rw [blk2 m c t j q ⟨512 * t.val + 512 + q.val, by omega⟩ rfl,
      Group.pad_row _ _ ⟨512 * t.val + 512 + q.val, by omega⟩ (by show 512 * t.val + 384 + (136 + q.val) = 512 * t.val + 512 + q.val + 8; omega)]
  · rw [decide_eq_false h, Group.pad_off _ _ (by omega)]
    show Ideal.ofBits .f32 0x00000000#32 = 0
    exact Ideal.ofBits_zero_f32

set_option maxHeartbeats 1000000 in
/-- What the scratch holds once the four chunks are stored. -/
theorem mixed_rows (i : Fin 512) (s : Fin 16384) (hs : s.val = 512 * t.val + i.val) (hN : t.val < 32) (a : BitVec 32) (ha : a = BitVec.ofNat 32 t.val)
    (hc : (grid0.coords t 0).val = t.val) :
    View.canon (Val := Elt Ideal) (e := .bf16) (s := S512x2048)
      [⟨Rect.unit ![384, 0] ![128, 2048] inb_S512x2048_S128x2048_384_0,
        k0_pay1 (F := Ideal) (k0_pay9 a (View.ld (iblk m c 1 t) (Rect.unit ![376, 0] ![8, 2048] inb_S512x2048_S8x2048_376_0)) (iblk m c 2 t)
          (View.ld (iblk m c 1 t) (Rect.unit ![384, 0] ![128, 2048] inb_S512x2048_S128x2048_384_0)))⟩,
       ⟨Rect.unit ![256, 0] ![128, 2048] inb_S512x2048_S128x2048_256_0,
        k0_pay8 (F := Ideal) (k0_pay7 a (View.ld (iblk m c 1 t) (Rect.unit ![248, 0] ![8, 2048] inb_S512x2048_S8x2048_248_0))
          (View.ld (iblk m c 1 t) (Rect.unit ![384, 0] ![8, 2048] inb_S512x2048_S8x2048_384_0))
          (View.ld (iblk m c 1 t) (Rect.unit ![256, 0] ![128, 2048] inb_S512x2048_S128x2048_256_0)))⟩,
       ⟨Rect.unit ![128, 0] ![128, 2048] inb_S512x2048_S128x2048_128_0,
        k0_pay6 (F := Ideal) (k0_pay5 a (View.ld (iblk m c 1 t) (Rect.unit ![120, 0] ![8, 2048] inb_S512x2048_S8x2048_120_0))
          (View.ld (iblk m c 1 t) (Rect.unit ![256, 0] ![8, 2048] inb_S512x2048_S8x2048_256_0))
          (View.ld (iblk m c 1 t) (Rect.unit ![128, 0] ![128, 2048] inb_S512x2048_S128x2048_128_0)))⟩,
       ⟨Rect.unit ![0, 0] ![128, 2048] inb_S512x2048_S128x2048_0_0,
        k0_pay4 (F := Ideal) (k0_pay3 (grid0.coords t) (iblk m c 0 t) (View.ld (iblk m c 1 t) (Rect.unit ![128, 0] ![8, 2048] inb_S512x2048_S8x2048_128_0))
          (View.ld (iblk m c 1 t) (Rect.unit ![0, 0] ![128, 2048] inb_S512x2048_S128x2048_0_0)))⟩] (ix2 i j) = diff (u0 m c) s j := by
  have word : ∀ o : ℕ, o < 512 → Scalar.addi (Scalar.muli a 512#32) (BitVec.ofNat 32 o) = BitVec.ofNat 32 (512 * t.val + o) := fun o _ => by
    rw [ha]
    show BitVec.ofNat 32 t.val * 512#32 + BitVec.ofNat 32 o = _
    rw [BitVec.ofNat_add, BitVec.ofNat_mul, BitVec.mul_comm]
  canon_tiles z e
  all_goals obtain ⟨r, k, rfl⟩ : ∃ (r : Fin 128) (k : Fin 2048), z = ix2 r k := Norm.pair z
  all_goals
    obtain rfl : j = k := Fin.ext e1
    have hr := r.isLt
  · refine (congrFun (fourth_eq _ _ _ _) _).trans (chunk m c t j 384 _ (word 384 (by omega)) _ _ _ (fun q => ?_) (fun q => ?_) (fun q => ?_) r s (by rw [hs]; exact (congrArg (_ + ·) e0).trans (Nat.add_assoc _ _ _).symm))
    · exact inner m c t j 376 _ _ q (by omega) _ rfl rfl _ (by omega)
    · exact inner m c t j 384 _ _ q (by omega) _ rfl rfl _ (by omega)
    · exact below m c t j a ha q
  · refine (congrFun (third_eq _ _ _ _) _).trans (chunk m c t j 256 _ (word 256 (by omega)) _ _ _ (fun q => ?_) (fun q => ?_) (fun q => ?_) r s (by rw [hs]; exact (congrArg (_ + ·) e0).trans (Nat.add_assoc _ _ _).symm))
    · exact inner m c t j 248 _ _ q (by omega) _ rfl rfl _ (by omega)
    · exact inner m c t j 256 _ _ q (by omega) _ rfl rfl _ (by omega)
    · exact inner m c t j 384 _ _ q (by omega) _ rfl rfl _ (by omega)
  · refine (congrFun (second_eq _ _ _ _) _).trans (chunk m c t j 128 _ (word 128 (by omega)) _ _ _ (fun q => ?_) (fun q => ?_) (fun q => ?_) r s (by rw [hs]; exact (congrArg (_ + ·) e0).trans (Nat.add_assoc _ _ _).symm))
    · exact inner m c t j 120 _ _ q (by omega) _ rfl rfl _ (by omega)
    · exact inner m c t j 128 _ _ q (by omega) _ rfl rfl _ (by omega)
    · exact inner m c t j 256 _ _ q (by omega) _ rfl rfl _ (by omega)
  · refine (congrFun (first_eq _ _ _ _) _).trans (chunk m c t j 0 _ (by rw [hc, ← ha]; exact word 0 (by omega)) _ _ _ (fun q => ?_) (fun q => ?_) (fun q => ?_) r s (by rw [hs]; exact congrArg (_ + ·) e0))
    · rw [hc]
      exact above m c t j q
    · exact inner m c t j 0 _ _ q (by omega) _ rfl rfl _ (by omega)
    · exact inner m c t j 128 _ _ q (by omega) _ rfl rfl _ (by omega)

theorem outs (i : Fin 512) (s : Fin 16384) (hs : s.val = 512 * t.val + i.val) (hz : zat (u0 m c) s j ≠ ⊥) :
    outsAt0 m c t (ix2 i j) = pooled (u0 m c) (w0 m c) (g0 m c) s j := by
  have hN : t.val < 32 := lt_of_lt_of_eq t.isLt N_0
  unfold outsAt0
  frame_out
  refine (last_at _ _ _ _ _ _).trans ?_
  unfold pooled
  rw [blk5 m c t j i s hs, blk4 m c t j ⟨6144 + j.val, by omega⟩ rfl, Cert.KernelIdeal.Tile.ofBits_half, Cert.Attn.gate _ hz]
  generalize hR : (View.whole cc0_scratch0).readCov (Val := Elt Ideal) _ _ = R
  have H : ∀ k : Fin 2048, R (ix2 i k) = diff (u0 m c) s k := fun k => by
    rw [← hR, View.readCov_eq_canon']
    refine Eq.trans ?_ (mixed_rows m c t k i s hs hN _ (congrArg _ (idx t).2.2.2.2.2.2.2) (idx t).2.2.2.2.2.2.2)
    refine congrArg (View.canon (Val := Elt Ideal) _) (funext fun a => ?_)
    match a with
    | 0 => exact Fin.ext (by show 0 + 1 * i.val = i.val; omega)
    | 1 => exact Fin.ext (by show 0 + 1 * k.val = k.val; omega)
  have S : (∑ k : Fin 2048, HMul.hMul (α := EReal) (β := EReal) (γ := EReal) (R (ix2 i k)) (iblk m c 3 t (ix4 0 0 k j))) = ∑ k : Fin 2048, diff (u0 m c) s k * w0 m c (ix4 1 3 k j) :=
    Finset.sum_congr rfl fun k _ => congrArg₂ (α := EReal) (β := EReal) (fun x y => x * y) (H k) (blk3 m c t j k)
  exact congrArg (fun q : EReal => q * g0 m c (ix1 ⟨6144 + j.val, by omega⟩) * (zat (u0 m c) s j * Ideal.div 1 (1 + Ideal.exp (-zat (u0 m c) s j)))) S

variable (hp : ∀ s j, zat (u0 m c) s j ≠ ⊥)
include hp

theorem final6 : (dats m 0 c).arrAt 6 cfg0.N = Cert.Reference8Ideal.Read.val_main_v41 (F := Ideal) (u0 m c) (w0 m c) (g0 m c) := by
  refine (dats m 0 c).arrAt_eq_of_covers 6 _ (by decide +kernel) fun t _ y => ?_
  blk_simp
  rw [after0_6]
  have hN : t.val < 32 := lt_of_lt_of_eq t.isLt N_0
  obtain ⟨i, j, rfl⟩ : ∃ (i : Fin 512) (j : Fin 2048), y = ix2 i j := Norm.pair y
  have e : (win0_6.blk t).view.emb (ix2 i j) = ix2 (⟨512 * t.val + i.val, by omega⟩ : Fin 16384) j := by
    blk_ext [idx t]
  exact (outs m c t j i _ rfl (hp _ _)).trans ((ref_at _ _ _ _ _).symm.trans (congrArg _ e.symm))

end

end Cert.Kernel8Ideal.Final

end
-- ==== Proof.Group.Bridge.lean ====
module

public import proofs.«01_k».proof.Defs
public import proofs.«01_k».proof.Proof.Bridge
public import proofs.«01_k».proof.Proof.Group.Final
public import Idealize.ShloMosaic.Lib.ReduceAll

@[expose] public section

set_option maxRecDepth 16384

/-! The last group's pooling: the two programs over the reals, the same array. -/

noncomputable section

namespace Cert.Kernel8Ideal

open Idealize.ShloMosaic Idealize.ShloMosaic.TcCoe Idealize.SL.Sem Cert.Bridge Cert.Attn

instance shapes : Cert.Pre_finite_pool3.Facts where
  slices_S16384x16384_S16384x2048_0_14336 := by decide
  bcast_S_S16384x2048 := by decide
  reducesTo_S16384x2048_S_d0_1 := by decide
  h_S_ := by decide

instance : Subsingleton Cert.Pre_finite_pool3.S_.Idx := ⟨fun a b => funext fun i => i.elim0⟩

theorem proper (u w g) (h : Cert.Pre_finite_pool3.fn (F := Ideal) u w g = fun _ => 1#1) (s : Fin 16384) (j : Fin 2048) : Final.zat u s j ≠ ⊥ := by
  have h0 := congrFun h (fun i => i.elim0)
  have e := Host.reduce_andi_all _ _ _ _ _ h0 (ix2 s j)
  have e1 : extractStridedSlice Cert.Pre_finite_pool3.S16384x2048 ![0, 14336] u Cert.Pre_finite_pool3.Facts.slices_S16384x16384_S16384x2048_0_14336 (ix2 s j)
      = Final.zat u s j := by
    unfold Final.zat
    pointwise
  have e : BitVec.ofBool (decide (Ideal.ofBits .f32 0xFF800000#32 < Final.zat u s j)) = 1#1 := by
    rw [← e1]; exact e
  rw [ofBits_bot] at e
  exact (holds e).ne'

theorem algebraic : Cert.algebraic_Kernel8Ideal_Reference8Ideal_pre_finite_pool3 := by
  intro m ρ m' ρ' hpre hagree
  refine ⟨_, Cert.Kernel8Ideal.Value.run_blocks m ρ, ?_⟩
  refine (θ_run _ _ _).mono (fun _ h c => ⟨(h c).1.trans ?_, (h c).2⟩) (Cert.Reference8Ideal.Value.run m' ρ')
  obtain ⟨e0, e1, e2⟩ := hagree c
  rw [Cert.Reference8Ideal.Read.val_main_v41_eq, Final.final6 m c (proper _ _ _ (hpre c)), e0, e1, e2]

end Cert.Kernel8Ideal

end
-- ==== Proof.Group0.Final.lean ====
module

public import proofs.«01_k».proof.Proof.Gen.Kernel11Ideal.Value
public import proofs.«01_k».proof.Proof.Gen.Reference11Ideal.Read
public import proofs.«01_k».proof.Proof.Norm.Block
public import proofs.«01_k».proof.Proof.Attn.Softmax
public import proofs.«01_k».proof.Proof.KernelIdeal.TileAt
public import proofs.«01_k».proof.Proof.Group.Window
public import Idealize.ShloMosaic.Lib.Claim
public import Idealize.ShloMosaic.Lib.IdealHost
public import Idealize.ShloMosaic.Lib.Pointwise

@[expose] public section

set_option maxRecDepth 16384

/-! A group's pooling: each row's window mean less the row, times the group's matrix, scaled and gated. -/

noncomputable section

namespace Cert.Kernel11Ideal.Final

open Idealize.ShloMosaic Idealize.ShloMosaic.TcCoe Idealize.ShloMosaic.Tactic Cert.Kernel11Ideal Cert.Kernel11Ideal.Gen
open Idealize.ShloMosaic.Pipeline (Dat)

/-! ### The reference -/

/-- A column of the group, and its gate. -/
abbrev col (u : FVec Ideal S16384x16384 .f32) (k : Fin 2048) : Fin 16384 → EReal := fun t => u (ix2 t ⟨k.val, by omega⟩)
abbrev zat (u : FVec Ideal S16384x16384 .f32) (s : Fin 16384) (j : Fin 2048) : EReal := u (ix2 s ⟨8192 + j.val, by omega⟩)

theorem fits : Group.Fits 0 2 := ⟨by decide, by decide, by decide⟩

/-- A row's window mean less the row. -/
def diff (u : FVec Ideal S16384x16384 .f32) (s : Fin 16384) (k : Fin 2048) : EReal :=
  Ideal.div (Group.win 0 2 (col u k) s.val) (Group.cnt 0 2 (BitVec.ofNat 32 s.val)) - col u k s

/-- The group's result. -/
def pooled (u : FVec Ideal S16384x16384 .f32) (w : FVec Ideal S2x4x2048x2048 .f32) (g : FVec Ideal S8192 .f32) (s : Fin 16384) (j : Fin 2048) : EReal :=
  (∑ k : Fin 2048, diff u s k * w (ix4 1 0 k j)) * g (ix1 ⟨j.val, by omega⟩)
    * (zat u s j * Ideal.div 1 (1 + Ideal.exp (-zat u s j)))

section
open Cert.Reference11Ideal.Read

theorem diff_at (u : FVec Ideal S16384x16384 .f32) (s : Fin 16384) (k : Fin 2048) :
    val_main_v31 (F := Ideal) u (ix2 s k) = diff u s k := by
  have e0 : ∀ t : Fin 16384, val_main_v0 (F := Ideal) u (ix2 t k) = col u k t := fun t => by
    rw [val_main_v0_apply]
    refine congrArg u ?_
    funext a; match a with | 0 => rfl | 1 => rfl
  have e1 : val_main_v25 (F := Ideal) u (ix2 s k) = Group.win 0 2 (col u k) s.val := by
    rw [val_main_v25_apply, ← Group.inside_sum fits]
    refine Finset.sum_congr rfl fun t _ => ?_
    have el : lidx_main_v25 (ix2 s k) t = ix2 s t := by funext a; match a with | 0 => rfl | 1 => rfl
    have er : ridx_main_v25 (ix2 s k) t = ix2 t k := by funext a; match a with | 0 => rfl | 1 => rfl
    rw [el, er, e0]
    refine congrArg (· * _) ?_
    rw [val_main_v24_apply, val_main_v23_apply, val_main_v17_apply, val_main_v22_apply, val_main_v15_apply, val_main_v16_apply, val_main_v20_apply,
      val_main_v21_apply, val_main_v13_apply, val_main_v14_apply, val_main_v18_apply, val_main_v19_apply]
    rfl
  have e2 : val_main_v29 (F := Ideal) (ix2 s k) = Group.cnt 0 2 (BitVec.ofNat 32 s.val) := by
    rw [val_main_v29_apply, val_main_v28_apply, val_main_v27_apply, val_main_v26_apply]
    rfl
  rw [val_main_v31_apply, val_main_v30_apply, e0, e1, e2]
  rfl

theorem ref_at (u : FVec Ideal S16384x16384 .f32) (w : FVec Ideal S2x4x2048x2048 .f32) (g : FVec Ideal S8192 .f32) (s : Fin 16384) (j : Fin 2048) :
    val_main_v41 (F := Ideal) u w g (ix2 s j) = pooled u w g s j := by
  have e1 : val_main_v34 (F := Ideal) u w (ix2 s j) = ∑ k : Fin 2048, diff u s k * w (ix4 1 0 k j) := by
    rw [val_main_v34_apply]
    refine Finset.sum_congr rfl fun k _ => ?_
    have el : lidx_main_v34 (ix2 s j) k = ix2 s k := by funext a; match a with | 0 => rfl | 1 => rfl
    have er : ridx_main_v34 (ix2 s j) k = ix2 k j := by funext a; match a with | 0 => rfl | 1 => rfl
    rw [el, er, diff_at]
    refine congrArg (fun x : EReal => diff u s k * x) ?_
    pointwise [val_main_v33, val_main_v32]
  have e2 : val_main_v37 (F := Ideal) g (ix2 s j) = g (ix1 ⟨j.val, by omega⟩) := by
    pointwise [val_main_v37, val_main_v36, val_main_v35]
  have e3 : val_main_v1 (F := Ideal) u (ix2 s j) = zat u s j := by
    rw [val_main_v1_apply]
    refine congrArg u ?_
    funext a; match a with | 0 => rfl | 1 => rfl
  have e4 : val_main_v39 (F := Ideal) u (ix2 s j) = zat u s j * Ideal.div 1 (1 + Ideal.exp (-zat u s j)) := by
    rw [← e3]
    show val_main_v1 (F := Ideal) u (ix2 s j) * Ideal.div (Ideal.ofBits .f32 0x3F800000#32) (Ideal.ofBits .f32 0x3F800000#32 + Ideal.exp (-val_main_v1 (F := Ideal) u (ix2 s j))) = _
    rw [Ideal.ofBits_one_f32]
  show val_main_v34 (F := Ideal) u w (ix2 s j) * val_main_v37 (F := Ideal) g (ix2 s j) * val_main_v39 (F := Ideal) u (ix2 s j) = _
  rw [e1, e2, e4]
  rfl

end

/-! ### A chunk -/

/-- A chunk's rows and the halves about it, mixed: what each of the four chunks computes. -/
def mixed (e : FVec Ideal S144x2048 .f32) (b : BitVec 32) (v : FVec Ideal S128x2048 .f32) : FVec Ideal S128x2048 .f32 :=
  have v11 : IVec S128x1 32 := addi (broadcast S128x1 b) (iota .tc S128x1 32 [0] iota_S128x1_d0_w32)
  have v15 : IVec S128x1 32 := maxsi (subi v11 (broadcast S128x1 0#32)) (broadcast S128x1 0#32)
  have v21 : IVec S128x1 32 := minsi (addi (addi v11 (broadcast S128x1 1#32)) (broadcast S128x1 1#32)) (broadcast S128x1 16384#32)
  have v25 : FVec Ideal S128x1 .f32 := divf (broadcast S128x1 (Scalar.ofBits (F := Ideal) .f32 0x3F800000#32)) (sitofp .f32 (subi v21 v15))
  have v27 : FVec Ideal S144x2048 .f32 := addf e (dynamicRotate 0 143#32 none e rotates_S144x2048_d0)
  subf (mulf (extractStridedSlice S128x2048 ![8, 0] v27 slices_S144x2048_o8_0_S128x2048) (broadcastTo S128x2048 v25 broadcasts_S128x1_S128x2048)) v

abbrev cat (h : FVec Ideal S8x2048 .f32) (v : FVec Ideal S128x2048 .f32) (n : FVec Ideal S8x2048 .f32) : FVec Ideal S144x2048 .f32 :=
  concatenate S144x2048 0 [⟨S8x2048, h⟩, ⟨S128x2048, v⟩, ⟨S8x2048, n⟩] concatenates_S8x2048_S128x2048_S8x2048_S144x2048_d0

theorem rotated (x : FVec Ideal S144x2048 .f32) (k : BitVec 32) (p q : Fin 144) (j : Fin 2048) (h : q.val + k.toNat = p.val) :
    dynamicRotate 0 k none x rotates_S144x2048_d0 (ix2 p j) = x (ix2 q j) := by
  rw [Pointwise.dynamicRotate_apply]
  refine congrArg x ?_
  funext a
  match a with
  | 0 =>
    refine Fin.ext ?_
    show (p.val + 144 - (k.toNat + 0) % 144) % 144 = q.val
    omega
  | 1 => rfl

theorem ahead (x : FVec Ideal S144x2048 .f32) (k : BitVec 32) (p q : Fin 144) (j : Fin 2048) (hk : k.toNat < 144) (h : q.val + k.toNat = p.val + 144) :
    dynamicRotate 0 k none x rotates_S144x2048_d0 (ix2 p j) = x (ix2 q j) := by
  rw [Pointwise.dynamicRotate_apply]
  refine congrArg x ?_
  funext a
  match a with
  | 0 =>
    refine Fin.ext ?_
    have hp := p.isLt
    have hq := q.isLt
    show (p.val + 144 - (k.toNat + 0) % 144) % 144 = q.val
    omega
  | 1 => rfl

theorem doubled_at (e : FVec Ideal S144x2048 .f32) (E : ℕ → EReal) (j : Fin 2048) (he : ∀ p : Fin 144, e (ix2 p j) = E p.val)
    (v27 : FVec Ideal S144x2048 .f32) (h27 : v27 = addf e (dynamicRotate 0 143#32 none e rotates_S144x2048_d0)) (r : Fin 128) :
    v27 (ix2 ⟨8 + r.val, by omega⟩ j) = ∑ k ∈ Finset.range 2, E (r.val + 8 + k) := by
  have hr := r.isLt
  rw [h27]
  show e (ix2 ⟨8 + r.val, by omega⟩ j) + dynamicRotate 0 143#32 none e rotates_S144x2048_d0 (ix2 ⟨8 + r.val, by omega⟩ j) = _
  rw [ahead e 143#32 _ ⟨8 + r.val + 1, by omega⟩ j (by decide) (by show 8 + r.val + 1 + 143 = 8 + r.val + 144; omega), he, he]
  show E (8 + r.val) + E (8 + r.val + 1) = _
  rw [Group.doubled2, show 8 + r.val = r.val + 8 by omega]

theorem mixed_at (e : FVec Ideal S144x2048 .f32) (b : BitVec 32) (v : FVec Ideal S128x2048 .f32) (E : ℕ → EReal) (j : Fin 2048)
    (he : ∀ p : Fin 144, e (ix2 p j) = E p.val) (r : Fin 128) (s : Fin 16384) (hs : b + BitVec.ofNat 32 r.val = BitVec.ofNat 32 s.val) :
    mixed e b v (ix2 r j) = Ideal.div (∑ k ∈ Finset.range 2, E (r.val + 8 + k)) (Group.cnt 0 2 (BitVec.ofNat 32 s.val)) - v (ix2 r j) := by
  rw [← Group.mul_recip fits, ← doubled_at e E j he _ rfl r]
  unfold mixed
  dsimp only
  generalize addf e (dynamicRotate 0 143#32 none e rotates_S144x2048_d0) = y
  have ec : ∀ c : BitVec 32, c = BitVec.ofNat 32 s.val → Ideal.div (Ideal.ofBits .f32 0x3F800000#32)
      (FloatOps.sitofp (F := Ideal) .f32 (IntOp.subi (IntOp.minsi (IntOp.addi (IntOp.addi c 1#32) 1#32) 16384#32) (IntOp.maxsi (IntOp.subi c 0#32) 0#32)))
      = Ideal.div 1 (Group.cnt 0 2 (BitVec.ofNat 32 s.val)) := fun c hc => by
    rw [hc, Ideal.ofBits_one_f32]
    unfold Group.cnt Group.hi Group.lo
    have : IntOp.addi (IntOp.addi (BitVec.ofNat 32 s.val) 1#32) 1#32 = IntOp.addi (IntOp.subi (BitVec.ofNat 32 s.val) 0#32) 2#32 := by
      show BitVec.ofNat 32 s.val + 1#32 + 1#32 = BitVec.ofNat 32 s.val - 0#32 + 2#32
      rw [BitVec.add_assoc, BitVec.sub_eq_add_neg, BitVec.add_assoc]
      rfl
    rw [this]
  rw [← ec _ hs]
  pointwise
  rfl

theorem cat_at (h : FVec Ideal S8x2048 .f32) (v : FVec Ideal S128x2048 .f32) (n : FVec Ideal S8x2048 .f32) (E : ℕ → EReal) (j : Fin 2048)
    (eh : ∀ r : Fin 8, h (ix2 r j) = E r.val) (ev : ∀ r : Fin 128, v (ix2 r j) = E (8 + r.val)) (en : ∀ r : Fin 8, n (ix2 r j) = E (136 + r.val)) (p : Fin 144) :
    cat h v n (ix2 p j) = E p.val := by
  have hp := p.isLt
  by_cases h1 : p.val < 8
  · refine (concatenate_apply_piece 0 _ _ (ix2 p j) 0 (by show 0 < 3; decide) S8x2048 h rfl rfl 0 rfl (ix2 ⟨p.val, h1⟩ j) (fun b hb => ?_) (by show 0 + p.val = p.val; omega)).trans (eh ⟨p.val, h1⟩)
    match b, hb with
    | 0, hb => exact absurd rfl hb
    | 1, _ => rfl
  by_cases h2 : p.val < 136
  · refine (concatenate_apply_piece 0 _ _ (ix2 p j) 1 (by show 1 < 3; decide) S128x2048 v rfl rfl 8 rfl (ix2 ⟨p.val - 8, by omega⟩ j) (fun b hb => ?_) (by show 8 + (p.val - 8) = p.val; omega)).trans
      ((ev ⟨p.val - 8, by omega⟩).trans (congrArg E (by show 8 + (p.val - 8) = p.val; omega)))
    match b, hb with
    | 0, hb => exact absurd rfl hb
    | 1, _ => rfl
  · refine (concatenate_apply_piece 0 _ _ (ix2 p j) 2 (by show 2 < 3; decide) S8x2048 n rfl rfl 136 rfl (ix2 ⟨p.val - 136, by omega⟩ j) (fun b hb => ?_) (by show 136 + (p.val - 136) = p.val; omega)).trans
      ((en ⟨p.val - 136, by omega⟩).trans (congrArg E (by show 136 + (p.val - 136) = p.val; omega)))
    match b, hb with
    | 0, hb => exact absurd rfl hb
    | 1, _ => rfl

theorem first_eq (i : grid0.Coords) (v1 v4 : FVec Ideal S8x2048 .f32) (v5 : FVec Ideal S128x2048 .f32) :
    k0_pay2 (F := Ideal) i v1 v4 v5 = mixed (cat (Scalar.select (Scalar.cmpi .sgt (BitVec.ofNat 32 (i 0).val) 0#32) v1 (broadcast S8x2048 (Scalar.ofBits (F := Ideal) .f32 0x00000000#32))) v5 v4)
      (Scalar.addi (Scalar.muli (BitVec.ofNat 32 (i 0).val) 512#32) 0#32) v5 := by
  unfold k0_pay2
  exact shapeCast_self _ _

theorem second_eq (a : BitVec 32) (v1 v4 : FVec Ideal S8x2048 .f32) (v5 : FVec Ideal S128x2048 .f32) :
    k0_pay3 (F := Ideal) a v1 v4 v5 = mixed (cat v1 v5 v4)
      (Scalar.addi (Scalar.muli a 512#32) 128#32) v5 := by
  unfold k0_pay3
  exact shapeCast_self _ _

theorem third_eq (a : BitVec 32) (v1 v4 : FVec Ideal S8x2048 .f32) (v5 : FVec Ideal S128x2048 .f32) :
    k0_pay5 (F := Ideal) v5 (k0_pay4 v1 v4 v5) (Scalar.muli a 512#32) = mixed (cat v1 v5 v4)
      (Scalar.addi (Scalar.muli a 512#32) 256#32) v5 := by
  unfold k0_pay5 k0_pay4
  exact shapeCast_self _ _

theorem fourth_eq (a : BitVec 32) (v1 v4 : FVec Ideal S8x2048 .f32) (v5 : FVec Ideal S128x2048 .f32) :
    k0_pay8 (F := Ideal) v5 (k0_pay6 a v1 v4 v5) (iota .tc S128x1 32 [0] iota_S128x1_d0_w32) (k0_pay7 a) = mixed (cat v1 v5 (Scalar.select (Scalar.cmpi .slt a 31#32) v4 (broadcast S8x2048 (Scalar.ofBits (F := Ideal) .f32 0x00000000#32))))
      (Scalar.addi (Scalar.muli a 512#32) 384#32) v5 := by
  unfold k0_pay8 k0_pay6 k0_pay7
  exact shapeCast_self _ _

theorem last_at (d : FVec Ideal S512x2048 .bf16) (w : FVec Ideal S1x1x2048x2048 .f32) (g : FVec Ideal S1x2048 .f32) (z : FVec Ideal S512x2048 .f32) (i : Fin 512) (j : Fin 2048) :
    k0_pay1 (F := Ideal) (k0_pay9 d w g) (k0_pay10 z) (k0_pay11 z) (ix2 i j) = (∑ k : Fin 2048, d (ix2 i k) * w (ix4 0 0 k j)) * g (ix2 0 j)
      * (Ideal.ofBits .f32 0x3F000000#32 * z (ix2 i j) + Ideal.ofBits .f32 0x3F000000#32 * z (ix2 i j) * Ideal.tanh (Ideal.ofBits .f32 0x3F000000#32 * z (ix2 i j))) := by
  pointwise [k0_pay1, k0_pay9, k0_pay10, k0_pay11]

/-! ### A point's blocks -/

section
variable (m : (ℓ : Loc nD τ sig) → Buf (Elt Ideal) ℓ) (c : Dev nD)

abbrev u0 : FVec Ideal S16384x16384 .f32 := m ((c : Thread nD τ).loc main_arg0)
abbrev w0 : FVec Ideal S2x4x2048x2048 .f32 := m ((c : Thread nD τ).loc main_arg1)
abbrev g0 : FVec Ideal S8192 .f32 := m ((c : Thread nD τ).loc main_arg2)

theorem V_g : (V m c main_v0 : FVec Ideal S1x8192 .f32) = shapeCast S1x8192 (g0 m c) shapeCasts_S8192_S1x8192 := by
  simp only [V, hostOps0, StableHlo.after_cons, StableHlo.after_nil]
  after_results_loop
  all_goals rfl

theorem g_at (j : Fin 8192) : (V m c main_v0 : FVec Ideal S1x8192 .f32) (ix2 0 j) = g0 m c (ix1 j) := by
  rw [V_g]; pointwise

theorem idx : ∀ t : Fin cfg0.N, win0_0.index t = ![64 * t.val - 1, 0] ∧ win0_1.index t = ![t.val, 0] ∧ win0_2.index t = ![min (64 * t.val + 64) 2047, 0]
      ∧ win0_3.index t = ![1, 0, 0, 0] ∧ win0_4.index t = ![0, 0] ∧ win0_5.index t = ![t.val, 4]
      ∧ win0_6.index t = ![t.val, 0] ∧ (grid0.coords t 0).val = t.val :=
  (by decide +kernel : ∀ t : Fin grid0.N, win0_0.index t = ![64 * t.val - 1, 0] ∧ win0_1.index t = ![t.val, 0] ∧ win0_2.index t = ![min (64 * t.val + 64) 2047, 0]
      ∧ win0_3.index t = ![1, 0, 0, 0] ∧ win0_4.index t = ![0, 0] ∧ win0_5.index t = ![t.val, 4]
      ∧ win0_6.index t = ![t.val, 0] ∧ (grid0.coords t 0).val = t.val)

variable (t : Fin cfg0.N) (j : Fin 2048)

theorem blk0 (r : Fin 8) (s : Fin 16384) (h : s.val + 8 = 512 * t.val + r.val) :
    (iblk m c 0 t : FVec Ideal S8x2048 .f32) (ix2 r j) = col (u0 m c) j s := by
  unfold col
  have hr := r.isLt
  blk_ext [iblk, V_main_arg0, idx t]

theorem blk1 (r : Fin 512) (s : Fin 16384) (h : s.val = 512 * t.val + r.val) :
    (iblk m c 1 t : FVec Ideal S512x2048 .f32) (ix2 r j) = col (u0 m c) j s := by
  unfold col
  blk_ext [iblk, V_main_arg0, idx t]

theorem blk2 (r : Fin 8) (s : Fin 16384) (h : s.val = 512 * t.val + 512 + r.val) :
    (iblk m c 2 t : FVec Ideal S8x2048 .f32) (ix2 r j) = col (u0 m c) j s := by
  unfold col
  have hr := r.isLt
  have hs := s.isLt
  blk_ext [iblk, V_main_arg0, idx t]

theorem blk3 (k : Fin 2048) : (iblk m c 3 t : FVec Ideal S1x1x2048x2048 .f32) (ix4 0 0 k j) = w0 m c (ix4 1 0 k j) := by
  blk_ext [iblk, V_main_arg1, idx t]

theorem blk4 (q : Fin 8192) (h : q.val = j.val) : (iblk m c 4 t : FVec Ideal S1x2048 .f32) (ix2 0 j) = g0 m c (ix1 q) := by
  rw [← g_at]
  blk_ext [iblk, idx t]

theorem blk5 (r : Fin 512) (s : Fin 16384) (h : s.val = 512 * t.val + r.val) :
    (iblk m c 5 t : FVec Ideal S512x2048 .f32) (ix2 r j) = zat (u0 m c) s j := by
  unfold zat
  blk_ext [iblk, V_main_arg0, idx t]

/-- A chunk's rows mixed are its rows' window means less the rows. -/
theorem chunk (o : ℕ) (b : BitVec 32) (hb : b = BitVec.ofNat 32 (512 * t.val + o)) (h : FVec Ideal S8x2048 .f32) (v : FVec Ideal S128x2048 .f32) (n : FVec Ideal S8x2048 .f32)
    (eh : ∀ r : Fin 8, h (ix2 r j) = Group.pad (col (u0 m c) j) (512 * t.val + o + r.val))
    (ev : ∀ r : Fin 128, v (ix2 r j) = Group.pad (col (u0 m c) j) (512 * t.val + o + (8 + r.val)))
    (en : ∀ r : Fin 8, n (ix2 r j) = Group.pad (col (u0 m c) j) (512 * t.val + o + (136 + r.val)))
    (r : Fin 128) (s : Fin 16384) (hs : s.val = 512 * t.val + o + r.val) :
    mixed (cat h v n) b v (ix2 r j) = diff (u0 m c) s j := by
  have he : ∀ p : Fin 144, cat h v n (ix2 p j) = (fun n => Group.pad (col (u0 m c) j) (512 * t.val + o + n)) p.val :=
    cat_at h v n (fun n => Group.pad (col (u0 m c) j) (512 * t.val + o + n)) j eh ev en
  rw [mixed_at (cat h v n) b v (fun n => Group.pad (col (u0 m c) j) (512 * t.val + o + n)) j he r s
    (by rw [hb, hs, BitVec.ofNat_add (512 * t.val + o) r.val])]
  unfold diff Group.win
  refine congrArg₂ (· - ·) (congrArg (Ideal.div · _) (Finset.sum_congr rfl fun k _ => congrArg _ ?_)) ?_
  · show 512 * t.val + o + (r.val + 8 + k) = s.val + 8 + k
    omega
  · rw [ev, Group.pad_row _ _ s (by omega)]

/-- Rows of the tile. -/
theorem inner (o : ℕ) {a : ℕ} (n : Fin 2 → ℕ) (h) (r : Fin a) (ho : o + r.val < 512) (y) (e0 : (y 0).val = r.val) (e1 : (y 1).val = j.val) (q : ℕ) (hq : q = 512 * t.val + 8 + o + r.val) :
    View.ld (Val := Elt Ideal) (e' := .f32) (iblk m c 1 t) (Rect.unit (s := S512x2048) ![o, 0] n h) y = Group.pad (col (u0 m c) j) q := by
  have hN : t.val < 32 := lt_of_lt_of_eq t.isLt N_0
  rw [Group.pad_row _ _ ⟨512 * t.val + o + r.val, by omega⟩ (by show q = 512 * t.val + o + r.val + 8; omega), ← blk1 m c t j ⟨o + r.val, ho⟩ _ (Nat.add_assoc _ _ _)]
  refine View.ld_unit_apply_of _ _ _ _ _ _ fun a => ?_
  match a with
  | 0 => show o + r.val = o + (y 0).val; omega
  | 1 => show j.val = 0 + (y 1).val; omega

/-- The eight rows above the tile, zeros above the first, and the eight below, zeros below the last. -/
theorem above (q : Fin 8) :
    (Scalar.select (Scalar.cmpi .sgt (BitVec.ofNat 32 t.val) 0#32) (iblk m c 0 t : FVec Ideal S8x2048 .f32) (broadcast S8x2048 (Scalar.ofBits (F := Ideal) .f32 0x00000000#32))
      : FVec Ideal S8x2048 .f32) (ix2 q j) = Group.pad (col (u0 m c) j) (512 * t.val + 0 + q.val) := by
  have hN : t.val < 32 := lt_of_lt_of_eq t.isLt N_0
  have hq := q.isLt
  have e : Scalar.cmpi .sgt (BitVec.ofNat 32 t.val) 0#32 = BitVec.ofBool (decide (0 < t.val)) :=
    WordCmp.cmpi_sgt_ofNat (w := 32) (a := t.val) (b := 0) (by show t.val < 2147483648; omega) (by show 0 < 2147483648; omega)
  rw [e]
  by_cases h : 0 < t.val
  · rw [decide_eq_true h]
    show (iblk m c 0 t : FVec Ideal S8x2048 .f32) (ix2 q j) = _
    rw [blk0 m c t j q ⟨512 * t.val + q.val - 8, by omega⟩ (by show 512 * t.val + q.val - 8 + 8 = 512 * t.val + q.val; omega),
      Group.pad_row _ _ ⟨512 * t.val + q.val - 8, by omega⟩ (by show 512 * t.val + 0 + q.val = 512 * t.val + q.val - 8 + 8; omega)]
  · rw [decide_eq_false h, Group.pad_off _ _ (by omega)]
    show Ideal.ofBits .f32 0x00000000#32 = 0
    exact Ideal.ofBits_zero_f32

theorem below (a : BitVec 32) (ha : a = BitVec.ofNat 32 t.val) (q : Fin 8) :
    (Scalar.select (Scalar.cmpi .slt a 31#32) (iblk m c 2 t : FVec Ideal S8x2048 .f32) (broadcast S8x2048 (Scalar.ofBits (F := Ideal) .f32 0x00000000#32))
      : FVec Ideal S8x2048 .f32) (ix2 q j) = Group.pad (col (u0 m c) j) (512 * t.val + 384 + (136 + q.val)) := by
  have hN : t.val < 32 := lt_of_lt_of_eq t.isLt N_0
  have hq := q.isLt
  have e : Scalar.cmpi .slt (BitVec.ofNat 32 t.val) 31#32 = BitVec.ofBool (decide (t.val < 31)) :=
    WordCmp.cmpi_slt_ofNat (w := 32) (a := t.val) (b := 31) (by show t.val < 2147483648; omega) (by show 31 < 2147483648; omega)
  rw [ha, e]
  by_cases h : t.val < 31
  · rw [decide_eq_true h]
    show (iblk m c 2 t : FVec Ideal S8x2048 .f32) (ix2 q j) = _
    rw [blk2 m c t j q ⟨512 * t.val + 512 + q.val, by omega⟩ rfl,
      Group.pad_row _ _ ⟨512 * t.val + 512 + q.val, by omega⟩ (by show 512 * t.val + 384 + (136 + q.val) = 512 * t.val + 512 + q.val + 8; omega)]
  · rw [decide_eq_false h, Group.pad_off _ _ (by omega)]
    show Ideal.ofBits .f32 0x00000000#32 = 0
    exact Ideal.ofBits_zero_f32

/-- What the scratch holds once the four chunks are stored. -/
theorem mixed_rows (i : Fin 512) (s : Fin 16384) (hs : s.val = 512 * t.val + i.val) (hN : t.val < 32) (a : BitVec 32) (ha : a = BitVec.ofNat 32 t.val)
    (hc : (grid0.coords t 0).val = t.val) :
    View.canon (Val := Elt Ideal) (e := .bf16) (s := S512x2048)
      [⟨Rect.unit ![384, 0] ![128, 2048] inb_S512x2048_S128x2048_384_0,
        k0_pay8 (F := Ideal) (View.ld (iblk m c 1 t) (Rect.unit ![384, 0] ![128, 2048] inb_S512x2048_S128x2048_384_0)) (k0_pay6 a (View.ld (iblk m c 1 t) (Rect.unit ![376, 0] ![8, 2048] inb_S512x2048_S8x2048_376_0)) (iblk m c 2 t) (View.ld (iblk m c 1 t) (Rect.unit ![384, 0] ![128, 2048] inb_S512x2048_S128x2048_384_0))) (iota .tc S128x1 32 [0] iota_S128x1_d0_w32) (k0_pay7 a)⟩,
       ⟨Rect.unit ![256, 0] ![128, 2048] inb_S512x2048_S128x2048_256_0,
        k0_pay5 (F := Ideal) (View.ld (iblk m c 1 t) (Rect.unit ![256, 0] ![128, 2048] inb_S512x2048_S128x2048_256_0)) (k0_pay4 (View.ld (iblk m c 1 t) (Rect.unit ![248, 0] ![8, 2048] inb_S512x2048_S8x2048_248_0)) (View.ld (iblk m c 1 t) (Rect.unit ![384, 0] ![8, 2048] inb_S512x2048_S8x2048_384_0)) (View.ld (iblk m c 1 t) (Rect.unit ![256, 0] ![128, 2048] inb_S512x2048_S128x2048_256_0))) (Scalar.muli a 512#32)⟩,
       ⟨Rect.unit ![128, 0] ![128, 2048] inb_S512x2048_S128x2048_128_0,
        k0_pay3 (F := Ideal) a (View.ld (iblk m c 1 t) (Rect.unit ![120, 0] ![8, 2048] inb_S512x2048_S8x2048_120_0)) (View.ld (iblk m c 1 t) (Rect.unit ![256, 0] ![8, 2048] inb_S512x2048_S8x2048_256_0)) (View.ld (iblk m c 1 t) (Rect.unit ![128, 0] ![128, 2048] inb_S512x2048_S128x2048_128_0))⟩,
       ⟨Rect.unit ![0, 0] ![128, 2048] inb_S512x2048_S128x2048_0_0,
        k0_pay2 (F := Ideal) (grid0.coords t) (iblk m c 0 t) (View.ld (iblk m c 1 t) (Rect.unit ![128, 0] ![8, 2048] inb_S512x2048_S8x2048_128_0)) (View.ld (iblk m c 1 t) (Rect.unit ![0, 0] ![128, 2048] inb_S512x2048_S128x2048_0_0))⟩] (ix2 i j) = diff (u0 m c) s j := by
  have word : ∀ o : ℕ, o < 512 → Scalar.addi (Scalar.muli a 512#32) (BitVec.ofNat 32 o) = BitVec.ofNat 32 (512 * t.val + o) := fun o _ => by
    rw [ha]
    show BitVec.ofNat 32 t.val * 512#32 + BitVec.ofNat 32 o = _
    rw [BitVec.ofNat_add, BitVec.ofNat_mul, BitVec.mul_comm]
  canon_tiles z e
  all_goals obtain ⟨r, k, rfl⟩ : ∃ (r : Fin 128) (k : Fin 2048), z = ix2 r k := Norm.pair z
  all_goals
    obtain rfl : j = k := Fin.ext e1
    have hr := r.isLt
  · refine (congrFun (fourth_eq _ _ _ _) _).trans (chunk m c t j 384 _ (word 384 (by omega)) _ _ _ (fun q => ?_) (fun q => ?_) (fun q => ?_) r s (by rw [hs]; exact (congrArg (_ + ·) e0).trans (Nat.add_assoc _ _ _).symm))
    · exact inner m c t j 376 _ _ q (by omega) _ rfl rfl _ (by omega)
    · exact inner m c t j 384 _ _ q (by omega) _ rfl rfl _ (by omega)
    · exact below m c t j a ha q
  · refine (congrFun (third_eq _ _ _ _) _).trans (chunk m c t j 256 _ (word 256 (by omega)) _ _ _ (fun q => ?_) (fun q => ?_) (fun q => ?_) r s (by rw [hs]; exact (congrArg (_ + ·) e0).trans (Nat.add_assoc _ _ _).symm))
    · exact inner m c t j 248 _ _ q (by omega) _ rfl rfl _ (by omega)
    · exact inner m c t j 256 _ _ q (by omega) _ rfl rfl _ (by omega)
    · exact inner m c t j 384 _ _ q (by omega) _ rfl rfl _ (by omega)
  · refine (congrFun (second_eq _ _ _ _) _).trans (chunk m c t j 128 _ (word 128 (by omega)) _ _ _ (fun q => ?_) (fun q => ?_) (fun q => ?_) r s (by rw [hs]; exact (congrArg (_ + ·) e0).trans (Nat.add_assoc _ _ _).symm))
    · exact inner m c t j 120 _ _ q (by omega) _ rfl rfl _ (by omega)
    · exact inner m c t j 128 _ _ q (by omega) _ rfl rfl _ (by omega)
    · exact inner m c t j 256 _ _ q (by omega) _ rfl rfl _ (by omega)
  · refine (congrFun (first_eq _ _ _ _) _).trans (chunk m c t j 0 _ (by rw [hc, ← ha]; exact word 0 (by omega)) _ _ _ (fun q => ?_) (fun q => ?_) (fun q => ?_) r s (by rw [hs]; exact congrArg (_ + ·) e0))
    · rw [hc]
      exact above m c t j q
    · exact inner m c t j 0 _ _ q (by omega) _ rfl rfl _ (by omega)
    · exact inner m c t j 128 _ _ q (by omega) _ rfl rfl _ (by omega)

theorem outs (i : Fin 512) (s : Fin 16384) (hs : s.val = 512 * t.val + i.val) (hz : zat (u0 m c) s j ≠ ⊥) :
    outsAt0 m c t (ix2 i j) = pooled (u0 m c) (w0 m c) (g0 m c) s j := by
  have hN : t.val < 32 := lt_of_lt_of_eq t.isLt N_0
  unfold outsAt0
  frame_out
  refine (last_at _ _ _ _ _ _).trans ?_
  unfold pooled
  rw [blk5 m c t j i s hs, blk4 m c t j ⟨j.val, by omega⟩ rfl, Cert.KernelIdeal.Tile.ofBits_half, Cert.Attn.gate _ hz]
  generalize hR : (View.whole cc0_scratch0).readCov (Val := Elt Ideal) _ _ = R
  have H : ∀ k : Fin 2048, R (ix2 i k) = diff (u0 m c) s k := fun k => by
    rw [← hR, View.readCov_eq_canon']
    refine Eq.trans ?_ (mixed_rows m c t k i s hs hN _ (congrArg _ (idx t).2.2.2.2.2.2.2) (idx t).2.2.2.2.2.2.2)
    refine congrArg (View.canon (Val := Elt Ideal) _) (funext fun a => ?_)
    match a with
    | 0 => exact Fin.ext (by show 0 + 1 * i.val = i.val; omega)
    | 1 => exact Fin.ext (by show 0 + 1 * k.val = k.val; omega)
  have S : (∑ k : Fin 2048, HMul.hMul (α := EReal) (β := EReal) (γ := EReal) (R (ix2 i k)) (iblk m c 3 t (ix4 0 0 k j))) = ∑ k : Fin 2048, diff (u0 m c) s k * w0 m c (ix4 1 0 k j) :=
    Finset.sum_congr rfl fun k _ => congrArg₂ (α := EReal) (β := EReal) (fun x y => x * y) (H k) (blk3 m c t j k)
  exact congrArg (fun q : EReal => q * g0 m c (ix1 ⟨j.val, by omega⟩) * (zat (u0 m c) s j * Ideal.div 1 (1 + Ideal.exp (-zat (u0 m c) s j)))) S

variable (hp : ∀ s j, zat (u0 m c) s j ≠ ⊥)
include hp

theorem final6 : (dats m 0 c).arrAt 6 cfg0.N = Cert.Reference11Ideal.Read.val_main_v41 (F := Ideal) (u0 m c) (w0 m c) (g0 m c) := by
  refine (dats m 0 c).arrAt_eq_of_covers 6 _ (by decide +kernel) fun t _ y => ?_
  blk_simp
  rw [after0_6]
  have hN : t.val < 32 := lt_of_lt_of_eq t.isLt N_0
  obtain ⟨i, j, rfl⟩ : ∃ (i : Fin 512) (j : Fin 2048), y = ix2 i j := Norm.pair y
  have e : (win0_6.blk t).view.emb (ix2 i j) = ix2 (⟨512 * t.val + i.val, by omega⟩ : Fin 16384) j := by
    blk_ext [idx t]
  exact (outs m c t j i _ rfl (hp _ _)).trans ((ref_at _ _ _ _ _).symm.trans (congrArg _ e.symm))

end

end Cert.Kernel11Ideal.Final

end
-- ==== Proof.Group0.Bridge.lean ====
module

public import proofs.«01_k».proof.Defs
public import proofs.«01_k».proof.Proof.Bridge
public import proofs.«01_k».proof.Proof.Group0.Final
public import Idealize.ShloMosaic.Lib.ReduceAll

@[expose] public section

set_option maxRecDepth 16384

/-! The first group's pooling: the two programs over the reals, the same array. -/

noncomputable section

namespace Cert.Kernel11Ideal

open Idealize.ShloMosaic Idealize.ShloMosaic.TcCoe Idealize.SL.Sem Cert.Bridge Cert.Attn

instance shapes : Cert.Pre_finite_pool0.Facts where
  slices_S16384x16384_S16384x2048_0_8192 := by decide
  bcast_S_S16384x2048 := by decide
  reducesTo_S16384x2048_S_d0_1 := by decide
  h_S_ := by decide

instance : Subsingleton Cert.Pre_finite_pool0.S_.Idx := ⟨fun a b => funext fun i => i.elim0⟩

theorem proper (u w g) (h : Cert.Pre_finite_pool0.fn (F := Ideal) u w g = fun _ => 1#1) (s : Fin 16384) (j : Fin 2048) : Final.zat u s j ≠ ⊥ := by
  have h0 := congrFun h (fun i => i.elim0)
  have e := Host.reduce_andi_all _ _ _ _ _ h0 (ix2 s j)
  have e1 : extractStridedSlice Cert.Pre_finite_pool0.S16384x2048 ![0, 8192] u Cert.Pre_finite_pool0.Facts.slices_S16384x16384_S16384x2048_0_8192 (ix2 s j)
      = Final.zat u s j := by
    unfold Final.zat
    pointwise
  have e : BitVec.ofBool (decide (Ideal.ofBits .f32 0xFF800000#32 < Final.zat u s j)) = 1#1 := by
    rw [← e1]; exact e
  rw [ofBits_bot] at e
  exact (holds e).ne'

theorem algebraic : Cert.algebraic_Kernel11Ideal_Reference11Ideal_pre_finite_pool0 := by
  intro m ρ m' ρ' hpre hagree
  refine ⟨_, Cert.Kernel11Ideal.Value.run_blocks m ρ, ?_⟩
  refine (θ_run _ _ _).mono (fun _ h c => ⟨(h c).1.trans ?_, (h c).2⟩) (Cert.Reference11Ideal.Value.run m' ρ')
  obtain ⟨e0, e1, e2⟩ := hagree c
  rw [Cert.Reference11Ideal.Read.val_main_v41_eq, Final.final6 m c (proper _ _ _ (hpre c)), e0, e1, e2]

end Cert.Kernel11Ideal

end
-- ==== Proof.Group1.Final.lean ====
module

public import proofs.«01_k».proof.Proof.Gen.Kernel12Ideal.Value
public import proofs.«01_k».proof.Proof.Gen.Reference12Ideal.Read
public import proofs.«01_k».proof.Proof.Norm.Block
public import proofs.«01_k».proof.Proof.Attn.Softmax
public import proofs.«01_k».proof.Proof.KernelIdeal.TileAt
public import proofs.«01_k».proof.Proof.Group.Window
public import Idealize.ShloMosaic.Lib.Claim
public import Idealize.ShloMosaic.Lib.IdealHost
public import Idealize.ShloMosaic.Lib.Pointwise

@[expose] public section

set_option maxRecDepth 16384

/-! A group's pooling: each row's window mean less the row, times the group's matrix, scaled and gated. -/

noncomputable section

namespace Cert.Kernel12Ideal.Final

open Idealize.ShloMosaic Idealize.ShloMosaic.TcCoe Idealize.ShloMosaic.Tactic Cert.Kernel12Ideal Cert.Kernel12Ideal.Gen
open Idealize.ShloMosaic.Pipeline (Dat)

/-! ### The reference -/

/-- A column of the group, and its gate. -/
abbrev col (u : FVec Ideal S16384x16384 .f32) (k : Fin 2048) : Fin 16384 → EReal := fun t => u (ix2 t ⟨2048 + k.val, by omega⟩)
abbrev zat (u : FVec Ideal S16384x16384 .f32) (s : Fin 16384) (j : Fin 2048) : EReal := u (ix2 s ⟨10240 + j.val, by omega⟩)

theorem fits : Group.Fits 1 4 := ⟨by decide, by decide, by decide⟩

/-- A row's window mean less the row. -/
def diff (u : FVec Ideal S16384x16384 .f32) (s : Fin 16384) (k : Fin 2048) : EReal :=
  Ideal.div (Group.win 1 4 (col u k) s.val) (Group.cnt 1 4 (BitVec.ofNat 32 s.val)) - col u k s

/-- The group's result. -/
def pooled (u : FVec Ideal S16384x16384 .f32) (w : FVec Ideal S2x4x2048x2048 .f32) (g : FVec Ideal S8192 .f32) (s : Fin 16384) (j : Fin 2048) : EReal :=
  (∑ k : Fin 2048, diff u s k * w (ix4 1 1 k j)) * g (ix1 ⟨2048 + j.val, by omega⟩)
    * (zat u s j * Ideal.div 1 (1 + Ideal.exp (-zat u s j)))

section
open Cert.Reference12Ideal.Read

theorem diff_at (u : FVec Ideal S16384x16384 .f32) (s : Fin 16384) (k : Fin 2048) :
    val_main_v31 (F := Ideal) u (ix2 s k) = diff u s k := by
  have e0 : ∀ t : Fin 16384, val_main_v0 (F := Ideal) u (ix2 t k) = col u k t := fun t => by
    rw [val_main_v0_apply]
    refine congrArg u ?_
    funext a; match a with | 0 => rfl | 1 => rfl
  have e1 : val_main_v25 (F := Ideal) u (ix2 s k) = Group.win 1 4 (col u k) s.val := by
    rw [val_main_v25_apply, ← Group.inside_sum fits]
    refine Finset.sum_congr rfl fun t _ => ?_
    have el : lidx_main_v25 (ix2 s k) t = ix2 s t := by funext a; match a with | 0 => rfl | 1 => rfl
    have er : ridx_main_v25 (ix2 s k) t = ix2 t k := by funext a; match a with | 0 => rfl | 1 => rfl
    rw [el, er, e0]
    refine congrArg (· * _) ?_
    rw [val_main_v24_apply, val_main_v23_apply, val_main_v17_apply, val_main_v22_apply, val_main_v15_apply, val_main_v16_apply, val_main_v20_apply,
      val_main_v21_apply, val_main_v13_apply, val_main_v14_apply, val_main_v18_apply, val_main_v19_apply]
    rfl
  have e2 : val_main_v29 (F := Ideal) (ix2 s k) = Group.cnt 1 4 (BitVec.ofNat 32 s.val) := by
    rw [val_main_v29_apply, val_main_v28_apply, val_main_v27_apply, val_main_v26_apply]
    rfl
  rw [val_main_v31_apply, val_main_v30_apply, e0, e1, e2]
  rfl

theorem ref_at (u : FVec Ideal S16384x16384 .f32) (w : FVec Ideal S2x4x2048x2048 .f32) (g : FVec Ideal S8192 .f32) (s : Fin 16384) (j : Fin 2048) :
    val_main_v41 (F := Ideal) u w g (ix2 s j) = pooled u w g s j := by
  have e1 : val_main_v34 (F := Ideal) u w (ix2 s j) = ∑ k : Fin 2048, diff u s k * w (ix4 1 1 k j) := by
    rw [val_main_v34_apply]
    refine Finset.sum_congr rfl fun k _ => ?_
    have el : lidx_main_v34 (ix2 s j) k = ix2 s k := by funext a; match a with | 0 => rfl | 1 => rfl
    have er : ridx_main_v34 (ix2 s j) k = ix2 k j := by funext a; match a with | 0 => rfl | 1 => rfl
    rw [el, er, diff_at]
    refine congrArg (fun x : EReal => diff u s k * x) ?_
    pointwise [val_main_v33, val_main_v32]
  have e2 : val_main_v37 (F := Ideal) g (ix2 s j) = g (ix1 ⟨2048 + j.val, by omega⟩) := by
    pointwise [val_main_v37, val_main_v36, val_main_v35]
  have e3 : val_main_v1 (F := Ideal) u (ix2 s j) = zat u s j := by
    rw [val_main_v1_apply]
    refine congrArg u ?_
    funext a; match a with | 0 => rfl | 1 => rfl
  have e4 : val_main_v39 (F := Ideal) u (ix2 s j) = zat u s j * Ideal.div 1 (1 + Ideal.exp (-zat u s j)) := by
    rw [← e3]
    show val_main_v1 (F := Ideal) u (ix2 s j) * Ideal.div (Ideal.ofBits .f32 0x3F800000#32) (Ideal.ofBits .f32 0x3F800000#32 + Ideal.exp (-val_main_v1 (F := Ideal) u (ix2 s j))) = _
    rw [Ideal.ofBits_one_f32]
  show val_main_v34 (F := Ideal) u w (ix2 s j) * val_main_v37 (F := Ideal) g (ix2 s j) * val_main_v39 (F := Ideal) u (ix2 s j) = _
  rw [e1, e2, e4]
  rfl

end

/-! ### A chunk -/

/-- A chunk's rows and the halves about it, mixed: what each of the four chunks computes. -/
def mixed (e : FVec Ideal S144x2048 .f32) (b : BitVec 32) (v : FVec Ideal S128x2048 .f32) : FVec Ideal S128x2048 .f32 :=
  have v11 : IVec S128x1 32 := addi (broadcast S128x1 b) (iota .tc S128x1 32 [0] iota_S128x1_d0_w32)
  have v15 : IVec S128x1 32 := maxsi (subi v11 (broadcast S128x1 1#32)) (broadcast S128x1 0#32)
  have v21 : IVec S128x1 32 := minsi (addi (addi v11 (broadcast S128x1 2#32)) (broadcast S128x1 1#32)) (broadcast S128x1 16384#32)
  have v25 : FVec Ideal S128x1 .f32 := divf (broadcast S128x1 (Scalar.ofBits (F := Ideal) .f32 0x3F800000#32)) (sitofp .f32 (subi v21 v15))
  have v27 : FVec Ideal S144x2048 .f32 := addf e (dynamicRotate 0 1#32 none e rotates_S144x2048_d0)
  have v29 : FVec Ideal S144x2048 .f32 := addf v27 (dynamicRotate 0 142#32 none v27 rotates_S144x2048_d0)
  subf (mulf (extractStridedSlice S128x2048 ![8, 0] v29 slices_S144x2048_o8_0_S128x2048) (broadcastTo S128x2048 v25 broadcasts_S128x1_S128x2048)) v

abbrev cat (h : FVec Ideal S8x2048 .f32) (v : FVec Ideal S128x2048 .f32) (n : FVec Ideal S8x2048 .f32) : FVec Ideal S144x2048 .f32 :=
  concatenate S144x2048 0 [⟨S8x2048, h⟩, ⟨S128x2048, v⟩, ⟨S8x2048, n⟩] concatenates_S8x2048_S128x2048_S8x2048_S144x2048_d0

theorem rotated (x : FVec Ideal S144x2048 .f32) (k : BitVec 32) (p q : Fin 144) (j : Fin 2048) (h : q.val + k.toNat = p.val) :
    dynamicRotate 0 k none x rotates_S144x2048_d0 (ix2 p j) = x (ix2 q j) := by
  rw [Pointwise.dynamicRotate_apply]
  refine congrArg x ?_
  funext a
  match a with
  | 0 =>
    refine Fin.ext ?_
    show (p.val + 144 - (k.toNat + 0) % 144) % 144 = q.val
    omega
  | 1 => rfl

theorem ahead (x : FVec Ideal S144x2048 .f32) (k : BitVec 32) (p q : Fin 144) (j : Fin 2048) (hk : k.toNat < 144) (h : q.val + k.toNat = p.val + 144) :
    dynamicRotate 0 k none x rotates_S144x2048_d0 (ix2 p j) = x (ix2 q j) := by
  rw [Pointwise.dynamicRotate_apply]
  refine congrArg x ?_
  funext a
  match a with
  | 0 =>
    refine Fin.ext ?_
    have hp := p.isLt
    have hq := q.isLt
    show (p.val + 144 - (k.toNat + 0) % 144) % 144 = q.val
    omega
  | 1 => rfl

theorem doubled_at (e : FVec Ideal S144x2048 .f32) (E : ℕ → EReal) (j : Fin 2048) (he : ∀ p : Fin 144, e (ix2 p j) = E p.val)
    (v27 v29 : FVec Ideal S144x2048 .f32) (h27 : v27 = addf e (dynamicRotate 0 1#32 none e rotates_S144x2048_d0))
    (h29 : v29 = addf v27 (dynamicRotate 0 142#32 none v27 rotates_S144x2048_d0)) (r : Fin 128) :
    v29 (ix2 ⟨8 + r.val, by omega⟩ j) = ∑ k ∈ Finset.range 4, E (r.val + 7 + k) := by
  have hr := r.isLt
  let q1 : ℕ → EReal := fun n => E n + E (n - 1)
  have a1 : ∀ p : Fin 144, 1 ≤ p.val → v27 (ix2 p j) = q1 p.val := fun p hp => by
    rw [h27]
    show e (ix2 p j) + dynamicRotate 0 1#32 none e rotates_S144x2048_d0 (ix2 p j) = _
    rw [rotated e 1#32 p ⟨p.val - 1, by omega⟩ j (by show p.val - 1 + 1 = p.val; omega), he, he]
  rw [h29]
  show v27 (ix2 ⟨8 + r.val, by omega⟩ j) + dynamicRotate 0 142#32 none v27 rotates_S144x2048_d0 (ix2 ⟨8 + r.val, by omega⟩ j) = _
  rw [ahead v27 142#32 _ ⟨8 + r.val + 2, by omega⟩ j (by decide) (by show 8 + r.val + 2 + 142 = 8 + r.val + 144; omega), a1 _ (by show 1 ≤ 8 + r.val; omega), a1 _ (by show 1 ≤ 8 + r.val + 2; omega)]
  show q1 (8 + r.val) + q1 (8 + r.val + 2) = _
  rw [Group.doubled4 E (8 + r.val) (by omega) q1 (fun _ _ => rfl), show 8 + r.val - 1 = r.val + 7 by omega]

theorem mixed_at (e : FVec Ideal S144x2048 .f32) (b : BitVec 32) (v : FVec Ideal S128x2048 .f32) (E : ℕ → EReal) (j : Fin 2048)
    (he : ∀ p : Fin 144, e (ix2 p j) = E p.val) (r : Fin 128) (s : Fin 16384) (hs : b + BitVec.ofNat 32 r.val = BitVec.ofNat 32 s.val) :
    mixed e b v (ix2 r j) = Ideal.div (∑ k ∈ Finset.range 4, E (r.val + 7 + k)) (Group.cnt 1 4 (BitVec.ofNat 32 s.val)) - v (ix2 r j) := by
  rw [← Group.mul_recip fits, ← doubled_at e E j he _ _ rfl rfl r]
  unfold mixed
  dsimp only
  generalize addf (addf e (dynamicRotate 0 1#32 none e rotates_S144x2048_d0)) (dynamicRotate 0 142#32 none (addf e (dynamicRotate 0 1#32 none e rotates_S144x2048_d0)) rotates_S144x2048_d0) = y
  have ec : ∀ c : BitVec 32, c = BitVec.ofNat 32 s.val → Ideal.div (Ideal.ofBits .f32 0x3F800000#32)
      (FloatOps.sitofp (F := Ideal) .f32 (IntOp.subi (IntOp.minsi (IntOp.addi (IntOp.addi c 2#32) 1#32) 16384#32) (IntOp.maxsi (IntOp.subi c 1#32) 0#32)))
      = Ideal.div 1 (Group.cnt 1 4 (BitVec.ofNat 32 s.val)) := fun c hc => by
    rw [hc, Ideal.ofBits_one_f32]
    unfold Group.cnt Group.hi Group.lo
    have : IntOp.addi (IntOp.addi (BitVec.ofNat 32 s.val) 2#32) 1#32 = IntOp.addi (IntOp.subi (BitVec.ofNat 32 s.val) 1#32) 4#32 := by
      show BitVec.ofNat 32 s.val + 2#32 + 1#32 = BitVec.ofNat 32 s.val - 1#32 + 4#32
      rw [BitVec.add_assoc, BitVec.sub_eq_add_neg, BitVec.add_assoc]
      rfl
    rw [this]
  rw [← ec _ hs]
  pointwise
  rfl

theorem cat_at (h : FVec Ideal S8x2048 .f32) (v : FVec Ideal S128x2048 .f32) (n : FVec Ideal S8x2048 .f32) (E : ℕ → EReal) (j : Fin 2048)
    (eh : ∀ r : Fin 8, h (ix2 r j) = E r.val) (ev : ∀ r : Fin 128, v (ix2 r j) = E (8 + r.val)) (en : ∀ r : Fin 8, n (ix2 r j) = E (136 + r.val)) (p : Fin 144) :
    cat h v n (ix2 p j) = E p.val := by
  have hp := p.isLt
  by_cases h1 : p.val < 8
  · refine (concatenate_apply_piece 0 _ _ (ix2 p j) 0 (by show 0 < 3; decide) S8x2048 h rfl rfl 0 rfl (ix2 ⟨p.val, h1⟩ j) (fun b hb => ?_) (by show 0 + p.val = p.val; omega)).trans (eh ⟨p.val, h1⟩)
    match b, hb with
    | 0, hb => exact absurd rfl hb
    | 1, _ => rfl
  by_cases h2 : p.val < 136
  · refine (concatenate_apply_piece 0 _ _ (ix2 p j) 1 (by show 1 < 3; decide) S128x2048 v rfl rfl 8 rfl (ix2 ⟨p.val - 8, by omega⟩ j) (fun b hb => ?_) (by show 8 + (p.val - 8) = p.val; omega)).trans
      ((ev ⟨p.val - 8, by omega⟩).trans (congrArg E (by show 8 + (p.val - 8) = p.val; omega)))
    match b, hb with
    | 0, hb => exact absurd rfl hb
    | 1, _ => rfl
  · refine (concatenate_apply_piece 0 _ _ (ix2 p j) 2 (by show 2 < 3; decide) S8x2048 n rfl rfl 136 rfl (ix2 ⟨p.val - 136, by omega⟩ j) (fun b hb => ?_) (by show 136 + (p.val - 136) = p.val; omega)).trans
      ((en ⟨p.val - 136, by omega⟩).trans (congrArg E (by show 136 + (p.val - 136) = p.val; omega)))
    match b, hb with
    | 0, hb => exact absurd rfl hb
    | 1, _ => rfl

theorem first_eq (i : grid0.Coords) (v1 v4 : FVec Ideal S8x2048 .f32) (v5 : FVec Ideal S128x2048 .f32) :
    k0_pay2 (F := Ideal) i v1 v4 v5 = mixed (cat (Scalar.select (Scalar.cmpi .sgt (BitVec.ofNat 32 (i 0).val) 0#32) v1 (broadcast S8x2048 (Scalar.ofBits (F := Ideal) .f32 0x00000000#32))) v5 v4)
      (Scalar.addi (Scalar.muli (BitVec.ofNat 32 (i 0).val) 512#32) 0#32) v5 := by
  unfold k0_pay2
  exact shapeCast_self _ _

theorem second_eq (a : BitVec 32) (v1 v4 : FVec Ideal S8x2048 .f32) (v5 : FVec Ideal S128x2048 .f32) :
    k0_pay3 (F := Ideal) a v1 v4 v5 = mixed (cat v1 v5 v4)
      (Scalar.addi (Scalar.muli a 512#32) 128#32) v5 := by
  unfold k0_pay3
  exact shapeCast_self _ _

theorem third_eq (a : BitVec 32) (v1 v4 : FVec Ideal S8x2048 .f32) (v5 : FVec Ideal S128x2048 .f32) :
    k0_pay4 (F := Ideal) a v1 v4 v5 = mixed (cat v1 v5 v4)
      (Scalar.addi (Scalar.muli a 512#32) 256#32) v5 := by
  unfold k0_pay4
  exact shapeCast_self _ _

theorem fourth_eq (a : BitVec 32) (v1 v4 : FVec Ideal S8x2048 .f32) (v5 : FVec Ideal S128x2048 .f32) :
    k0_pay6 (F := Ideal) a v1 (k0_pay5 a v4) v5 = mixed (cat v1 v5 (Scalar.select (Scalar.cmpi .slt a 31#32) v4 (broadcast S8x2048 (Scalar.ofBits (F := Ideal) .f32 0x00000000#32))))
      (Scalar.addi (Scalar.muli a 512#32) 384#32) v5 := by
  unfold k0_pay6 k0_pay5
  exact shapeCast_self _ _

theorem last_at (d : FVec Ideal S512x2048 .bf16) (w : FVec Ideal S1x1x2048x2048 .f32) (g : FVec Ideal S1x2048 .f32) (z : FVec Ideal S512x2048 .f32) (i : Fin 512) (j : Fin 2048) :
    k0_pay1 (F := Ideal) (k0_pay7 d w) g z (ix2 i j) = (∑ k : Fin 2048, d (ix2 i k) * w (ix4 0 0 k j)) * g (ix2 0 j)
      * (Ideal.ofBits .f32 0x3F000000#32 * z (ix2 i j) + Ideal.ofBits .f32 0x3F000000#32 * z (ix2 i j) * Ideal.tanh (Ideal.ofBits .f32 0x3F000000#32 * z (ix2 i j))) := by
  pointwise [k0_pay1, k0_pay7]

/-! ### A point's blocks -/

section
variable (m : (ℓ : Loc nD τ sig) → Buf (Elt Ideal) ℓ) (c : Dev nD)

abbrev u0 : FVec Ideal S16384x16384 .f32 := m ((c : Thread nD τ).loc main_arg0)
abbrev w0 : FVec Ideal S2x4x2048x2048 .f32 := m ((c : Thread nD τ).loc main_arg1)
abbrev g0 : FVec Ideal S8192 .f32 := m ((c : Thread nD τ).loc main_arg2)

theorem V_g : (V m c main_v0 : FVec Ideal S1x8192 .f32) = shapeCast S1x8192 (g0 m c) shapeCasts_S8192_S1x8192 := by
  simp only [V, hostOps0, StableHlo.after_cons, StableHlo.after_nil]
  after_results_loop
  all_goals rfl

theorem g_at (j : Fin 8192) : (V m c main_v0 : FVec Ideal S1x8192 .f32) (ix2 0 j) = g0 m c (ix1 j) := by
  rw [V_g]; pointwise

theorem idx : ∀ t : Fin cfg0.N, win0_0.index t = ![64 * t.val - 1, 1] ∧ win0_1.index t = ![t.val, 1] ∧ win0_2.index t = ![min (64 * t.val + 64) 2047, 1]
      ∧ win0_3.index t = ![1, 1, 0, 0] ∧ win0_4.index t = ![0, 1] ∧ win0_5.index t = ![t.val, 5]
      ∧ win0_6.index t = ![t.val, 0] ∧ (grid0.coords t 0).val = t.val :=
  (by decide +kernel : ∀ t : Fin grid0.N, win0_0.index t = ![64 * t.val - 1, 1] ∧ win0_1.index t = ![t.val, 1] ∧ win0_2.index t = ![min (64 * t.val + 64) 2047, 1]
      ∧ win0_3.index t = ![1, 1, 0, 0] ∧ win0_4.index t = ![0, 1] ∧ win0_5.index t = ![t.val, 5]
      ∧ win0_6.index t = ![t.val, 0] ∧ (grid0.coords t 0).val = t.val)

variable (t : Fin cfg0.N) (j : Fin 2048)

theorem blk0 (r : Fin 8) (s : Fin 16384) (h : s.val + 8 = 512 * t.val + r.val) :
    (iblk m c 0 t : FVec Ideal S8x2048 .f32) (ix2 r j) = col (u0 m c) j s := by
  unfold col
  have hr := r.isLt
  blk_ext [iblk, V_main_arg0, idx t]

theorem blk1 (r : Fin 512) (s : Fin 16384) (h : s.val = 512 * t.val + r.val) :
    (iblk m c 1 t : FVec Ideal S512x2048 .f32) (ix2 r j) = col (u0 m c) j s := by
  unfold col
  blk_ext [iblk, V_main_arg0, idx t]

theorem blk2 (r : Fin 8) (s : Fin 16384) (h : s.val = 512 * t.val + 512 + r.val) :
    (iblk m c 2 t : FVec Ideal S8x2048 .f32) (ix2 r j) = col (u0 m c) j s := by
  unfold col
  have hr := r.isLt
  have hs := s.isLt
  blk_ext [iblk, V_main_arg0, idx t]

theorem blk3 (k : Fin 2048) : (iblk m c 3 t : FVec Ideal S1x1x2048x2048 .f32) (ix4 0 0 k j) = w0 m c (ix4 1 1 k j) := by
  blk_ext [iblk, V_main_arg1, idx t]

theorem blk4 (q : Fin 8192) (h : q.val = 2048 + j.val) : (iblk m c 4 t : FVec Ideal S1x2048 .f32) (ix2 0 j) = g0 m c (ix1 q) := by
  rw [← g_at]
  blk_ext [iblk, idx t]

theorem blk5 (r : Fin 512) (s : Fin 16384) (h : s.val = 512 * t.val + r.val) :
    (iblk m c 5 t : FVec Ideal S512x2048 .f32) (ix2 r j) = zat (u0 m c) s j := by
  unfold zat
  blk_ext [iblk, V_main_arg0, idx t]

/-- A chunk's rows mixed are its rows' window means less the rows. -/
theorem chunk (o : ℕ) (b : BitVec 32) (hb : b = BitVec.ofNat 32 (512 * t.val + o)) (h : FVec Ideal S8x2048 .f32) (v : FVec Ideal S128x2048 .f32) (n : FVec Ideal S8x2048 .f32)
    (eh : ∀ r : Fin 8, h (ix2 r j) = Group.pad (col (u0 m c) j) (512 * t.val + o + r.val))
    (ev : ∀ r : Fin 128, v (ix2 r j) = Group.pad (col (u0 m c) j) (512 * t.val + o + (8 + r.val)))
    (en : ∀ r : Fin 8, n (ix2 r j) = Group.pad (col (u0 m c) j) (512 * t.val + o + (136 + r.val)))
    (r : Fin 128) (s : Fin 16384) (hs : s.val = 512 * t.val + o + r.val) :
    mixed (cat h v n) b v (ix2 r j) = diff (u0 m c) s j := by
  have he : ∀ p : Fin 144, cat h v n (ix2 p j) = (fun n => Group.pad (col (u0 m c) j) (512 * t.val + o + n)) p.val :=
    cat_at h v n (fun n => Group.pad (col (u0 m c) j) (512 * t.val + o + n)) j eh ev en
  rw [mixed_at (cat h v n) b v (fun n => Group.pad (col (u0 m c) j) (512 * t.val + o + n)) j he r s
    (by rw [hb, hs, BitVec.ofNat_add (512 * t.val + o) r.val])]
  unfold diff Group.win
  refine congrArg₂ (· - ·) (congrArg (Ideal.div · _) (Finset.sum_congr rfl fun k _ => congrArg _ ?_)) ?_
  · show 512 * t.val + o + (r.val + 7 + k) = s.val + 7 + k
    omega
  · rw [ev, Group.pad_row _ _ s (by omega)]

/-- Rows of the tile. -/
theorem inner (o : ℕ) {a : ℕ} (n : Fin 2 → ℕ) (h) (r : Fin a) (ho : o + r.val < 512) (y) (e0 : (y 0).val = r.val) (e1 : (y 1).val = j.val) (q : ℕ) (hq : q = 512 * t.val + 8 + o + r.val) :
    View.ld (Val := Elt Ideal) (e' := .f32) (iblk m c 1 t) (Rect.unit (s := S512x2048) ![o, 0] n h) y = Group.pad (col (u0 m c) j) q := by
  have hN : t.val < 32 := lt_of_lt_of_eq t.isLt N_0
  rw [Group.pad_row _ _ ⟨512 * t.val + o + r.val, by omega⟩ (by show q = 512 * t.val + o + r.val + 8; omega), ← blk1 m c t j ⟨o + r.val, ho⟩ _ (Nat.add_assoc _ _ _)]
  refine View.ld_unit_apply_of _ _ _ _ _ _ fun a => ?_
  match a with
  | 0 => show o + r.val = o + (y 0).val; omega
  | 1 => show j.val = 0 + (y 1).val; omega

/-- The eight rows above the tile, zeros above the first, and the eight below, zeros below the last. -/
theorem above (q : Fin 8) :
    (Scalar.select (Scalar.cmpi .sgt (BitVec.ofNat 32 t.val) 0#32) (iblk m c 0 t : FVec Ideal S8x2048 .f32) (broadcast S8x2048 (Scalar.ofBits (F := Ideal) .f32 0x00000000#32))
      : FVec Ideal S8x2048 .f32) (ix2 q j) = Group.pad (col (u0 m c) j) (512 * t.val + 0 + q.val) := by
  have hN : t.val < 32 := lt_of_lt_of_eq t.isLt N_0
  have hq := q.isLt
  have e : Scalar.cmpi .sgt (BitVec.ofNat 32 t.val) 0#32 = BitVec.ofBool (decide (0 < t.val)) :=
    WordCmp.cmpi_sgt_ofNat (w := 32) (a := t.val) (b := 0) (by show t.val < 2147483648; omega) (by show 0 < 2147483648; omega)
  rw [e]
  by_cases h : 0 < t.val
  · rw [decide_eq_true h]
    show (iblk m c 0 t : FVec Ideal S8x2048 .f32) (ix2 q j) = _
    rw [blk0 m c t j q ⟨512 * t.val + q.val - 8, by omega⟩ (by show 512 * t.val + q.val - 8 + 8 = 512 * t.val + q.val; omega),
      Group.pad_row _ _ ⟨512 * t.val + q.val - 8, by omega⟩ (by show 512 * t.val + 0 + q.val = 512 * t.val + q.val - 8 + 8; omega)]
  · rw [decide_eq_false h, Group.pad_off _ _ (by omega)]
    show Ideal.ofBits .f32 0x00000000#32 = 0
    exact Ideal.ofBits_zero_f32

theorem below (a : BitVec 32) (ha : a = BitVec.ofNat 32 t.val) (q : Fin 8) :
    (Scalar.select (Scalar.cmpi .slt a 31#32) (iblk m c 2 t : FVec Ideal S8x2048 .f32) (broadcast S8x2048 (Scalar.ofBits (F := Ideal) .f32 0x00000000#32))
      : FVec Ideal S8x2048 .f32) (ix2 q j) = Group.pad (col (u0 m c) j) (512 * t.val + 384 + (136 + q.val)) := by
  have hN : t.val < 32 := lt_of_lt_of_eq t.isLt N_0
  have hq := q.isLt
  have e : Scalar.cmpi .slt (BitVec.ofNat 32 t.val) 31#32 = BitVec.ofBool (decide (t.val < 31)) :=
    WordCmp.cmpi_slt_ofNat (w := 32) (a := t.val) (b := 31) (by show t.val < 2147483648; omega) (by show 31 < 2147483648; omega)
  rw [ha, e]
  by_cases h : t.val < 31
  · rw [decide_eq_true h]
    show (iblk m c 2 t : FVec Ideal S8x2048 .f32) (ix2 q j) = _
    rw [blk2 m c t j q ⟨512 * t.val + 512 + q.val, by omega⟩ rfl,
      Group.pad_row _ _ ⟨512 * t.val + 512 + q.val, by omega⟩ (by show 512 * t.val + 384 + (136 + q.val) = 512 * t.val + 512 + q.val + 8; omega)]
  · rw [decide_eq_false h, Group.pad_off _ _ (by omega)]
    show Ideal.ofBits .f32 0x00000000#32 = 0
    exact Ideal.ofBits_zero_f32

/-- What the scratch holds once the four chunks are stored. -/
theorem mixed_rows (i : Fin 512) (s : Fin 16384) (hs : s.val = 512 * t.val + i.val) (hN : t.val < 32) (a : BitVec 32) (ha : a = BitVec.ofNat 32 t.val)
    (hc : (grid0.coords t 0).val = t.val) :
    View.canon (Val := Elt Ideal) (e := .bf16) (s := S512x2048)
      [⟨Rect.unit ![384, 0] ![128, 2048] inb_S512x2048_S128x2048_384_0,
        k0_pay6 (F := Ideal) a (View.ld (iblk m c 1 t) (Rect.unit ![376, 0] ![8, 2048] inb_S512x2048_S8x2048_376_0)) (k0_pay5 a (iblk m c 2 t)) (View.ld (iblk m c 1 t) (Rect.unit ![384, 0] ![128, 2048] inb_S512x2048_S128x2048_384_0))⟩,
       ⟨Rect.unit ![256, 0] ![128, 2048] inb_S512x2048_S128x2048_256_0,
        k0_pay4 (F := Ideal) a (View.ld (iblk m c 1 t) (Rect.unit ![248, 0] ![8, 2048] inb_S512x2048_S8x2048_248_0)) (View.ld (iblk m c 1 t) (Rect.unit ![384, 0] ![8, 2048] inb_S512x2048_S8x2048_384_0)) (View.ld (iblk m c 1 t) (Rect.unit ![256, 0] ![128, 2048] inb_S512x2048_S128x2048_256_0))⟩,
       ⟨Rect.unit ![128, 0] ![128, 2048] inb_S512x2048_S128x2048_128_0,
        k0_pay3 (F := Ideal) a (View.ld (iblk m c 1 t) (Rect.unit ![120, 0] ![8, 2048] inb_S512x2048_S8x2048_120_0)) (View.ld (iblk m c 1 t) (Rect.unit ![256, 0] ![8, 2048] inb_S512x2048_S8x2048_256_0)) (View.ld (iblk m c 1 t) (Rect.unit ![128, 0] ![128, 2048] inb_S512x2048_S128x2048_128_0))⟩,
       ⟨Rect.unit ![0, 0] ![128, 2048] inb_S512x2048_S128x2048_0_0,
        k0_pay2 (F := Ideal) (grid0.coords t) (iblk m c 0 t) (View.ld (iblk m c 1 t) (Rect.unit ![128, 0] ![8, 2048] inb_S512x2048_S8x2048_128_0)) (View.ld (iblk m c 1 t) (Rect.unit ![0, 0] ![128, 2048] inb_S512x2048_S128x2048_0_0))⟩] (ix2 i j) = diff (u0 m c) s j := by
  have word : ∀ o : ℕ, o < 512 → Scalar.addi (Scalar.muli a 512#32) (BitVec.ofNat 32 o) = BitVec.ofNat 32 (512 * t.val + o) := fun o _ => by
    rw [ha]
    show BitVec.ofNat 32 t.val * 512#32 + BitVec.ofNat 32 o = _
    rw [BitVec.ofNat_add, BitVec.ofNat_mul, BitVec.mul_comm]
  canon_tiles z e
  all_goals obtain ⟨r, k, rfl⟩ : ∃ (r : Fin 128) (k : Fin 2048), z = ix2 r k := Norm.pair z
  all_goals
    obtain rfl : j = k := Fin.ext e1
    have hr := r.isLt
  · refine (congrFun (fourth_eq _ _ _ _) _).trans (chunk m c t j 384 _ (word 384 (by omega)) _ _ _ (fun q => ?_) (fun q => ?_) (fun q => ?_) r s (by rw [hs]; exact (congrArg (_ + ·) e0).trans (Nat.add_assoc _ _ _).symm))
    · exact inner m c t j 376 _ _ q (by omega) _ rfl rfl _ (by omega)
    · exact inner m c t j 384 _ _ q (by omega) _ rfl rfl _ (by omega)
    · exact below m c t j a ha q
  · refine (congrFun (third_eq _ _ _ _) _).trans (chunk m c t j 256 _ (word 256 (by omega)) _ _ _ (fun q => ?_) (fun q => ?_) (fun q => ?_) r s (by rw [hs]; exact (congrArg (_ + ·) e0).trans (Nat.add_assoc _ _ _).symm))
    · exact inner m c t j 248 _ _ q (by omega) _ rfl rfl _ (by omega)
    · exact inner m c t j 256 _ _ q (by omega) _ rfl rfl _ (by omega)
    · exact inner m c t j 384 _ _ q (by omega) _ rfl rfl _ (by omega)
  · refine (congrFun (second_eq _ _ _ _) _).trans (chunk m c t j 128 _ (word 128 (by omega)) _ _ _ (fun q => ?_) (fun q => ?_) (fun q => ?_) r s (by rw [hs]; exact (congrArg (_ + ·) e0).trans (Nat.add_assoc _ _ _).symm))
    · exact inner m c t j 120 _ _ q (by omega) _ rfl rfl _ (by omega)
    · exact inner m c t j 128 _ _ q (by omega) _ rfl rfl _ (by omega)
    · exact inner m c t j 256 _ _ q (by omega) _ rfl rfl _ (by omega)
  · refine (congrFun (first_eq _ _ _ _) _).trans (chunk m c t j 0 _ (by rw [hc, ← ha]; exact word 0 (by omega)) _ _ _ (fun q => ?_) (fun q => ?_) (fun q => ?_) r s (by rw [hs]; exact congrArg (_ + ·) e0))
    · rw [hc]
      exact above m c t j q
    · exact inner m c t j 0 _ _ q (by omega) _ rfl rfl _ (by omega)
    · exact inner m c t j 128 _ _ q (by omega) _ rfl rfl _ (by omega)

theorem outs (i : Fin 512) (s : Fin 16384) (hs : s.val = 512 * t.val + i.val) (hz : zat (u0 m c) s j ≠ ⊥) :
    outsAt0 m c t (ix2 i j) = pooled (u0 m c) (w0 m c) (g0 m c) s j := by
  have hN : t.val < 32 := lt_of_lt_of_eq t.isLt N_0
  unfold outsAt0
  frame_out
  refine (last_at _ _ _ _ _ _).trans ?_
  unfold pooled
  rw [blk5 m c t j i s hs, blk4 m c t j ⟨2048 + j.val, by omega⟩ rfl, Cert.KernelIdeal.Tile.ofBits_half, Cert.Attn.gate _ hz]
  generalize hR : (View.whole cc0_scratch0).readCov (Val := Elt Ideal) _ _ = R
  have H : ∀ k : Fin 2048, R (ix2 i k) = diff (u0 m c) s k := fun k => by
    rw [← hR, View.readCov_eq_canon']
    refine Eq.trans ?_ (mixed_rows m c t k i s hs hN _ (congrArg _ (idx t).2.2.2.2.2.2.2) (idx t).2.2.2.2.2.2.2)
    refine congrArg (View.canon (Val := Elt Ideal) _) (funext fun a => ?_)
    match a with
    | 0 => exact Fin.ext (by show 0 + 1 * i.val = i.val; omega)
    | 1 => exact Fin.ext (by show 0 + 1 * k.val = k.val; omega)
  have S : (∑ k : Fin 2048, HMul.hMul (α := EReal) (β := EReal) (γ := EReal) (R (ix2 i k)) (iblk m c 3 t (ix4 0 0 k j))) = ∑ k : Fin 2048, diff (u0 m c) s k * w0 m c (ix4 1 1 k j) :=
    Finset.sum_congr rfl fun k _ => congrArg₂ (α := EReal) (β := EReal) (fun x y => x * y) (H k) (blk3 m c t j k)
  exact congrArg (fun q : EReal => q * g0 m c (ix1 ⟨2048 + j.val, by omega⟩) * (zat (u0 m c) s j * Ideal.div 1 (1 + Ideal.exp (-zat (u0 m c) s j)))) S

variable (hp : ∀ s j, zat (u0 m c) s j ≠ ⊥)
include hp

theorem final6 : (dats m 0 c).arrAt 6 cfg0.N = Cert.Reference12Ideal.Read.val_main_v41 (F := Ideal) (u0 m c) (w0 m c) (g0 m c) := by
  refine (dats m 0 c).arrAt_eq_of_covers 6 _ (by decide +kernel) fun t _ y => ?_
  blk_simp
  rw [after0_6]
  have hN : t.val < 32 := lt_of_lt_of_eq t.isLt N_0
  obtain ⟨i, j, rfl⟩ : ∃ (i : Fin 512) (j : Fin 2048), y = ix2 i j := Norm.pair y
  have e : (win0_6.blk t).view.emb (ix2 i j) = ix2 (⟨512 * t.val + i.val, by omega⟩ : Fin 16384) j := by
    blk_ext [idx t]
  exact (outs m c t j i _ rfl (hp _ _)).trans ((ref_at _ _ _ _ _).symm.trans (congrArg _ e.symm))

end

end Cert.Kernel12Ideal.Final

end
-- ==== Proof.Group1.Bridge.lean ====
module

public import proofs.«01_k».proof.Defs
public import proofs.«01_k».proof.Proof.Bridge
public import proofs.«01_k».proof.Proof.Group1.Final
public import Idealize.ShloMosaic.Lib.ReduceAll

@[expose] public section

set_option maxRecDepth 16384

/-! The second group's pooling: the two programs over the reals, the same array. -/

noncomputable section

namespace Cert.Kernel12Ideal

open Idealize.ShloMosaic Idealize.ShloMosaic.TcCoe Idealize.SL.Sem Cert.Bridge Cert.Attn

instance shapes : Cert.Pre_finite_pool1.Facts where
  slices_S16384x16384_S16384x2048_0_10240 := by decide
  bcast_S_S16384x2048 := by decide
  reducesTo_S16384x2048_S_d0_1 := by decide
  h_S_ := by decide

instance : Subsingleton Cert.Pre_finite_pool1.S_.Idx := ⟨fun a b => funext fun i => i.elim0⟩

theorem proper (u w g) (h : Cert.Pre_finite_pool1.fn (F := Ideal) u w g = fun _ => 1#1) (s : Fin 16384) (j : Fin 2048) : Final.zat u s j ≠ ⊥ := by
  have h0 := congrFun h (fun i => i.elim0)
  have e := Host.reduce_andi_all _ _ _ _ _ h0 (ix2 s j)
  have e1 : extractStridedSlice Cert.Pre_finite_pool1.S16384x2048 ![0, 10240] u Cert.Pre_finite_pool1.Facts.slices_S16384x16384_S16384x2048_0_10240 (ix2 s j)
      = Final.zat u s j := by
    unfold Final.zat
    pointwise
  have e : BitVec.ofBool (decide (Ideal.ofBits .f32 0xFF800000#32 < Final.zat u s j)) = 1#1 := by
    rw [← e1]; exact e
  rw [ofBits_bot] at e
  exact (holds e).ne'

theorem algebraic : Cert.algebraic_Kernel12Ideal_Reference12Ideal_pre_finite_pool1 := by
  intro m ρ m' ρ' hpre hagree
  refine ⟨_, Cert.Kernel12Ideal.Value.run_blocks m ρ, ?_⟩
  refine (θ_run _ _ _).mono (fun _ h c => ⟨(h c).1.trans ?_, (h c).2⟩) (Cert.Reference12Ideal.Value.run m' ρ')
  obtain ⟨e0, e1, e2⟩ := hagree c
  rw [Cert.Reference12Ideal.Read.val_main_v41_eq, Final.final6 m c (proper _ _ _ (hpre c)), e0, e1, e2]

end Cert.Kernel12Ideal

end
-- ==== Proof.Group2.Final.lean ====
module

public import proofs.«01_k».proof.Proof.Gen.Kernel13Ideal.Value
public import proofs.«01_k».proof.Proof.Gen.Reference13Ideal.Read
public import proofs.«01_k».proof.Proof.Norm.Block
public import proofs.«01_k».proof.Proof.Attn.Softmax
public import proofs.«01_k».proof.Proof.KernelIdeal.TileAt
public import proofs.«01_k».proof.Proof.Group.Window
public import Idealize.ShloMosaic.Lib.Claim
public import Idealize.ShloMosaic.Lib.IdealHost
public import Idealize.ShloMosaic.Lib.Pointwise

@[expose] public section

set_option maxRecDepth 16384

/-! A group's pooling: each row's window mean less the row, times the group's matrix, scaled and gated. -/

noncomputable section

namespace Cert.Kernel13Ideal.Final

open Idealize.ShloMosaic Idealize.ShloMosaic.TcCoe Idealize.ShloMosaic.Tactic Cert.Kernel13Ideal Cert.Kernel13Ideal.Gen
open Idealize.ShloMosaic.Pipeline (Dat)

/-! ### The reference -/

/-- A column of the group, and its gate. -/
abbrev col (u : FVec Ideal S16384x16384 .f32) (k : Fin 2048) : Fin 16384 → EReal := fun t => u (ix2 t ⟨4096 + k.val, by omega⟩)
abbrev zat (u : FVec Ideal S16384x16384 .f32) (s : Fin 16384) (j : Fin 2048) : EReal := u (ix2 s ⟨12288 + j.val, by omega⟩)

theorem fits : Group.Fits 3 8 := ⟨by decide, by decide, by decide⟩

/-- A row's window mean less the row. -/
def diff (u : FVec Ideal S16384x16384 .f32) (s : Fin 16384) (k : Fin 2048) : EReal :=
  Ideal.div (Group.win 3 8 (col u k) s.val) (Group.cnt 3 8 (BitVec.ofNat 32 s.val)) - col u k s

/-- The group's result. -/
def pooled (u : FVec Ideal S16384x16384 .f32) (w : FVec Ideal S2x4x2048x2048 .f32) (g : FVec Ideal S8192 .f32) (s : Fin 16384) (j : Fin 2048) : EReal :=
  (∑ k : Fin 2048, diff u s k * w (ix4 1 2 k j)) * g (ix1 ⟨4096 + j.val, by omega⟩)
    * (zat u s j * Ideal.div 1 (1 + Ideal.exp (-zat u s j)))

section
open Cert.Reference13Ideal.Read

theorem diff_at (u : FVec Ideal S16384x16384 .f32) (s : Fin 16384) (k : Fin 2048) :
    val_main_v31 (F := Ideal) u (ix2 s k) = diff u s k := by
  have e0 : ∀ t : Fin 16384, val_main_v0 (F := Ideal) u (ix2 t k) = col u k t := fun t => by
    rw [val_main_v0_apply]
    refine congrArg u ?_
    funext a; match a with | 0 => rfl | 1 => rfl
  have e1 : val_main_v25 (F := Ideal) u (ix2 s k) = Group.win 3 8 (col u k) s.val := by
    rw [val_main_v25_apply, ← Group.inside_sum fits]
    refine Finset.sum_congr rfl fun t _ => ?_
    have el : lidx_main_v25 (ix2 s k) t = ix2 s t := by funext a; match a with | 0 => rfl | 1 => rfl
    have er : ridx_main_v25 (ix2 s k) t = ix2 t k := by funext a; match a with | 0 => rfl | 1 => rfl
    rw [el, er, e0]
    refine congrArg (· * _) ?_
    rw [val_main_v24_apply, val_main_v23_apply, val_main_v17_apply, val_main_v22_apply, val_main_v15_apply, val_main_v16_apply, val_main_v20_apply,
      val_main_v21_apply, val_main_v13_apply, val_main_v14_apply, val_main_v18_apply, val_main_v19_apply]
    rfl
  have e2 : val_main_v29 (F := Ideal) (ix2 s k) = Group.cnt 3 8 (BitVec.ofNat 32 s.val) := by
    rw [val_main_v29_apply, val_main_v28_apply, val_main_v27_apply, val_main_v26_apply]
    rfl
  rw [val_main_v31_apply, val_main_v30_apply, e0, e1, e2]
  rfl

theorem ref_at (u : FVec Ideal S16384x16384 .f32) (w : FVec Ideal S2x4x2048x2048 .f32) (g : FVec Ideal S8192 .f32) (s : Fin 16384) (j : Fin 2048) :
    val_main_v41 (F := Ideal) u w g (ix2 s j) = pooled u w g s j := by
  have e1 : val_main_v34 (F := Ideal) u w (ix2 s j) = ∑ k : Fin 2048, diff u s k * w (ix4 1 2 k j) := by
    rw [val_main_v34_apply]
    refine Finset.sum_congr rfl fun k _ => ?_
    have el : lidx_main_v34 (ix2 s j) k = ix2 s k := by funext a; match a with | 0 => rfl | 1 => rfl
    have er : ridx_main_v34 (ix2 s j) k = ix2 k j := by funext a; match a with | 0 => rfl | 1 => rfl
    rw [el, er, diff_at]
    refine congrArg (fun x : EReal => diff u s k * x) ?_
    pointwise [val_main_v33, val_main_v32]
  have e2 : val_main_v37 (F := Ideal) g (ix2 s j) = g (ix1 ⟨4096 + j.val, by omega⟩) := by
    pointwise [val_main_v37, val_main_v36, val_main_v35]
  have e3 : val_main_v1 (F := Ideal) u (ix2 s j) = zat u s j := by
    rw [val_main_v1_apply]
    refine congrArg u ?_
    funext a; match a with | 0 => rfl | 1 => rfl
  have e4 : val_main_v39 (F := Ideal) u (ix2 s j) = zat u s j * Ideal.div 1 (1 + Ideal.exp (-zat u s j)) := by
    rw [← e3]
    show val_main_v1 (F := Ideal) u (ix2 s j) * Ideal.div (Ideal.ofBits .f32 0x3F800000#32) (Ideal.ofBits .f32 0x3F800000#32 + Ideal.exp (-val_main_v1 (F := Ideal) u (ix2 s j))) = _
    rw [Ideal.ofBits_one_f32]
  show val_main_v34 (F := Ideal) u w (ix2 s j) * val_main_v37 (F := Ideal) g (ix2 s j) * val_main_v39 (F := Ideal) u (ix2 s j) = _
  rw [e1, e2, e4]
  rfl

end

/-! ### A chunk -/

/-- A chunk's rows and the halves about it, mixed: what each of the four chunks computes. -/
def mixed (e : FVec Ideal S144x2048 .f32) (b : BitVec 32) (v : FVec Ideal S128x2048 .f32) : FVec Ideal S128x2048 .f32 :=
  have v11 : IVec S128x1 32 := addi (broadcast S128x1 b) (iota .tc S128x1 32 [0] iota_S128x1_d0_w32)
  have v15 : IVec S128x1 32 := maxsi (subi v11 (broadcast S128x1 3#32)) (broadcast S128x1 0#32)
  have v21 : IVec S128x1 32 := minsi (addi (addi v11 (broadcast S128x1 4#32)) (broadcast S128x1 1#32)) (broadcast S128x1 16384#32)
  have v25 : FVec Ideal S128x1 .f32 := divf (broadcast S128x1 (Scalar.ofBits (F := Ideal) .f32 0x3F800000#32)) (sitofp .f32 (subi v21 v15))
  have v27 : FVec Ideal S144x2048 .f32 := addf e (dynamicRotate 0 1#32 none e rotates_S144x2048_d0)
  have v29 : FVec Ideal S144x2048 .f32 := addf v27 (dynamicRotate 0 2#32 none v27 rotates_S144x2048_d0)
  have v31 : FVec Ideal S144x2048 .f32 := addf v29 (dynamicRotate 0 140#32 none v29 rotates_S144x2048_d0)
  subf (mulf (extractStridedSlice S128x2048 ![8, 0] v31 slices_S144x2048_o8_0_S128x2048) (broadcastTo S128x2048 v25 broadcasts_S128x1_S128x2048)) v

abbrev cat (h : FVec Ideal S8x2048 .f32) (v : FVec Ideal S128x2048 .f32) (n : FVec Ideal S8x2048 .f32) : FVec Ideal S144x2048 .f32 :=
  concatenate S144x2048 0 [⟨S8x2048, h⟩, ⟨S128x2048, v⟩, ⟨S8x2048, n⟩] concatenates_S8x2048_S128x2048_S8x2048_S144x2048_d0

theorem rotated (x : FVec Ideal S144x2048 .f32) (k : BitVec 32) (p q : Fin 144) (j : Fin 2048) (h : q.val + k.toNat = p.val) :
    dynamicRotate 0 k none x rotates_S144x2048_d0 (ix2 p j) = x (ix2 q j) := by
  rw [Pointwise.dynamicRotate_apply]
  refine congrArg x ?_
  funext a
  match a with
  | 0 =>
    refine Fin.ext ?_
    show (p.val + 144 - (k.toNat + 0) % 144) % 144 = q.val
    omega
  | 1 => rfl

theorem ahead (x : FVec Ideal S144x2048 .f32) (k : BitVec 32) (p q : Fin 144) (j : Fin 2048) (hk : k.toNat < 144) (h : q.val + k.toNat = p.val + 144) :
    dynamicRotate 0 k none x rotates_S144x2048_d0 (ix2 p j) = x (ix2 q j) := by
  rw [Pointwise.dynamicRotate_apply]
  refine congrArg x ?_
  funext a
  match a with
  | 0 =>
    refine Fin.ext ?_
    have hp := p.isLt
    have hq := q.isLt
    show (p.val + 144 - (k.toNat + 0) % 144) % 144 = q.val
    omega
  | 1 => rfl

theorem doubled_at (e : FVec Ideal S144x2048 .f32) (E : ℕ → EReal) (j : Fin 2048) (he : ∀ p : Fin 144, e (ix2 p j) = E p.val)
    (v27 v29 v31 : FVec Ideal S144x2048 .f32) (h27 : v27 = addf e (dynamicRotate 0 1#32 none e rotates_S144x2048_d0))
    (h29 : v29 = addf v27 (dynamicRotate 0 2#32 none v27 rotates_S144x2048_d0))
    (h31 : v31 = addf v29 (dynamicRotate 0 140#32 none v29 rotates_S144x2048_d0)) (r : Fin 128) :
    v31 (ix2 ⟨8 + r.val, by omega⟩ j) = ∑ k ∈ Finset.range 8, E (r.val + 5 + k) := by
  have hr := r.isLt
  let q1 : ℕ → EReal := fun n => E n + E (n - 1)
  let q2 : ℕ → EReal := fun n => q1 n + q1 (n - 2)
  have a1 : ∀ p : Fin 144, 1 ≤ p.val → v27 (ix2 p j) = q1 p.val := fun p hp => by
    rw [h27]
    show e (ix2 p j) + dynamicRotate 0 1#32 none e rotates_S144x2048_d0 (ix2 p j) = _
    rw [rotated e 1#32 p ⟨p.val - 1, by omega⟩ j (by show p.val - 1 + 1 = p.val; omega), he, he]
  have a2 : ∀ p : Fin 144, 3 ≤ p.val → v29 (ix2 p j) = q2 p.val := fun p hp => by
    rw [h29]
    show v27 (ix2 p j) + dynamicRotate 0 2#32 none v27 rotates_S144x2048_d0 (ix2 p j) = _
    rw [rotated v27 2#32 p ⟨p.val - 2, by omega⟩ j (by show p.val - 2 + 2 = p.val; omega), a1 p (by omega), a1 _ (by show 1 ≤ p.val - 2; omega)]
  rw [h31]
  show v29 (ix2 ⟨8 + r.val, by omega⟩ j) + dynamicRotate 0 140#32 none v29 rotates_S144x2048_d0 (ix2 ⟨8 + r.val, by omega⟩ j) = _
  rw [ahead v29 140#32 _ ⟨8 + r.val + 4, by omega⟩ j (by decide) (by show 8 + r.val + 4 + 140 = 8 + r.val + 144; omega), a2 _ (by show 3 ≤ 8 + r.val; omega), a2 _ (by show 3 ≤ 8 + r.val + 4; omega)]
  show q2 (8 + r.val) + q2 (8 + r.val + 4) = _
  rw [Group.doubled8 E (8 + r.val) (by omega) q1 q2 (fun _ _ => rfl) (fun _ _ => rfl), show 8 + r.val - 3 = r.val + 5 by omega]

theorem mixed_at (e : FVec Ideal S144x2048 .f32) (b : BitVec 32) (v : FVec Ideal S128x2048 .f32) (E : ℕ → EReal) (j : Fin 2048)
    (he : ∀ p : Fin 144, e (ix2 p j) = E p.val) (r : Fin 128) (s : Fin 16384) (hs : b + BitVec.ofNat 32 r.val = BitVec.ofNat 32 s.val) :
    mixed e b v (ix2 r j) = Ideal.div (∑ k ∈ Finset.range 8, E (r.val + 5 + k)) (Group.cnt 3 8 (BitVec.ofNat 32 s.val)) - v (ix2 r j) := by
  rw [← Group.mul_recip fits, ← doubled_at e E j he _ _ _ rfl rfl rfl r]
  unfold mixed
  dsimp only
  generalize addf (addf (addf e (dynamicRotate 0 1#32 none e rotates_S144x2048_d0)) (dynamicRotate 0 2#32 none (addf e (dynamicRotate 0 1#32 none e rotates_S144x2048_d0)) rotates_S144x2048_d0)) (dynamicRotate 0 140#32 none (addf (addf e (dynamicRotate 0 1#32 none e rotates_S144x2048_d0)) (dynamicRotate 0 2#32 none (addf e (dynamicRotate 0 1#32 none e rotates_S144x2048_d0)) rotates_S144x2048_d0)) rotates_S144x2048_d0) = y
  have ec : ∀ c : BitVec 32, c = BitVec.ofNat 32 s.val → Ideal.div (Ideal.ofBits .f32 0x3F800000#32)
      (FloatOps.sitofp (F := Ideal) .f32 (IntOp.subi (IntOp.minsi (IntOp.addi (IntOp.addi c 4#32) 1#32) 16384#32) (IntOp.maxsi (IntOp.subi c 3#32) 0#32)))
      = Ideal.div 1 (Group.cnt 3 8 (BitVec.ofNat 32 s.val)) := fun c hc => by
    rw [hc, Ideal.ofBits_one_f32]
    unfold Group.cnt Group.hi Group.lo
    have : IntOp.addi (IntOp.addi (BitVec.ofNat 32 s.val) 4#32) 1#32 = IntOp.addi (IntOp.subi (BitVec.ofNat 32 s.val) 3#32) 8#32 := by
      show BitVec.ofNat 32 s.val + 4#32 + 1#32 = BitVec.ofNat 32 s.val - 3#32 + 8#32
      rw [BitVec.add_assoc, BitVec.sub_eq_add_neg, BitVec.add_assoc]
      rfl
    rw [this]
  rw [← ec _ hs]
  pointwise
  rfl

theorem cat_at (h : FVec Ideal S8x2048 .f32) (v : FVec Ideal S128x2048 .f32) (n : FVec Ideal S8x2048 .f32) (E : ℕ → EReal) (j : Fin 2048)
    (eh : ∀ r : Fin 8, h (ix2 r j) = E r.val) (ev : ∀ r : Fin 128, v (ix2 r j) = E (8 + r.val)) (en : ∀ r : Fin 8, n (ix2 r j) = E (136 + r.val)) (p : Fin 144) :
    cat h v n (ix2 p j) = E p.val := by
  have hp := p.isLt
  by_cases h1 : p.val < 8
  · refine (concatenate_apply_piece 0 _ _ (ix2 p j) 0 (by show 0 < 3; decide) S8x2048 h rfl rfl 0 rfl (ix2 ⟨p.val, h1⟩ j) (fun b hb => ?_) (by show 0 + p.val = p.val; omega)).trans (eh ⟨p.val, h1⟩)
    match b, hb with
    | 0, hb => exact absurd rfl hb
    | 1, _ => rfl
  by_cases h2 : p.val < 136
  · refine (concatenate_apply_piece 0 _ _ (ix2 p j) 1 (by show 1 < 3; decide) S128x2048 v rfl rfl 8 rfl (ix2 ⟨p.val - 8, by omega⟩ j) (fun b hb => ?_) (by show 8 + (p.val - 8) = p.val; omega)).trans
      ((ev ⟨p.val - 8, by omega⟩).trans (congrArg E (by show 8 + (p.val - 8) = p.val; omega)))
    match b, hb with
    | 0, hb => exact absurd rfl hb
    | 1, _ => rfl
  · refine (concatenate_apply_piece 0 _ _ (ix2 p j) 2 (by show 2 < 3; decide) S8x2048 n rfl rfl 136 rfl (ix2 ⟨p.val - 136, by omega⟩ j) (fun b hb => ?_) (by show 136 + (p.val - 136) = p.val; omega)).trans
      ((en ⟨p.val - 136, by omega⟩).trans (congrArg E (by show 136 + (p.val - 136) = p.val; omega)))
    match b, hb with
    | 0, hb => exact absurd rfl hb
    | 1, _ => rfl

theorem first_eq (i : grid0.Coords) (v1 v4 : FVec Ideal S8x2048 .f32) (v5 : FVec Ideal S128x2048 .f32) :
    k0_pay3 (F := Ideal) (k0_pay2 i v1 v4 v5) = mixed (cat (Scalar.select (Scalar.cmpi .sgt (BitVec.ofNat 32 (i 0).val) 0#32) v1 (broadcast S8x2048 (Scalar.ofBits (F := Ideal) .f32 0x00000000#32))) v5 v4)
      (Scalar.addi (Scalar.muli (BitVec.ofNat 32 (i 0).val) 512#32) 0#32) v5 := by
  unfold k0_pay3 k0_pay2
  exact shapeCast_self _ _

theorem second_eq (a : BitVec 32) (v1 v4 : FVec Ideal S8x2048 .f32) (v5 : FVec Ideal S128x2048 .f32) :
    k0_pay4 (F := Ideal) a v1 v4 v5 = mixed (cat v1 v5 v4)
      (Scalar.addi (Scalar.muli a 512#32) 128#32) v5 := by
  unfold k0_pay4
  exact shapeCast_self _ _

theorem third_eq (a : BitVec 32) (v1 v4 : FVec Ideal S8x2048 .f32) (v5 : FVec Ideal S128x2048 .f32) :
    k0_pay5 (F := Ideal) a v1 v4 v5 = mixed (cat v1 v5 v4)
      (Scalar.addi (Scalar.muli a 512#32) 256#32) v5 := by
  unfold k0_pay5
  exact shapeCast_self _ _

theorem fourth_eq (a : BitVec 32) (v1 v4 : FVec Ideal S8x2048 .f32) (v5 : FVec Ideal S128x2048 .f32) :
    k0_pay6 (F := Ideal) a v1 v4 v5 = mixed (cat v1 v5 (Scalar.select (Scalar.cmpi .slt a 31#32) v4 (broadcast S8x2048 (Scalar.ofBits (F := Ideal) .f32 0x00000000#32))))
      (Scalar.addi (Scalar.muli a 512#32) 384#32) v5 := by
  unfold k0_pay6
  exact shapeCast_self _ _

theorem last_at (d : FVec Ideal S512x2048 .bf16) (w : FVec Ideal S1x1x2048x2048 .f32) (g : FVec Ideal S1x2048 .f32) (z : FVec Ideal S512x2048 .f32) (i : Fin 512) (j : Fin 2048) :
    k0_pay1 (F := Ideal) d w g z (ix2 i j) = (∑ k : Fin 2048, d (ix2 i k) * w (ix4 0 0 k j)) * g (ix2 0 j)
      * (Ideal.ofBits .f32 0x3F000000#32 * z (ix2 i j) + Ideal.ofBits .f32 0x3F000000#32 * z (ix2 i j) * Ideal.tanh (Ideal.ofBits .f32 0x3F000000#32 * z (ix2 i j))) := by
  pointwise [k0_pay1]

/-! ### A point's blocks -/

section
variable (m : (ℓ : Loc nD τ sig) → Buf (Elt Ideal) ℓ) (c : Dev nD)

abbrev u0 : FVec Ideal S16384x16384 .f32 := m ((c : Thread nD τ).loc main_arg0)
abbrev w0 : FVec Ideal S2x4x2048x2048 .f32 := m ((c : Thread nD τ).loc main_arg1)
abbrev g0 : FVec Ideal S8192 .f32 := m ((c : Thread nD τ).loc main_arg2)

theorem V_g : (V m c main_v0 : FVec Ideal S1x8192 .f32) = shapeCast S1x8192 (g0 m c) shapeCasts_S8192_S1x8192 := by
  simp only [V, hostOps0, StableHlo.after_cons, StableHlo.after_nil]
  after_results_loop
  all_goals rfl

theorem g_at (j : Fin 8192) : (V m c main_v0 : FVec Ideal S1x8192 .f32) (ix2 0 j) = g0 m c (ix1 j) := by
  rw [V_g]; pointwise

theorem idx : ∀ t : Fin cfg0.N, win0_0.index t = ![64 * t.val - 1, 2] ∧ win0_1.index t = ![t.val, 2] ∧ win0_2.index t = ![min (64 * t.val + 64) 2047, 2]
      ∧ win0_3.index t = ![1, 2, 0, 0] ∧ win0_4.index t = ![0, 2] ∧ win0_5.index t = ![t.val, 6]
      ∧ win0_6.index t = ![t.val, 0] ∧ (grid0.coords t 0).val = t.val :=
  (by decide +kernel : ∀ t : Fin grid0.N, win0_0.index t = ![64 * t.val - 1, 2] ∧ win0_1.index t = ![t.val, 2] ∧ win0_2.index t = ![min (64 * t.val + 64) 2047, 2]
      ∧ win0_3.index t = ![1, 2, 0, 0] ∧ win0_4.index t = ![0, 2] ∧ win0_5.index t = ![t.val, 6]
      ∧ win0_6.index t = ![t.val, 0] ∧ (grid0.coords t 0).val = t.val)

variable (t : Fin cfg0.N) (j : Fin 2048)

theorem blk0 (r : Fin 8) (s : Fin 16384) (h : s.val + 8 = 512 * t.val + r.val) :
    (iblk m c 0 t : FVec Ideal S8x2048 .f32) (ix2 r j) = col (u0 m c) j s := by
  unfold col
  have hr := r.isLt
  blk_ext [iblk, V_main_arg0, idx t]

theorem blk1 (r : Fin 512) (s : Fin 16384) (h : s.val = 512 * t.val + r.val) :
    (iblk m c 1 t : FVec Ideal S512x2048 .f32) (ix2 r j) = col (u0 m c) j s := by
  unfold col
  blk_ext [iblk, V_main_arg0, idx t]

theorem blk2 (r : Fin 8) (s : Fin 16384) (h : s.val = 512 * t.val + 512 + r.val) :
    (iblk m c 2 t : FVec Ideal S8x2048 .f32) (ix2 r j) = col (u0 m c) j s := by
  unfold col
  have hr := r.isLt
  have hs := s.isLt
  blk_ext [iblk, V_main_arg0, idx t]

theorem blk3 (k : Fin 2048) : (iblk m c 3 t : FVec Ideal S1x1x2048x2048 .f32) (ix4 0 0 k j) = w0 m c (ix4 1 2 k j) := by
  blk_ext [iblk, V_main_arg1, idx t]

theorem blk4 (q : Fin 8192) (h : q.val = 4096 + j.val) : (iblk m c 4 t : FVec Ideal S1x2048 .f32) (ix2 0 j) = g0 m c (ix1 q) := by
  rw [← g_at]
  blk_ext [iblk, idx t]

theorem blk5 (r : Fin 512) (s : Fin 16384) (h : s.val = 512 * t.val + r.val) :
    (iblk m c 5 t : FVec Ideal S512x2048 .f32) (ix2 r j) = zat (u0 m c) s j := by
  unfold zat
  blk_ext [iblk, V_main_arg0, idx t]

/-- A chunk's rows mixed are its rows' window means less the rows. -/
theorem chunk (o : ℕ) (b : BitVec 32) (hb : b = BitVec.ofNat 32 (512 * t.val + o)) (h : FVec Ideal S8x2048 .f32) (v : FVec Ideal S128x2048 .f32) (n : FVec Ideal S8x2048 .f32)
    (eh : ∀ r : Fin 8, h (ix2 r j) = Group.pad (col (u0 m c) j) (512 * t.val + o + r.val))
    (ev : ∀ r : Fin 128, v (ix2 r j) = Group.pad (col (u0 m c) j) (512 * t.val + o + (8 + r.val)))
    (en : ∀ r : Fin 8, n (ix2 r j) = Group.pad (col (u0 m c) j) (512 * t.val + o + (136 + r.val)))
    (r : Fin 128) (s : Fin 16384) (hs : s.val = 512 * t.val + o + r.val) :
    mixed (cat h v n) b v (ix2 r j) = diff (u0 m c) s j := by
  have he : ∀ p : Fin 144, cat h v n (ix2 p j) = (fun n => Group.pad (col (u0 m c) j) (512 * t.val + o + n)) p.val :=
    cat_at h v n (fun n => Group.pad (col (u0 m c) j) (512 * t.val + o + n)) j eh ev en
  rw [mixed_at (cat h v n) b v (fun n => Group.pad (col (u0 m c) j) (512 * t.val + o + n)) j he r s
    (by rw [hb, hs, BitVec.ofNat_add (512 * t.val + o) r.val])]
  unfold diff Group.win
  refine congrArg₂ (· - ·) (congrArg (Ideal.div · _) (Finset.sum_congr rfl fun k _ => congrArg _ ?_)) ?_
  · show 512 * t.val + o + (r.val + 5 + k) = s.val + 5 + k
    omega
  · rw [ev, Group.pad_row _ _ s (by omega)]

/-- Rows of the tile. -/
theorem inner (o : ℕ) {a : ℕ} (n : Fin 2 → ℕ) (h) (r : Fin a) (ho : o + r.val < 512) (y) (e0 : (y 0).val = r.val) (e1 : (y 1).val = j.val) (q : ℕ) (hq : q = 512 * t.val + 8 + o + r.val) :
    View.ld (Val := Elt Ideal) (e' := .f32) (iblk m c 1 t) (Rect.unit (s := S512x2048) ![o, 0] n h) y = Group.pad (col (u0 m c) j) q := by
  have hN : t.val < 32 := lt_of_lt_of_eq t.isLt N_0
  rw [Group.pad_row _ _ ⟨512 * t.val + o + r.val, by omega⟩ (by show q = 512 * t.val + o + r.val + 8; omega), ← blk1 m c t j ⟨o + r.val, ho⟩ _ (Nat.add_assoc _ _ _)]
  refine View.ld_unit_apply_of _ _ _ _ _ _ fun a => ?_
  match a with
  | 0 => show o + r.val = o + (y 0).val; omega
  | 1 => show j.val = 0 + (y 1).val; omega

/-- The eight rows above the tile, zeros above the first, and the eight below, zeros below the last. -/
theorem above (q : Fin 8) :
    (Scalar.select (Scalar.cmpi .sgt (BitVec.ofNat 32 t.val) 0#32) (iblk m c 0 t : FVec Ideal S8x2048 .f32) (broadcast S8x2048 (Scalar.ofBits (F := Ideal) .f32 0x00000000#32))
      : FVec Ideal S8x2048 .f32) (ix2 q j) = Group.pad (col (u0 m c) j) (512 * t.val + 0 + q.val) := by
  have hN : t.val < 32 := lt_of_lt_of_eq t.isLt N_0
  have hq := q.isLt
  have e : Scalar.cmpi .sgt (BitVec.ofNat 32 t.val) 0#32 = BitVec.ofBool (decide (0 < t.val)) :=
    WordCmp.cmpi_sgt_ofNat (w := 32) (a := t.val) (b := 0) (by show t.val < 2147483648; omega) (by show 0 < 2147483648; omega)
  rw [e]
  by_cases h : 0 < t.val
  · rw [decide_eq_true h]
    show (iblk m c 0 t : FVec Ideal S8x2048 .f32) (ix2 q j) = _
    rw [blk0 m c t j q ⟨512 * t.val + q.val - 8, by omega⟩ (by show 512 * t.val + q.val - 8 + 8 = 512 * t.val + q.val; omega),
      Group.pad_row _ _ ⟨512 * t.val + q.val - 8, by omega⟩ (by show 512 * t.val + 0 + q.val = 512 * t.val + q.val - 8 + 8; omega)]
  · rw [decide_eq_false h, Group.pad_off _ _ (by omega)]
    show Ideal.ofBits .f32 0x00000000#32 = 0
    exact Ideal.ofBits_zero_f32

theorem below (a : BitVec 32) (ha : a = BitVec.ofNat 32 t.val) (q : Fin 8) :
    (Scalar.select (Scalar.cmpi .slt a 31#32) (iblk m c 2 t : FVec Ideal S8x2048 .f32) (broadcast S8x2048 (Scalar.ofBits (F := Ideal) .f32 0x00000000#32))
      : FVec Ideal S8x2048 .f32) (ix2 q j) = Group.pad (col (u0 m c) j) (512 * t.val + 384 + (136 + q.val)) := by
  have hN : t.val < 32 := lt_of_lt_of_eq t.isLt N_0
  have hq := q.isLt
  have e : Scalar.cmpi .slt (BitVec.ofNat 32 t.val) 31#32 = BitVec.ofBool (decide (t.val < 31)) :=
    WordCmp.cmpi_slt_ofNat (w := 32) (a := t.val) (b := 31) (by show t.val < 2147483648; omega) (by show 31 < 2147483648; omega)
  rw [ha, e]
  by_cases h : t.val < 31
  · rw [decide_eq_true h]
    show (iblk m c 2 t : FVec Ideal S8x2048 .f32) (ix2 q j) = _
    rw [blk2 m c t j q ⟨512 * t.val + 512 + q.val, by omega⟩ rfl,
      Group.pad_row _ _ ⟨512 * t.val + 512 + q.val, by omega⟩ (by show 512 * t.val + 384 + (136 + q.val) = 512 * t.val + 512 + q.val + 8; omega)]
  · rw [decide_eq_false h, Group.pad_off _ _ (by omega)]
    show Ideal.ofBits .f32 0x00000000#32 = 0
    exact Ideal.ofBits_zero_f32

/-- What the scratch holds once the four chunks are stored. -/
theorem mixed_rows (i : Fin 512) (s : Fin 16384) (hs : s.val = 512 * t.val + i.val) (hN : t.val < 32) (a : BitVec 32) (ha : a = BitVec.ofNat 32 t.val)
    (hc : (grid0.coords t 0).val = t.val) :
    View.canon (Val := Elt Ideal) (e := .bf16) (s := S512x2048)
      [⟨Rect.unit ![384, 0] ![128, 2048] inb_S512x2048_S128x2048_384_0,
        k0_pay6 (F := Ideal) a (View.ld (iblk m c 1 t) (Rect.unit ![376, 0] ![8, 2048] inb_S512x2048_S8x2048_376_0)) (iblk m c 2 t) (View.ld (iblk m c 1 t) (Rect.unit ![384, 0] ![128, 2048] inb_S512x2048_S128x2048_384_0))⟩,
       ⟨Rect.unit ![256, 0] ![128, 2048] inb_S512x2048_S128x2048_256_0,
        k0_pay5 (F := Ideal) a (View.ld (iblk m c 1 t) (Rect.unit ![248, 0] ![8, 2048] inb_S512x2048_S8x2048_248_0)) (View.ld (iblk m c 1 t) (Rect.unit ![384, 0] ![8, 2048] inb_S512x2048_S8x2048_384_0)) (View.ld (iblk m c 1 t) (Rect.unit ![256, 0] ![128, 2048] inb_S512x2048_S128x2048_256_0))⟩,
       ⟨Rect.unit ![128, 0] ![128, 2048] inb_S512x2048_S128x2048_128_0,
        k0_pay4 (F := Ideal) a (View.ld (iblk m c 1 t) (Rect.unit ![120, 0] ![8, 2048] inb_S512x2048_S8x2048_120_0)) (View.ld (iblk m c 1 t) (Rect.unit ![256, 0] ![8, 2048] inb_S512x2048_S8x2048_256_0)) (View.ld (iblk m c 1 t) (Rect.unit ![128, 0] ![128, 2048] inb_S512x2048_S128x2048_128_0))⟩,
       ⟨Rect.unit ![0, 0] ![128, 2048] inb_S512x2048_S128x2048_0_0,
        k0_pay3 (F := Ideal) (k0_pay2 (grid0.coords t) (iblk m c 0 t) (View.ld (iblk m c 1 t) (Rect.unit ![128, 0] ![8, 2048] inb_S512x2048_S8x2048_128_0)) (View.ld (iblk m c 1 t) (Rect.unit ![0, 0] ![128, 2048] inb_S512x2048_S128x2048_0_0)))⟩] (ix2 i j) = diff (u0 m c) s j := by
  have word : ∀ o : ℕ, o < 512 → Scalar.addi (Scalar.muli a 512#32) (BitVec.ofNat 32 o) = BitVec.ofNat 32 (512 * t.val + o) := fun o _ => by
    rw [ha]
    show BitVec.ofNat 32 t.val * 512#32 + BitVec.ofNat 32 o = _
    rw [BitVec.ofNat_add, BitVec.ofNat_mul, BitVec.mul_comm]
  canon_tiles z e
  all_goals obtain ⟨r, k, rfl⟩ : ∃ (r : Fin 128) (k : Fin 2048), z = ix2 r k := Norm.pair z
  all_goals
    obtain rfl : j = k := Fin.ext e1
    have hr := r.isLt
  · refine (congrFun (fourth_eq _ _ _ _) _).trans (chunk m c t j 384 _ (word 384 (by omega)) _ _ _ (fun q => ?_) (fun q => ?_) (fun q => ?_) r s (by rw [hs]; exact (congrArg (_ + ·) e0).trans (Nat.add_assoc _ _ _).symm))
    · exact inner m c t j 376 _ _ q (by omega) _ rfl rfl _ (by omega)
    · exact inner m c t j 384 _ _ q (by omega) _ rfl rfl _ (by omega)
    · exact below m c t j a ha q
  · refine (congrFun (third_eq _ _ _ _) _).trans (chunk m c t j 256 _ (word 256 (by omega)) _ _ _ (fun q => ?_) (fun q => ?_) (fun q => ?_) r s (by rw [hs]; exact (congrArg (_ + ·) e0).trans (Nat.add_assoc _ _ _).symm))
    · exact inner m c t j 248 _ _ q (by omega) _ rfl rfl _ (by omega)
    · exact inner m c t j 256 _ _ q (by omega) _ rfl rfl _ (by omega)
    · exact inner m c t j 384 _ _ q (by omega) _ rfl rfl _ (by omega)
  · refine (congrFun (second_eq _ _ _ _) _).trans (chunk m c t j 128 _ (word 128 (by omega)) _ _ _ (fun q => ?_) (fun q => ?_) (fun q => ?_) r s (by rw [hs]; exact (congrArg (_ + ·) e0).trans (Nat.add_assoc _ _ _).symm))
    · exact inner m c t j 120 _ _ q (by omega) _ rfl rfl _ (by omega)
    · exact inner m c t j 128 _ _ q (by omega) _ rfl rfl _ (by omega)
    · exact inner m c t j 256 _ _ q (by omega) _ rfl rfl _ (by omega)
  · refine (congrFun (first_eq _ _ _ _) _).trans (chunk m c t j 0 _ (by rw [hc, ← ha]; exact word 0 (by omega)) _ _ _ (fun q => ?_) (fun q => ?_) (fun q => ?_) r s (by rw [hs]; exact congrArg (_ + ·) e0))
    · rw [hc]
      exact above m c t j q
    · exact inner m c t j 0 _ _ q (by omega) _ rfl rfl _ (by omega)
    · exact inner m c t j 128 _ _ q (by omega) _ rfl rfl _ (by omega)

theorem outs (i : Fin 512) (s : Fin 16384) (hs : s.val = 512 * t.val + i.val) (hz : zat (u0 m c) s j ≠ ⊥) :
    outsAt0 m c t (ix2 i j) = pooled (u0 m c) (w0 m c) (g0 m c) s j := by
  have hN : t.val < 32 := lt_of_lt_of_eq t.isLt N_0
  unfold outsAt0
  frame_out
  refine (last_at _ _ _ _ _ _).trans ?_
  unfold pooled
  rw [blk5 m c t j i s hs, blk4 m c t j ⟨4096 + j.val, by omega⟩ rfl, Cert.KernelIdeal.Tile.ofBits_half, Cert.Attn.gate _ hz]
  generalize hR : (View.whole cc0_scratch0).readCov (Val := Elt Ideal) _ _ = R
  have H : ∀ k : Fin 2048, R (ix2 i k) = diff (u0 m c) s k := fun k => by
    rw [← hR, View.readCov_eq_canon']
    refine Eq.trans ?_ (mixed_rows m c t k i s hs hN _ (congrArg _ (idx t).2.2.2.2.2.2.2) (idx t).2.2.2.2.2.2.2)
    refine congrArg (View.canon (Val := Elt Ideal) _) (funext fun a => ?_)
    match a with
    | 0 => exact Fin.ext (by show 0 + 1 * i.val = i.val; omega)
    | 1 => exact Fin.ext (by show 0 + 1 * k.val = k.val; omega)
  have S : (∑ k : Fin 2048, HMul.hMul (α := EReal) (β := EReal) (γ := EReal) (R (ix2 i k)) (iblk m c 3 t (ix4 0 0 k j))) = ∑ k : Fin 2048, diff (u0 m c) s k * w0 m c (ix4 1 2 k j) :=
    Finset.sum_congr rfl fun k _ => congrArg₂ (α := EReal) (β := EReal) (fun x y => x * y) (H k) (blk3 m c t j k)
  exact congrArg (fun q : EReal => q * g0 m c (ix1 ⟨4096 + j.val, by omega⟩) * (zat (u0 m c) s j * Ideal.div 1 (1 + Ideal.exp (-zat (u0 m c) s j)))) S

variable (hp : ∀ s j, zat (u0 m c) s j ≠ ⊥)
include hp

theorem final6 : (dats m 0 c).arrAt 6 cfg0.N = Cert.Reference13Ideal.Read.val_main_v41 (F := Ideal) (u0 m c) (w0 m c) (g0 m c) := by
  refine (dats m 0 c).arrAt_eq_of_covers 6 _ (by decide +kernel) fun t _ y => ?_
  blk_simp
  rw [after0_6]
  have hN : t.val < 32 := lt_of_lt_of_eq t.isLt N_0
  obtain ⟨i, j, rfl⟩ : ∃ (i : Fin 512) (j : Fin 2048), y = ix2 i j := Norm.pair y
  have e : (win0_6.blk t).view.emb (ix2 i j) = ix2 (⟨512 * t.val + i.val, by omega⟩ : Fin 16384) j := by
    blk_ext [idx t]
  exact (outs m c t j i _ rfl (hp _ _)).trans ((ref_at _ _ _ _ _).symm.trans (congrArg _ e.symm))

end

end Cert.Kernel13Ideal.Final

end
-- ==== Proof.Group2.Bridge.lean ====
module

public import proofs.«01_k».proof.Defs
public import proofs.«01_k».proof.Proof.Bridge
public import proofs.«01_k».proof.Proof.Group2.Final
public import Idealize.ShloMosaic.Lib.ReduceAll

@[expose] public section

set_option maxRecDepth 16384

/-! The third group's pooling: the two programs over the reals, the same array. -/

noncomputable section

namespace Cert.Kernel13Ideal

open Idealize.ShloMosaic Idealize.ShloMosaic.TcCoe Idealize.SL.Sem Cert.Bridge Cert.Attn

instance shapes : Cert.Pre_finite_pool2.Facts where
  slices_S16384x16384_S16384x2048_0_12288 := by decide
  bcast_S_S16384x2048 := by decide
  reducesTo_S16384x2048_S_d0_1 := by decide
  h_S_ := by decide

instance : Subsingleton Cert.Pre_finite_pool2.S_.Idx := ⟨fun a b => funext fun i => i.elim0⟩

theorem proper (u w g) (h : Cert.Pre_finite_pool2.fn (F := Ideal) u w g = fun _ => 1#1) (s : Fin 16384) (j : Fin 2048) : Final.zat u s j ≠ ⊥ := by
  have h0 := congrFun h (fun i => i.elim0)
  have e := Host.reduce_andi_all _ _ _ _ _ h0 (ix2 s j)
  have e1 : extractStridedSlice Cert.Pre_finite_pool2.S16384x2048 ![0, 12288] u Cert.Pre_finite_pool2.Facts.slices_S16384x16384_S16384x2048_0_12288 (ix2 s j)
      = Final.zat u s j := by
    unfold Final.zat
    pointwise
  have e : BitVec.ofBool (decide (Ideal.ofBits .f32 0xFF800000#32 < Final.zat u s j)) = 1#1 := by
    rw [← e1]; exact e
  rw [ofBits_bot] at e
  exact (holds e).ne'

theorem algebraic : Cert.algebraic_Kernel13Ideal_Reference13Ideal_pre_finite_pool2 := by
  intro m ρ m' ρ' hpre hagree
  refine ⟨_, Cert.Kernel13Ideal.Value.run_blocks m ρ, ?_⟩
  refine (θ_run _ _ _).mono (fun _ h c => ⟨(h c).1.trans ?_, (h c).2⟩) (Cert.Reference13Ideal.Value.run m' ρ')
  obtain ⟨e0, e1, e2⟩ := hagree c
  rw [Cert.Reference13Ideal.Read.val_main_v41_eq, Final.final6 m c (proper _ _ _ (hpre c)), e0, e1, e2]

end Cert.Kernel13Ideal

end
-- ==== Proof.Prep.Final.lean ====
module

public import proofs.«01_k».proof.Proof.Gen.Kernel14Ideal.Value
public import proofs.«01_k».proof.Proof.Gen.Reference14Ideal.Read
public import proofs.«01_k».proof.Proof.Norm.Host
public import Idealize.ShloMosaic.Lib.Pipeline.ValueKit
public import Idealize.ShloMosaic.Lib.Claim
public import Idealize.ShloMosaic.Lib.Pointwise

@[expose] public section

set_option maxRecDepth 16384

/-! The first call: the stream times the norm's gain, each row's reciprocal root mean square, the weights' cast. -/

noncomputable section

namespace Cert.Kernel14Ideal.Final

open Idealize.ShloMosaic Idealize.ShloMosaic.TcCoe Idealize.ShloMosaic.Tactic Cert.Kernel14Ideal Cert.Kernel14Ideal.Gen
open Idealize.ShloMosaic.Pipeline (Dat)

/-! ### The reference -/

section
open Cert.Reference14Ideal.Read

theorem scaled_at (x : FVec Ideal S16384x4096 .f32) (g : FVec Ideal S4096 .f32) (s : Fin 16384) (k : Fin 4096) :
    val_main_v3 (F := Ideal) x g (ix2 s k) = x (ix2 s k) * g (ix1 k) := by
  unfold val_main_v3 val_main_v2 val_main_v1 val_main_v0
  exact Norm.scaled_at _ _ _ _ _ s k

theorem recip_at (x : FVec Ideal S16384x4096 .f32) (s : Fin 16384) :
    val_main_v11 (F := Ideal) x (ix2 s 0) = Norm.row x s := by
  unfold val_main_v11 val_main_v10 val_main_v9 val_main_v8 val_main_v7 val_main_v6 val_main_v5 val_main_v4 val_main_cst val_main_cst_0 val_main_cst_1
  exact Norm.recip_at _ _ _ _ _ _ s

theorem cast_at (w : FVec Ideal S2x4096x10240 .f32) (k : Fin 4096) (j : Fin 10240) :
    val_main_v14 (F := Ideal) w (ix2 k j) = w (ix3 0 k j) := by
  pointwise [val_main_v14, val_main_v13, val_main_v12]

end

/-! ### A block -/

theorem tile3 (x : FVec Ideal S512x4096 .f32) (g : FVec Ideal S1x4096 .f32) (i : Fin 512) (k : Fin 4096) :
    k0_pay1 (F := Ideal) x g (ix2 i k) = x (ix2 i k) * g (ix2 0 k) := by
  pointwise [k0_pay1]

theorem tile4 (x : FVec Ideal S512x4096 .f32) (i : Fin 512) :
    k0_pay2 (F := Ideal) x (ix2 i 0) = Norm.rms (Ideal.ofBits .f32 0x45800000#32) fun k : Fin 4096 => x (ix2 i k) := by
  unfold Norm.rms
  pointwise [k0_pay2]

theorem tile5 (w : FVec Ideal S1x128x10240 .f32) (i : Fin 128) (j : Fin 10240) :
    k0_pay3 (F := Ideal) w (ix2 i j) = w (ix3 0 i j) := by
  pointwise [k0_pay3]

/-! ### The arrays -/

variable (m : (ℓ : Loc nD τ sig) → Buf (Elt Ideal) ℓ) (c : Dev nD)

abbrev x0 : FVec Ideal S16384x4096 .f32 := m ((c : Thread nD τ).loc main_arg0)
abbrev g0 : FVec Ideal S4096 .f32 := m ((c : Thread nD τ).loc main_arg1)
abbrev w0 : FVec Ideal S2x4096x10240 .f32 := m ((c : Thread nD τ).loc main_arg2)

theorem V_g : (V m c main_v0 : FVec Ideal S1x4096 .f32) = shapeCast S1x4096 (g0 m c) shapeCasts_S4096_S1x4096 := by
  simp only [V, hostOps0, StableHlo.after_cons, StableHlo.after_nil]
  after_results_loop
  all_goals rfl

theorem g_at (j : Fin 4096) : (V m c main_v0 : FVec Ideal S1x4096 .f32) (ix2 0 j) = g0 m c (ix1 j) := by
  rw [V_g]; pointwise

theorem idx : ∀ t : Fin cfg0.N, win0_0.index t = ![t.val, 0] ∧ win0_1.index t = ![0, 0] ∧ win0_2.index t = ![0, t.val, 0]
      ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, t.val, 0]
      ∧ win0_3.index t = ![t.val, 0] ∧ win0_4.index t = ![t.val, 0] ∧ win0_5.index t = ![t.val, 0])

theorem blk0 (t : Fin cfg0.N) (s : Fin 16384) (i : Fin 512) (k : Fin 4096) (h : s.val = 512 * t.val + i.val) :
    (iblk m c 0 t : FVec Ideal S512x4096 .f32) (ix2 i k) = x0 m c (ix2 s k) := by
  blk_ext [iblk, V_main_arg0, idx t]

theorem blk1 (t : Fin cfg0.N) (k : Fin 4096) :
    (iblk m c 1 t : FVec Ideal S1x4096 .f32) (ix2 0 k) = g0 m c (ix1 k) := by
  rw [← g_at]
  blk_ext [iblk, idx t]

theorem blk2 (t : Fin cfg0.N) (k : Fin 4096) (i : Fin 128) (j : Fin 10240) (h : k.val = 128 * t.val + i.val) :
    (iblk m c 2 t : FVec Ideal S1x128x10240 .f32) (ix3 0 i j) = w0 m c (ix3 0 k j) := by
  blk_ext [iblk, V_main_arg2, idx t]

theorem final3 : (dats m 0 c).arrAt 3 cfg0.N = Cert.Reference14Ideal.Read.val_main_v3 (F := Ideal) (x0 m c) (g0 m c) := by
  refine (dats m 0 c).arrAt_eq_of_covers 3 _ (by decide +kernel) fun t _ y => ?_
  blk_simp
  rw [after0_3]
  have hN : t.val < 32 := lt_of_lt_of_eq t.isLt N_0
  obtain ⟨i, j, rfl⟩ : ∃ (i : Fin 512) (j : Fin 4096), y = ix2 i j := Norm.pair y
  have e : (win0_3.blk t).view.emb (ix2 i j) = ix2 (⟨512 * t.val + i.val, by omega⟩ : Fin 16384) j := by
    blk_ext [idx t]
  refine Eq.trans ?_ (congrArg _ e.symm)
  unfold out0_3
  rw [View.canon_cons_unit_lit, View.ld_unit_lit, View.ld_unit_lit, tile3, scaled_at,
    blk0 m c t ⟨512 * t.val + i.val, by omega⟩ i j rfl, blk1]
  all_goals decide

theorem final4 : (dats m 0 c).arrAt 4 cfg0.N = Cert.Reference14Ideal.Read.val_main_v11 (F := Ideal) (x0 m c) := by
  refine (dats m 0 c).arrAt_eq_of_covers 4 _ (by decide +kernel) fun t _ y => ?_
  blk_simp
  rw [after0_4]
  have hN : t.val < 32 := lt_of_lt_of_eq t.isLt N_0
  obtain ⟨i, j, rfl⟩ : ∃ (i : Fin 512) (j : Fin 1), y = ix2 i j := Norm.pair y
  obtain rfl : j = 0 := Subsingleton.elim _ _
  have e : (win0_4.blk t).view.emb (ix2 i (0 : Fin 1)) = ix2 (⟨512 * t.val + i.val, by omega⟩ : Fin 16384) (0 : Fin 1) := by
    blk_ext [idx t]
  refine Eq.trans ?_ (congrArg _ e.symm)
  unfold out0_4
  rw [View.canon_cons_unit_lit, View.ld_unit_lit, tile4, recip_at]
  · exact congrArg (Norm.rms _) (funext fun k => blk0 m c t ⟨512 * t.val + i.val, by omega⟩ i k rfl)
  all_goals decide

theorem final5 : (dats m 0 c).arrAt 5 cfg0.N = Cert.Reference14Ideal.Read.val_main_v14 (F := Ideal) (w0 m c) := by
  refine (dats m 0 c).arrAt_eq_of_covers 5 _ (by decide +kernel) fun t _ y => ?_
  blk_simp
  rw [after0_5]
  have hN : t.val < 32 := lt_of_lt_of_eq t.isLt N_0
  obtain ⟨i, j, rfl⟩ : ∃ (i : Fin 128) (j : Fin 10240), y = ix2 i j := Norm.pair y
  have e : (win0_5.blk t).view.emb (ix2 i j) = ix2 (⟨128 * t.val + i.val, by omega⟩ : Fin 4096) j := by
    blk_ext [idx t]
  refine Eq.trans ?_ (congrArg _ e.symm)
  unfold out0_5
  rw [View.canon_cons_unit_lit, View.ld_unit_lit, tile5, cast_at, blk2 m c t ⟨128 * t.val + i.val, by omega⟩ i j rfl]
  all_goals decide

end Cert.Kernel14Ideal.Final

end
-- ==== Proof.Prep.Bridge.lean ====
module

public import proofs.«01_k».proof.Defs
public import proofs.«01_k».proof.Proof.Prep.Final

@[expose] public section

set_option maxRecDepth 16384

/-! The first call: the two programs over the reals, the same arrays. -/

noncomputable section

namespace Cert.Kernel14Ideal

open Idealize.ShloMosaic Idealize.ShloMosaic.TcCoe Idealize.SL.Sem

theorem algebraic : Cert.algebraic_Kernel14Ideal_Reference14Ideal := by
  intro m ρ m' ρ' _ hagree
  refine ⟨_, _, _, Cert.Kernel14Ideal.Value.run_blocks m ρ, ?_⟩
  refine (θ_run _ _ _).mono (fun _ h c => ⟨(h c).1.trans ?_, (h c).2.1.trans ?_, (h c).2.2.1.trans ?_, (h c).2.2.2⟩)
    (Cert.Reference14Ideal.Value.run m' ρ')
  all_goals obtain ⟨e0, e1, e2⟩ := hagree c
  · rw [Cert.Reference14Ideal.Read.val_main_v3_eq, Final.final3 m c, e0, e1]
  · rw [Cert.Reference14Ideal.Read.val_main_v11_eq, Final.final4 m c, e0]
  · rw [Cert.Reference14Ideal.Read.val_main_v14_eq, Final.final5 m c, e2]

end Cert.Kernel14Ideal

end
-- ==== Proof.lean ====
/- The claims of this problem, gathered from the modules under `Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdeal.Frame
public import proofs.«01_k».proof.Proof.Gen.ReferenceIdeal
public import proofs.«01_k».proof.Proof.KernelIdeal.Value
public import proofs.«01_k».proof.Proof.Gen.ReferenceIdeal.Run
public import proofs.«01_k».proof.Proof.Gen.ReferenceIdeal.Read
public import proofs.«01_k».proof.Proof.Bridge
public import proofs.«01_k».proof.Proof.Pool.Bridge
public import proofs.«01_k».proof.Proof.Embed.Bridge
public import proofs.«01_k».proof.Proof.Gate.Bridge
public import proofs.«01_k».proof.Proof.Half.Bridge
public import proofs.«01_k».proof.Proof.Heads.Bridge
public import proofs.«01_k».proof.Proof.Out.Bridge
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.PoolOut.Bridge
public import proofs.«01_k».proof.Proof.EmbedNext.Bridge
public import proofs.«01_k».proof.Proof.Group.Bridge
public import proofs.«01_k».proof.Proof.Group0.Bridge
public import proofs.«01_k».proof.Proof.Group1.Bridge
public import proofs.«01_k».proof.Proof.Group2.Bridge
public import proofs.«01_k».proof.Proof.Prep.Bridge
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem consts : Cert.preserves_Kernel_KernelIdeal :=
  ⟨IdealRules.named_const.statement Cert.KernelIdeal.κ "log2e" .f32 0x3FB8AA3B#32 _ rfl,
    IdealRules.named_const.statement Cert.KernelIdeal.κ "mask" .f32 0xF149F2CA#32 _ rfl⟩

theorem frame_ri2 : Cert.quiescent_Reference2Ideal := fun m ρ _ =>
  (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)

theorem frame_ri3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem frame_ri4 : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

theorem frame_ri5 : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

theorem frame_ri6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem frame_ri7 : Cert.quiescent_Reference7Ideal := fun m ρ _ =>
  (θ_run Cert.Reference7Ideal.defs _ _).mono
    (fun r h => ⟨fun c => (h c).2.2.2, Idealize.ShloMosaic.sem_eq_zero_of_no_sems (by decide) r.2⟩)
    (Cert.Reference7Ideal.Value.run (F := Ideal) m ρ)

theorem frame_ri8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

theorem frame_ri9 : Cert.quiescent_Reference9Ideal := fun m ρ _ =>
  (θ_run Cert.Reference9Ideal.defs _ _).mono
    (fun r h => ⟨fun c => (h c).2.2.2, Idealize.ShloMosaic.sem_eq_zero_of_no_sems (by decide) r.2⟩)
    (Cert.Reference9Ideal.Value.run (F := Ideal) m ρ)

theorem frame_ri10 : Cert.quiescent_Reference10Ideal := fun m ρ _ =>
  (θ_run Cert.Reference10Ideal.defs _ _).mono
    (fun r h => ⟨fun c => (h c).2.2.2, Idealize.ShloMosaic.sem_eq_zero_of_no_sems (by decide) r.2⟩)
    (Cert.Reference10Ideal.Value.run (F := Ideal) m ρ)

theorem frame_ri11 : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

theorem frame_ri12 : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

theorem frame_ri13 : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

theorem frame_ri14 : Cert.quiescent_Reference14Ideal := fun m ρ _ =>
  (θ_run Cert.Reference14Ideal.defs _ _).mono
    (fun r h => ⟨fun c => (h c).2.2.2, Idealize.ShloMosaic.sem_eq_zero_of_no_sems (by decide) r.2⟩)
    (Cert.Reference14Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Bridge.shapes, Cert.Kernel3Ideal.shapes, Cert.Kernel8Ideal.shapes, Cert.Kernel10Ideal.shapes,
  Cert.Kernel11Ideal.shapes, Cert.Kernel12Ideal.shapes, Cert.Kernel13Ideal.shapes,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, fun m ρ _ => Cert.Kernel3Ideal.Gen.frame m ρ, frame_ri3, fun m ρ _ => frame_ri3 m ρ trivial,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  fun m ρ _ => Cert.Kernel7.Gen.frame m ρ, fun m ρ _ => Cert.Kernel7Ideal.Gen.frame m ρ, frame_ri7,
  fun m ρ _ => Cert.Kernel8.Gen.frame m ρ, fun m ρ _ => Cert.Kernel8Ideal.Gen.frame m ρ, fun m ρ _ => Cert.Kernel8Ideal.Gen.frame m ρ, frame_ri8, fun m ρ _ => frame_ri8 m ρ trivial,
  fun m ρ _ => Cert.Kernel9.Gen.frame m ρ, fun m ρ _ => Cert.Kernel9Ideal.Gen.frame m ρ, frame_ri9,
  fun m ρ _ => Cert.Kernel10.Gen.frame m ρ, fun m ρ _ => Cert.Kernel10Ideal.Gen.frame m ρ, fun m ρ _ => Cert.Kernel10Ideal.Gen.frame m ρ, frame_ri10, fun m ρ _ => frame_ri10 m ρ trivial,
  fun m ρ _ => Cert.Kernel11.Gen.frame m ρ, fun m ρ _ => Cert.Kernel11Ideal.Gen.frame m ρ, fun m ρ _ => Cert.Kernel11Ideal.Gen.frame m ρ, frame_ri11, fun m ρ _ => frame_ri11 m ρ trivial,
  fun m ρ _ => Cert.Kernel12.Gen.frame m ρ, fun m ρ _ => Cert.Kernel12Ideal.Gen.frame m ρ, fun m ρ _ => Cert.Kernel12Ideal.Gen.frame m ρ, frame_ri12, fun m ρ _ => frame_ri12 m ρ trivial,
  fun m ρ _ => Cert.Kernel13.Gen.frame m ρ, fun m ρ _ => Cert.Kernel13Ideal.Gen.frame m ρ, fun m ρ _ => Cert.Kernel13Ideal.Gen.frame m ρ, frame_ri13, fun m ρ _ => frame_ri13 m ρ trivial,
  fun m ρ _ => Cert.Kernel14.Gen.frame m ρ, fun m ρ _ => Cert.Kernel14Ideal.Gen.frame m ρ, frame_ri14,
  consts, Cert.Bridge.algebraic,
  trivial, Cert.Kernel2Ideal.algebraic,   trivial, Cert.Kernel3Ideal.algebraic,   trivial, Cert.Kernel4Ideal.algebraic,   trivial, Cert.Kernel5Ideal.algebraic,   trivial, Cert.Kernel6Ideal.algebraic,
  trivial, Cert.Kernel7Ideal.algebraic,   trivial, Cert.Kernel8Ideal.algebraic,   trivial, Cert.Kernel9Ideal.algebraic,   trivial, Cert.Kernel10Ideal.algebraic,
  trivial, Cert.Kernel11Ideal.algebraic,   trivial, Cert.Kernel12Ideal.algebraic,   trivial, Cert.Kernel13Ideal.algebraic,
  trivial, Cert.Kernel14Ideal.algebraic⟩

end Cert.Proof

end
